-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_Final (m : (ℓ : Loc Cert.Final.nD Cert.Final.τ Cert.Final.sig) → Buf (Elt Bits) ℓ) : Prop :=
  True

def Pre_FinalIdeal (m : (ℓ : Loc Cert.FinalIdeal.nD Cert.FinalIdeal.τ Cert.FinalIdeal.sig) → Buf (Elt Ideal) ℓ) : Prop :=
  True

def Pre_FinalReferenceIdeal (m : (ℓ : Loc Cert.FinalReferenceIdeal.nD Cert.FinalReferenceIdeal.τ Cert.FinalReferenceIdeal.sig) → Buf (Elt Ideal) ℓ) : Prop :=
  True

def Pre_Adaln (m : (ℓ : Loc Cert.Adaln.nD Cert.Adaln.τ Cert.Adaln.sig) → Buf (Elt Bits) ℓ) : Prop :=
  True

def Pre_AdalnIdeal (m : (ℓ : Loc Cert.AdalnIdeal.nD Cert.AdalnIdeal.τ Cert.AdalnIdeal.sig) → Buf (Elt Ideal) ℓ) : Prop :=
  True

def Pre_AdalnReferenceIdeal (m : (ℓ : Loc Cert.AdalnReferenceIdeal.nD Cert.AdalnReferenceIdeal.τ Cert.AdalnReferenceIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjIdeal_finite_projection [hPre_finite_projection : Cert.Pre_finite_projection.Facts] (m : (ℓ : Loc Cert.ProjIdeal.nD Cert.ProjIdeal.τ Cert.ProjIdeal.sig) → Buf (Elt Ideal) ℓ) : Prop :=
  ∀ c : Dev Cert.ProjIdeal.nD,
    (Cert.Pre_finite_projection.fn (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4)) (m ((c.tc : Thread Cert.ProjIdeal.nD Cert.ProjIdeal.τ).loc Cert.ProjIdeal.main_arg5)) (m ((c.tc : Thread Cert.ProjIdeal.nD Cert.ProjIdeal.τ).loc Cert.ProjIdeal.main_arg6)) (m ((c.tc : Thread Cert.ProjIdeal.nD Cert.ProjIdeal.τ).loc Cert.ProjIdeal.main_arg7)) (m ((c.tc : Thread Cert.ProjIdeal.nD Cert.ProjIdeal.τ).loc Cert.ProjIdeal.main_arg8)) (m ((c.tc : Thread Cert.ProjIdeal.nD Cert.ProjIdeal.τ).loc Cert.ProjIdeal.main_arg9))) = (fun _ => 1#1)

def Pre_ProjReferenceIdeal (m : (ℓ : Loc Cert.ProjReferenceIdeal.nD Cert.ProjReferenceIdeal.τ Cert.ProjReferenceIdeal.sig) → Buf (Elt Ideal) ℓ) : Prop :=
  True

def Pre_ProjReferenceIdeal_finite_projection [hPre_finite_projection : Cert.Pre_finite_projection.Facts] (m : (ℓ : Loc Cert.ProjReferenceIdeal.nD Cert.ProjReferenceIdeal.τ Cert.ProjReferenceIdeal.sig) → Buf (Elt Ideal) ℓ) : Prop :=
  ∀ c : Dev Cert.ProjReferenceIdeal.nD,
    (Cert.Pre_finite_projection.fn (F := Ideal) (m ((c.tc : Thread Cert.ProjReferenceIdeal.nD Cert.ProjReferenceIdeal.τ).loc Cert.ProjReferenceIdeal.main_arg0)) (m ((c.tc : Thread Cert.ProjReferenceIdeal.nD Cert.ProjReferenceIdeal.τ).loc Cert.ProjReferenceIdeal.main_arg1)) (m ((c.tc : Thread Cert.ProjReferenceIdeal.nD Cert.ProjReferenceIdeal.τ).loc Cert.ProjReferenceIdeal.main_arg2)) (m ((c.tc : Thread Cert.ProjReferenceIdeal.nD Cert.ProjReferenceIdeal.τ).loc Cert.ProjReferenceIdeal.main_arg3)) (m ((c.tc : Thread Cert.ProjReferenceIdeal.nD Cert.ProjReferenceIdeal.τ).loc Cert.ProjReferenceIdeal.main_arg4)) (m ((c.tc : Thread Cert.ProjReferenceIdeal.nD Cert.ProjReferenceIdeal.τ).loc Cert.ProjReferenceIdeal.main_arg5)) (m ((c.tc : Thread Cert.ProjReferenceIdeal.nD Cert.ProjReferenceIdeal.τ).loc Cert.ProjReferenceIdeal.main_arg6)) (m ((c.tc : Thread Cert.ProjReferenceIdeal.nD Cert.ProjReferenceIdeal.τ).loc Cert.ProjReferenceIdeal.main_arg7)) (m ((c.tc : Thread Cert.ProjReferenceIdeal.nD Cert.ProjReferenceIdeal.τ).loc Cert.ProjReferenceIdeal.main_arg8)) (m ((c.tc : Thread Cert.ProjReferenceIdeal.nD Cert.ProjReferenceIdeal.τ).loc Cert.ProjReferenceIdeal.main_arg9))) = (fun _ => 1#1)

def Pre_FfnCtx (m : (ℓ : Loc Cert.FfnCtx.nD Cert.FfnCtx.τ Cert.FfnCtx.sig) → Buf (Elt Bits) ℓ) : Prop :=
  True

def Pre_FfnCtxIdeal (m : (ℓ : Loc Cert.FfnCtxIdeal.nD Cert.FfnCtxIdeal.τ Cert.FfnCtxIdeal.sig) → Buf (Elt Ideal) ℓ) : Prop :=
  True

def Pre_FfnCtxReferenceIdeal (m : (ℓ : Loc Cert.FfnCtxReferenceIdeal.nD Cert.FfnCtxReferenceIdeal.τ Cert.FfnCtxReferenceIdeal.sig) → Buf (Elt Ideal) ℓ) : Prop :=
  True

def Pre_ProjCtx (m : (ℓ : Loc Cert.ProjCtx.nD Cert.ProjCtx.τ Cert.ProjCtx.sig) → Buf (Elt Bits) ℓ) : Prop :=
  True

def Pre_ProjCtxIdeal (m : (ℓ : Loc Cert.ProjCtxIdeal.nD Cert.ProjCtxIdeal.τ Cert.ProjCtxIdeal.sig) → Buf (Elt Ideal) ℓ) : Prop :=
  True

def Pre_ProjCtxReferenceIdeal (m : (ℓ : Loc Cert.ProjCtxReferenceIdeal.nD Cert.ProjCtxReferenceIdeal.τ Cert.ProjCtxReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4))
      ∧ r.2.sem = fun _ => 0)

def quiescent_Final [hFinal : Cert.Final.Facts] : Prop :=
  ∀ (m : (ℓ : Loc Cert.Final.nD Cert.Final.τ Cert.Final.sig) → Buf (Elt Bits) ℓ) (g : Dev Cert.Final.nD → PrngReg), Pre_Final m →
    θ_run (Cert.Final.defs (F := Bits)) (onTc (τ := Cert.Final.τ) (Cert.Final.main (F := Bits))) ⟨m, fun _ => 0, g⟩ (fun r => (∀ c : Dev Cert.Final.nD,
      r.2.mem ((c.tc : Thread Cert.Final.nD Cert.Final.τ).loc Cert.Final.main_arg0) = m ((c.tc : Thread Cert.Final.nD Cert.Final.τ).loc Cert.Final.main_arg0)
      ∧ r.2.mem ((c.tc : Thread Cert.Final.nD Cert.Final.τ).loc Cert.Final.main_arg1) = m ((c.tc : Thread Cert.Final.nD Cert.Final.τ).loc Cert.Final.main_arg1)
      ∧ r.2.mem ((c.tc : Thread Cert.Final.nD Cert.Final.τ).loc Cert.Final.main_arg2) = m ((c.tc : Thread Cert.Final.nD Cert.Final.τ).loc Cert.Final.main_arg2)
      ∧ r.2.mem ((c.tc : Thread Cert.Final.nD Cert.Final.τ).loc Cert.Final.main_arg3) = m ((c.tc : Thread Cert.Final.nD Cert.Final.τ).loc Cert.Final.main_arg3)
      ∧ r.2.mem ((c.tc : Thread Cert.Final.nD Cert.Final.τ).loc Cert.Final.main_arg4) = m ((c.tc : Thread Cert.Final.nD Cert.Final.τ).loc Cert.Final.main_arg4)
      ∧ r.2.mem ((c.tc : Thread Cert.Final.nD Cert.Final.τ).loc Cert.Final.main_arg5) = m ((c.tc : Thread Cert.Final.nD Cert.Final.τ).loc Cert.Final.main_arg5)
      ∧ r.2.mem ((c.tc : Thread Cert.Final.nD Cert.Final.τ).loc Cert.Final.main_arg6) = m ((c.tc : Thread Cert.Final.nD Cert.Final.τ).loc Cert.Final.main_arg6)
      ∧ r.2.mem ((c.tc : Thread Cert.Final.nD Cert.Final.τ).loc Cert.Final.main_arg7) = m ((c.tc : Thread Cert.Final.nD Cert.Final.τ).loc Cert.Final.main_arg7)
      ∧ r.2.mem ((c.tc : Thread Cert.Final.nD Cert.Final.τ).loc Cert.Final.main_arg8) = m ((c.tc : Thread Cert.Final.nD Cert.Final.τ).loc Cert.Final.main_arg8)
      ∧ r.2.mem ((c.tc : Thread Cert.Final.nD Cert.Final.τ).loc Cert.Final.main_arg9) = m ((c.tc : Thread Cert.Final.nD Cert.Final.τ).loc Cert.Final.main_arg9)
      ∧ r.2.mem ((c.tc : Thread Cert.Final.nD Cert.Final.τ).loc Cert.Final.main_arg10) = m ((c.tc : Thread Cert.Final.nD Cert.Final.τ).loc Cert.Final.main_arg10)
      ∧ r.2.mem ((c.tc : Thread Cert.Final.nD Cert.Final.τ).loc Cert.Final.main_arg11) = m ((c.tc : Thread Cert.Final.nD Cert.Final.τ).loc Cert.Final.main_arg11)
      ∧ r.2.mem ((c.tc : Thread Cert.Final.nD Cert.Final.τ).loc Cert.Final.main_arg12) = m ((c.tc : Thread Cert.Final.nD Cert.Final.τ).loc Cert.Final.main_arg12)
      ∧ r.2.mem ((c.tc : Thread Cert.Final.nD Cert.Final.τ).loc Cert.Final.main_arg13) = m ((c.tc : Thread Cert.Final.nD Cert.Final.τ).loc Cert.Final.main_arg13)
      ∧ r.2.mem ((c.tc : Thread Cert.Final.nD Cert.Final.τ).loc Cert.Final.main_arg14) = m ((c.tc : Thread Cert.Final.nD Cert.Final.τ).loc Cert.Final.main_arg14))
      ∧ r.2.sem = fun _ => 0)

def quiescent_FinalIdeal [hFinalIdeal : Cert.FinalIdeal.Facts] : Prop :=
  ∀ (m : (ℓ : Loc Cert.FinalIdeal.nD Cert.FinalIdeal.τ Cert.FinalIdeal.sig) → Buf (Elt Ideal) ℓ) (g : Dev Cert.FinalIdeal.nD → PrngReg), Pre_FinalIdeal m →
    θ_run (Cert.FinalIdeal.defs (F := Ideal)) (onTc (τ := Cert.FinalIdeal.τ) (Cert.FinalIdeal.main (F := Ideal))) ⟨m, fun _ => 0, g⟩ (fun r => (∀ c : Dev Cert.FinalIdeal.nD,
      r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
      ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
      ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
      ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3)
      ∧ r.2.mem ((c.tc : Thread Cert.FinalIdeal.nD Cert.FinalIdeal.τ).loc Cert.FinalIdeal.main_arg4) = m ((c.tc : Thread Cert.FinalIdeal.nD Cert.FinalIdeal.τ).loc Cert.FinalIdeal.main_arg4)
      ∧ r.2.mem ((c.tc : Thread Cert.FinalIdeal.nD Cert.FinalIdeal.τ).loc Cert.FinalIdeal.main_arg5) = m ((c.tc : Thread Cert.FinalIdeal.nD Cert.FinalIdeal.τ).loc Cert.FinalIdeal.main_arg5)
      ∧ r.2.mem ((c.tc : Thread Cert.FinalIdeal.nD Cert.FinalIdeal.τ).loc Cert.FinalIdeal.main_arg6) = m ((c.tc : Thread Cert.FinalIdeal.nD Cert.FinalIdeal.τ).loc Cert.FinalIdeal.main_arg6)
      ∧ r.2.mem ((c.tc : Thread Cert.FinalIdeal.nD Cert.FinalIdeal.τ).loc Cert.FinalIdeal.main_arg7) = m ((c.tc : Thread Cert.FinalIdeal.nD Cert.FinalIdeal.τ).loc Cert.FinalIdeal.main_arg7)
      ∧ r.2.mem ((c.tc : Thread Cert.FinalIdeal.nD Cert.FinalIdeal.τ).loc Cert.FinalIdeal.main_arg8) = m ((c.tc : Thread Cert.FinalIdeal.nD Cert.FinalIdeal.τ).loc Cert.FinalIdeal.main_arg8)
      ∧ r.2.mem ((c.tc : Thread Cert.FinalIdeal.nD Cert.FinalIdeal.τ).loc Cert.FinalIdeal.main_arg9) = m ((c.tc : Thread Cert.FinalIdeal.nD Cert.FinalIdeal.τ).loc Cert.FinalIdeal.main_arg9)
      ∧ r.2.mem ((c.tc : Thread Cert.FinalIdeal.nD Cert.FinalIdeal.τ).loc Cert.FinalIdeal.main_arg10) = m ((c.tc : Thread Cert.FinalIdeal.nD Cert.FinalIdeal.τ).loc Cert.FinalIdeal.main_arg10)
      ∧ r.2.mem ((c.tc : Thread Cert.FinalIdeal.nD Cert.FinalIdeal.τ).loc Cert.FinalIdeal.main_arg11) = m ((c.tc : Thread Cert.FinalIdeal.nD Cert.FinalIdeal.τ).loc Cert.FinalIdeal.main_arg11)
      ∧ r.2.mem ((c.tc : Thread Cert.FinalIdeal.nD Cert.FinalIdeal.τ).loc Cert.FinalIdeal.main_arg12) = m ((c.tc : Thread Cert.FinalIdeal.nD Cert.FinalIdeal.τ).loc Cert.FinalIdeal.main_arg12)
      ∧ r.2.mem ((c.tc : Thread Cert.FinalIdeal.nD Cert.FinalIdeal.τ).loc Cert.FinalIdeal.main_arg13) = m ((c.tc : Thread Cert.FinalIdeal.nD Cert.FinalIdeal.τ).loc Cert.FinalIdeal.main_arg13)
      ∧ r.2.mem ((c.tc : Thread Cert.FinalIdeal.nD Cert.FinalIdeal.τ).loc Cert.FinalIdeal.main_arg14) = m ((c.tc : Thread Cert.FinalIdeal.nD Cert.FinalIdeal.τ).loc Cert.FinalIdeal.main_arg14))
      ∧ r.2.sem = fun _ => 0)

def quiescent_FinalReferenceIdeal [hFinalReferenceIdeal : Cert.FinalReferenceIdeal.Facts] : Prop :=
  ∀ (m : (ℓ : Loc Cert.FinalReferenceIdeal.nD Cert.FinalReferenceIdeal.τ Cert.FinalReferenceIdeal.sig) → Buf (Elt Ideal) ℓ) (g : Dev Cert.FinalReferenceIdeal.nD → PrngReg), Pre_FinalReferenceIdeal m →
    θ_run (Cert.FinalReferenceIdeal.defs (F := Ideal)) (onTc (τ := Cert.FinalReferenceIdeal.τ) (Cert.FinalReferenceIdeal.main (F := Ideal))) ⟨m, fun _ => 0, g⟩ (fun r => (∀ c : Dev Cert.FinalReferenceIdeal.nD,
      r.2.mem ((c.tc : Thread Cert.FinalReferenceIdeal.nD Cert.FinalReferenceIdeal.τ).loc Cert.FinalReferenceIdeal.main_arg0) = m ((c.tc : Thread Cert.FinalReferenceIdeal.nD Cert.FinalReferenceIdeal.τ).loc Cert.FinalReferenceIdeal.main_arg0)
      ∧ r.2.mem ((c.tc : Thread Cert.FinalReferenceIdeal.nD Cert.FinalReferenceIdeal.τ).loc Cert.FinalReferenceIdeal.main_arg1) = m ((c.tc : Thread Cert.FinalReferenceIdeal.nD Cert.FinalReferenceIdeal.τ).loc Cert.FinalReferenceIdeal.main_arg1)
      ∧ r.2.mem ((c.tc : Thread Cert.FinalReferenceIdeal.nD Cert.FinalReferenceIdeal.τ).loc Cert.FinalReferenceIdeal.main_arg2) = m ((c.tc : Thread Cert.FinalReferenceIdeal.nD Cert.FinalReferenceIdeal.τ).loc Cert.FinalReferenceIdeal.main_arg2)
      ∧ r.2.mem ((c.tc : Thread Cert.FinalReferenceIdeal.nD Cert.FinalReferenceIdeal.τ).loc Cert.FinalReferenceIdeal.main_arg3) = m ((c.tc : Thread Cert.FinalReferenceIdeal.nD Cert.FinalReferenceIdeal.τ).loc Cert.FinalReferenceIdeal.main_arg3)
      ∧ r.2.mem ((c.tc : Thread Cert.FinalReferenceIdeal.nD Cert.FinalReferenceIdeal.τ).loc Cert.FinalReferenceIdeal.main_arg4) = m ((c.tc : Thread Cert.FinalReferenceIdeal.nD Cert.FinalReferenceIdeal.τ).loc Cert.FinalReferenceIdeal.main_arg4)
      ∧ r.2.mem ((c.tc : Thread Cert.FinalReferenceIdeal.nD Cert.FinalReferenceIdeal.τ).loc Cert.FinalReferenceIdeal.main_arg5) = m ((c.tc : Thread Cert.FinalReferenceIdeal.nD Cert.FinalReferenceIdeal.τ).loc Cert.FinalReferenceIdeal.main_arg5)
      ∧ r.2.mem ((c.tc : Thread Cert.FinalReferenceIdeal.nD Cert.FinalReferenceIdeal.τ).loc Cert.FinalReferenceIdeal.main_arg6) = m ((c.tc : Thread Cert.FinalReferenceIdeal.nD Cert.FinalReferenceIdeal.τ).loc Cert.FinalReferenceIdeal.main_arg6)
      ∧ r.2.mem ((c.tc : Thread Cert.FinalReferenceIdeal.nD Cert.FinalReferenceIdeal.τ).loc Cert.FinalReferenceIdeal.main_arg7) = m ((c.tc : Thread Cert.FinalReferenceIdeal.nD Cert.FinalReferenceIdeal.τ).loc Cert.FinalReferenceIdeal.main_arg7)
      ∧ r.2.mem ((c.tc : Thread Cert.FinalReferenceIdeal.nD Cert.FinalReferenceIdeal.τ).loc Cert.FinalReferenceIdeal.main_arg8) = m ((c.tc : Thread Cert.FinalReferenceIdeal.nD Cert.FinalReferenceIdeal.τ).loc Cert.FinalReferenceIdeal.main_arg8)
      ∧ r.2.mem ((c.tc : Thread Cert.FinalReferenceIdeal.nD Cert.FinalReferenceIdeal.τ).loc Cert.FinalReferenceIdeal.main_arg9) = m ((c.tc : Thread Cert.FinalReferenceIdeal.nD Cert.FinalReferenceIdeal.τ).loc Cert.FinalReferenceIdeal.main_arg9)
      ∧ r.2.mem ((c.tc : Thread Cert.FinalReferenceIdeal.nD Cert.FinalReferenceIdeal.τ).loc Cert.FinalReferenceIdeal.main_arg10) = m ((c.tc : Thread Cert.FinalReferenceIdeal.nD Cert.FinalReferenceIdeal.τ).loc Cert.FinalReferenceIdeal.main_arg10)
      ∧ r.2.mem ((c.tc : Thread Cert.FinalReferenceIdeal.nD Cert.FinalReferenceIdeal.τ).loc Cert.FinalReferenceIdeal.main_arg11) = m ((c.tc : Thread Cert.FinalReferenceIdeal.nD Cert.FinalReferenceIdeal.τ).loc Cert.FinalReferenceIdeal.main_arg11)
      ∧ r.2.mem ((c.tc : Thread Cert.FinalReferenceIdeal.nD Cert.FinalReferenceIdeal.τ).loc Cert.FinalReferenceIdeal.main_arg12) = m ((c.tc : Thread Cert.FinalReferenceIdeal.nD Cert.FinalReferenceIdeal.τ).loc Cert.FinalReferenceIdeal.main_arg12)
      ∧ r.2.mem ((c.tc : Thread Cert.FinalReferenceIdeal.nD Cert.FinalReferenceIdeal.τ).loc Cert.FinalReferenceIdeal.main_arg13) = m ((c.tc : Thread Cert.FinalReferenceIdeal.nD Cert.FinalReferenceIdeal.τ).loc Cert.FinalReferenceIdeal.main_arg13)
      ∧ r.2.mem ((c.tc : Thread Cert.FinalReferenceIdeal.nD Cert.FinalReferenceIdeal.τ).loc Cert.FinalReferenceIdeal.main_arg14) = m ((c.tc : Thread Cert.FinalReferenceIdeal.nD Cert.FinalReferenceIdeal.τ).loc Cert.FinalReferenceIdeal.main_arg14))
      ∧ r.2.sem = fun _ => 0)

def quiescent_Adaln [hAdaln : Cert.Adaln.Facts] : Prop :=
  ∀ (m : (ℓ : Loc Cert.Adaln.nD Cert.Adaln.τ Cert.Adaln.sig) → Buf (Elt Bits) ℓ) (g : Dev Cert.Adaln.nD → PrngReg), Pre_Adaln m →
    θ_run (Cert.Adaln.defs (F := Bits)) (onTc (τ := Cert.Adaln.τ) (Cert.Adaln.main (F := Bits))) ⟨m, fun _ => 0, g⟩ (fun r => (∀ c : Dev Cert.Adaln.nD,
      r.2.mem ((c.tc : Thread Cert.Adaln.nD Cert.Adaln.τ).loc Cert.Adaln.main_arg0) = m ((c.tc : Thread Cert.Adaln.nD Cert.Adaln.τ).loc Cert.Adaln.main_arg0)
      ∧ r.2.mem ((c.tc : Thread Cert.Adaln.nD Cert.Adaln.τ).loc Cert.Adaln.main_arg1) = m ((c.tc : Thread Cert.Adaln.nD Cert.Adaln.τ).loc Cert.Adaln.main_arg1)
      ∧ r.2.mem ((c.tc : Thread Cert.Adaln.nD Cert.Adaln.τ).loc Cert.Adaln.main_arg2) = m ((c.tc : Thread Cert.Adaln.nD Cert.Adaln.τ).loc Cert.Adaln.main_arg2)
      ∧ r.2.mem ((c.tc : Thread Cert.Adaln.nD Cert.Adaln.τ).loc Cert.Adaln.main_arg3) = m ((c.tc : Thread Cert.Adaln.nD Cert.Adaln.τ).loc Cert.Adaln.main_arg3))
      ∧ r.2.sem = fun _ => 0)

def quiescent_AdalnIdeal [hAdalnIdeal : Cert.AdalnIdeal.Facts] : Prop :=
  ∀ (m : (ℓ : Loc Cert.AdalnIdeal.nD Cert.AdalnIdeal.τ Cert.AdalnIdeal.sig) → Buf (Elt Ideal) ℓ) (g : Dev Cert.AdalnIdeal.nD → PrngReg), Pre_AdalnIdeal m →
    θ_run (Cert.AdalnIdeal.defs (F := Ideal)) (onTc (τ := Cert.AdalnIdeal.τ) (Cert.AdalnIdeal.main (F := Ideal))) ⟨m, fun _ => 0, g⟩ (fun r => (∀ c : Dev Cert.AdalnIdeal.nD,
      r.2.mem ((c.tc : Thread Cert.AdalnIdeal.nD Cert.AdalnIdeal.τ).loc Cert.AdalnIdeal.main_arg0) = m ((c.tc : Thread Cert.AdalnIdeal.nD Cert.AdalnIdeal.τ).loc Cert.AdalnIdeal.main_arg0)
      ∧ r.2.mem ((c.tc : Thread Cert.AdalnIdeal.nD Cert.AdalnIdeal.τ).loc Cert.AdalnIdeal.main_arg1) = m ((c.tc : Thread Cert.AdalnIdeal.nD Cert.AdalnIdeal.τ).loc Cert.AdalnIdeal.main_arg1)
      ∧ r.2.mem ((c.tc : Thread Cert.AdalnIdeal.nD Cert.AdalnIdeal.τ).loc Cert.AdalnIdeal.main_arg2) = m ((c.tc : Thread Cert.AdalnIdeal.nD Cert.AdalnIdeal.τ).loc Cert.AdalnIdeal.main_arg2)
      ∧ r.2.mem ((c.tc : Thread Cert.AdalnIdeal.nD Cert.AdalnIdeal.τ).loc Cert.AdalnIdeal.main_arg3) = m ((c.tc : Thread Cert.AdalnIdeal.nD Cert.AdalnIdeal.τ).loc Cert.AdalnIdeal.main_arg3))
      ∧ r.2.sem = fun _ => 0)

def quiescent_AdalnReferenceIdeal [hAdalnReferenceIdeal : Cert.AdalnReferenceIdeal.Facts] : Prop :=
  ∀ (m : (ℓ : Loc Cert.AdalnReferenceIdeal.nD Cert.AdalnReferenceIdeal.τ Cert.AdalnReferenceIdeal.sig) → Buf (Elt Ideal) ℓ) (g : Dev Cert.AdalnReferenceIdeal.nD → PrngReg), Pre_AdalnReferenceIdeal m →
    θ_run (Cert.AdalnReferenceIdeal.defs (F := Ideal)) (onTc (τ := Cert.AdalnReferenceIdeal.τ) (Cert.AdalnReferenceIdeal.main (F := Ideal))) ⟨m, fun _ => 0, g⟩ (fun r => (∀ c : Dev Cert.AdalnReferenceIdeal.nD,
      r.2.mem ((c.tc : Thread Cert.AdalnReferenceIdeal.nD Cert.AdalnReferenceIdeal.τ).loc Cert.AdalnReferenceIdeal.main_arg0) = m ((c.tc : Thread Cert.AdalnReferenceIdeal.nD Cert.AdalnReferenceIdeal.τ).loc Cert.AdalnReferenceIdeal.main_arg0)
      ∧ r.2.mem ((c.tc : Thread Cert.AdalnReferenceIdeal.nD Cert.AdalnReferenceIdeal.τ).loc Cert.AdalnReferenceIdeal.main_arg1) = m ((c.tc : Thread Cert.AdalnReferenceIdeal.nD Cert.AdalnReferenceIdeal.τ).loc Cert.AdalnReferenceIdeal.main_arg1)
      ∧ r.2.mem ((c.tc : Thread Cert.AdalnReferenceIdeal.nD Cert.AdalnReferenceIdeal.τ).loc Cert.AdalnReferenceIdeal.main_arg2) = m ((c.tc : Thread Cert.AdalnReferenceIdeal.nD Cert.AdalnReferenceIdeal.τ).loc Cert.AdalnReferenceIdeal.main_arg2)
      ∧ r.2.mem ((c.tc : Thread Cert.AdalnReferenceIdeal.nD Cert.AdalnReferenceIdeal.τ).loc Cert.AdalnReferenceIdeal.main_arg3) = m ((c.tc : Thread Cert.AdalnReferenceIdeal.nD Cert.AdalnReferenceIdeal.τ).loc Cert.AdalnReferenceIdeal.main_arg3))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5)
      ∧ r.2.mem ((c.tc : Thread Cert.Proj.nD Cert.Proj.τ).loc Cert.Proj.main_arg6) = m ((c.tc : Thread Cert.Proj.nD Cert.Proj.τ).loc Cert.Proj.main_arg6)
      ∧ r.2.mem ((c.tc : Thread Cert.Proj.nD Cert.Proj.τ).loc Cert.Proj.main_arg7) = m ((c.tc : Thread Cert.Proj.nD Cert.Proj.τ).loc Cert.Proj.main_arg7)
      ∧ r.2.mem ((c.tc : Thread Cert.Proj.nD Cert.Proj.τ).loc Cert.Proj.main_arg8) = m ((c.tc : Thread Cert.Proj.nD Cert.Proj.τ).loc Cert.Proj.main_arg8)
      ∧ r.2.mem ((c.tc : Thread Cert.Proj.nD Cert.Proj.τ).loc Cert.Proj.main_arg9) = m ((c.tc : Thread Cert.Proj.nD Cert.Proj.τ).loc Cert.Proj.main_arg9))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
      ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
      ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8)
      ∧ r.2.mem ((c.tc : Thread Cert.ProjIdeal.nD Cert.ProjIdeal.τ).loc Cert.ProjIdeal.main_arg9) = m ((c.tc : Thread Cert.ProjIdeal.nD Cert.ProjIdeal.τ).loc Cert.ProjIdeal.main_arg9))
      ∧ r.2.sem = fun _ => 0)

def quiescent_ProjIdeal_pre_finite_projection [hProjIdeal : Cert.ProjIdeal.Facts] [hPre_finite_projection : Cert.Pre_finite_projection.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal_finite_projection m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
      ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
      ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8)
      ∧ r.2.mem ((c.tc : Thread Cert.ProjIdeal.nD Cert.ProjIdeal.τ).loc Cert.ProjIdeal.main_arg9) = m ((c.tc : Thread Cert.ProjIdeal.nD Cert.ProjIdeal.τ).loc Cert.ProjIdeal.main_arg9))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3)
      ∧ r.2.mem ((c.tc : Thread Cert.ProjReferenceIdeal.nD Cert.ProjReferenceIdeal.τ).loc Cert.ProjReferenceIdeal.main_arg4) = m ((c.tc : Thread Cert.ProjReferenceIdeal.nD Cert.ProjReferenceIdeal.τ).loc Cert.ProjReferenceIdeal.main_arg4)
      ∧ r.2.mem ((c.tc : Thread Cert.ProjReferenceIdeal.nD Cert.ProjReferenceIdeal.τ).loc Cert.ProjReferenceIdeal.main_arg5) = m ((c.tc : Thread Cert.ProjReferenceIdeal.nD Cert.ProjReferenceIdeal.τ).loc Cert.ProjReferenceIdeal.main_arg5)
      ∧ r.2.mem ((c.tc : Thread Cert.ProjReferenceIdeal.nD Cert.ProjReferenceIdeal.τ).loc Cert.ProjReferenceIdeal.main_arg6) = m ((c.tc : Thread Cert.ProjReferenceIdeal.nD Cert.ProjReferenceIdeal.τ).loc Cert.ProjReferenceIdeal.main_arg6)
      ∧ r.2.mem ((c.tc : Thread Cert.ProjReferenceIdeal.nD Cert.ProjReferenceIdeal.τ).loc Cert.ProjReferenceIdeal.main_arg7) = m ((c.tc : Thread Cert.ProjReferenceIdeal.nD Cert.ProjReferenceIdeal.τ).loc Cert.ProjReferenceIdeal.main_arg7)
      ∧ r.2.mem ((c.tc : Thread Cert.ProjReferenceIdeal.nD Cert.ProjReferenceIdeal.τ).loc Cert.ProjReferenceIdeal.main_arg8) = m ((c.tc : Thread Cert.ProjReferenceIdeal.nD Cert.ProjReferenceIdeal.τ).loc Cert.ProjReferenceIdeal.main_arg8)
      ∧ r.2.mem ((c.tc : Thread Cert.ProjReferenceIdeal.nD Cert.ProjReferenceIdeal.τ).loc Cert.ProjReferenceIdeal.main_arg9) = m ((c.tc : Thread Cert.ProjReferenceIdeal.nD Cert.ProjReferenceIdeal.τ).loc Cert.ProjReferenceIdeal.main_arg9))
      ∧ r.2.sem = fun _ => 0)

def quiescent_ProjReferenceIdeal_pre_finite_projection [hProjReferenceIdeal : Cert.ProjReferenceIdeal.Facts] [hPre_finite_projection : Cert.Pre_finite_projection.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal_finite_projection m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3)
      ∧ r.2.mem ((c.tc : Thread Cert.ProjReferenceIdeal.nD Cert.ProjReferenceIdeal.τ).loc Cert.ProjReferenceIdeal.main_arg4) = m ((c.tc : Thread Cert.ProjReferenceIdeal.nD Cert.ProjReferenceIdeal.τ).loc Cert.ProjReferenceIdeal.main_arg4)
      ∧ r.2.mem ((c.tc : Thread Cert.ProjReferenceIdeal.nD Cert.ProjReferenceIdeal.τ).loc Cert.ProjReferenceIdeal.main_arg5) = m ((c.tc : Thread Cert.ProjReferenceIdeal.nD Cert.ProjReferenceIdeal.τ).loc Cert.ProjReferenceIdeal.main_arg5)
      ∧ r.2.mem ((c.tc : Thread Cert.ProjReferenceIdeal.nD Cert.ProjReferenceIdeal.τ).loc Cert.ProjReferenceIdeal.main_arg6) = m ((c.tc : Thread Cert.ProjReferenceIdeal.nD Cert.ProjReferenceIdeal.τ).loc Cert.ProjReferenceIdeal.main_arg6)
      ∧ r.2.mem ((c.tc : Thread Cert.ProjReferenceIdeal.nD Cert.ProjReferenceIdeal.τ).loc Cert.ProjReferenceIdeal.main_arg7) = m ((c.tc : Thread Cert.ProjReferenceIdeal.nD Cert.ProjReferenceIdeal.τ).loc Cert.ProjReferenceIdeal.main_arg7)
      ∧ r.2.mem ((c.tc : Thread Cert.ProjReferenceIdeal.nD Cert.ProjReferenceIdeal.τ).loc Cert.ProjReferenceIdeal.main_arg8) = m ((c.tc : Thread Cert.ProjReferenceIdeal.nD Cert.ProjReferenceIdeal.τ).loc Cert.ProjReferenceIdeal.main_arg8)
      ∧ r.2.mem ((c.tc : Thread Cert.ProjReferenceIdeal.nD Cert.ProjReferenceIdeal.τ).loc Cert.ProjReferenceIdeal.main_arg9) = m ((c.tc : Thread Cert.ProjReferenceIdeal.nD Cert.ProjReferenceIdeal.τ).loc Cert.ProjReferenceIdeal.main_arg9))
      ∧ r.2.sem = fun _ => 0)

def quiescent_FfnCtx [hFfnCtx : Cert.FfnCtx.Facts] : Prop :=
  ∀ (m : (ℓ : Loc Cert.FfnCtx.nD Cert.FfnCtx.τ Cert.FfnCtx.sig) → Buf (Elt Bits) ℓ) (g : Dev Cert.FfnCtx.nD → PrngReg), Pre_FfnCtx m →
    θ_run (Cert.FfnCtx.defs (F := Bits)) (onTc (τ := Cert.FfnCtx.τ) (Cert.FfnCtx.main (F := Bits))) ⟨m, fun _ => 0, g⟩ (fun r => (∀ c : Dev Cert.FfnCtx.nD,
      r.2.mem ((c.tc : Thread Cert.FfnCtx.nD Cert.FfnCtx.τ).loc Cert.FfnCtx.main_arg0) = m ((c.tc : Thread Cert.FfnCtx.nD Cert.FfnCtx.τ).loc Cert.FfnCtx.main_arg0)
      ∧ r.2.mem ((c.tc : Thread Cert.FfnCtx.nD Cert.FfnCtx.τ).loc Cert.FfnCtx.main_arg1) = m ((c.tc : Thread Cert.FfnCtx.nD Cert.FfnCtx.τ).loc Cert.FfnCtx.main_arg1)
      ∧ r.2.mem ((c.tc : Thread Cert.FfnCtx.nD Cert.FfnCtx.τ).loc Cert.FfnCtx.main_arg2) = m ((c.tc : Thread Cert.FfnCtx.nD Cert.FfnCtx.τ).loc Cert.FfnCtx.main_arg2)
      ∧ r.2.mem ((c.tc : Thread Cert.FfnCtx.nD Cert.FfnCtx.τ).loc Cert.FfnCtx.main_arg3) = m ((c.tc : Thread Cert.FfnCtx.nD Cert.FfnCtx.τ).loc Cert.FfnCtx.main_arg3)
      ∧ r.2.mem ((c.tc : Thread Cert.FfnCtx.nD Cert.FfnCtx.τ).loc Cert.FfnCtx.main_arg4) = m ((c.tc : Thread Cert.FfnCtx.nD Cert.FfnCtx.τ).loc Cert.FfnCtx.main_arg4))
      ∧ r.2.sem = fun _ => 0)

def quiescent_FfnCtxIdeal [hFfnCtxIdeal : Cert.FfnCtxIdeal.Facts] : Prop :=
  ∀ (m : (ℓ : Loc Cert.FfnCtxIdeal.nD Cert.FfnCtxIdeal.τ Cert.FfnCtxIdeal.sig) → Buf (Elt Ideal) ℓ) (g : Dev Cert.FfnCtxIdeal.nD → PrngReg), Pre_FfnCtxIdeal m →
    θ_run (Cert.FfnCtxIdeal.defs (F := Ideal)) (onTc (τ := Cert.FfnCtxIdeal.τ) (Cert.FfnCtxIdeal.main (F := Ideal))) ⟨m, fun _ => 0, g⟩ (fun r => (∀ c : Dev Cert.FfnCtxIdeal.nD,
      r.2.mem ((c.tc : Thread Cert.FfnCtxIdeal.nD Cert.FfnCtxIdeal.τ).loc Cert.FfnCtxIdeal.main_arg0) = m ((c.tc : Thread Cert.FfnCtxIdeal.nD Cert.FfnCtxIdeal.τ).loc Cert.FfnCtxIdeal.main_arg0)
      ∧ r.2.mem ((c.tc : Thread Cert.FfnCtxIdeal.nD Cert.FfnCtxIdeal.τ).loc Cert.FfnCtxIdeal.main_arg1) = m ((c.tc : Thread Cert.FfnCtxIdeal.nD Cert.FfnCtxIdeal.τ).loc Cert.FfnCtxIdeal.main_arg1)
      ∧ r.2.mem ((c.tc : Thread Cert.FfnCtxIdeal.nD Cert.FfnCtxIdeal.τ).loc Cert.FfnCtxIdeal.main_arg2) = m ((c.tc : Thread Cert.FfnCtxIdeal.nD Cert.FfnCtxIdeal.τ).loc Cert.FfnCtxIdeal.main_arg2)
      ∧ r.2.mem ((c.tc : Thread Cert.FfnCtxIdeal.nD Cert.FfnCtxIdeal.τ).loc Cert.FfnCtxIdeal.main_arg3) = m ((c.tc : Thread Cert.FfnCtxIdeal.nD Cert.FfnCtxIdeal.τ).loc Cert.FfnCtxIdeal.main_arg3)
      ∧ r.2.mem ((c.tc : Thread Cert.FfnCtxIdeal.nD Cert.FfnCtxIdeal.τ).loc Cert.FfnCtxIdeal.main_arg4) = m ((c.tc : Thread Cert.FfnCtxIdeal.nD Cert.FfnCtxIdeal.τ).loc Cert.FfnCtxIdeal.main_arg4))
      ∧ r.2.sem = fun _ => 0)

def quiescent_FfnCtxReferenceIdeal [hFfnCtxReferenceIdeal : Cert.FfnCtxReferenceIdeal.Facts] : Prop :=
  ∀ (m : (ℓ : Loc Cert.FfnCtxReferenceIdeal.nD Cert.FfnCtxReferenceIdeal.τ Cert.FfnCtxReferenceIdeal.sig) → Buf (Elt Ideal) ℓ) (g : Dev Cert.FfnCtxReferenceIdeal.nD → PrngReg), Pre_FfnCtxReferenceIdeal m →
    θ_run (Cert.FfnCtxReferenceIdeal.defs (F := Ideal)) (onTc (τ := Cert.FfnCtxReferenceIdeal.τ) (Cert.FfnCtxReferenceIdeal.main (F := Ideal))) ⟨m, fun _ => 0, g⟩ (fun r => (∀ c : Dev Cert.FfnCtxReferenceIdeal.nD,
      r.2.mem ((c.tc : Thread Cert.FfnCtxReferenceIdeal.nD Cert.FfnCtxReferenceIdeal.τ).loc Cert.FfnCtxReferenceIdeal.main_arg0) = m ((c.tc : Thread Cert.FfnCtxReferenceIdeal.nD Cert.FfnCtxReferenceIdeal.τ).loc Cert.FfnCtxReferenceIdeal.main_arg0)
      ∧ r.2.mem ((c.tc : Thread Cert.FfnCtxReferenceIdeal.nD Cert.FfnCtxReferenceIdeal.τ).loc Cert.FfnCtxReferenceIdeal.main_arg1) = m ((c.tc : Thread Cert.FfnCtxReferenceIdeal.nD Cert.FfnCtxReferenceIdeal.τ).loc Cert.FfnCtxReferenceIdeal.main_arg1)
      ∧ r.2.mem ((c.tc : Thread Cert.FfnCtxReferenceIdeal.nD Cert.FfnCtxReferenceIdeal.τ).loc Cert.FfnCtxReferenceIdeal.main_arg2) = m ((c.tc : Thread Cert.FfnCtxReferenceIdeal.nD Cert.FfnCtxReferenceIdeal.τ).loc Cert.FfnCtxReferenceIdeal.main_arg2)
      ∧ r.2.mem ((c.tc : Thread Cert.FfnCtxReferenceIdeal.nD Cert.FfnCtxReferenceIdeal.τ).loc Cert.FfnCtxReferenceIdeal.main_arg3) = m ((c.tc : Thread Cert.FfnCtxReferenceIdeal.nD Cert.FfnCtxReferenceIdeal.τ).loc Cert.FfnCtxReferenceIdeal.main_arg3)
      ∧ r.2.mem ((c.tc : Thread Cert.FfnCtxReferenceIdeal.nD Cert.FfnCtxReferenceIdeal.τ).loc Cert.FfnCtxReferenceIdeal.main_arg4) = m ((c.tc : Thread Cert.FfnCtxReferenceIdeal.nD Cert.FfnCtxReferenceIdeal.τ).loc Cert.FfnCtxReferenceIdeal.main_arg4))
      ∧ r.2.sem = fun _ => 0)

def quiescent_ProjCtx [hProjCtx : Cert.ProjCtx.Facts] : Prop :=
  ∀ (m : (ℓ : Loc Cert.ProjCtx.nD Cert.ProjCtx.τ Cert.ProjCtx.sig) → Buf (Elt Bits) ℓ) (g : Dev Cert.ProjCtx.nD → PrngReg), Pre_ProjCtx m →
    θ_run (Cert.ProjCtx.defs (F := Bits)) (onTc (τ := Cert.ProjCtx.τ) (Cert.ProjCtx.main (F := Bits))) ⟨m, fun _ => 0, g⟩ (fun r => (∀ c : Dev Cert.ProjCtx.nD,
      r.2.mem ((c.tc : Thread Cert.ProjCtx.nD Cert.ProjCtx.τ).loc Cert.ProjCtx.main_arg0) = m ((c.tc : Thread Cert.ProjCtx.nD Cert.ProjCtx.τ).loc Cert.ProjCtx.main_arg0)
      ∧ r.2.mem ((c.tc : Thread Cert.ProjCtx.nD Cert.ProjCtx.τ).loc Cert.ProjCtx.main_arg1) = m ((c.tc : Thread Cert.ProjCtx.nD Cert.ProjCtx.τ).loc Cert.ProjCtx.main_arg1)
      ∧ r.2.mem ((c.tc : Thread Cert.ProjCtx.nD Cert.ProjCtx.τ).loc Cert.ProjCtx.main_arg2) = m ((c.tc : Thread Cert.ProjCtx.nD Cert.ProjCtx.τ).loc Cert.ProjCtx.main_arg2)
      ∧ r.2.mem ((c.tc : Thread Cert.ProjCtx.nD Cert.ProjCtx.τ).loc Cert.ProjCtx.main_arg3) = m ((c.tc : Thread Cert.ProjCtx.nD Cert.ProjCtx.τ).loc Cert.ProjCtx.main_arg3)
      ∧ r.2.mem ((c.tc : Thread Cert.ProjCtx.nD Cert.ProjCtx.τ).loc Cert.ProjCtx.main_arg4) = m ((c.tc : Thread Cert.ProjCtx.nD Cert.ProjCtx.τ).loc Cert.ProjCtx.main_arg4)
      ∧ r.2.mem ((c.tc : Thread Cert.ProjCtx.nD Cert.ProjCtx.τ).loc Cert.ProjCtx.main_arg5) = m ((c.tc : Thread Cert.ProjCtx.nD Cert.ProjCtx.τ).loc Cert.ProjCtx.main_arg5)
      ∧ r.2.mem ((c.tc : Thread Cert.ProjCtx.nD Cert.ProjCtx.τ).loc Cert.ProjCtx.main_arg6) = m ((c.tc : Thread Cert.ProjCtx.nD Cert.ProjCtx.τ).loc Cert.ProjCtx.main_arg6)
      ∧ r.2.mem ((c.tc : Thread Cert.ProjCtx.nD Cert.ProjCtx.τ).loc Cert.ProjCtx.main_arg7) = m ((c.tc : Thread Cert.ProjCtx.nD Cert.ProjCtx.τ).loc Cert.ProjCtx.main_arg7))
      ∧ r.2.sem = fun _ => 0)

def quiescent_ProjCtxIdeal [hProjCtxIdeal : Cert.ProjCtxIdeal.Facts] : Prop :=
  ∀ (m : (ℓ : Loc Cert.ProjCtxIdeal.nD Cert.ProjCtxIdeal.τ Cert.ProjCtxIdeal.sig) → Buf (Elt Ideal) ℓ) (g : Dev Cert.ProjCtxIdeal.nD → PrngReg), Pre_ProjCtxIdeal m →
    θ_run (Cert.ProjCtxIdeal.defs (F := Ideal)) (onTc (τ := Cert.ProjCtxIdeal.τ) (Cert.ProjCtxIdeal.main (F := Ideal))) ⟨m, fun _ => 0, g⟩ (fun r => (∀ c : Dev Cert.ProjCtxIdeal.nD,
      r.2.mem ((c.tc : Thread Cert.ProjCtxIdeal.nD Cert.ProjCtxIdeal.τ).loc Cert.ProjCtxIdeal.main_arg0) = m ((c.tc : Thread Cert.ProjCtxIdeal.nD Cert.ProjCtxIdeal.τ).loc Cert.ProjCtxIdeal.main_arg0)
      ∧ r.2.mem ((c.tc : Thread Cert.ProjCtxIdeal.nD Cert.ProjCtxIdeal.τ).loc Cert.ProjCtxIdeal.main_arg1) = m ((c.tc : Thread Cert.ProjCtxIdeal.nD Cert.ProjCtxIdeal.τ).loc Cert.ProjCtxIdeal.main_arg1)
      ∧ r.2.mem ((c.tc : Thread Cert.ProjCtxIdeal.nD Cert.ProjCtxIdeal.τ).loc Cert.ProjCtxIdeal.main_arg2) = m ((c.tc : Thread Cert.ProjCtxIdeal.nD Cert.ProjCtxIdeal.τ).loc Cert.ProjCtxIdeal.main_arg2)
      ∧ r.2.mem ((c.tc : Thread Cert.ProjCtxIdeal.nD Cert.ProjCtxIdeal.τ).loc Cert.ProjCtxIdeal.main_arg3) = m ((c.tc : Thread Cert.ProjCtxIdeal.nD Cert.ProjCtxIdeal.τ).loc Cert.ProjCtxIdeal.main_arg3)
      ∧ r.2.mem ((c.tc : Thread Cert.ProjCtxIdeal.nD Cert.ProjCtxIdeal.τ).loc Cert.ProjCtxIdeal.main_arg4) = m ((c.tc : Thread Cert.ProjCtxIdeal.nD Cert.ProjCtxIdeal.τ).loc Cert.ProjCtxIdeal.main_arg4)
      ∧ r.2.mem ((c.tc : Thread Cert.ProjCtxIdeal.nD Cert.ProjCtxIdeal.τ).loc Cert.ProjCtxIdeal.main_arg5) = m ((c.tc : Thread Cert.ProjCtxIdeal.nD Cert.ProjCtxIdeal.τ).loc Cert.ProjCtxIdeal.main_arg5)
      ∧ r.2.mem ((c.tc : Thread Cert.ProjCtxIdeal.nD Cert.ProjCtxIdeal.τ).loc Cert.ProjCtxIdeal.main_arg6) = m ((c.tc : Thread Cert.ProjCtxIdeal.nD Cert.ProjCtxIdeal.τ).loc Cert.ProjCtxIdeal.main_arg6)
      ∧ r.2.mem ((c.tc : Thread Cert.ProjCtxIdeal.nD Cert.ProjCtxIdeal.τ).loc Cert.ProjCtxIdeal.main_arg7) = m ((c.tc : Thread Cert.ProjCtxIdeal.nD Cert.ProjCtxIdeal.τ).loc Cert.ProjCtxIdeal.main_arg7))
      ∧ r.2.sem = fun _ => 0)

def quiescent_ProjCtxReferenceIdeal [hProjCtxReferenceIdeal : Cert.ProjCtxReferenceIdeal.Facts] : Prop :=
  ∀ (m : (ℓ : Loc Cert.ProjCtxReferenceIdeal.nD Cert.ProjCtxReferenceIdeal.τ Cert.ProjCtxReferenceIdeal.sig) → Buf (Elt Ideal) ℓ) (g : Dev Cert.ProjCtxReferenceIdeal.nD → PrngReg), Pre_ProjCtxReferenceIdeal m →
    θ_run (Cert.ProjCtxReferenceIdeal.defs (F := Ideal)) (onTc (τ := Cert.ProjCtxReferenceIdeal.τ) (Cert.ProjCtxReferenceIdeal.main (F := Ideal))) ⟨m, fun _ => 0, g⟩ (fun r => (∀ c : Dev Cert.ProjCtxReferenceIdeal.nD,
      r.2.mem ((c.tc : Thread Cert.ProjCtxReferenceIdeal.nD Cert.ProjCtxReferenceIdeal.τ).loc Cert.ProjCtxReferenceIdeal.main_arg0) = m ((c.tc : Thread Cert.ProjCtxReferenceIdeal.nD Cert.ProjCtxReferenceIdeal.τ).loc Cert.ProjCtxReferenceIdeal.main_arg0)
      ∧ r.2.mem ((c.tc : Thread Cert.ProjCtxReferenceIdeal.nD Cert.ProjCtxReferenceIdeal.τ).loc Cert.ProjCtxReferenceIdeal.main_arg1) = m ((c.tc : Thread Cert.ProjCtxReferenceIdeal.nD Cert.ProjCtxReferenceIdeal.τ).loc Cert.ProjCtxReferenceIdeal.main_arg1)
      ∧ r.2.mem ((c.tc : Thread Cert.ProjCtxReferenceIdeal.nD Cert.ProjCtxReferenceIdeal.τ).loc Cert.ProjCtxReferenceIdeal.main_arg2) = m ((c.tc : Thread Cert.ProjCtxReferenceIdeal.nD Cert.ProjCtxReferenceIdeal.τ).loc Cert.ProjCtxReferenceIdeal.main_arg2)
      ∧ r.2.mem ((c.tc : Thread Cert.ProjCtxReferenceIdeal.nD Cert.ProjCtxReferenceIdeal.τ).loc Cert.ProjCtxReferenceIdeal.main_arg3) = m ((c.tc : Thread Cert.ProjCtxReferenceIdeal.nD Cert.ProjCtxReferenceIdeal.τ).loc Cert.ProjCtxReferenceIdeal.main_arg3)
      ∧ r.2.mem ((c.tc : Thread Cert.ProjCtxReferenceIdeal.nD Cert.ProjCtxReferenceIdeal.τ).loc Cert.ProjCtxReferenceIdeal.main_arg4) = m ((c.tc : Thread Cert.ProjCtxReferenceIdeal.nD Cert.ProjCtxReferenceIdeal.τ).loc Cert.ProjCtxReferenceIdeal.main_arg4)
      ∧ r.2.mem ((c.tc : Thread Cert.ProjCtxReferenceIdeal.nD Cert.ProjCtxReferenceIdeal.τ).loc Cert.ProjCtxReferenceIdeal.main_arg5) = m ((c.tc : Thread Cert.ProjCtxReferenceIdeal.nD Cert.ProjCtxReferenceIdeal.τ).loc Cert.ProjCtxReferenceIdeal.main_arg5)
      ∧ r.2.mem ((c.tc : Thread Cert.ProjCtxReferenceIdeal.nD Cert.ProjCtxReferenceIdeal.τ).loc Cert.ProjCtxReferenceIdeal.main_arg6) = m ((c.tc : Thread Cert.ProjCtxReferenceIdeal.nD Cert.ProjCtxReferenceIdeal.τ).loc Cert.ProjCtxReferenceIdeal.main_arg6)
      ∧ r.2.mem ((c.tc : Thread Cert.ProjCtxReferenceIdeal.nD Cert.ProjCtxReferenceIdeal.τ).loc Cert.ProjCtxReferenceIdeal.main_arg7) = m ((c.tc : Thread Cert.ProjCtxReferenceIdeal.nD Cert.ProjCtxReferenceIdeal.τ).loc Cert.ProjCtxReferenceIdeal.main_arg7))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v4)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v4) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v52) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4))

def preserves_Final_FinalIdeal : Prop :=
  True

def algebraic_FinalIdeal_FinalReferenceIdeal [hFinalIdeal : Cert.FinalIdeal.Facts] [hFinalReferenceIdeal : Cert.FinalReferenceIdeal.Facts] : Prop :=
  ∀ (m : (ℓ : Loc Cert.FinalIdeal.nD Cert.FinalIdeal.τ Cert.FinalIdeal.sig) → Buf (Elt Ideal) ℓ) (g : Dev Cert.FinalIdeal.nD → PrngReg)
    (m' : (ℓ : Loc Cert.FinalReferenceIdeal.nD Cert.FinalReferenceIdeal.τ Cert.FinalReferenceIdeal.sig) → Buf (Elt Ideal) ℓ) (g' : Dev Cert.FinalReferenceIdeal.nD → PrngReg), Pre_FinalIdeal m →
    (∀ c : Dev Cert.FinalIdeal.nD,
      m' ((c.tc : Thread Cert.FinalReferenceIdeal.nD Cert.FinalReferenceIdeal.τ).loc Cert.FinalReferenceIdeal.main_arg0) = m ((c.tc : Thread Cert.FinalIdeal.nD Cert.FinalIdeal.τ).loc Cert.FinalIdeal.main_arg0)
      ∧ m' ((c.tc : Thread Cert.FinalReferenceIdeal.nD Cert.FinalReferenceIdeal.τ).loc Cert.FinalReferenceIdeal.main_arg1) = m ((c.tc : Thread Cert.FinalIdeal.nD Cert.FinalIdeal.τ).loc Cert.FinalIdeal.main_arg1)
      ∧ m' ((c.tc : Thread Cert.FinalReferenceIdeal.nD Cert.FinalReferenceIdeal.τ).loc Cert.FinalReferenceIdeal.main_arg2) = m ((c.tc : Thread Cert.FinalIdeal.nD Cert.FinalIdeal.τ).loc Cert.FinalIdeal.main_arg2)
      ∧ m' ((c.tc : Thread Cert.FinalReferenceIdeal.nD Cert.FinalReferenceIdeal.τ).loc Cert.FinalReferenceIdeal.main_arg3) = m ((c.tc : Thread Cert.FinalIdeal.nD Cert.FinalIdeal.τ).loc Cert.FinalIdeal.main_arg3)
      ∧ m' ((c.tc : Thread Cert.FinalReferenceIdeal.nD Cert.FinalReferenceIdeal.τ).loc Cert.FinalReferenceIdeal.main_arg4) = m ((c.tc : Thread Cert.FinalIdeal.nD Cert.FinalIdeal.τ).loc Cert.FinalIdeal.main_arg4)
      ∧ m' ((c.tc : Thread Cert.FinalReferenceIdeal.nD Cert.FinalReferenceIdeal.τ).loc Cert.FinalReferenceIdeal.main_arg5) = m ((c.tc : Thread Cert.FinalIdeal.nD Cert.FinalIdeal.τ).loc Cert.FinalIdeal.main_arg5)
      ∧ m' ((c.tc : Thread Cert.FinalReferenceIdeal.nD Cert.FinalReferenceIdeal.τ).loc Cert.FinalReferenceIdeal.main_arg6) = m ((c.tc : Thread Cert.FinalIdeal.nD Cert.FinalIdeal.τ).loc Cert.FinalIdeal.main_arg6)
      ∧ m' ((c.tc : Thread Cert.FinalReferenceIdeal.nD Cert.FinalReferenceIdeal.τ).loc Cert.FinalReferenceIdeal.main_arg7) = m ((c.tc : Thread Cert.FinalIdeal.nD Cert.FinalIdeal.τ).loc Cert.FinalIdeal.main_arg7)
      ∧ m' ((c.tc : Thread Cert.FinalReferenceIdeal.nD Cert.FinalReferenceIdeal.τ).loc Cert.FinalReferenceIdeal.main_arg8) = m ((c.tc : Thread Cert.FinalIdeal.nD Cert.FinalIdeal.τ).loc Cert.FinalIdeal.main_arg8)
      ∧ m' ((c.tc : Thread Cert.FinalReferenceIdeal.nD Cert.FinalReferenceIdeal.τ).loc Cert.FinalReferenceIdeal.main_arg9) = m ((c.tc : Thread Cert.FinalIdeal.nD Cert.FinalIdeal.τ).loc Cert.FinalIdeal.main_arg9)
      ∧ m' ((c.tc : Thread Cert.FinalReferenceIdeal.nD Cert.FinalReferenceIdeal.τ).loc Cert.FinalReferenceIdeal.main_arg10) = m ((c.tc : Thread Cert.FinalIdeal.nD Cert.FinalIdeal.τ).loc Cert.FinalIdeal.main_arg10)
      ∧ m' ((c.tc : Thread Cert.FinalReferenceIdeal.nD Cert.FinalReferenceIdeal.τ).loc Cert.FinalReferenceIdeal.main_arg11) = m ((c.tc : Thread Cert.FinalIdeal.nD Cert.FinalIdeal.τ).loc Cert.FinalIdeal.main_arg11)
      ∧ m' ((c.tc : Thread Cert.FinalReferenceIdeal.nD Cert.FinalReferenceIdeal.τ).loc Cert.FinalReferenceIdeal.main_arg12) = m ((c.tc : Thread Cert.FinalIdeal.nD Cert.FinalIdeal.τ).loc Cert.FinalIdeal.main_arg12)
      ∧ m' ((c.tc : Thread Cert.FinalReferenceIdeal.nD Cert.FinalReferenceIdeal.τ).loc Cert.FinalReferenceIdeal.main_arg13) = m ((c.tc : Thread Cert.FinalIdeal.nD Cert.FinalIdeal.τ).loc Cert.FinalIdeal.main_arg13)
      ∧ m' ((c.tc : Thread Cert.FinalReferenceIdeal.nD Cert.FinalReferenceIdeal.τ).loc Cert.FinalReferenceIdeal.main_arg14) = m ((c.tc : Thread Cert.FinalIdeal.nD Cert.FinalIdeal.τ).loc Cert.FinalIdeal.main_arg14)) →
    ∃ (v0 : (c : Dev Cert.FinalIdeal.nD) → Buf (Elt Ideal) ((c.tc : Thread Cert.FinalIdeal.nD Cert.FinalIdeal.τ).loc Cert.FinalIdeal.main_v9)),
      θ_run (Cert.FinalIdeal.defs (F := Ideal)) (onTc (τ := Cert.FinalIdeal.τ) (Cert.FinalIdeal.main (F := Ideal))) ⟨m, fun _ => 0, g⟩ (fun r => ∀ c : Dev Cert.FinalIdeal.nD,
          r.2.mem ((c.tc : Thread Cert.FinalIdeal.nD Cert.FinalIdeal.τ).loc Cert.FinalIdeal.main_v9) = v0 c
          ∧ r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
          ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
          ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
          ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3)
          ∧ r.2.mem ((c.tc : Thread Cert.FinalIdeal.nD Cert.FinalIdeal.τ).loc Cert.FinalIdeal.main_arg4) = m ((c.tc : Thread Cert.FinalIdeal.nD Cert.FinalIdeal.τ).loc Cert.FinalIdeal.main_arg4)
          ∧ r.2.mem ((c.tc : Thread Cert.FinalIdeal.nD Cert.FinalIdeal.τ).loc Cert.FinalIdeal.main_arg5) = m ((c.tc : Thread Cert.FinalIdeal.nD Cert.FinalIdeal.τ).loc Cert.FinalIdeal.main_arg5)
          ∧ r.2.mem ((c.tc : Thread Cert.FinalIdeal.nD Cert.FinalIdeal.τ).loc Cert.FinalIdeal.main_arg6) = m ((c.tc : Thread Cert.FinalIdeal.nD Cert.FinalIdeal.τ).loc Cert.FinalIdeal.main_arg6)
          ∧ r.2.mem ((c.tc : Thread Cert.FinalIdeal.nD Cert.FinalIdeal.τ).loc Cert.FinalIdeal.main_arg7) = m ((c.tc : Thread Cert.FinalIdeal.nD Cert.FinalIdeal.τ).loc Cert.FinalIdeal.main_arg7)
          ∧ r.2.mem ((c.tc : Thread Cert.FinalIdeal.nD Cert.FinalIdeal.τ).loc Cert.FinalIdeal.main_arg8) = m ((c.tc : Thread Cert.FinalIdeal.nD Cert.FinalIdeal.τ).loc Cert.FinalIdeal.main_arg8)
          ∧ r.2.mem ((c.tc : Thread Cert.FinalIdeal.nD Cert.FinalIdeal.τ).loc Cert.FinalIdeal.main_arg9) = m ((c.tc : Thread Cert.FinalIdeal.nD Cert.FinalIdeal.τ).loc Cert.FinalIdeal.main_arg9)
          ∧ r.2.mem ((c.tc : Thread Cert.FinalIdeal.nD Cert.FinalIdeal.τ).loc Cert.FinalIdeal.main_arg10) = m ((c.tc : Thread Cert.FinalIdeal.nD Cert.FinalIdeal.τ).loc Cert.FinalIdeal.main_arg10)
          ∧ r.2.mem ((c.tc : Thread Cert.FinalIdeal.nD Cert.FinalIdeal.τ).loc Cert.FinalIdeal.main_arg11) = m ((c.tc : Thread Cert.FinalIdeal.nD Cert.FinalIdeal.τ).loc Cert.FinalIdeal.main_arg11)
          ∧ r.2.mem ((c.tc : Thread Cert.FinalIdeal.nD Cert.FinalIdeal.τ).loc Cert.FinalIdeal.main_arg12) = m ((c.tc : Thread Cert.FinalIdeal.nD Cert.FinalIdeal.τ).loc Cert.FinalIdeal.main_arg12)
          ∧ r.2.mem ((c.tc : Thread Cert.FinalIdeal.nD Cert.FinalIdeal.τ).loc Cert.FinalIdeal.main_arg13) = m ((c.tc : Thread Cert.FinalIdeal.nD Cert.FinalIdeal.τ).loc Cert.FinalIdeal.main_arg13)
          ∧ r.2.mem ((c.tc : Thread Cert.FinalIdeal.nD Cert.FinalIdeal.τ).loc Cert.FinalIdeal.main_arg14) = m ((c.tc : Thread Cert.FinalIdeal.nD Cert.FinalIdeal.τ).loc Cert.FinalIdeal.main_arg14))
      ∧ θ_run (Cert.FinalReferenceIdeal.defs (F := Ideal)) (onTc (τ := Cert.FinalReferenceIdeal.τ) (Cert.FinalReferenceIdeal.main (F := Ideal))) ⟨m', fun _ => 0, g'⟩ (fun r => ∀ c : Dev Cert.FinalReferenceIdeal.nD,
          r.2.mem ((c.tc : Thread Cert.FinalReferenceIdeal.nD Cert.FinalReferenceIdeal.τ).loc Cert.FinalReferenceIdeal.main_v135) = v0 c
          ∧ r.2.mem ((c.tc : Thread Cert.FinalReferenceIdeal.nD Cert.FinalReferenceIdeal.τ).loc Cert.FinalReferenceIdeal.main_arg0) = m' ((c.tc : Thread Cert.FinalReferenceIdeal.nD Cert.FinalReferenceIdeal.τ).loc Cert.FinalReferenceIdeal.main_arg0)
          ∧ r.2.mem ((c.tc : Thread Cert.FinalReferenceIdeal.nD Cert.FinalReferenceIdeal.τ).loc Cert.FinalReferenceIdeal.main_arg1) = m' ((c.tc : Thread Cert.FinalReferenceIdeal.nD Cert.FinalReferenceIdeal.τ).loc Cert.FinalReferenceIdeal.main_arg1)
          ∧ r.2.mem ((c.tc : Thread Cert.FinalReferenceIdeal.nD Cert.FinalReferenceIdeal.τ).loc Cert.FinalReferenceIdeal.main_arg2) = m' ((c.tc : Thread Cert.FinalReferenceIdeal.nD Cert.FinalReferenceIdeal.τ).loc Cert.FinalReferenceIdeal.main_arg2)
          ∧ r.2.mem ((c.tc : Thread Cert.FinalReferenceIdeal.nD Cert.FinalReferenceIdeal.τ).loc Cert.FinalReferenceIdeal.main_arg3) = m' ((c.tc : Thread Cert.FinalReferenceIdeal.nD Cert.FinalReferenceIdeal.τ).loc Cert.FinalReferenceIdeal.main_arg3)
          ∧ r.2.mem ((c.tc : Thread Cert.FinalReferenceIdeal.nD Cert.FinalReferenceIdeal.τ).loc Cert.FinalReferenceIdeal.main_arg4) = m' ((c.tc : Thread Cert.FinalReferenceIdeal.nD Cert.FinalReferenceIdeal.τ).loc Cert.FinalReferenceIdeal.main_arg4)
          ∧ r.2.mem ((c.tc : Thread Cert.FinalReferenceIdeal.nD Cert.FinalReferenceIdeal.τ).loc Cert.FinalReferenceIdeal.main_arg5) = m' ((c.tc : Thread Cert.FinalReferenceIdeal.nD Cert.FinalReferenceIdeal.τ).loc Cert.FinalReferenceIdeal.main_arg5)
          ∧ r.2.mem ((c.tc : Thread Cert.FinalReferenceIdeal.nD Cert.FinalReferenceIdeal.τ).loc Cert.FinalReferenceIdeal.main_arg6) = m' ((c.tc : Thread Cert.FinalReferenceIdeal.nD Cert.FinalReferenceIdeal.τ).loc Cert.FinalReferenceIdeal.main_arg6)
          ∧ r.2.mem ((c.tc : Thread Cert.FinalReferenceIdeal.nD Cert.FinalReferenceIdeal.τ).loc Cert.FinalReferenceIdeal.main_arg7) = m' ((c.tc : Thread Cert.FinalReferenceIdeal.nD Cert.FinalReferenceIdeal.τ).loc Cert.FinalReferenceIdeal.main_arg7)
          ∧ r.2.mem ((c.tc : Thread Cert.FinalReferenceIdeal.nD Cert.FinalReferenceIdeal.τ).loc Cert.FinalReferenceIdeal.main_arg8) = m' ((c.tc : Thread Cert.FinalReferenceIdeal.nD Cert.FinalReferenceIdeal.τ).loc Cert.FinalReferenceIdeal.main_arg8)
          ∧ r.2.mem ((c.tc : Thread Cert.FinalReferenceIdeal.nD Cert.FinalReferenceIdeal.τ).loc Cert.FinalReferenceIdeal.main_arg9) = m' ((c.tc : Thread Cert.FinalReferenceIdeal.nD Cert.FinalReferenceIdeal.τ).loc Cert.FinalReferenceIdeal.main_arg9)
          ∧ r.2.mem ((c.tc : Thread Cert.FinalReferenceIdeal.nD Cert.FinalReferenceIdeal.τ).loc Cert.FinalReferenceIdeal.main_arg10) = m' ((c.tc : Thread Cert.FinalReferenceIdeal.nD Cert.FinalReferenceIdeal.τ).loc Cert.FinalReferenceIdeal.main_arg10)
          ∧ r.2.mem ((c.tc : Thread Cert.FinalReferenceIdeal.nD Cert.FinalReferenceIdeal.τ).loc Cert.FinalReferenceIdeal.main_arg11) = m' ((c.tc : Thread Cert.FinalReferenceIdeal.nD Cert.FinalReferenceIdeal.τ).loc Cert.FinalReferenceIdeal.main_arg11)
          ∧ r.2.mem ((c.tc : Thread Cert.FinalReferenceIdeal.nD Cert.FinalReferenceIdeal.τ).loc Cert.FinalReferenceIdeal.main_arg12) = m' ((c.tc : Thread Cert.FinalReferenceIdeal.nD Cert.FinalReferenceIdeal.τ).loc Cert.FinalReferenceIdeal.main_arg12)
          ∧ r.2.mem ((c.tc : Thread Cert.FinalReferenceIdeal.nD Cert.FinalReferenceIdeal.τ).loc Cert.FinalReferenceIdeal.main_arg13) = m' ((c.tc : Thread Cert.FinalReferenceIdeal.nD Cert.FinalReferenceIdeal.τ).loc Cert.FinalReferenceIdeal.main_arg13)
          ∧ r.2.mem ((c.tc : Thread Cert.FinalReferenceIdeal.nD Cert.FinalReferenceIdeal.τ).loc Cert.FinalReferenceIdeal.main_arg14) = m' ((c.tc : Thread Cert.FinalReferenceIdeal.nD Cert.FinalReferenceIdeal.τ).loc Cert.FinalReferenceIdeal.main_arg14))

def preserves_Adaln_AdalnIdeal : Prop :=
  True

def algebraic_AdalnIdeal_AdalnReferenceIdeal [hAdalnIdeal : Cert.AdalnIdeal.Facts] [hAdalnReferenceIdeal : Cert.AdalnReferenceIdeal.Facts] : Prop :=
  ∀ (m : (ℓ : Loc Cert.AdalnIdeal.nD Cert.AdalnIdeal.τ Cert.AdalnIdeal.sig) → Buf (Elt Ideal) ℓ) (g : Dev Cert.AdalnIdeal.nD → PrngReg)
    (m' : (ℓ : Loc Cert.AdalnReferenceIdeal.nD Cert.AdalnReferenceIdeal.τ Cert.AdalnReferenceIdeal.sig) → Buf (Elt Ideal) ℓ) (g' : Dev Cert.AdalnReferenceIdeal.nD → PrngReg), Pre_AdalnIdeal m →
    (∀ c : Dev Cert.AdalnIdeal.nD,
      m' ((c.tc : Thread Cert.AdalnReferenceIdeal.nD Cert.AdalnReferenceIdeal.τ).loc Cert.AdalnReferenceIdeal.main_arg0) = m ((c.tc : Thread Cert.AdalnIdeal.nD Cert.AdalnIdeal.τ).loc Cert.AdalnIdeal.main_arg0)
      ∧ m' ((c.tc : Thread Cert.AdalnReferenceIdeal.nD Cert.AdalnReferenceIdeal.τ).loc Cert.AdalnReferenceIdeal.main_arg1) = m ((c.tc : Thread Cert.AdalnIdeal.nD Cert.AdalnIdeal.τ).loc Cert.AdalnIdeal.main_arg1)
      ∧ m' ((c.tc : Thread Cert.AdalnReferenceIdeal.nD Cert.AdalnReferenceIdeal.τ).loc Cert.AdalnReferenceIdeal.main_arg2) = m ((c.tc : Thread Cert.AdalnIdeal.nD Cert.AdalnIdeal.τ).loc Cert.AdalnIdeal.main_arg2)
      ∧ m' ((c.tc : Thread Cert.AdalnReferenceIdeal.nD Cert.AdalnReferenceIdeal.τ).loc Cert.AdalnReferenceIdeal.main_arg3) = m ((c.tc : Thread Cert.AdalnIdeal.nD Cert.AdalnIdeal.τ).loc Cert.AdalnIdeal.main_arg3)) →
    ∃ (v0 : (c : Dev Cert.AdalnIdeal.nD) → Buf (Elt Ideal) ((c.tc : Thread Cert.AdalnIdeal.nD Cert.AdalnIdeal.τ).loc Cert.AdalnIdeal.main_v4)),
      θ_run (Cert.AdalnIdeal.defs (F := Ideal)) (onTc (τ := Cert.AdalnIdeal.τ) (Cert.AdalnIdeal.main (F := Ideal))) ⟨m, fun _ => 0, g⟩ (fun r => ∀ c : Dev Cert.AdalnIdeal.nD,
          r.2.mem ((c.tc : Thread Cert.AdalnIdeal.nD Cert.AdalnIdeal.τ).loc Cert.AdalnIdeal.main_v4) = v0 c
          ∧ r.2.mem ((c.tc : Thread Cert.AdalnIdeal.nD Cert.AdalnIdeal.τ).loc Cert.AdalnIdeal.main_arg0) = m ((c.tc : Thread Cert.AdalnIdeal.nD Cert.AdalnIdeal.τ).loc Cert.AdalnIdeal.main_arg0)
          ∧ r.2.mem ((c.tc : Thread Cert.AdalnIdeal.nD Cert.AdalnIdeal.τ).loc Cert.AdalnIdeal.main_arg1) = m ((c.tc : Thread Cert.AdalnIdeal.nD Cert.AdalnIdeal.τ).loc Cert.AdalnIdeal.main_arg1)
          ∧ r.2.mem ((c.tc : Thread Cert.AdalnIdeal.nD Cert.AdalnIdeal.τ).loc Cert.AdalnIdeal.main_arg2) = m ((c.tc : Thread Cert.AdalnIdeal.nD Cert.AdalnIdeal.τ).loc Cert.AdalnIdeal.main_arg2)
          ∧ r.2.mem ((c.tc : Thread Cert.AdalnIdeal.nD Cert.AdalnIdeal.τ).loc Cert.AdalnIdeal.main_arg3) = m ((c.tc : Thread Cert.AdalnIdeal.nD Cert.AdalnIdeal.τ).loc Cert.AdalnIdeal.main_arg3))
      ∧ θ_run (Cert.AdalnReferenceIdeal.defs (F := Ideal)) (onTc (τ := Cert.AdalnReferenceIdeal.τ) (Cert.AdalnReferenceIdeal.main (F := Ideal))) ⟨m', fun _ => 0, g'⟩ (fun r => ∀ c : Dev Cert.AdalnReferenceIdeal.nD,
          r.2.mem ((c.tc : Thread Cert.AdalnReferenceIdeal.nD Cert.AdalnReferenceIdeal.τ).loc Cert.AdalnReferenceIdeal.main_v9) = v0 c
          ∧ r.2.mem ((c.tc : Thread Cert.AdalnReferenceIdeal.nD Cert.AdalnReferenceIdeal.τ).loc Cert.AdalnReferenceIdeal.main_arg0) = m' ((c.tc : Thread Cert.AdalnReferenceIdeal.nD Cert.AdalnReferenceIdeal.τ).loc Cert.AdalnReferenceIdeal.main_arg0)
          ∧ r.2.mem ((c.tc : Thread Cert.AdalnReferenceIdeal.nD Cert.AdalnReferenceIdeal.τ).loc Cert.AdalnReferenceIdeal.main_arg1) = m' ((c.tc : Thread Cert.AdalnReferenceIdeal.nD Cert.AdalnReferenceIdeal.τ).loc Cert.AdalnReferenceIdeal.main_arg1)
          ∧ r.2.mem ((c.tc : Thread Cert.AdalnReferenceIdeal.nD Cert.AdalnReferenceIdeal.τ).loc Cert.AdalnReferenceIdeal.main_arg2) = m' ((c.tc : Thread Cert.AdalnReferenceIdeal.nD Cert.AdalnReferenceIdeal.τ).loc Cert.AdalnReferenceIdeal.main_arg2)
          ∧ r.2.mem ((c.tc : Thread Cert.AdalnReferenceIdeal.nD Cert.AdalnReferenceIdeal.τ).loc Cert.AdalnReferenceIdeal.main_arg3) = m' ((c.tc : Thread Cert.AdalnReferenceIdeal.nD Cert.AdalnReferenceIdeal.τ).loc Cert.AdalnReferenceIdeal.main_arg3))

def preserves_Proj_ProjIdeal : Prop :=
  True

def algebraic_ProjIdeal_ProjReferenceIdeal_pre_finite_projection [hProjIdeal : Cert.ProjIdeal.Facts] [hProjReferenceIdeal : Cert.ProjReferenceIdeal.Facts] [hPre_finite_projection : Cert.Pre_finite_projection.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal_finite_projection m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)
      ∧ m' ((c.tc : Thread Cert.ProjReferenceIdeal.nD Cert.ProjReferenceIdeal.τ).loc Cert.ProjReferenceIdeal.main_arg2) = m ((c.tc : Thread Cert.ProjIdeal.nD Cert.ProjIdeal.τ).loc Cert.ProjIdeal.main_arg2)
      ∧ m' ((c.tc : Thread Cert.ProjReferenceIdeal.nD Cert.ProjReferenceIdeal.τ).loc Cert.ProjReferenceIdeal.main_arg3) = m ((c.tc : Thread Cert.ProjIdeal.nD Cert.ProjIdeal.τ).loc Cert.ProjIdeal.main_arg3)
      ∧ m' ((c.tc : Thread Cert.ProjReferenceIdeal.nD Cert.ProjReferenceIdeal.τ).loc Cert.ProjReferenceIdeal.main_arg4) = m ((c.tc : Thread Cert.ProjIdeal.nD Cert.ProjIdeal.τ).loc Cert.ProjIdeal.main_arg4)
      ∧ m' ((c.tc : Thread Cert.ProjReferenceIdeal.nD Cert.ProjReferenceIdeal.τ).loc Cert.ProjReferenceIdeal.main_arg5) = m ((c.tc : Thread Cert.ProjIdeal.nD Cert.ProjIdeal.τ).loc Cert.ProjIdeal.main_arg5)
      ∧ m' ((c.tc : Thread Cert.ProjReferenceIdeal.nD Cert.ProjReferenceIdeal.τ).loc Cert.ProjReferenceIdeal.main_arg6) = m ((c.tc : Thread Cert.ProjIdeal.nD Cert.ProjIdeal.τ).loc Cert.ProjIdeal.main_arg6)
      ∧ m' ((c.tc : Thread Cert.ProjReferenceIdeal.nD Cert.ProjReferenceIdeal.τ).loc Cert.ProjReferenceIdeal.main_arg7) = m ((c.tc : Thread Cert.ProjIdeal.nD Cert.ProjIdeal.τ).loc Cert.ProjIdeal.main_arg7)
      ∧ m' ((c.tc : Thread Cert.ProjReferenceIdeal.nD Cert.ProjReferenceIdeal.τ).loc Cert.ProjReferenceIdeal.main_arg8) = m ((c.tc : Thread Cert.ProjIdeal.nD Cert.ProjIdeal.τ).loc Cert.ProjIdeal.main_arg8)
      ∧ m' ((c.tc : Thread Cert.ProjReferenceIdeal.nD Cert.ProjReferenceIdeal.τ).loc Cert.ProjReferenceIdeal.main_arg9) = m ((c.tc : Thread Cert.ProjIdeal.nD Cert.ProjIdeal.τ).loc Cert.ProjIdeal.main_arg9)) →
    ∃ (v0 : (c : Dev Cert.ProjIdeal.nD) → Buf (Elt Ideal) ((c.tc : Thread Cert.ProjIdeal.nD Cert.ProjIdeal.τ).loc Cert.ProjIdeal.main_v80_0)) (v1 : (c : Dev Cert.ProjIdeal.nD) → Buf (Elt Ideal) ((c.tc : Thread Cert.ProjIdeal.nD Cert.ProjIdeal.τ).loc Cert.ProjIdeal.main_v80_1)) (v2 : (c : Dev Cert.ProjIdeal.nD) → Buf (Elt Ideal) ((c.tc : Thread Cert.ProjIdeal.nD Cert.ProjIdeal.τ).loc Cert.ProjIdeal.main_v80_2)) (v3 : (c : Dev Cert.ProjIdeal.nD) → Buf (Elt Ideal) ((c.tc : Thread Cert.ProjIdeal.nD Cert.ProjIdeal.τ).loc Cert.ProjIdeal.main_v80_3)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v80_0) = v0 c
          ∧ r.2.mem ((c.tc : Thread Cert.ProjIdeal.nD Cert.ProjIdeal.τ).loc Cert.ProjIdeal.main_v80_1) = v1 c
          ∧ r.2.mem ((c.tc : Thread Cert.ProjIdeal.nD Cert.ProjIdeal.τ).loc Cert.ProjIdeal.main_v80_2) = v2 c
          ∧ r.2.mem ((c.tc : Thread Cert.ProjIdeal.nD Cert.ProjIdeal.τ).loc Cert.ProjIdeal.main_v80_3) = v3 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
          ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
          ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
          ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8)
          ∧ r.2.mem ((c.tc : Thread Cert.ProjIdeal.nD Cert.ProjIdeal.τ).loc Cert.ProjIdeal.main_arg9) = m ((c.tc : Thread Cert.ProjIdeal.nD Cert.ProjIdeal.τ).loc Cert.ProjIdeal.main_arg9))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v140) = v0 c
          ∧ r.2.mem ((c.tc : Thread Cert.ProjReferenceIdeal.nD Cert.ProjReferenceIdeal.τ).loc Cert.ProjReferenceIdeal.main_v142) = v1 c
          ∧ r.2.mem ((c.tc : Thread Cert.ProjReferenceIdeal.nD Cert.ProjReferenceIdeal.τ).loc Cert.ProjReferenceIdeal.main_v144) = v2 c
          ∧ r.2.mem ((c.tc : Thread Cert.ProjReferenceIdeal.nD Cert.ProjReferenceIdeal.τ).loc Cert.ProjReferenceIdeal.main_v146) = v3 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2)
          ∧ r.2.mem ((c.tc : Thread Cert.ProjReferenceIdeal.nD Cert.ProjReferenceIdeal.τ).loc Cert.ProjReferenceIdeal.main_arg3) = m' ((c.tc : Thread Cert.ProjReferenceIdeal.nD Cert.ProjReferenceIdeal.τ).loc Cert.ProjReferenceIdeal.main_arg3)
          ∧ r.2.mem ((c.tc : Thread Cert.ProjReferenceIdeal.nD Cert.ProjReferenceIdeal.τ).loc Cert.ProjReferenceIdeal.main_arg4) = m' ((c.tc : Thread Cert.ProjReferenceIdeal.nD Cert.ProjReferenceIdeal.τ).loc Cert.ProjReferenceIdeal.main_arg4)
          ∧ r.2.mem ((c.tc : Thread Cert.ProjReferenceIdeal.nD Cert.ProjReferenceIdeal.τ).loc Cert.ProjReferenceIdeal.main_arg5) = m' ((c.tc : Thread Cert.ProjReferenceIdeal.nD Cert.ProjReferenceIdeal.τ).loc Cert.ProjReferenceIdeal.main_arg5)
          ∧ r.2.mem ((c.tc : Thread Cert.ProjReferenceIdeal.nD Cert.ProjReferenceIdeal.τ).loc Cert.ProjReferenceIdeal.main_arg6) = m' ((c.tc : Thread Cert.ProjReferenceIdeal.nD Cert.ProjReferenceIdeal.τ).loc Cert.ProjReferenceIdeal.main_arg6)
          ∧ r.2.mem ((c.tc : Thread Cert.ProjReferenceIdeal.nD Cert.ProjReferenceIdeal.τ).loc Cert.ProjReferenceIdeal.main_arg7) = m' ((c.tc : Thread Cert.ProjReferenceIdeal.nD Cert.ProjReferenceIdeal.τ).loc Cert.ProjReferenceIdeal.main_arg7)
          ∧ r.2.mem ((c.tc : Thread Cert.ProjReferenceIdeal.nD Cert.ProjReferenceIdeal.τ).loc Cert.ProjReferenceIdeal.main_arg8) = m' ((c.tc : Thread Cert.ProjReferenceIdeal.nD Cert.ProjReferenceIdeal.τ).loc Cert.ProjReferenceIdeal.main_arg8)
          ∧ r.2.mem ((c.tc : Thread Cert.ProjReferenceIdeal.nD Cert.ProjReferenceIdeal.τ).loc Cert.ProjReferenceIdeal.main_arg9) = m' ((c.tc : Thread Cert.ProjReferenceIdeal.nD Cert.ProjReferenceIdeal.τ).loc Cert.ProjReferenceIdeal.main_arg9))

def preserves_FfnCtx_FfnCtxIdeal : Prop :=
  True

def algebraic_FfnCtxIdeal_FfnCtxReferenceIdeal [hFfnCtxIdeal : Cert.FfnCtxIdeal.Facts] [hFfnCtxReferenceIdeal : Cert.FfnCtxReferenceIdeal.Facts] : Prop :=
  ∀ (m : (ℓ : Loc Cert.FfnCtxIdeal.nD Cert.FfnCtxIdeal.τ Cert.FfnCtxIdeal.sig) → Buf (Elt Ideal) ℓ) (g : Dev Cert.FfnCtxIdeal.nD → PrngReg)
    (m' : (ℓ : Loc Cert.FfnCtxReferenceIdeal.nD Cert.FfnCtxReferenceIdeal.τ Cert.FfnCtxReferenceIdeal.sig) → Buf (Elt Ideal) ℓ) (g' : Dev Cert.FfnCtxReferenceIdeal.nD → PrngReg), Pre_FfnCtxIdeal m →
    (∀ c : Dev Cert.FfnCtxIdeal.nD,
      m' ((c.tc : Thread Cert.FfnCtxReferenceIdeal.nD Cert.FfnCtxReferenceIdeal.τ).loc Cert.FfnCtxReferenceIdeal.main_arg0) = m ((c.tc : Thread Cert.FfnCtxIdeal.nD Cert.FfnCtxIdeal.τ).loc Cert.FfnCtxIdeal.main_arg0)
      ∧ m' ((c.tc : Thread Cert.FfnCtxReferenceIdeal.nD Cert.FfnCtxReferenceIdeal.τ).loc Cert.FfnCtxReferenceIdeal.main_arg1) = m ((c.tc : Thread Cert.FfnCtxIdeal.nD Cert.FfnCtxIdeal.τ).loc Cert.FfnCtxIdeal.main_arg1)
      ∧ m' ((c.tc : Thread Cert.FfnCtxReferenceIdeal.nD Cert.FfnCtxReferenceIdeal.τ).loc Cert.FfnCtxReferenceIdeal.main_arg2) = m ((c.tc : Thread Cert.FfnCtxIdeal.nD Cert.FfnCtxIdeal.τ).loc Cert.FfnCtxIdeal.main_arg2)
      ∧ m' ((c.tc : Thread Cert.FfnCtxReferenceIdeal.nD Cert.FfnCtxReferenceIdeal.τ).loc Cert.FfnCtxReferenceIdeal.main_arg3) = m ((c.tc : Thread Cert.FfnCtxIdeal.nD Cert.FfnCtxIdeal.τ).loc Cert.FfnCtxIdeal.main_arg3)
      ∧ m' ((c.tc : Thread Cert.FfnCtxReferenceIdeal.nD Cert.FfnCtxReferenceIdeal.τ).loc Cert.FfnCtxReferenceIdeal.main_arg4) = m ((c.tc : Thread Cert.FfnCtxIdeal.nD Cert.FfnCtxIdeal.τ).loc Cert.FfnCtxIdeal.main_arg4)) →
    ∃ (v0 : (c : Dev Cert.FfnCtxIdeal.nD) → Buf (Elt Ideal) ((c.tc : Thread Cert.FfnCtxIdeal.nD Cert.FfnCtxIdeal.τ).loc Cert.FfnCtxIdeal.main_v5)),
      θ_run (Cert.FfnCtxIdeal.defs (F := Ideal)) (onTc (τ := Cert.FfnCtxIdeal.τ) (Cert.FfnCtxIdeal.main (F := Ideal))) ⟨m, fun _ => 0, g⟩ (fun r => ∀ c : Dev Cert.FfnCtxIdeal.nD,
          r.2.mem ((c.tc : Thread Cert.FfnCtxIdeal.nD Cert.FfnCtxIdeal.τ).loc Cert.FfnCtxIdeal.main_v5) = v0 c
          ∧ r.2.mem ((c.tc : Thread Cert.FfnCtxIdeal.nD Cert.FfnCtxIdeal.τ).loc Cert.FfnCtxIdeal.main_arg0) = m ((c.tc : Thread Cert.FfnCtxIdeal.nD Cert.FfnCtxIdeal.τ).loc Cert.FfnCtxIdeal.main_arg0)
          ∧ r.2.mem ((c.tc : Thread Cert.FfnCtxIdeal.nD Cert.FfnCtxIdeal.τ).loc Cert.FfnCtxIdeal.main_arg1) = m ((c.tc : Thread Cert.FfnCtxIdeal.nD Cert.FfnCtxIdeal.τ).loc Cert.FfnCtxIdeal.main_arg1)
          ∧ r.2.mem ((c.tc : Thread Cert.FfnCtxIdeal.nD Cert.FfnCtxIdeal.τ).loc Cert.FfnCtxIdeal.main_arg2) = m ((c.tc : Thread Cert.FfnCtxIdeal.nD Cert.FfnCtxIdeal.τ).loc Cert.FfnCtxIdeal.main_arg2)
          ∧ r.2.mem ((c.tc : Thread Cert.FfnCtxIdeal.nD Cert.FfnCtxIdeal.τ).loc Cert.FfnCtxIdeal.main_arg3) = m ((c.tc : Thread Cert.FfnCtxIdeal.nD Cert.FfnCtxIdeal.τ).loc Cert.FfnCtxIdeal.main_arg3)
          ∧ r.2.mem ((c.tc : Thread Cert.FfnCtxIdeal.nD Cert.FfnCtxIdeal.τ).loc Cert.FfnCtxIdeal.main_arg4) = m ((c.tc : Thread Cert.FfnCtxIdeal.nD Cert.FfnCtxIdeal.τ).loc Cert.FfnCtxIdeal.main_arg4))
      ∧ θ_run (Cert.FfnCtxReferenceIdeal.defs (F := Ideal)) (onTc (τ := Cert.FfnCtxReferenceIdeal.τ) (Cert.FfnCtxReferenceIdeal.main (F := Ideal))) ⟨m', fun _ => 0, g'⟩ (fun r => ∀ c : Dev Cert.FfnCtxReferenceIdeal.nD,
          r.2.mem ((c.tc : Thread Cert.FfnCtxReferenceIdeal.nD Cert.FfnCtxReferenceIdeal.τ).loc Cert.FfnCtxReferenceIdeal.main_v54) = v0 c
          ∧ r.2.mem ((c.tc : Thread Cert.FfnCtxReferenceIdeal.nD Cert.FfnCtxReferenceIdeal.τ).loc Cert.FfnCtxReferenceIdeal.main_arg0) = m' ((c.tc : Thread Cert.FfnCtxReferenceIdeal.nD Cert.FfnCtxReferenceIdeal.τ).loc Cert.FfnCtxReferenceIdeal.main_arg0)
          ∧ r.2.mem ((c.tc : Thread Cert.FfnCtxReferenceIdeal.nD Cert.FfnCtxReferenceIdeal.τ).loc Cert.FfnCtxReferenceIdeal.main_arg1) = m' ((c.tc : Thread Cert.FfnCtxReferenceIdeal.nD Cert.FfnCtxReferenceIdeal.τ).loc Cert.FfnCtxReferenceIdeal.main_arg1)
          ∧ r.2.mem ((c.tc : Thread Cert.FfnCtxReferenceIdeal.nD Cert.FfnCtxReferenceIdeal.τ).loc Cert.FfnCtxReferenceIdeal.main_arg2) = m' ((c.tc : Thread Cert.FfnCtxReferenceIdeal.nD Cert.FfnCtxReferenceIdeal.τ).loc Cert.FfnCtxReferenceIdeal.main_arg2)
          ∧ r.2.mem ((c.tc : Thread Cert.FfnCtxReferenceIdeal.nD Cert.FfnCtxReferenceIdeal.τ).loc Cert.FfnCtxReferenceIdeal.main_arg3) = m' ((c.tc : Thread Cert.FfnCtxReferenceIdeal.nD Cert.FfnCtxReferenceIdeal.τ).loc Cert.FfnCtxReferenceIdeal.main_arg3)
          ∧ r.2.mem ((c.tc : Thread Cert.FfnCtxReferenceIdeal.nD Cert.FfnCtxReferenceIdeal.τ).loc Cert.FfnCtxReferenceIdeal.main_arg4) = m' ((c.tc : Thread Cert.FfnCtxReferenceIdeal.nD Cert.FfnCtxReferenceIdeal.τ).loc Cert.FfnCtxReferenceIdeal.main_arg4))

def preserves_ProjCtx_ProjCtxIdeal : Prop :=
  True

def algebraic_ProjCtxIdeal_ProjCtxReferenceIdeal [hProjCtxIdeal : Cert.ProjCtxIdeal.Facts] [hProjCtxReferenceIdeal : Cert.ProjCtxReferenceIdeal.Facts] : Prop :=
  ∀ (m : (ℓ : Loc Cert.ProjCtxIdeal.nD Cert.ProjCtxIdeal.τ Cert.ProjCtxIdeal.sig) → Buf (Elt Ideal) ℓ) (g : Dev Cert.ProjCtxIdeal.nD → PrngReg)
    (m' : (ℓ : Loc Cert.ProjCtxReferenceIdeal.nD Cert.ProjCtxReferenceIdeal.τ Cert.ProjCtxReferenceIdeal.sig) → Buf (Elt Ideal) ℓ) (g' : Dev Cert.ProjCtxReferenceIdeal.nD → PrngReg), Pre_ProjCtxIdeal m →
    (∀ c : Dev Cert.ProjCtxIdeal.nD,
      m' ((c.tc : Thread Cert.ProjCtxReferenceIdeal.nD Cert.ProjCtxReferenceIdeal.τ).loc Cert.ProjCtxReferenceIdeal.main_arg0) = m ((c.tc : Thread Cert.ProjCtxIdeal.nD Cert.ProjCtxIdeal.τ).loc Cert.ProjCtxIdeal.main_arg0)
      ∧ m' ((c.tc : Thread Cert.ProjCtxReferenceIdeal.nD Cert.ProjCtxReferenceIdeal.τ).loc Cert.ProjCtxReferenceIdeal.main_arg1) = m ((c.tc : Thread Cert.ProjCtxIdeal.nD Cert.ProjCtxIdeal.τ).loc Cert.ProjCtxIdeal.main_arg1)
      ∧ m' ((c.tc : Thread Cert.ProjCtxReferenceIdeal.nD Cert.ProjCtxReferenceIdeal.τ).loc Cert.ProjCtxReferenceIdeal.main_arg2) = m ((c.tc : Thread Cert.ProjCtxIdeal.nD Cert.ProjCtxIdeal.τ).loc Cert.ProjCtxIdeal.main_arg2)
      ∧ m' ((c.tc : Thread Cert.ProjCtxReferenceIdeal.nD Cert.ProjCtxReferenceIdeal.τ).loc Cert.ProjCtxReferenceIdeal.main_arg3) = m ((c.tc : Thread Cert.ProjCtxIdeal.nD Cert.ProjCtxIdeal.τ).loc Cert.ProjCtxIdeal.main_arg3)
      ∧ m' ((c.tc : Thread Cert.ProjCtxReferenceIdeal.nD Cert.ProjCtxReferenceIdeal.τ).loc Cert.ProjCtxReferenceIdeal.main_arg4) = m ((c.tc : Thread Cert.ProjCtxIdeal.nD Cert.ProjCtxIdeal.τ).loc Cert.ProjCtxIdeal.main_arg4)
      ∧ m' ((c.tc : Thread Cert.ProjCtxReferenceIdeal.nD Cert.ProjCtxReferenceIdeal.τ).loc Cert.ProjCtxReferenceIdeal.main_arg5) = m ((c.tc : Thread Cert.ProjCtxIdeal.nD Cert.ProjCtxIdeal.τ).loc Cert.ProjCtxIdeal.main_arg5)
      ∧ m' ((c.tc : Thread Cert.ProjCtxReferenceIdeal.nD Cert.ProjCtxReferenceIdeal.τ).loc Cert.ProjCtxReferenceIdeal.main_arg6) = m ((c.tc : Thread Cert.ProjCtxIdeal.nD Cert.ProjCtxIdeal.τ).loc Cert.ProjCtxIdeal.main_arg6)
      ∧ m' ((c.tc : Thread Cert.ProjCtxReferenceIdeal.nD Cert.ProjCtxReferenceIdeal.τ).loc Cert.ProjCtxReferenceIdeal.main_arg7) = m ((c.tc : Thread Cert.ProjCtxIdeal.nD Cert.ProjCtxIdeal.τ).loc Cert.ProjCtxIdeal.main_arg7)) →
    ∃ (v0 : (c : Dev Cert.ProjCtxIdeal.nD) → Buf (Elt Ideal) ((c.tc : Thread Cert.ProjCtxIdeal.nD Cert.ProjCtxIdeal.τ).loc Cert.ProjCtxIdeal.main_v64_0)) (v1 : (c : Dev Cert.ProjCtxIdeal.nD) → Buf (Elt Ideal) ((c.tc : Thread Cert.ProjCtxIdeal.nD Cert.ProjCtxIdeal.τ).loc Cert.ProjCtxIdeal.main_v64_1)) (v2 : (c : Dev Cert.ProjCtxIdeal.nD) → Buf (Elt Ideal) ((c.tc : Thread Cert.ProjCtxIdeal.nD Cert.ProjCtxIdeal.τ).loc Cert.ProjCtxIdeal.main_v64_2)),
      θ_run (Cert.ProjCtxIdeal.defs (F := Ideal)) (onTc (τ := Cert.ProjCtxIdeal.τ) (Cert.ProjCtxIdeal.main (F := Ideal))) ⟨m, fun _ => 0, g⟩ (fun r => ∀ c : Dev Cert.ProjCtxIdeal.nD,
          r.2.mem ((c.tc : Thread Cert.ProjCtxIdeal.nD Cert.ProjCtxIdeal.τ).loc Cert.ProjCtxIdeal.main_v64_0) = v0 c
          ∧ r.2.mem ((c.tc : Thread Cert.ProjCtxIdeal.nD Cert.ProjCtxIdeal.τ).loc Cert.ProjCtxIdeal.main_v64_1) = v1 c
          ∧ r.2.mem ((c.tc : Thread Cert.ProjCtxIdeal.nD Cert.ProjCtxIdeal.τ).loc Cert.ProjCtxIdeal.main_v64_2) = v2 c
          ∧ r.2.mem ((c.tc : Thread Cert.ProjCtxIdeal.nD Cert.ProjCtxIdeal.τ).loc Cert.ProjCtxIdeal.main_arg0) = m ((c.tc : Thread Cert.ProjCtxIdeal.nD Cert.ProjCtxIdeal.τ).loc Cert.ProjCtxIdeal.main_arg0)
          ∧ r.2.mem ((c.tc : Thread Cert.ProjCtxIdeal.nD Cert.ProjCtxIdeal.τ).loc Cert.ProjCtxIdeal.main_arg1) = m ((c.tc : Thread Cert.ProjCtxIdeal.nD Cert.ProjCtxIdeal.τ).loc Cert.ProjCtxIdeal.main_arg1)
          ∧ r.2.mem ((c.tc : Thread Cert.ProjCtxIdeal.nD Cert.ProjCtxIdeal.τ).loc Cert.ProjCtxIdeal.main_arg2) = m ((c.tc : Thread Cert.ProjCtxIdeal.nD Cert.ProjCtxIdeal.τ).loc Cert.ProjCtxIdeal.main_arg2)
          ∧ r.2.mem ((c.tc : Thread Cert.ProjCtxIdeal.nD Cert.ProjCtxIdeal.τ).loc Cert.ProjCtxIdeal.main_arg3) = m ((c.tc : Thread Cert.ProjCtxIdeal.nD Cert.ProjCtxIdeal.τ).loc Cert.ProjCtxIdeal.main_arg3)
          ∧ r.2.mem ((c.tc : Thread Cert.ProjCtxIdeal.nD Cert.ProjCtxIdeal.τ).loc Cert.ProjCtxIdeal.main_arg4) = m ((c.tc : Thread Cert.ProjCtxIdeal.nD Cert.ProjCtxIdeal.τ).loc Cert.ProjCtxIdeal.main_arg4)
          ∧ r.2.mem ((c.tc : Thread Cert.ProjCtxIdeal.nD Cert.ProjCtxIdeal.τ).loc Cert.ProjCtxIdeal.main_arg5) = m ((c.tc : Thread Cert.ProjCtxIdeal.nD Cert.ProjCtxIdeal.τ).loc Cert.ProjCtxIdeal.main_arg5)
          ∧ r.2.mem ((c.tc : Thread Cert.ProjCtxIdeal.nD Cert.ProjCtxIdeal.τ).loc Cert.ProjCtxIdeal.main_arg6) = m ((c.tc : Thread Cert.ProjCtxIdeal.nD Cert.ProjCtxIdeal.τ).loc Cert.ProjCtxIdeal.main_arg6)
          ∧ r.2.mem ((c.tc : Thread Cert.ProjCtxIdeal.nD Cert.ProjCtxIdeal.τ).loc Cert.ProjCtxIdeal.main_arg7) = m ((c.tc : Thread Cert.ProjCtxIdeal.nD Cert.ProjCtxIdeal.τ).loc Cert.ProjCtxIdeal.main_arg7))
      ∧ θ_run (Cert.ProjCtxReferenceIdeal.defs (F := Ideal)) (onTc (τ := Cert.ProjCtxReferenceIdeal.τ) (Cert.ProjCtxReferenceIdeal.main (F := Ideal))) ⟨m', fun _ => 0, g'⟩ (fun r => ∀ c : Dev Cert.ProjCtxReferenceIdeal.nD,
          r.2.mem ((c.tc : Thread Cert.ProjCtxReferenceIdeal.nD Cert.ProjCtxReferenceIdeal.τ).loc Cert.ProjCtxReferenceIdeal.main_v90) = v0 c
          ∧ r.2.mem ((c.tc : Thread Cert.ProjCtxReferenceIdeal.nD Cert.ProjCtxReferenceIdeal.τ).loc Cert.ProjCtxReferenceIdeal.main_v92) = v1 c
          ∧ r.2.mem ((c.tc : Thread Cert.ProjCtxReferenceIdeal.nD Cert.ProjCtxReferenceIdeal.τ).loc Cert.ProjCtxReferenceIdeal.main_v94) = v2 c
          ∧ r.2.mem ((c.tc : Thread Cert.ProjCtxReferenceIdeal.nD Cert.ProjCtxReferenceIdeal.τ).loc Cert.ProjCtxReferenceIdeal.main_arg0) = m' ((c.tc : Thread Cert.ProjCtxReferenceIdeal.nD Cert.ProjCtxReferenceIdeal.τ).loc Cert.ProjCtxReferenceIdeal.main_arg0)
          ∧ r.2.mem ((c.tc : Thread Cert.ProjCtxReferenceIdeal.nD Cert.ProjCtxReferenceIdeal.τ).loc Cert.ProjCtxReferenceIdeal.main_arg1) = m' ((c.tc : Thread Cert.ProjCtxReferenceIdeal.nD Cert.ProjCtxReferenceIdeal.τ).loc Cert.ProjCtxReferenceIdeal.main_arg1)
          ∧ r.2.mem ((c.tc : Thread Cert.ProjCtxReferenceIdeal.nD Cert.ProjCtxReferenceIdeal.τ).loc Cert.ProjCtxReferenceIdeal.main_arg2) = m' ((c.tc : Thread Cert.ProjCtxReferenceIdeal.nD Cert.ProjCtxReferenceIdeal.τ).loc Cert.ProjCtxReferenceIdeal.main_arg2)
          ∧ r.2.mem ((c.tc : Thread Cert.ProjCtxReferenceIdeal.nD Cert.ProjCtxReferenceIdeal.τ).loc Cert.ProjCtxReferenceIdeal.main_arg3) = m' ((c.tc : Thread Cert.ProjCtxReferenceIdeal.nD Cert.ProjCtxReferenceIdeal.τ).loc Cert.ProjCtxReferenceIdeal.main_arg3)
          ∧ r.2.mem ((c.tc : Thread Cert.ProjCtxReferenceIdeal.nD Cert.ProjCtxReferenceIdeal.τ).loc Cert.ProjCtxReferenceIdeal.main_arg4) = m' ((c.tc : Thread Cert.ProjCtxReferenceIdeal.nD Cert.ProjCtxReferenceIdeal.τ).loc Cert.ProjCtxReferenceIdeal.main_arg4)
          ∧ r.2.mem ((c.tc : Thread Cert.ProjCtxReferenceIdeal.nD Cert.ProjCtxReferenceIdeal.τ).loc Cert.ProjCtxReferenceIdeal.main_arg5) = m' ((c.tc : Thread Cert.ProjCtxReferenceIdeal.nD Cert.ProjCtxReferenceIdeal.τ).loc Cert.ProjCtxReferenceIdeal.main_arg5)
          ∧ r.2.mem ((c.tc : Thread Cert.ProjCtxReferenceIdeal.nD Cert.ProjCtxReferenceIdeal.τ).loc Cert.ProjCtxReferenceIdeal.main_arg6) = m' ((c.tc : Thread Cert.ProjCtxReferenceIdeal.nD Cert.ProjCtxReferenceIdeal.τ).loc Cert.ProjCtxReferenceIdeal.main_arg6)
          ∧ r.2.mem ((c.tc : Thread Cert.ProjCtxReferenceIdeal.nD Cert.ProjCtxReferenceIdeal.τ).loc Cert.ProjCtxReferenceIdeal.main_arg7) = m' ((c.tc : Thread Cert.ProjCtxReferenceIdeal.nD Cert.ProjCtxReferenceIdeal.τ).loc Cert.ProjCtxReferenceIdeal.main_arg7))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hFinal : Cert.Final.Facts) (hFinalIdeal : Cert.FinalIdeal.Facts) (hFinalReferenceIdeal : Cert.FinalReferenceIdeal.Facts) (hAdaln : Cert.Adaln.Facts) (hAdalnIdeal : Cert.AdalnIdeal.Facts) (hAdalnReferenceIdeal : Cert.AdalnReferenceIdeal.Facts) (hProj : Cert.Proj.Facts) (hProjIdeal : Cert.ProjIdeal.Facts) (hProjReferenceIdeal : Cert.ProjReferenceIdeal.Facts) (hFfnCtx : Cert.FfnCtx.Facts) (hFfnCtxIdeal : Cert.FfnCtxIdeal.Facts) (hFfnCtxReferenceIdeal : Cert.FfnCtxReferenceIdeal.Facts) (hProjCtx : Cert.ProjCtx.Facts) (hProjCtxIdeal : Cert.ProjCtxIdeal.Facts) (hProjCtxReferenceIdeal : Cert.ProjCtxReferenceIdeal.Facts) (hPre_finite_scores : Cert.Pre_finite_scores.Facts) (hPre_finite_projection : Cert.Pre_finite_projection.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Ffn (hFfn := hFfn)
    ∧ quiescent_FfnIdeal (hFfnIdeal := hFfnIdeal)
    ∧ quiescent_FfnReferenceIdeal (hFfnReferenceIdeal := hFfnReferenceIdeal)
    ∧ quiescent_Final (hFinal := hFinal)
    ∧ quiescent_FinalIdeal (hFinalIdeal := hFinalIdeal)
    ∧ quiescent_FinalReferenceIdeal (hFinalReferenceIdeal := hFinalReferenceIdeal)
    ∧ quiescent_Adaln (hAdaln := hAdaln)
    ∧ quiescent_AdalnIdeal (hAdalnIdeal := hAdalnIdeal)
    ∧ quiescent_AdalnReferenceIdeal (hAdalnReferenceIdeal := hAdalnReferenceIdeal)
    ∧ quiescent_Proj (hProj := hProj)
    ∧ quiescent_ProjIdeal (hProjIdeal := hProjIdeal)
    ∧ quiescent_ProjIdeal_pre_finite_projection (hProjIdeal := hProjIdeal) (hPre_finite_projection := hPre_finite_projection)
    ∧ quiescent_ProjReferenceIdeal (hProjReferenceIdeal := hProjReferenceIdeal)
    ∧ quiescent_ProjReferenceIdeal_pre_finite_projection (hProjReferenceIdeal := hProjReferenceIdeal) (hPre_finite_projection := hPre_finite_projection)
    ∧ quiescent_FfnCtx (hFfnCtx := hFfnCtx)
    ∧ quiescent_FfnCtxIdeal (hFfnCtxIdeal := hFfnCtxIdeal)
    ∧ quiescent_FfnCtxReferenceIdeal (hFfnCtxReferenceIdeal := hFfnCtxReferenceIdeal)
    ∧ quiescent_ProjCtx (hProjCtx := hProjCtx)
    ∧ quiescent_ProjCtxIdeal (hProjCtxIdeal := hProjCtxIdeal)
    ∧ quiescent_ProjCtxReferenceIdeal (hProjCtxReferenceIdeal := hProjCtxReferenceIdeal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Ffn_FfnIdeal
    ∧ algebraic_FfnIdeal_FfnReferenceIdeal (hFfnIdeal := hFfnIdeal) (hFfnReferenceIdeal := hFfnReferenceIdeal)
    ∧ preserves_Final_FinalIdeal
    ∧ algebraic_FinalIdeal_FinalReferenceIdeal (hFinalIdeal := hFinalIdeal) (hFinalReferenceIdeal := hFinalReferenceIdeal)
    ∧ preserves_Adaln_AdalnIdeal
    ∧ algebraic_AdalnIdeal_AdalnReferenceIdeal (hAdalnIdeal := hAdalnIdeal) (hAdalnReferenceIdeal := hAdalnReferenceIdeal)
    ∧ preserves_Proj_ProjIdeal
    ∧ algebraic_ProjIdeal_ProjReferenceIdeal_pre_finite_projection (hProjIdeal := hProjIdeal) (hProjReferenceIdeal := hProjReferenceIdeal) (hPre_finite_projection := hPre_finite_projection)
    ∧ preserves_FfnCtx_FfnCtxIdeal
    ∧ algebraic_FfnCtxIdeal_FfnCtxReferenceIdeal (hFfnCtxIdeal := hFfnCtxIdeal) (hFfnCtxReferenceIdeal := hFfnCtxReferenceIdeal)
    ∧ preserves_ProjCtx_ProjCtxIdeal
    ∧ algebraic_ProjCtxIdeal_ProjCtxReferenceIdeal (hProjCtxIdeal := hProjCtxIdeal) (hProjCtxReferenceIdeal := hProjCtxReferenceIdeal)
-- ==== Pre_finite_projection.lean ====
abbrev S8x4096x1024 : Shape := ⟨3, ![8, 4096, 1024]⟩
abbrev S16x9x1024 : Shape := ⟨3, ![16, 9, 1024]⟩
abbrev S1x1024 : Shape := ⟨2, ![1, 1024]⟩
abbrev S1x1024x672 : Shape := ⟨3, ![1, 1024, 672]⟩
abbrev S1x256 : Shape := ⟨2, ![1, 256]⟩
abbrev S1x256x1152 : Shape := ⟨3, ![1, 256, 1152]⟩
abbrev S1x128 : Shape := ⟨2, ![1, 128]⟩
abbrev S1x128x1536 : Shape := ⟨3, ![1, 128, 1536]⟩
abbrev S4096x16 : Shape := ⟨2, ![4096, 16]⟩
abbrev S_ : Shape := ⟨0, ![]⟩

class Facts : Prop where
  bcast_S_S16x9x1024 : S_.BroadcastsInDim S16x9x1024 (![] : Fin 0 → Fin S16x9x1024.rank)
  reducesTo_S16x9x1024_S_d0_1_2 : S16x9x1024.ReducesTo [0, 1, 2] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1x1024x672 : S_.BroadcastsInDim S1x1024x672 (![] : Fin 0 → Fin S1x1024x672.rank)
  reducesTo_S1x1024x672_S_d0_1_2 : S1x1024x672.ReducesTo [0, 1, 2] S_
  bcast_S_S1x256 : S_.BroadcastsInDim S1x256 (![] : Fin 0 → Fin S1x256.rank)
  reducesTo_S1x256_S_d0_1 : S1x256.ReducesTo [0, 1] S_
  bcast_S_S1x256x1152 : S_.BroadcastsInDim S1x256x1152 (![] : Fin 0 → Fin S1x256x1152.rank)
  reducesTo_S1x256x1152_S_d0_1_2 : S1x256x1152.ReducesTo [0, 1, 2] S_

variable [Facts]

def fn_part1 {F : FTy → Type} [FloatOps F] (main_arg5 : FVec F S1x256x1152 .f32) (main_v13 : IVec S_ 1) (main_v16 : IVec S1x256 1) : IVec S_ 1 :=
  let main_c_5 : IVec S_ 1 := constantI S_ 1 1#1
  let main_v17 : IVec S_ 1 := (fun x v => Host.reduce IntOp.andi x v reducesTo_S1x256_S_d0_1 h_S_) main_v16 main_c_5
  let main_v18 : IVec S_ 1 := andi main_v13 main_v17
  let main_v19 : FVec F S1x256x1152 .f32 := Host.absf main_arg5
  let main_cst_6 : FVec F S_ .f32 := constant S_ .f32 0x7F800000#32
  let main_v20 : FVec F S1x256x1152 .f32 := broadcastInDim S1x256x1152 ![] bcast_S_S1x256x1152 main_cst_6
  let main_v21 : IVec S1x256x1152 1 := cmpf .olt main_v19 main_v20
  let main_c_7 : IVec S_ 1 := constantI S_ 1 1#1
  let main_v22 : IVec S_ 1 := (fun x v => Host.reduce IntOp.andi x v reducesTo_S1x256x1152_S_d0_1_2 h_S_) main_v21 main_c_7
  let main_v23 : IVec S_ 1 := andi main_v18 main_v22
  main_v23

def fn {F : FTy → Type} [FloatOps F] (main_arg0 : FVec F S8x4096x1024 .f32) (main_arg1 : FVec F S16x9x1024 .f32) (main_arg2 : FVec F S1x1024 .f32) (main_arg3 : FVec F S1x1024x672 .f32) (main_arg4 : FVec F S1x256 .f32) (main_arg5 : FVec F S1x256x1152 .f32) (main_arg6 : FVec F S1x128 .f32) (main_arg7 : FVec F S1x128x1536 .f32) (main_arg8 : FVec F S4096x16 .f32) (main_arg9 : FVec F S4096x16 .f32) : IVec S_ 1 :=
  let main_v0 : FVec F S16x9x1024 .f32 := Host.absf main_arg1
  let main_cst : FVec F S_ .f32 := constant S_ .f32 0x7F800000#32
  let main_v1 : FVec F S16x9x1024 .f32 := broadcastInDim S16x9x1024 ![] bcast_S_S16x9x1024 main_cst
  let main_v2 : IVec S16x9x1024 1 := cmpf .olt main_v0 main_v1
  let main_c : IVec S_ 1 := constantI S_ 1 1#1
  let main_v3 : IVec S_ 1 := (fun x v => Host.reduce IntOp.andi x v reducesTo_S16x9x1024_S_d0_1_2 h_S_) main_v2 main_c
  let main_v4 : FVec F S1x1024 .f32 := Host.absf main_arg2
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1x1024x672 .f32 := Host.absf main_arg3
  let main_cst_2 : FVec F S_ .f32 := constant S_ .f32 0x7F800000#32
  let main_v10 : FVec F S1x1024x672 .f32 := broadcastInDim S1x1024x672 ![] bcast_S_S1x1024x672 main_cst_2
  let main_v11 : IVec S1x1024x672 1 := cmpf .olt main_v9 main_v10
  let main_c_3 : IVec S_ 1 := constantI S_ 1 1#1
  let main_v12 : IVec S_ 1 := (fun x v => Host.reduce IntOp.andi x v reducesTo_S1x1024x672_S_d0_1_2 h_S_) main_v11 main_c_3
  let main_v13 : IVec S_ 1 := andi main_v8 main_v12
  let main_v14 : FVec F S1x256 .f32 := Host.absf main_arg4
  let main_cst_4 : FVec F S_ .f32 := constant S_ .f32 0x7F800000#32
  let main_v15 : FVec F S1x256 .f32 := broadcastInDim S1x256 ![] bcast_S_S1x256 main_cst_4
  let main_v16 : IVec S1x256 1 := cmpf .olt main_v14 main_v15
  fn_part1 (F := F) main_arg5 main_v13 main_v16
-- ==== Pre_finite_scores.lean ====
abbrev S8x4096x1536 : Shape := ⟨3, ![8, 4096, 1536]⟩
abbrev S8x256x1536 : Shape := ⟨3, ![8, 256, 1536]⟩
abbrev S8x4096x768 : Shape := ⟨3, ![8, 4096, 768]⟩
abbrev S8x256x768 : Shape := ⟨3, ![8, 256, 768]⟩
abbrev S_ : Shape := ⟨0, ![]⟩

class Facts : Prop where
  bitsLt_bf16_f32 : FTy.bits .bf16 < FTy.bits .f32
  bcast_S_S8x4096x1536 : S_.BroadcastsInDim S8x4096x1536 (![] : Fin 0 → Fin S8x4096x1536.rank)
  reducesTo_S8x4096x1536_S_d0_1_2 : S8x4096x1536.ReducesTo [0, 1, 2] S_
  h_S_ : 0 < S_.numel
  bcast_S_S8x256x1536 : S_.BroadcastsInDim S8x256x1536 (![] : Fin 0 → Fin S8x256x1536.rank)
  reducesTo_S8x256x1536_S_d0_1_2 : S8x256x1536.ReducesTo [0, 1, 2] S_

variable [Facts]

def fn {F : FTy → Type} [FloatOps F] (main_arg0 : FVec F S8x4096x1536 .bf16) (main_arg1 : FVec F S8x4096x1536 .bf16) (main_arg2 : FVec F S8x256x1536 .bf16) (main_arg3 : FVec F S8x4096x768 .bf16) (main_arg4 : FVec F S8x256x768 .bf16) : IVec S_ 1 :=
  let main_v0 : FVec F S8x4096x1536 .f32 := (extf .f32 · bitsLt_bf16_f32) main_arg0
  let main_v1 : FVec F S8x4096x1536 .f32 := Host.absf main_v0
  let main_cst : FVec F S_ .f32 := constant S_ .f32 0x7F800000#32
  let main_v2 : FVec F S8x4096x1536 .f32 := broadcastInDim S8x4096x1536 ![] bcast_S_S8x4096x1536 main_cst
  let main_v3 : IVec S8x4096x1536 1 := cmpf .olt main_v1 main_v2
  let main_c : IVec S_ 1 := constantI S_ 1 1#1
  let main_v4 : IVec S_ 1 := (fun x v => Host.reduce IntOp.andi x v reducesTo_S8x4096x1536_S_d0_1_2 h_S_) main_v3 main_c
  let main_v5 : FVec F S8x4096x1536 .f32 := (extf .f32 · bitsLt_bf16_f32) main_arg1
  let main_v6 : FVec F S8x4096x1536 .f32 := Host.absf main_v5
  let main_cst_0 : FVec F S_ .f32 := constant S_ .f32 0x7F800000#32
  let main_v7 : FVec F S8x4096x1536 .f32 := broadcastInDim S8x4096x1536 ![] bcast_S_S8x4096x1536 main_cst_0
  let main_v8 : IVec S8x4096x1536 1 := cmpf .olt main_v6 main_v7
  let main_c_1 : IVec S_ 1 := constantI S_ 1 1#1
  let main_v9 : IVec S_ 1 := (fun x v => Host.reduce IntOp.andi x v reducesTo_S8x4096x1536_S_d0_1_2 h_S_) main_v8 main_c_1
  let main_v10 : IVec S_ 1 := andi main_v4 main_v9
  let main_v11 : FVec F S8x256x1536 .f32 := (extf .f32 · bitsLt_bf16_f32) main_arg2
  let main_v12 : FVec F S8x256x1536 .f32 := Host.absf main_v11
  let main_cst_2 : FVec F S_ .f32 := constant S_ .f32 0x7F800000#32
  let main_v13 : FVec F S8x256x1536 .f32 := broadcastInDim S8x256x1536 ![] bcast_S_S8x256x1536 main_cst_2
  let main_v14 : IVec S8x256x1536 1 := cmpf .olt main_v12 main_v13
  let main_c_3 : IVec S_ 1 := constantI S_ 1 1#1
  let main_v15 : IVec S_ 1 := (fun x v => Host.reduce IntOp.andi x v reducesTo_S8x256x1536_S_d0_1_2 h_S_) main_v14 main_c_3
  let main_v16 : IVec S_ 1 := andi main_v10 main_v15
  main_v16
-- ==== Kernel.lean ====
abbrev S8x4096x1536 : Shape := ⟨3, ![8, 4096, 1536]⟩
abbrev S8x256x1536 : Shape := ⟨3, ![8, 256, 1536]⟩
abbrev S8x4096x768 : Shape := ⟨3, ![8, 4096, 768]⟩
abbrev S8x256x768 : Shape := ⟨3, ![8, 256, 768]⟩
abbrev S1x1024x512 : Shape := ⟨3, ![1, 1024, 512]⟩
abbrev S1x4096x512 : Shape := ⟨3, ![1, 4096, 512]⟩
abbrev S1x256x512 : Shape := ⟨3, ![1, 256, 512]⟩
abbrev S1x4096x256 : Shape := ⟨3, ![1, 4096, 256]⟩
abbrev S1x256x256 : Shape := ⟨3, ![1, 256, 256]⟩
abbrev S1x1024x256 : Shape := ⟨3, ![1, 1024, 256]⟩
abbrev S1x1024x128 : Shape := ⟨3, ![1, 1024, 128]⟩
abbrev S1024x128 : Shape := ⟨2, ![1024, 128]⟩
abbrev S1024x1024 : Shape := ⟨2, ![1024, 1024]⟩
abbrev S1024 : Shape := ⟨1, ![1024]⟩
abbrev S1024x1 : Shape := ⟨2, ![1024, 1]⟩
abbrev S1024x256 : Shape := ⟨2, ![1024, 256]⟩
abbrev S1x256x128 : Shape := ⟨3, ![1, 256, 128]⟩
abbrev S256x128 : Shape := ⟨2, ![256, 128]⟩
abbrev S256x256 : Shape := ⟨2, ![256, 256]⟩

abbrev nBuf : Space → Nat
  | .hbm => 6
  | .vmem => 12
  | .smem => 0
  | _ => 0

abbrev bufTy : (tb : Table) → Fin (tcTables nBuf tb) → BufTy
  | .hbm, ⟨0, _⟩ => ⟨S8x4096x1536, .bf16⟩
  | .hbm, ⟨1, _⟩ => ⟨S8x4096x1536, .bf16⟩
  | .hbm, ⟨2, _⟩ => ⟨S8x256x1536, .bf16⟩
  | .hbm, ⟨3, _⟩ => ⟨S8x4096x768, .bf16⟩
  | .hbm, ⟨4, _⟩ => ⟨S8x256x768, .bf16⟩
  | .hbm, ⟨5, _⟩ => ⟨S8x4096x768, .f32⟩
  | .local _ .vmem, ⟨0, _⟩ => ⟨S1x1024x512, .bf16⟩
  | .local _ .vmem, ⟨1, _⟩ => ⟨S1x1024x512, .bf16⟩
  | .local _ .vmem, ⟨2, _⟩ => ⟨S1x4096x512, .bf16⟩
  | .local _ .vmem, ⟨3, _⟩ => ⟨S1x4096x512, .bf16⟩
  | .local _ .vmem, ⟨4, _⟩ => ⟨S1x256x512, .bf16⟩
  | .local _ .vmem, ⟨5, _⟩ => ⟨S1x256x512, .bf16⟩
  | .local _ .vmem, ⟨6, _⟩ => ⟨S1x4096x256, .bf16⟩
  | .local _ .vmem, ⟨7, _⟩ => ⟨S1x4096x256, .bf16⟩
  | .local _ .vmem, ⟨8, _⟩ => ⟨S1x256x256, .bf16⟩
  | .local _ .vmem, ⟨9, _⟩ => ⟨S1x256x256, .bf16⟩
  | .local _ .vmem, ⟨10, _⟩ => ⟨S1x1024x256, .f32⟩
  | .local _ .vmem, ⟨11, _⟩ => ⟨S1x1024x256, .f32⟩
  | _, _ => ⟨S8x4096x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 3, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S8x4096x1536 : Shape := ⟨3, ![8, 4096, 1536]⟩
abbrev S8x256x1536 : Shape := ⟨3, ![8, 256, 1536]⟩
abbrev S8x4096x768 : Shape := ⟨3, ![8, 4096, 768]⟩
abbrev S8x256x768 : Shape := ⟨3, ![8, 256, 768]⟩
abbrev S8x4096x12x128 : Shape := ⟨4, ![8, 4096, 12, 128]⟩
abbrev S8x4352x1536 : Shape := ⟨3, ![8, 4352, 1536]⟩
abbrev S8x4352x12x128 : Shape := ⟨4, ![8, 4352, 12, 128]⟩
abbrev S8x4352x768 : Shape := ⟨3, ![8, 4352, 768]⟩
abbrev S8x4352x12x64 : Shape := ⟨4, ![8, 4352, 12, 64]⟩
abbrev S8x12x4096x4352 : Shape := ⟨4, ![8, 12, 4096, 4352]⟩
abbrev S_ : Shape := ⟨0, ![]⟩
abbrev S8x12x4096 : Shape := ⟨3, ![8, 12, 4096]⟩
abbrev S8x12x4096x1 : Shape := ⟨4, ![8, 12, 4096, 1]⟩
abbrev S8x12x64x4096 : Shape := ⟨4, ![8, 12, 64, 4096]⟩
abbrev S8x4096x12x64 : Shape := ⟨4, ![8, 4096, 12, 64]⟩

abbrev nBuf : Space → Nat
  | .hbm => 35
  | .vmem => 0
  | .smem => 0
  | _ => 0

abbrev bufTy : (tb : Table) → Fin (tcTables nBuf tb) → BufTy
  | .hbm, ⟨0, _⟩ => ⟨S8x4096x1536, .bf16⟩
  | .hbm, ⟨1, _⟩ => ⟨S8x4096x1536, .bf16⟩
  | .hbm, ⟨2, _⟩ => ⟨S8x256x1536, .bf16⟩
  | .hbm, ⟨3, _⟩ => ⟨S8x4096x768, .bf16⟩
  | .hbm, ⟨4, _⟩ => ⟨S8x256x768, .bf16⟩
  | .hbm, ⟨5, _⟩ => ⟨S8x4096x1536, .f32⟩
  | .hbm, ⟨6, _⟩ => ⟨S8x4096x12x128, .f32⟩
  | .hbm, ⟨7, _⟩ => ⟨S8x4352x1536, .bf16⟩
  | .hbm, ⟨8, _⟩ => ⟨S8x4352x1536, .f32⟩
  | .hbm, ⟨9, _⟩ => ⟨S8x4352x12x128, .f32⟩
  | .hbm, ⟨10, _⟩ => ⟨S8x4352x768, .bf16⟩
  | .hbm, ⟨11, _⟩ => ⟨S8x4352x768, .f32⟩
  | .hbm, ⟨12, _⟩ => ⟨S8x4352x12x64, .f32⟩
  | .hbm, ⟨13, _⟩ => ⟨S8x12x4096x4352, .f32⟩
  | .hbm, ⟨14, _⟩ => ⟨S_, .f32⟩
  | .hbm, ⟨15, _⟩ => ⟨S_, .f32⟩
  | .hbm, ⟨16, _⟩ => ⟨S8x12x4096x4352, .f32⟩
  | .hbm, ⟨17, _⟩ => ⟨S8x12x4096x4352, .f32⟩
  | .hbm, ⟨18, _⟩ => ⟨S_, .f32⟩
  | .hbm, ⟨19, _⟩ => ⟨S8x12x4096, .f32⟩
  | .hbm, ⟨20, _⟩ => ⟨S_, .f32⟩
  | .hbm, ⟨21, _⟩ => ⟨S8x12x4096, .f32⟩
  | .hbm, ⟨22, _⟩ => ⟨S8x12x4096, .f32⟩
  | .hbm, ⟨23, _⟩ => ⟨S8x12x4096x1, .f32⟩
  | .hbm, ⟨24, _⟩ => ⟨S8x12x4096x4352, .f32⟩
  | .hbm, ⟨25, _⟩ => ⟨S8x12x4096x4352, .f32⟩
  | .hbm, ⟨26, _⟩ => ⟨S8x12x4096x4352, .f32⟩
  | .hbm, ⟨27, _⟩ => ⟨S_, .f32⟩
  | .hbm, ⟨28, _⟩ => ⟨S8x12x4096, .f32⟩
  | .hbm, ⟨29, _⟩ => ⟨S8x12x4096x1, .f32⟩
  | .hbm, ⟨30, _⟩ => ⟨S8x12x4096x4352, .f32⟩
  | .hbm, ⟨31, _⟩ => ⟨S8x12x4096x4352, .f32⟩
  | .hbm, ⟨32, _⟩ => ⟨S8x12x64x4096, .f32⟩
  | .hbm, ⟨33, _⟩ => ⟨S8x4096x12x64, .f32⟩
  | .hbm, ⟨34, _⟩ => ⟨S8x4096x768, .f32⟩
  | _, _ => ⟨S8x4096x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]
-- ==== Ffn.lean ====
abbrev S8x4096x1024 : Shape := ⟨3, ![8, 4096, 1024]⟩
abbrev S16x9x1024 : Shape := ⟨3, ![16, 9, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1024x5632 : Shape := ⟨2, ![1024, 5632]⟩
abbrev S2816x1024 : Shape := ⟨2, ![2816, 1024]⟩
abbrev S1x1024x1024 : Shape := ⟨3, ![1, 1024, 1024]⟩
abbrev S1x9x1024 : Shape := ⟨3, ![1, 9, 1024]⟩
abbrev S1024x1024 : Shape := ⟨2, ![1024, 1024]⟩
abbrev S9x1024 : Shape := ⟨2, ![9, 1024]⟩
abbrev S1024 : Shape := ⟨1, ![1024]⟩
abbrev S1024x1 : Shape := ⟨2, ![1024, 1]⟩
abbrev S1024x1536 : Shape := ⟨2, ![1024, 1536]⟩
abbrev S1536x1024 : Shape := ⟨2, ![1536, 1024]⟩
abbrev S1024x1280 : Shape := ⟨2, ![1024, 1280]⟩
abbrev S1280x1024 : Shape := ⟨2, ![1280, 1024]⟩

abbrev nBuf : Space → Nat
  | .hbm => 10
  | .vmem => 9
  | .smem => 0
  | _ => 0

abbrev bufTy : (tb : Table) → Fin (tcTables nBuf tb) → BufTy
  | .hbm, ⟨0, _⟩ => ⟨S8x4096x1024, .f32⟩
  | .hbm, ⟨1, _⟩ => ⟨S16x9x1024, .f32⟩
  | .hbm, ⟨2, _⟩ => ⟨S1x1024, .f32⟩
  | .hbm, ⟨3, _⟩ => ⟨S1x1024x5632, .f32⟩
  | .hbm, ⟨4, _⟩ => ⟨S1x2816x1024, .f32⟩
  | .hbm, ⟨5, _⟩ => ⟨S1024x5632, .f32⟩
  | .hbm, ⟨6, _⟩ => ⟨S1024x5632, .bf16⟩
  | .hbm, ⟨7, _⟩ => ⟨S2816x1024, .f32⟩
  | .hbm, ⟨8, _⟩ => ⟨S2816x1024, .bf16⟩
  | .hbm, ⟨9, _⟩ => ⟨S8x4096x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x9x1024, .f32⟩
  | .local _ .vmem, ⟨3, _⟩ => ⟨S1x9x1024, .f32⟩
  | .local _ .vmem, ⟨4, _⟩ => ⟨S1x1024, .f32⟩
  | .local _ .vmem, ⟨5, _⟩ => ⟨S1024x5632, .bf16⟩
  | .local _ .vmem, ⟨6, _⟩ => ⟨S2816x1024, .bf16⟩
  | .local _ .vmem, ⟨7, _⟩ => ⟨S1x1024x1024, .f32⟩
  | .local _ .vmem, ⟨8, _⟩ => ⟨S1x1024x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FfnReferenceIdeal.lean ====
abbrev S8x4096x1024 : Shape := ⟨3, ![8, 4096, 1024]⟩
abbrev S16x9x1024 : Shape := ⟨3, ![16, 9, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S8x9x1024 : Shape := ⟨3, ![8, 9, 1024]⟩
abbrev S8x1x9x1024 : Shape := ⟨4, ![8, 1, 9, 1024]⟩
abbrev S8x1x1x1024 : Shape := ⟨4, ![8, 1, 1, 1024]⟩
abbrev S8x1x1024 : Shape := ⟨3, ![8, 1, 1024]⟩
abbrev S_ : Shape := ⟨0, ![]⟩
abbrev S1024 : Shape := ⟨1, ![1024]⟩
abbrev S8x4096 : Shape := ⟨2, ![8, 4096]⟩
abbrev S8x4096x1 : Shape := ⟨3, ![8, 4096, 1]⟩
abbrev S1x1x1024 : Shape := ⟨3, ![1, 1, 1024]⟩
abbrev S1024x5632 : Shape := ⟨2, ![1024, 5632]⟩
abbrev S2816x1024 : Shape := ⟨2, ![2816, 1024]⟩
abbrev S8x4096x5632 : Shape := ⟨3, ![8, 4096, 5632]⟩
abbrev S8x4096x2816 : Shape := ⟨3, ![8, 4096, 2816]⟩

abbrev nBuf : Space → Nat
  | .hbm => 71
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S16x9x1024, .f32⟩
  | .hbm, ⟨2, _⟩ => ⟨S1x1024, .f32⟩
  | .hbm, ⟨3, _⟩ => ⟨S1x1024x5632, .f32⟩
  | .hbm, ⟨4, _⟩ => ⟨S1x2816x1024, .f32⟩
  | .hbm, ⟨5, _⟩ => ⟨S8x9x1024, .f32⟩
  | .hbm, ⟨6, _⟩ => ⟨S8x1x9x1024, .f32⟩
  | .hbm, ⟨7, _⟩ => ⟨S8x1x1x1024, .f32⟩
  | .hbm, ⟨8, _⟩ => ⟨S8x1x1024, .f32⟩
  | .hbm, ⟨9, _⟩ => ⟨S8x1x1x1024, .f32⟩
  | .hbm, ⟨10, _⟩ => ⟨S8x1x1024, .f32⟩
  | .hbm, ⟨11, _⟩ => ⟨S8x1x1x1024, .f32⟩
  | .hbm, ⟨12, _⟩ => ⟨S8x1x1024, .f32⟩
  | .hbm, ⟨13, _⟩ => ⟨S8x1x1x1024, .f32⟩
  | .hbm, ⟨14, _⟩ => ⟨S8x1x1024, .f32⟩
  | .hbm, ⟨15, _⟩ => ⟨S8x1x1x1024, .f32⟩
  | .hbm, ⟨16, _⟩ => ⟨S8x1x1024, .f32⟩
  | .hbm, ⟨17, _⟩ => ⟨S8x1x1x1024, .f32⟩
  | .hbm, ⟨18, _⟩ => ⟨S8x1x1024, .f32⟩
  | .hbm, ⟨19, _⟩ => ⟨S8x1x1x1024, .f32⟩
  | .hbm, ⟨20, _⟩ => ⟨S8x1x1024, .f32⟩
  | .hbm, ⟨21, _⟩ => ⟨S8x1x1x1024, .f32⟩
  | .hbm, ⟨22, _⟩ => ⟨S8x1x1024, .f32⟩
  | .hbm, ⟨23, _⟩ => ⟨S8x1x1x1024, .f32⟩
  | .hbm, ⟨24, _⟩ => ⟨S8x1x1024, .f32⟩
  | .hbm, ⟨25, _⟩ => ⟨S_, .f32⟩
  | .hbm, ⟨26, _⟩ => ⟨S8x1x1024, .f32⟩
  | .hbm, ⟨27, _⟩ => ⟨S8x1x1024, .f32⟩
  | .hbm, ⟨28, _⟩ => ⟨S1024, .f32⟩
  | .hbm, ⟨29, _⟩ => ⟨S8x4096x1024, .f32⟩
  | .hbm, ⟨30, _⟩ => ⟨S_, .f32⟩
  | .hbm, ⟨31, _⟩ => ⟨S8x4096, .f32⟩
  | .hbm, ⟨32, _⟩ => ⟨S8x4096x1, .f32⟩
  | .hbm, ⟨33, _⟩ => ⟨S_, .f32⟩
  | .hbm, ⟨34, _⟩ => ⟨S8x4096x1, .f32⟩
  | .hbm, ⟨35, _⟩ => ⟨S8x4096x1, .f32⟩
  | .hbm, ⟨36, _⟩ => ⟨S_, .f32⟩
  | .hbm, ⟨37, _⟩ => ⟨S8x4096x1, .f32⟩
  | .hbm, ⟨38, _⟩ => ⟨S8x4096x1, .f32⟩
  | .hbm, ⟨39, _⟩ => ⟨S8x4096x1, .f32⟩
  | .hbm, ⟨40, _⟩ => ⟨S8x4096x1024, .f32⟩
  | .hbm, ⟨41, _⟩ => ⟨S8x4096x1024, .f32⟩
  | .hbm, ⟨42, _⟩ => ⟨S1x1x1024, .f32⟩
  | .hbm, ⟨43, _⟩ => ⟨S8x4096x1024, .f32⟩
  | .hbm, ⟨44, _⟩ => ⟨S8x4096x1024, .f32⟩
  | .hbm, ⟨45, _⟩ => ⟨S_, .f32⟩
  | .hbm, ⟨46, _⟩ => ⟨S8x1x1024, .f32⟩
  | .hbm, ⟨47, _⟩ => ⟨S8x1x1024, .f32⟩
  | .hbm, ⟨48, _⟩ => ⟨S8x4096x1024, .f32⟩
  | .hbm, ⟨49, _⟩ => ⟨S8x4096x1024, .f32⟩
  | .hbm, ⟨50, _⟩ => ⟨S8x4096x1024, .f32⟩
  | .hbm, ⟨51, _⟩ => ⟨S8x4096x1024, .f32⟩
  | .hbm, ⟨52, _⟩ => ⟨S1024x5632, .f32⟩
  | .hbm, ⟨53, _⟩ => ⟨S2816x1024, .f32⟩
  | .hbm, ⟨54, _⟩ => ⟨S8x4096x5632, .f32⟩
  | .hbm, ⟨55, _⟩ => ⟨S8x4096x2816, .f32⟩
  | .hbm, ⟨56, _⟩ => ⟨S8x4096x2816, .f32⟩
  | .hbm, ⟨57, _⟩ => ⟨S8x4096x2816, .f32⟩
  | .hbm, ⟨58, _⟩ => ⟨S8x4096x2816, .f32⟩
  | .hbm, ⟨59, _⟩ => ⟨S_, .f32⟩
  | .hbm, ⟨60, _⟩ => ⟨S8x4096x2816, .f32⟩
  | .hbm, ⟨61, _⟩ => ⟨S8x4096x2816, .f32⟩
  | .hbm, ⟨62, _⟩ => ⟨S_, .f32⟩
  | .hbm, ⟨63, _⟩ => ⟨S8x4096x2816, .f32⟩
  | .hbm, ⟨64, _⟩ => ⟨S8x4096x2816, .f32⟩
  | .hbm, ⟨65, _⟩ => ⟨S8x4096x2816, .f32⟩
  | .hbm, ⟨66, _⟩ => ⟨S8x4096x2816, .f32⟩
  | .hbm, ⟨67, _⟩ => ⟨S8x4096x1024, .f32⟩
  | .hbm, ⟨68, _⟩ => ⟨S8x4096x1024, .f32⟩
  | .hbm, ⟨69, _⟩ => ⟨S8x4096x1024, .f32⟩
  | .hbm, ⟨70, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_0 : Ref sig .tc := ⟨.hbm, 30, rfl⟩
abbrev main_v24 : Ref sig .tc := ⟨.hbm, 31, rfl⟩
abbrev main_v25 : Ref sig .tc := ⟨.hbm, 32, rfl⟩
abbrev main_cst_1 : Ref sig .tc := ⟨.hbm, 33, rfl⟩
abbrev main_v26 : Ref sig .tc := ⟨.hbm, 34, rfl⟩
abbrev main_v27 : Ref sig .tc := ⟨.hbm, 35, rfl⟩
abbrev main_cst_2 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst_3 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_call0_v0 : Ref sig .tc := ⟨.hbm, 57, rfl⟩
abbrev main_call0_v1 : Ref sig .tc := ⟨.hbm, 58, rfl⟩
abbrev main_call0_cst : Ref sig .tc := ⟨.hbm, 59, rfl⟩
abbrev main_call0_v2 : Ref sig .tc := ⟨.hbm, 60, rfl⟩
abbrev main_call0_v3 : Ref sig .tc := ⟨.hbm, 61, rfl⟩
abbrev main_call0_cst_0 : Ref sig .tc := ⟨.hbm, 62, rfl⟩
abbrev main_call0_v4 : Ref sig .tc := ⟨.hbm, 63, rfl⟩
abbrev main_call0_v5 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩

abbrev nD : Nat := 1
abbrev τ : Topo := Topo.v7x

variable {F : FTy → Type} [FloatOps F]
-- ==== Final.lean ====
abbrev S8x4096x1024 : Shape := ⟨3, ![8, 4096, 1024]⟩
abbrev S8x4096x768 : Shape := ⟨3, ![8, 4096, 768]⟩
abbrev S4096x2048 : Shape := ⟨2, ![4096, 2048]⟩
abbrev S16x9x1024 : Shape := ⟨3, ![16, 9, 1024]⟩
abbrev S1x256 : Shape := ⟨2, ![1, 256]⟩
abbrev S1x256x512 : Shape := ⟨3, ![1, 256, 512]⟩
abbrev S1x768 : Shape := ⟨2, ![1, 768]⟩
abbrev S1x1024x1024 : Shape := ⟨3, ![1, 1024, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1024 : Shape := ⟨1, ![1024]⟩
abbrev S256x512 : Shape := ⟨2, ![256, 512]⟩
abbrev S1024x1024 : Shape := ⟨2, ![1024, 1024]⟩
abbrev S1024x5632 : Shape := ⟨2, ![1024, 5632]⟩
abbrev S2816x1024 : Shape := ⟨2, ![2816, 1024]⟩
abbrev S1x512x1024 : Shape := ⟨3, ![1, 512, 1024]⟩
abbrev S1x512x768 : Shape := ⟨3, ![1, 512, 768]⟩
abbrev S512x256 : Shape := ⟨2, ![512, 256]⟩
abbrev S1x9x1024 : Shape := ⟨3, ![1, 9, 1024]⟩
abbrev S512x1024 : Shape := ⟨2, ![512, 1024]⟩
abbrev S9x1024 : Shape := ⟨2, ![9, 1024]⟩
abbrev S512x512 : Shape := ⟨2, ![512, 512]⟩
abbrev S512x768 : Shape := ⟨2, ![512, 768]⟩
abbrev S512 : Shape := ⟨1, ![512]⟩
abbrev S512x1 : Shape := ⟨2, ![512, 1]⟩
abbrev S768x1024 : Shape := ⟨2, ![768, 1024]⟩
abbrev S256x1024 : Shape := ⟨2, ![256, 1024]⟩
abbrev S1024x1536 : Shape := ⟨2, ![1024, 1536]⟩
abbrev S512x1536 : Shape := ⟨2, ![512, 1536]⟩
abbrev S1536x1024 : Shape := ⟨2, ![1536, 1024]⟩
abbrev S1024x1280 : Shape := ⟨2, ![1024, 1280]⟩
abbrev S512x1280 : Shape := ⟨2, ![512, 1280]⟩
abbrev S1280x1024 : Shape := ⟨2, ![1280, 1024]⟩

abbrev nBuf : Space → Nat
  | .hbm => 25
  | .vmem => 23
  | .smem => 0
  | _ => 0

abbrev bufTy : (tb : Table) → Fin (tcTables nBuf tb) → BufTy
  | .hbm, ⟨0, _⟩ => ⟨S8x4096x1024, .f32⟩
  | .hbm, ⟨1, _⟩ => ⟨S8x4096x768, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S16x9x1024, .f32⟩
  | .hbm, ⟨6, _⟩ => ⟨S1x256, .f32⟩
  | .hbm, ⟨7, _⟩ => ⟨S1x256x512, .f32⟩
  | .hbm, ⟨8, _⟩ => ⟨S1x768, .f32⟩
  | .hbm, ⟨9, _⟩ => ⟨S1x256, .f32⟩
  | .hbm, ⟨10, _⟩ => ⟨S1x1024x1024, .f32⟩
  | .hbm, ⟨11, _⟩ => ⟨S1x1024, .f32⟩
  | .hbm, ⟨12, _⟩ => ⟨S1x1024x5632, .f32⟩
  | .hbm, ⟨13, _⟩ => ⟨S1x2816x1024, .f32⟩
  | .hbm, ⟨14, _⟩ => ⟨S1024, .f32⟩
  | .hbm, ⟨15, _⟩ => ⟨S256x512, .f32⟩
  | .hbm, ⟨16, _⟩ => ⟨S256x512, .bf16⟩
  | .hbm, ⟨17, _⟩ => ⟨S1024x1024, .f32⟩
  | .hbm, ⟨18, _⟩ => ⟨S1024x1024, .bf16⟩
  | .hbm, ⟨19, _⟩ => ⟨S1024x5632, .f32⟩
  | .hbm, ⟨20, _⟩ => ⟨S1024x5632, .bf16⟩
  | .hbm, ⟨21, _⟩ => ⟨S2816x1024, .f32⟩
  | .hbm, ⟨22, _⟩ => ⟨S2816x1024, .bf16⟩
  | .hbm, ⟨23, _⟩ => ⟨S1x1024, .f32⟩
  | .hbm, ⟨24, _⟩ => ⟨S8x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x768, .f32⟩
  | .local _ .vmem, ⟨3, _⟩ => ⟨S1x512x768, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S1x9x1024, .f32⟩
  | .local _ .vmem, ⟨11, _⟩ => ⟨S1x9x1024, .f32⟩
  | .local _ .vmem, ⟨12, _⟩ => ⟨S1x256, .f32⟩
  | .local _ .vmem, ⟨13, _⟩ => ⟨S256x512, .bf16⟩
  | .local _ .vmem, ⟨14, _⟩ => ⟨S1x768, .f32⟩
  | .local _ .vmem, ⟨15, _⟩ => ⟨S1x256, .f32⟩
  | .local _ .vmem, ⟨16, _⟩ => ⟨S1024x1024, .bf16⟩
  | .local _ .vmem, ⟨17, _⟩ => ⟨S1x1024, .f32⟩
  | .local _ .vmem, ⟨18, _⟩ => ⟨S1024x5632, .bf16⟩
  | .local _ .vmem, ⟨19, _⟩ => ⟨S2816x1024, .bf16⟩
  | .local _ .vmem, ⟨20, _⟩ => ⟨S1x1024, .f32⟩
  | .local _ .vmem, ⟨21, _⟩ => ⟨S1x512x1024, .f32⟩
  | .local _ .vmem, ⟨22, _⟩ => ⟨S1x512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg15_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem15_1 : DmaSem sig := 22

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x9x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1024x5632 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S2816x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S1x512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== FinalReferenceIdeal.lean ====
abbrev S8x4096x1024 : Shape := ⟨3, ![8, 4096, 1024]⟩
abbrev S8x4096x768 : Shape := ⟨3, ![8, 4096, 768]⟩
abbrev S4096x2048 : Shape := ⟨2, ![4096, 2048]⟩
abbrev S16x9x1024 : Shape := ⟨3, ![16, 9, 1024]⟩
abbrev S1x256 : Shape := ⟨2, ![1, 256]⟩
abbrev S1x256x512 : Shape := ⟨3, ![1, 256, 512]⟩
abbrev S1x768 : Shape := ⟨2, ![1, 768]⟩
abbrev S1x1024x1024 : Shape := ⟨3, ![1, 1024, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1024 : Shape := ⟨1, ![1024]⟩
abbrev S8x9x1024 : Shape := ⟨3, ![8, 9, 1024]⟩
abbrev S8x1x9x1024 : Shape := ⟨4, ![8, 1, 9, 1024]⟩
abbrev S8x1x1x1024 : Shape := ⟨4, ![8, 1, 1, 1024]⟩
abbrev S8x1x1024 : Shape := ⟨3, ![8, 1, 1024]⟩
abbrev S4096x8x256 : Shape := ⟨3, ![4096, 8, 256]⟩
abbrev S8x4096x256 : Shape := ⟨3, ![8, 4096, 256]⟩
abbrev S256 : Shape := ⟨1, ![256]⟩
abbrev S1x1x256 : Shape := ⟨3, ![1, 1, 256]⟩
abbrev S256x512 : Shape := ⟨2, ![256, 512]⟩
abbrev S_ : Shape := ⟨0, ![]⟩
abbrev S8x4096x512 : Shape := ⟨3, ![8, 4096, 512]⟩
abbrev S768 : Shape := ⟨1, ![768]⟩
abbrev S8x4096 : Shape := ⟨2, ![8, 4096]⟩
abbrev S8x4096x1 : Shape := ⟨3, ![8, 4096, 1]⟩
abbrev S1x1x768 : Shape := ⟨3, ![1, 1, 768]⟩
abbrev S1024x1024 : Shape := ⟨2, ![1024, 1024]⟩
abbrev S1x1x1024 : Shape := ⟨3, ![1, 1, 1024]⟩
abbrev S1024x5632 : Shape := ⟨2, ![1024, 5632]⟩
abbrev S2816x1024 : Shape := ⟨2, ![2816, 1024]⟩
abbrev S8x4096x5632 : Shape := ⟨3, ![8, 4096, 5632]⟩
abbrev S8x4096x2816 : Shape := ⟨3, ![8, 4096, 2816]⟩

abbrev nBuf : Space → Nat
  | .hbm => 179
  | .vmem => 0
  | .smem => 0
  | _ => 0

abbrev hbmTy0_0 (i : Nat) : BufTy := match i % 128 with
  | 0 => ⟨S8x4096x1024, .f32⟩
  | 1 => ⟨S8x4096x768, .f32⟩
  | 2 => ⟨S4096x2048, .f32⟩
  | 3 => ⟨S4096x2048, .f32⟩
  | 4 => ⟨S4096x2048, .f32⟩
  | 5 => ⟨S16x9x1024, .f32⟩
  | 6 => ⟨S1x256, .f32⟩
  | 7 => ⟨S1x256x512, .f32⟩
  | 8 => ⟨S1x768, .f32⟩
  | 9 => ⟨S1x256, .f32⟩
  | 10 => ⟨S1x1024x1024, .f32⟩
  | 11 => ⟨S1x1024, .f32⟩
  | 12 => ⟨S1x1024x5632, .f32⟩
  | 13 => ⟨S1x2816x1024, .f32⟩
  | 14 => ⟨S1024, .f32⟩
  | 15 => ⟨S8x9x1024, .f32⟩
  | 16 => ⟨S8x1x9x1024, .f32⟩
  | 17 => ⟨S8x1x1x1024, .f32⟩
  | 18 => ⟨S8x1x1024, .f32⟩
  | 19 => ⟨S8x1x1x1024, .f32⟩
  | 20 => ⟨S8x1x1024, .f32⟩
  | 21 => ⟨S8x1x1x1024, .f32⟩
  | 22 => ⟨S8x1x1024, .f32⟩
  | 23 => ⟨S8x1x1x1024, .f32⟩
  | 24 => ⟨S8x1x1024, .f32⟩
  | 25 => ⟨S8x1x1x1024, .f32⟩
  | 26 => ⟨S8x1x1024, .f32⟩
  | 27 => ⟨S8x1x1x1024, .f32⟩
  | 28 => ⟨S8x1x1024, .f32⟩
  | 29 => ⟨S8x1x1x1024, .f32⟩
  | 30 => ⟨S8x1x1024, .f32⟩
  | 31 => ⟨S8x1x1x1024, .f32⟩
  | 32 => ⟨S8x1x1024, .f32⟩
  | 33 => ⟨S8x1x1x1024, .f32⟩
  | 34 => ⟨S8x1x1024, .f32⟩
  | 35 => ⟨S4096x8x256, .f32⟩
  | 36 => ⟨S8x4096x256, .f32⟩
  | 37 => ⟨S256, .f32⟩
  | 38 => ⟨S1x1x256, .f32⟩
  | 39 => ⟨S8x4096x256, .f32⟩
  | 40 => ⟨S8x4096x256, .f32⟩
  | 41 => ⟨S4096x8x256, .f32⟩
  | 42 => ⟨S8x4096x256, .f32⟩
  | 43 => ⟨S8x4096x256, .f32⟩
  | 44 => ⟨S4096x8x256, .f32⟩
  | 45 => ⟨S8x4096x256, .f32⟩
  | 46 => ⟨S8x4096x256, .f32⟩
  | 47 => ⟨S256x512, .f32⟩
  | 48 => ⟨S8x4096x256, .f32⟩
  | 49 => ⟨S8x4096x256, .f32⟩
  | 50 => ⟨S_, .f32⟩
  | 51 => ⟨S8x4096x256, .f32⟩
  | 52 => ⟨S8x4096x256, .f32⟩
  | 53 => ⟨S8x4096x256, .f32⟩
  | 54 => ⟨S_, .f32⟩
  | 55 => ⟨S8x4096x256, .f32⟩
  | 56 => ⟨S8x4096x256, .f32⟩
  | 57 => ⟨S8x4096x256, .f32⟩
  | 58 => ⟨S_, .f32⟩
  | 59 => ⟨S8x4096x256, .f32⟩
  | 60 => ⟨S8x4096x256, .f32⟩
  | 61 => ⟨S_, .f32⟩
  | 62 => ⟨S8x4096x256, .f32⟩
  | 63 => ⟨S8x4096x256, .f32⟩
  | 64 => ⟨S8x4096x256, .f32⟩
  | 65 => ⟨S8x4096x512, .f32⟩
  | 66 => ⟨S8x4096x256, .f32⟩
  | 67 => ⟨S8x4096x256, .f32⟩
  | 68 => ⟨S8x4096x256, .f32⟩
  | 69 => ⟨S8x4096x256, .f32⟩
  | 70 => ⟨S_, .f32⟩
  | 71 => ⟨S8x4096x256, .f32⟩
  | 72 => ⟨S8x4096x256, .f32⟩
  | 73 => ⟨S_, .f32⟩
  | 74 => ⟨S8x4096x256, .f32⟩
  | 75 => ⟨S8x4096x256, .f32⟩
  | 76 => ⟨S8x4096x256, .f32⟩
  | 77 => ⟨S768, .f32⟩
  | 78 => ⟨S8x4096x768, .f32⟩
  | 79 => ⟨S_, .f32⟩
  | 80 => ⟨S8x4096, .f32⟩
  | 81 => ⟨S8x4096x1, .f32⟩
  | 82 => ⟨S_, .f32⟩
  | 83 => ⟨S8x4096x1, .f32⟩
  | 84 => ⟨S8x4096x1, .f32⟩
  | 85 => ⟨S_, .f32⟩
  | 86 => ⟨S8x4096x1, .f32⟩
  | 87 => ⟨S8x4096x1, .f32⟩
  | 88 => ⟨S8x4096x1, .f32⟩
  | 89 => ⟨S8x4096x768, .f32⟩
  | 90 => ⟨S8x4096x768, .f32⟩
  | 91 => ⟨S1x1x768, .f32⟩
  | 92 => ⟨S8x4096x768, .f32⟩
  | 93 => ⟨S8x4096x768, .f32⟩
  | 94 => ⟨S256, .f32⟩
  | 95 => ⟨S8x4096x256, .f32⟩
  | 96 => ⟨S_, .f32⟩
  | 97 => ⟨S8x4096, .f32⟩
  | 98 => ⟨S8x4096x1, .f32⟩
  | 99 => ⟨S_, .f32⟩
  | 100 => ⟨S8x4096x1, .f32⟩
  | 101 => ⟨S8x4096x1, .f32⟩
  | 102 => ⟨S_, .f32⟩
  | 103 => ⟨S8x4096x1, .f32⟩
  | 104 => ⟨S8x4096x1, .f32⟩
  | 105 => ⟨S8x4096x1, .f32⟩
  | 106 => ⟨S8x4096x256, .f32⟩
  | 107 => ⟨S8x4096x256, .f32⟩
  | 108 => ⟨S1x1x256, .f32⟩
  | 109 => ⟨S8x4096x256, .f32⟩
  | 110 => ⟨S8x4096x256, .f32⟩
  | 111 => ⟨S8x4096x1024, .f32⟩
  | 112 => ⟨S1024x1024, .f32⟩
  | 113 => ⟨S8x4096x1024, .f32⟩
  | 114 => ⟨S8x4096x1024, .f32⟩
  | 115 => ⟨S8x4096x1024, .f32⟩
  | 116 => ⟨S8x4096x1024, .f32⟩
  | 117 => ⟨S_, .f32⟩
  | 118 => ⟨S8x1x1024, .f32⟩
  | 119 => ⟨S8x1x1024, .f32⟩
  | 120 => ⟨S1024, .f32⟩
  | 121 => ⟨S8x4096x1024, .f32⟩
  | 122 => ⟨S_, .f32⟩
  | 123 => ⟨S8x4096, .f32⟩
  | 124 => ⟨S8x4096x1, .f32⟩
  | 125 => ⟨S_, .f32⟩
  | 126 => ⟨S8x4096x1, .f32⟩
  | 127 => ⟨S8x4096x1, .f32⟩
  | _ => ⟨S8x4096x1024, .f32⟩

abbrev hbmTy0_1 (i : Nat) : BufTy := match i % 128 with
  | 0 => ⟨S_, .f32⟩
  | 1 => ⟨S8x4096x1, .f32⟩
  | 2 => ⟨S8x4096x1, .f32⟩
  | 3 => ⟨S8x4096x1, .f32⟩
  | 4 => ⟨S8x4096x1024, .f32⟩
  | 5 => ⟨S8x4096x1024, .f32⟩
  | 6 => ⟨S1x1x1024, .f32⟩
  | 7 => ⟨S8x4096x1024, .f32⟩
  | 8 => ⟨S8x4096x1024, .f32⟩
  | 9 => ⟨S_, .f32⟩
  | 10 => ⟨S8x1x1024, .f32⟩
  | 11 => ⟨S8x1x1024, .f32⟩
  | 12 => ⟨S8x4096x1024, .f32⟩
  | 13 => ⟨S8x4096x1024, .f32⟩
  | 14 => ⟨S8x4096x1024, .f32⟩
  | 15 => ⟨S8x4096x1024, .f32⟩
  | 16 => ⟨S1024x5632, .f32⟩
  | 17 => ⟨S2816x1024, .f32⟩
  | 18 => ⟨S8x4096x5632, .f32⟩
  | 19 => ⟨S8x4096x2816, .f32⟩
  | 20 => ⟨S8x4096x2816, .f32⟩
  | 21 => ⟨S8x4096x2816, .f32⟩
  | 22 => ⟨S8x4096x2816, .f32⟩
  | 23 => ⟨S_, .f32⟩
  | 24 => ⟨S8x4096x2816, .f32⟩
  | 25 => ⟨S8x4096x2816, .f32⟩
  | 26 => ⟨S_, .f32⟩
  | 27 => ⟨S8x4096x2816, .f32⟩
  | 28 => ⟨S8x4096x2816, .f32⟩
  | 29 => ⟨S8x4096x2816, .f32⟩
  | 30 => ⟨S8x4096x2816, .f32⟩
  | 31 => ⟨S8x4096x1024, .f32⟩
  | 32 => ⟨S8x4096x1024, .f32⟩
  | 33 => ⟨S8x4096x1024, .f32⟩
  | 34 => ⟨S8x4096x1024, .f32⟩
  | 35 => ⟨S8x4096x1024, .f32⟩
  | 36 => ⟨S_, .f32⟩
  | 37 => ⟨S8x4096, .f32⟩
  | 38 => ⟨S8x4096x1, .f32⟩
  | 39 => ⟨S_, .f32⟩
  | 40 => ⟨S8x4096x1, .f32⟩
  | 41 => ⟨S8x4096x1, .f32⟩
  | 42 => ⟨S_, .f32⟩
  | 43 => ⟨S8x4096x1, .f32⟩
  | 44 => ⟨S8x4096x1, .f32⟩
  | 45 => ⟨S8x4096x1, .f32⟩
  | 46 => ⟨S8x4096x1024, .f32⟩
  | 47 => ⟨S8x4096x1024, .f32⟩
  | 48 => ⟨S1x1x1024, .f32⟩
  | 49 => ⟨S8x4096x1024, .f32⟩
  | 50 => ⟨S8x4096x1024, .f32⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_0 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_1 : Ref sig .tc := ⟨.hbm, 58, rfl⟩
abbrev main_v41 : Ref sig .tc := ⟨.hbm, 59, rfl⟩
abbrev main_v42 : Ref sig .tc := ⟨.hbm, 60, rfl⟩
abbrev main_cst_2 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_3 : Ref sig .tc := ⟨.hbm, 70, rfl⟩
abbrev main_v51 : Ref sig .tc := ⟨.hbm, 71, rfl⟩
abbrev main_v52 : Ref sig .tc := ⟨.hbm, 72, rfl⟩
abbrev main_cst_4 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_5 : Ref sig .tc := ⟨.hbm, 79, rfl⟩
abbrev main_v58 : Ref sig .tc := ⟨.hbm, 80, rfl⟩
abbrev main_v59 : Ref sig .tc := ⟨.hbm, 81, rfl⟩
abbrev main_cst_6 : Ref sig .tc := ⟨.hbm, 82, rfl⟩
abbrev main_v60 : Ref sig .tc := ⟨.hbm, 83, rfl⟩
abbrev main_v61 : Ref sig .tc := ⟨.hbm, 84, rfl⟩
abbrev main_cst_7 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_cst_8 : Ref sig .tc := ⟨.hbm, 96, rfl⟩
abbrev main_v72 : Ref sig .tc := ⟨.hbm, 97, rfl⟩
abbrev main_v73 : Ref sig .tc := ⟨.hbm, 98, rfl⟩
abbrev main_cst_9 : Ref sig .tc := ⟨.hbm, 99, rfl⟩
abbrev main_v74 : Ref sig .tc := ⟨.hbm, 100, rfl⟩
abbrev main_v75 : Ref sig .tc := ⟨.hbm, 101, rfl⟩
abbrev main_cst_10 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_cst_11 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_cst_12 : Ref sig .tc := ⟨.hbm, 122, rfl⟩
abbrev main_v94 : Ref sig .tc := ⟨.hbm, 123, rfl⟩
abbrev main_v95 : Ref sig .tc := ⟨.hbm, 124, rfl⟩
abbrev main_cst_13 : Ref sig .tc := ⟨.hbm, 125, rfl⟩
abbrev main_v96 : Ref sig .tc := ⟨.hbm, 126, rfl⟩
abbrev main_v97 : Ref sig .tc := ⟨.hbm, 127, rfl⟩
abbrev main_cst_14 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_cst_15 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_call0_v0 : Ref sig .tc := ⟨.hbm, 149, rfl⟩
abbrev main_call0_v1 : Ref sig .tc := ⟨.hbm, 150, rfl⟩
abbrev main_call0_cst : Ref sig .tc := ⟨.hbm, 151, rfl⟩
abbrev main_call0_v2 : Ref sig .tc := ⟨.hbm, 152, rfl⟩
abbrev main_call0_v3 : Ref sig .tc := ⟨.hbm, 153, rfl⟩
abbrev main_call0_cst_0 : Ref sig .tc := ⟨.hbm, 154, rfl⟩
abbrev main_call0_v4 : Ref sig .tc := ⟨.hbm, 155, rfl⟩
abbrev main_call0_v5 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_cst_16 : Ref sig .tc := ⟨.hbm, 164, rfl⟩
abbrev main_v124 : Ref sig .tc := ⟨.hbm, 165, rfl⟩
abbrev main_v125 : Ref sig .tc := ⟨.hbm, 166, rfl⟩
abbrev main_cst_17 : Ref sig .tc := ⟨.hbm, 167, rfl⟩
abbrev main_v126 : Ref sig .tc := ⟨.hbm, 168, rfl⟩
abbrev main_v127 : Ref sig .tc := ⟨.hbm, 169, rfl⟩
abbrev main_cst_18 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩

abbrev nD : Nat := 1
abbrev τ : Topo := Topo.v7x

variable {F : FTy → Type} [FloatOps F]
-- ==== Adaln.lean ====
abbrev S8x1024 : Shape := ⟨2, ![8, 1024]⟩
abbrev S1024 : Shape := ⟨1, ![1024]⟩
abbrev S1x1024x9216 : Shape := ⟨3, ![1, 1024, 9216]⟩
abbrev S1x9216 : Shape := ⟨2, ![1, 9216]⟩
abbrev S1x1024 : Shape := ⟨2, ![1, 1024]⟩
abbrev S_ : Shape := ⟨0, ![]⟩
abbrev S7x1024 : Shape := ⟨2, ![7, 1024]⟩
abbrev S16x1024 : Shape := ⟨2, ![16, 1024]⟩
abbrev S1024x9216 : Shape := ⟨2, ![1024, 9216]⟩
abbrev S16x9216 : Shape := ⟨2, ![16, 9216]⟩
abbrev S1024x1024 : Shape := ⟨2, ![1024, 1024]⟩

abbrev nBuf : Space → Nat
  | .hbm => 10
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S1024, .f32⟩
  | .hbm, ⟨2, _⟩ => ⟨S1x1024x9216, .f32⟩
  | .hbm, ⟨3, _⟩ => ⟨S1x9216, .f32⟩
  | .hbm, ⟨4, _⟩ => ⟨S1x1024, .f32⟩
  | .hbm, ⟨5, _⟩ => ⟨S_, .f32⟩
  | .hbm, ⟨6, _⟩ => ⟨S7x1024, .f32⟩
  | .hbm, ⟨7, _⟩ => ⟨S16x1024, .f32⟩
  | .hbm, ⟨8, _⟩ => ⟨S1024x9216, .f32⟩
  | .hbm, ⟨9, _⟩ => ⟨S16x9216, .f32⟩
  | .local _ .vmem, ⟨0, _⟩ => ⟨S16x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1x1024, .f32⟩
  | .local _ .vmem, ⟨5, _⟩ => ⟨S16x1024, .f32⟩
  | .local _ .vmem, ⟨6, _⟩ => ⟨S16x1024, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AdalnReferenceIdeal.lean ====
abbrev S8x1024 : Shape := ⟨2, ![8, 1024]⟩
abbrev S1024 : Shape := ⟨1, ![1024]⟩
abbrev S1x1024x9216 : Shape := ⟨3, ![1, 1024, 9216]⟩
abbrev S1x9216 : Shape := ⟨2, ![1, 9216]⟩
abbrev S1x1024 : Shape := ⟨2, ![1, 1024]⟩
abbrev S_ : Shape := ⟨0, ![]⟩
abbrev S7x1024 : Shape := ⟨2, ![7, 1024]⟩
abbrev S16x1024 : Shape := ⟨2, ![16, 1024]⟩
abbrev S1024x9216 : Shape := ⟨2, ![1024, 9216]⟩
abbrev S16x9216 : Shape := ⟨2, ![16, 9216]⟩
abbrev S9216 : Shape := ⟨1, ![9216]⟩

abbrev nBuf : Space → Nat
  | .hbm => 23
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024, .f32⟩
  | .hbm, ⟨2, _⟩ => ⟨S1x1024x9216, .f32⟩
  | .hbm, ⟨3, _⟩ => ⟨S1x9216, .f32⟩
  | .hbm, ⟨4, _⟩ => ⟨S1x1024, .f32⟩
  | .hbm, ⟨5, _⟩ => ⟨S_, .f32⟩
  | .hbm, ⟨6, _⟩ => ⟨S7x1024, .f32⟩
  | .hbm, ⟨7, _⟩ => ⟨S16x1024, .f32⟩
  | .hbm, ⟨8, _⟩ => ⟨S16x1024, .f32⟩
  | .hbm, ⟨9, _⟩ => ⟨S16x1024, .f32⟩
  | .hbm, ⟨10, _⟩ => ⟨S_, .f32⟩
  | .hbm, ⟨11, _⟩ => ⟨S16x1024, .f32⟩
  | .hbm, ⟨12, _⟩ => ⟨S16x1024, .f32⟩
  | .hbm, ⟨13, _⟩ => ⟨S_, .f32⟩
  | .hbm, ⟨14, _⟩ => ⟨S16x1024, .f32⟩
  | .hbm, ⟨15, _⟩ => ⟨S16x1024, .f32⟩
  | .hbm, ⟨16, _⟩ => ⟨S16x1024, .f32⟩
  | .hbm, ⟨17, _⟩ => ⟨S1024x9216, .f32⟩
  | .hbm, ⟨18, _⟩ => ⟨S16x9216, .f32⟩
  | .hbm, ⟨19, _⟩ => ⟨S9216, .f32⟩
  | .hbm, ⟨20, _⟩ => ⟨S1x9216, .f32⟩
  | .hbm, ⟨21, _⟩ => ⟨S16x9216, .f32⟩
  | .hbm, ⟨22, _⟩ => ⟨S16x9216, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩

abbrev nD : Nat := 1
abbrev τ : Topo := Topo.v7x

variable {F : FTy → Type} [FloatOps F]
-- ==== Proj.lean ====
abbrev S8x4096x1024 : Shape := ⟨3, ![8, 4096, 1024]⟩
abbrev S16x9x1024 : Shape := ⟨3, ![16, 9, 1024]⟩
abbrev S1x1024 : Shape := ⟨2, ![1, 1024]⟩
abbrev S1x1024x672 : Shape := ⟨3, ![1, 1024, 672]⟩
abbrev S1x256 : Shape := ⟨2, ![1, 256]⟩
abbrev S1x256x1152 : Shape := ⟨3, ![1, 256, 1152]⟩
abbrev S1x128 : Shape := ⟨2, ![1, 128]⟩
abbrev S1x128x1536 : Shape := ⟨3, ![1, 128, 1536]⟩
abbrev S4096x16 : Shape := ⟨2, ![4096, 16]⟩
abbrev S1024x672 : Shape := ⟨2, ![1024, 672]⟩
abbrev S1024x32 : Shape := ⟨2, ![1024, 32]⟩
abbrev S_ : Shape := ⟨0, ![]⟩
abbrev S1024x64 : Shape := ⟨2, ![1024, 64]⟩
abbrev S1024x384 : Shape := ⟨2, ![1024, 384]⟩
abbrev S1024x16x2 : Shape := ⟨3, ![1024, 16, 2]⟩
abbrev S1024x16x1 : Shape := ⟨3, ![1024, 16, 1]⟩
abbrev S1024x16 : Shape := ⟨2, ![1024, 16]⟩
abbrev S1024x256 : Shape := ⟨2, ![1024, 256]⟩
abbrev S1024x896 : Shape := ⟨2, ![1024, 896]⟩
abbrev S256x12x96 : Shape := ⟨3, ![256, 12, 96]⟩
abbrev S256x12x64 : Shape := ⟨3, ![256, 12, 64]⟩
abbrev S256x12x32 : Shape := ⟨3, ![256, 12, 32]⟩
abbrev S256x384 : Shape := ⟨2, ![256, 384]⟩
abbrev S256x192x2 : Shape := ⟨3, ![256, 192, 2]⟩
abbrev S256x192x1 : Shape := ⟨3, ![256, 192, 1]⟩
abbrev S256x192 : Shape := ⟨2, ![256, 192]⟩
abbrev S256x12x128 : Shape := ⟨3, ![256, 12, 128]⟩
abbrev S256x1536 : Shape := ⟨2, ![256, 1536]⟩
abbrev S256x3072 : Shape := ⟨2, ![256, 3072]⟩
abbrev S128x12x128 : Shape := ⟨3, ![128, 12, 128]⟩
abbrev S128x12x64 : Shape := ⟨3, ![128, 12, 64]⟩
abbrev S128x12x32 : Shape := ⟨3, ![128, 12, 32]⟩
abbrev S128x1536 : Shape := ⟨2, ![128, 1536]⟩
abbrev S128x768 : Shape := ⟨2, ![128, 768]⟩
abbrev S128x2304 : Shape := ⟨2, ![128, 2304]⟩
abbrev S4096x16x1 : Shape := ⟨3, ![4096, 16, 1]⟩
abbrev S4096x16x2 : Shape := ⟨3, ![4096, 16, 2]⟩
abbrev S4096x32 : Shape := ⟨2, ![4096, 32]⟩
abbrev S4096x64 : Shape := ⟨2, ![4096, 64]⟩
abbrev S4096x128 : Shape := ⟨2, ![4096, 128]⟩
abbrev S8x4096x1536 : Shape := ⟨3, ![8, 4096, 1536]⟩
abbrev S8x4096x768 : Shape := ⟨3, ![8, 4096, 768]⟩
abbrev S4096x2048 : Shape := ⟨2, ![4096, 2048]⟩
abbrev S1x1024x1024 : Shape := ⟨3, ![1, 1024, 1024]⟩
abbrev S1x9x1024 : Shape := ⟨3, ![1, 9, 1024]⟩
abbrev S1024x128 : Shape := ⟨2, ![1024, 128]⟩
abbrev S1x1024x1536 : Shape := ⟨3, ![1, 1024, 1536]⟩
abbrev S1x1024x768 : Shape := ⟨3, ![1, 1024, 768]⟩
abbrev S1024x1024 : Shape := ⟨2, ![1024, 1024]⟩
abbrev S9x1024 : Shape := ⟨2, ![9, 1024]⟩
abbrev S1024 : Shape := ⟨1, ![1024]⟩
abbrev S1024x1 : Shape := ⟨2, ![1024, 1]⟩
abbrev S1024x2304 : Shape := ⟨2, ![1024, 2304]⟩
abbrev S1x1024x128 : Shape := ⟨3, ![1, 1024, 128]⟩
abbrev S1024x768 : Shape := ⟨2, ![1024, 768]⟩
abbrev S1024x1536 : Shape := ⟨2, ![1024, 1536]⟩

abbrev nBuf : Space → Nat
  | .hbm => 113
  | .vmem => 26
  | .smem => 0
  | _ => 0

abbrev bufTy : (tb : Table) → Fin (tcTables nBuf tb) → BufTy
  | .hbm, ⟨0, _⟩ => ⟨S8x4096x1024, .f32⟩
  | .hbm, ⟨1, _⟩ => ⟨S16x9x1024, .f32⟩
  | .hbm, ⟨2, _⟩ => ⟨S1x1024, .f32⟩
  | .hbm, ⟨3, _⟩ => ⟨S1x1024x672, .f32⟩
  | .hbm, ⟨4, _⟩ => ⟨S1x256, .f32⟩
  | .hbm, ⟨5, _⟩ => ⟨S1x256x1152, .f32⟩
  | .hbm, ⟨6, _⟩ => ⟨S1x128, .f32⟩
  | .hbm, ⟨7, _⟩ => ⟨S1x128x1536, .f32⟩
  | .hbm, ⟨8, _⟩ => ⟨S4096x16, .f32⟩
  | .hbm, ⟨9, _⟩ => ⟨S4096x16, .f32⟩
  | .hbm, ⟨10, _⟩ => ⟨S1024x672, .f32⟩
  | .hbm, ⟨11, _⟩ => ⟨S1024x32, .f32⟩
  | .hbm, ⟨12, _⟩ => ⟨S_, .f32⟩
  | .hbm, ⟨13, _⟩ => ⟨S1024x64, .f32⟩
  | .hbm, ⟨14, _⟩ => ⟨S_, .f32⟩
  | .hbm, ⟨15, _⟩ => ⟨S1024x32, .f32⟩
  | .hbm, ⟨16, _⟩ => ⟨S1024x384, .f32⟩
  | .hbm, ⟨17, _⟩ => ⟨S1024x16x2, .f32⟩
  | .hbm, ⟨18, _⟩ => ⟨S1024x16x1, .f32⟩
  | .hbm, ⟨19, _⟩ => ⟨S1024x16, .f32⟩
  | .hbm, ⟨20, _⟩ => ⟨S1024x16, .f32⟩
  | .hbm, ⟨21, _⟩ => ⟨S1024x16x1, .f32⟩
  | .hbm, ⟨22, _⟩ => ⟨S1024x16, .f32⟩
  | .hbm, ⟨23, _⟩ => ⟨S1024x16x1, .f32⟩
  | .hbm, ⟨24, _⟩ => ⟨S1024x16x1, .f32⟩
  | .hbm, ⟨25, _⟩ => ⟨S1024x16x2, .f32⟩
  | .hbm, ⟨26, _⟩ => ⟨S1024x32, .f32⟩
  | .hbm, ⟨27, _⟩ => ⟨S1024x256, .f32⟩
  | .hbm, ⟨28, _⟩ => ⟨S1024x896, .f32⟩
  | .hbm, ⟨29, _⟩ => ⟨S1024x896, .bf16⟩
  | .hbm, ⟨30, _⟩ => ⟨S256x12x96, .f32⟩
  | .hbm, ⟨31, _⟩ => ⟨S256x12x64, .f32⟩
  | .hbm, ⟨32, _⟩ => ⟨S256x12x32, .f32⟩
  | .hbm, ⟨33, _⟩ => ⟨S256x384, .f32⟩
  | .hbm, ⟨34, _⟩ => ⟨S256x192x2, .f32⟩
  | .hbm, ⟨35, _⟩ => ⟨S256x192x1, .f32⟩
  | .hbm, ⟨36, _⟩ => ⟨S256x192, .f32⟩
  | .hbm, ⟨37, _⟩ => ⟨S256x192, .f32⟩
  | .hbm, ⟨38, _⟩ => ⟨S256x192x1, .f32⟩
  | .hbm, ⟨39, _⟩ => ⟨S256x192, .f32⟩
  | .hbm, ⟨40, _⟩ => ⟨S256x192x1, .f32⟩
  | .hbm, ⟨41, _⟩ => ⟨S256x192x1, .f32⟩
  | .hbm, ⟨42, _⟩ => ⟨S256x192x2, .f32⟩
  | .hbm, ⟨43, _⟩ => ⟨S256x384, .f32⟩
  | .hbm, ⟨44, _⟩ => ⟨S256x12x32, .f32⟩
  | .hbm, ⟨45, _⟩ => ⟨S_, .f32⟩
  | .hbm, ⟨46, _⟩ => ⟨S256x12x32, .f32⟩
  | .hbm, ⟨47, _⟩ => ⟨S256x12x128, .f32⟩
  | .hbm, ⟨48, _⟩ => ⟨S256x1536, .f32⟩
  | .hbm, ⟨49, _⟩ => ⟨S_, .f32⟩
  | .hbm, ⟨50, _⟩ => ⟨S256x12x64, .f32⟩
  | .hbm, ⟨51, _⟩ => ⟨S_, .f32⟩
  | .hbm, ⟨52, _⟩ => ⟨S256x12x32, .f32⟩
  | .hbm, ⟨53, _⟩ => ⟨S256x12x128, .f32⟩
  | .hbm, ⟨54, _⟩ => ⟨S256x1536, .f32⟩
  | .hbm, ⟨55, _⟩ => ⟨S256x3072, .f32⟩
  | .hbm, ⟨56, _⟩ => ⟨S256x3072, .bf16⟩
  | .hbm, ⟨57, _⟩ => ⟨S128x12x128, .f32⟩
  | .hbm, ⟨58, _⟩ => ⟨S128x12x64, .f32⟩
  | .hbm, ⟨59, _⟩ => ⟨S_, .f32⟩
  | .hbm, ⟨60, _⟩ => ⟨S128x12x32, .f32⟩
  | .hbm, ⟨61, _⟩ => ⟨S_, .f32⟩
  | .hbm, ⟨62, _⟩ => ⟨S128x12x32, .f32⟩
  | .hbm, ⟨63, _⟩ => ⟨S128x12x128, .f32⟩
  | .hbm, ⟨64, _⟩ => ⟨S128x1536, .f32⟩
  | .hbm, ⟨65, _⟩ => ⟨S128x12x64, .f32⟩
  | .hbm, ⟨66, _⟩ => ⟨S128x768, .f32⟩
  | .hbm, ⟨67, _⟩ => ⟨S128x2304, .f32⟩
  | .hbm, ⟨68, _⟩ => ⟨S128x2304, .bf16⟩
  | .hbm, ⟨69, _⟩ => ⟨S4096x16x1, .f32⟩
  | .hbm, ⟨70, _⟩ => ⟨S4096x16x1, .f32⟩
  | .hbm, ⟨71, _⟩ => ⟨S4096x16x2, .f32⟩
  | .hbm, ⟨72, _⟩ => ⟨S4096x32, .f32⟩
  | .hbm, ⟨73, _⟩ => ⟨S4096x16x1, .f32⟩
  | .hbm, ⟨74, _⟩ => ⟨S4096x16x1, .f32⟩
  | .hbm, ⟨75, _⟩ => ⟨S4096x16x2, .f32⟩
  | .hbm, ⟨76, _⟩ => ⟨S4096x32, .f32⟩
  | .hbm, ⟨77, _⟩ => ⟨S_, .f32⟩
  | .hbm, ⟨78, _⟩ => ⟨S4096x64, .f32⟩
  | .hbm, ⟨79, _⟩ => ⟨S_, .f32⟩
  | .hbm, ⟨80, _⟩ => ⟨S4096x32, .f32⟩
  | .hbm, ⟨81, _⟩ => ⟨S4096x128, .f32⟩
  | .hbm, ⟨82, _⟩ => ⟨S_, .f32⟩
  | .hbm, ⟨83, _⟩ => ⟨S4096x64, .f32⟩
  | .hbm, ⟨84, _⟩ => ⟨S_, .f32⟩
  | .hbm, ⟨85, _⟩ => ⟨S4096x32, .f32⟩
  | .hbm, ⟨86, _⟩ => ⟨S4096x128, .f32⟩
  | .hbm, ⟨87, _⟩ => ⟨S_, .f32⟩
  | .hbm, ⟨88, _⟩ => ⟨S4096x128, .f32⟩
  | .hbm, ⟨89, _⟩ => ⟨S4096x128, .f32⟩
  | .hbm, ⟨90, _⟩ => ⟨S_, .f32⟩
  | .hbm, ⟨91, _⟩ => ⟨S4096x128, .f32⟩
  | .hbm, ⟨92, _⟩ => ⟨S4096x128, .f32⟩
  | .hbm, ⟨93, _⟩ => ⟨S_, .f32⟩
  | .hbm, ⟨94, _⟩ => ⟨S4096x64, .f32⟩
  | .hbm, ⟨95, _⟩ => ⟨S_, .f32⟩
  | .hbm, ⟨96, _⟩ => ⟨S4096x32, .f32⟩
  | .hbm, ⟨97, _⟩ => ⟨S4096x128, .f32⟩
  | .hbm, ⟨98, _⟩ => ⟨S_, .f32⟩
  | .hbm, ⟨99, _⟩ => ⟨S4096x64, .f32⟩
  | .hbm, ⟨100, _⟩ => ⟨S_, .f32⟩
  | .hbm, ⟨101, _⟩ => ⟨S4096x32, .f32⟩
  | .hbm, ⟨102, _⟩ => ⟨S4096x128, .f32⟩
  | .hbm, ⟨103, _⟩ => ⟨S_, .f32⟩
  | .hbm, ⟨104, _⟩ => ⟨S4096x128, .f32⟩
  | .hbm, ⟨105, _⟩ => ⟨S4096x128, .f32⟩
  | .hbm, ⟨106, _⟩ => ⟨S_, .f32⟩
  | .hbm, ⟨107, _⟩ => ⟨S4096x128, .f32⟩
  | .hbm, ⟨108, _⟩ => ⟨S4096x128, .f32⟩
  | .hbm, ⟨109, _⟩ => ⟨S8x4096x1536, .bf16⟩
  | .hbm, ⟨110, _⟩ => ⟨S8x4096x1536, .bf16⟩
  | .hbm, ⟨111, _⟩ => ⟨S8x4096x768, .bf16⟩
  | .hbm, ⟨112, _⟩ => ⟨S4096x2048, .f32⟩
  | .local _ .vmem, ⟨0, _⟩ => ⟨S1x1024x1024, .f32⟩
  | .local _ .vmem, ⟨1, _⟩ => ⟨S1x1024x1024, .f32⟩
  | .local _ .vmem, ⟨2, _⟩ => ⟨S1x9x1024, .f32⟩
  | .local _ .vmem, ⟨3, _⟩ => ⟨S1x9x1024, .f32⟩
  | .local _ .vmem, ⟨4, _⟩ => ⟨S1x1024, .f32⟩
  | .local _ .vmem, ⟨5, _⟩ => ⟨S1024x896, .bf16⟩
  | .local _ .vmem, ⟨6, _⟩ => ⟨S1x256, .f32⟩
  | .local _ .vmem, ⟨7, _⟩ => ⟨S256x3072, .bf16⟩
  | .local _ .vmem, ⟨8, _⟩ => ⟨S1x128, .f32⟩
  | .local _ .vmem, ⟨9, _⟩ => ⟨S128x2304, .bf16⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1024x128, .f32⟩
  | .local _ .vmem, ⟨15, _⟩ => ⟨S1024x128, .f32⟩
  | .local _ .vmem, ⟨16, _⟩ => ⟨S1024x128, .f32⟩
  | .local _ .vmem, ⟨17, _⟩ => ⟨S1024x128, .f32⟩
  | .local _ .vmem, ⟨18, _⟩ => ⟨S1x1024x1536, .bf16⟩
  | .local _ .vmem, ⟨19, _⟩ => ⟨S1x1024x1536, .bf16⟩
  | .local _ .vmem, ⟨20, _⟩ => ⟨S1x1024x1536, .bf16⟩
  | .local _ .vmem, ⟨21, _⟩ => ⟨S1x1024x1536, .bf16⟩
  | .local _ .vmem, ⟨22, _⟩ => ⟨S1x1024x768, .bf16⟩
  | .local _ .vmem, ⟨23, _⟩ => ⟨S1x1024x768, .bf16⟩
  | .local _ .vmem, ⟨24, _⟩ => ⟨S1024x256, .f32⟩
  | .local _ .vmem, ⟨25, _⟩ => ⟨S1024x256, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_1 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_2 : Ref sig .tc := ⟨.hbm, 49, rfl⟩
abbrev main_v36 : Ref sig .tc := ⟨.hbm, 50, rfl⟩
abbrev main_cst_3 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_4 : Ref sig .tc := ⟨.hbm, 59, rfl⟩
abbrev main_v44 : Ref sig .tc := ⟨.hbm, 60, rfl⟩
abbrev main_cst_5 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_cst_6 : Ref sig .tc := ⟨.hbm, 77, rfl⟩
abbrev main_v60 : Ref sig .tc := ⟨.hbm, 78, rfl⟩
abbrev main_cst_7 : Ref sig .tc := ⟨.hbm, 79, rfl⟩
abbrev main_v61 : Ref sig .tc := ⟨.hbm, 80, rfl⟩
abbrev main_v62 : Ref sig .tc := ⟨.hbm, 81, rfl⟩
abbrev main_cst_8 : Ref sig .tc := ⟨.hbm, 82, rfl⟩
abbrev main_v63 : Ref sig .tc := ⟨.hbm, 83, rfl⟩
abbrev main_cst_9 : Ref sig .tc := ⟨.hbm, 84, rfl⟩
abbrev main_v64 : Ref sig .tc := ⟨.hbm, 85, rfl⟩
abbrev main_v65 : Ref sig .tc := ⟨.hbm, 86, rfl⟩
abbrev main_cst_10 : Ref sig .tc := ⟨.hbm, 87, rfl⟩
abbrev main_v66 : Ref sig .tc := ⟨.hbm, 88, rfl⟩
abbrev main_v67 : Ref sig .tc := ⟨.hbm, 89, rfl⟩
abbrev main_cst_11 : Ref sig .tc := ⟨.hbm, 90, rfl⟩
abbrev main_v68 : Ref sig .tc := ⟨.hbm, 91, rfl⟩
abbrev main_v69 : Ref sig .tc := ⟨.hbm, 92, rfl⟩
abbrev main_cst_12 : Ref sig .tc := ⟨.hbm, 93, rfl⟩
abbrev main_v70 : Ref sig .tc := ⟨.hbm, 94, rfl⟩
abbrev main_cst_13 : Ref sig .tc := ⟨.hbm, 95, rfl⟩
abbrev main_v71 : Ref sig .tc := ⟨.hbm, 96, rfl⟩
abbrev main_v72 : Ref sig .tc := ⟨.hbm, 97, rfl⟩
abbrev main_cst_14 : Ref sig .tc := ⟨.hbm, 98, rfl⟩
abbrev main_v73 : Ref sig .tc := ⟨.hbm, 99, rfl⟩
abbrev main_cst_15 : Ref sig .tc := ⟨.hbm, 100, rfl⟩
abbrev main_v74 : Ref sig .tc := ⟨.hbm, 101, rfl⟩
abbrev main_v75 : Ref sig .tc := ⟨.hbm, 102, rfl⟩
abbrev main_cst_16 : Ref sig .tc := ⟨.hbm, 103, rfl⟩
abbrev main_v76 : Ref sig .tc := ⟨.hbm, 104, rfl⟩
abbrev main_v77 : Ref sig .tc := ⟨.hbm, 105, rfl⟩
abbrev main_cst_17 : Ref sig .tc := ⟨.hbm, 106, rfl⟩
abbrev main_v78 : Ref sig .tc := ⟨.hbm, 107, rfl⟩
abbrev main_v79 : Ref sig .tc := ⟨.hbm, 108, rfl⟩
abbrev main_v80_0 : Ref sig .tc := ⟨.hbm, 109, rfl⟩
abbrev main_v80_1 : Ref sig .tc := ⟨.hbm, 110, rfl⟩
abbrev main_v80_2 : Ref sig .tc := ⟨.hbm, 111, rfl⟩
abbrev main_v80_3 : Ref sig .tc := ⟨.hbm, 112, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x896 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x3072 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x2304 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1024x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1024x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S1024x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S1x1024x1536 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1024x1536 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x1024x768 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1024x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== ProjReferenceIdeal.lean ====
abbrev S8x4096x1024 : Shape := ⟨3, ![8, 4096, 1024]⟩
abbrev S16x9x1024 : Shape := ⟨3, ![16, 9, 1024]⟩
abbrev S1x1024 : Shape := ⟨2, ![1, 1024]⟩
abbrev S1x1024x672 : Shape := ⟨3, ![1, 1024, 672]⟩
abbrev S1x256 : Shape := ⟨2, ![1, 256]⟩
abbrev S1x256x1152 : Shape := ⟨3, ![1, 256, 1152]⟩
abbrev S1x128 : Shape := ⟨2, ![1, 128]⟩
abbrev S1x128x1536 : Shape := ⟨3, ![1, 128, 1536]⟩
abbrev S4096x16 : Shape := ⟨2, ![4096, 16]⟩
abbrev S8x9x1024 : Shape := ⟨3, ![8, 9, 1024]⟩
abbrev S8x1x9x1024 : Shape := ⟨4, ![8, 1, 9, 1024]⟩
abbrev S8x1x1x1024 : Shape := ⟨4, ![8, 1, 1, 1024]⟩
abbrev S8x1x1024 : Shape := ⟨3, ![8, 1, 1024]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S1024x672 : Shape := ⟨2, ![1024, 672]⟩
abbrev S256 : Shape := ⟨1, ![256]⟩
abbrev S256x1152 : Shape := ⟨2, ![256, 1152]⟩
abbrev S128 : Shape := ⟨1, ![128]⟩
abbrev S128x1536 : Shape := ⟨2, ![128, 1536]⟩
abbrev S8x4096x672 : Shape := ⟨3, ![8, 4096, 672]⟩
abbrev S8x4096x256 : Shape := ⟨3, ![8, 4096, 256]⟩
abbrev S8x4096x128 : Shape := ⟨3, ![8, 4096, 128]⟩
abbrev S8x4096x32 : Shape := ⟨3, ![8, 4096, 32]⟩
abbrev S1x1x256 : Shape := ⟨3, ![1, 1, 256]⟩
abbrev S8x4096x1152 : Shape := ⟨3, ![8, 4096, 1152]⟩
abbrev S8x4096x12x96 : Shape := ⟨4, ![8, 4096, 12, 96]⟩
abbrev S1x1x128 : Shape := ⟨3, ![1, 1, 128]⟩
abbrev S8x4096x1536 : Shape := ⟨3, ![8, 4096, 1536]⟩
abbrev S8x4096x12x128 : Shape := ⟨4, ![8, 4096, 12, 128]⟩
abbrev S8x4096x12x64 : Shape := ⟨4, ![8, 4096, 12, 64]⟩
abbrev S8x4096x12x32 : Shape := ⟨4, ![8, 4096, 12, 32]⟩
abbrev S4096x1x16 : Shape := ⟨3, ![4096, 1, 16]⟩
abbrev S8x4096x12x16x2 : Shape := ⟨5, ![8, 4096, 12, 16, 2]⟩
abbrev S8x4096x12x16x1 : Shape := ⟨5, ![8, 4096, 12, 16, 1]⟩
abbrev S8x4096x12x16 : Shape := ⟨4, ![8, 4096, 12, 16]⟩
abbrev S1x4096x1x16 : Shape := ⟨4, ![1, 4096, 1, 16]⟩
abbrev S8x4096x16x2 : Shape := ⟨4, ![8, 4096, 16, 2]⟩
abbrev S8x4096x16x1 : Shape := ⟨4, ![8, 4096, 16, 1]⟩
abbrev S8x4096x16 : Shape := ⟨3, ![8, 4096, 16]⟩
abbrev S1x4096x16 : Shape := ⟨3, ![1, 4096, 16]⟩
abbrev S8x4096x1x32 : Shape := ⟨4, ![8, 4096, 1, 32]⟩
abbrev S8x4096x768 : Shape := ⟨3, ![8, 4096, 768]⟩
abbrev S4096x8x256 : Shape := ⟨3, ![4096, 8, 256]⟩
abbrev S4096x2048 : Shape := ⟨2, ![4096, 2048]⟩

abbrev nBuf : Space → Nat
  | .hbm => 169
  | .vmem => 0
  | .smem => 0
  | _ => 0

abbrev hbmTy0_0 (i : Nat) : BufTy := match i % 128 with
  | 0 => ⟨S8x4096x1024, .f32⟩
  | 1 => ⟨S16x9x1024, .f32⟩
  | 2 => ⟨S1x1024, .f32⟩
  | 3 => ⟨S1x1024x672, .f32⟩
  | 4 => ⟨S1x256, .f32⟩
  | 5 => ⟨S1x256x1152, .f32⟩
  | 6 => ⟨S1x128, .f32⟩
  | 7 => ⟨S1x128x1536, .f32⟩
  | 8 => ⟨S4096x16, .f32⟩
  | 9 => ⟨S4096x16, .f32⟩
  | 10 => ⟨S8x9x1024, .f32⟩
  | 11 => ⟨S8x1x9x1024, .f32⟩
  | 12 => ⟨S8x1x1x1024, .f32⟩
  | 13 => ⟨S8x1x1024, .f32⟩
  | 14 => ⟨S8x1x1x1024, .f32⟩
  | 15 => ⟨S8x1x1024, .f32⟩
  | 16 => ⟨S8x1x1x1024, .f32⟩
  | 17 => ⟨S8x1x1024, .f32⟩
  | 18 => ⟨S8x1x1x1024, .f32⟩
  | 19 => ⟨S8x1x1024, .f32⟩
  | 20 => ⟨S8x1x1x1024, .f32⟩
  | 21 => ⟨S8x1x1024, .f32⟩
  | 22 => ⟨S8x1x1x1024, .f32⟩
  | 23 => ⟨S8x1x1024, .f32⟩
  | 24 => ⟨S8x1x1x1024, .f32⟩
  | 25 => ⟨S8x1x1024, .f32⟩
  | 26 => ⟨S8x1x1x1024, .f32⟩
  | 27 => ⟨S8x1x1024, .f32⟩
  | 28 => ⟨S8x1x1x1024, .f32⟩
  | 29 => ⟨S8x1x1024, .f32⟩
  | 30 => ⟨S1024, .f32⟩
  | 31 => ⟨S8x4096x1024, .f32⟩
  | 32 => ⟨S_, .f32⟩
  | 33 => ⟨S8x4096, .f32⟩
  | 34 => ⟨S8x4096x1, .f32⟩
  | 35 => ⟨S_, .f32⟩
  | 36 => ⟨S8x4096x1, .f32⟩
  | 37 => ⟨S8x4096x1, .f32⟩
  | 38 => ⟨S_, .f32⟩
  | 39 => ⟨S8x4096x1, .f32⟩
  | 40 => ⟨S8x4096x1, .f32⟩
  | 41 => ⟨S8x4096x1, .f32⟩
  | 42 => ⟨S8x4096x1024, .f32⟩
  | 43 => ⟨S8x4096x1024, .f32⟩
  | 44 => ⟨S1x1x1024, .f32⟩
  | 45 => ⟨S8x4096x1024, .f32⟩
  | 46 => ⟨S8x4096x1024, .f32⟩
  | 47 => ⟨S_, .f32⟩
  | 48 => ⟨S8x1x1024, .f32⟩
  | 49 => ⟨S8x1x1024, .f32⟩
  | 50 => ⟨S8x4096x1024, .f32⟩
  | 51 => ⟨S8x4096x1024, .f32⟩
  | 52 => ⟨S8x4096x1024, .f32⟩
  | 53 => ⟨S8x4096x1024, .f32⟩
  | 54 => ⟨S1024x672, .f32⟩
  | 55 => ⟨S256, .f32⟩
  | 56 => ⟨S256x1152, .f32⟩
  | 57 => ⟨S128, .f32⟩
  | 58 => ⟨S128x1536, .f32⟩
  | 59 => ⟨S8x4096x672, .f32⟩
  | 60 => ⟨S8x4096x256, .f32⟩
  | 61 => ⟨S8x4096x128, .f32⟩
  | 62 => ⟨S8x4096x32, .f32⟩
  | 63 => ⟨S8x4096x256, .f32⟩
  | 64 => ⟨S8x4096x256, .f32⟩
  | 65 => ⟨S_, .f32⟩
  | 66 => ⟨S8x4096, .f32⟩
  | 67 => ⟨S8x4096x1, .f32⟩
  | 68 => ⟨S_, .f32⟩
  | 69 => ⟨S8x4096x1, .f32⟩
  | 70 => ⟨S8x4096x1, .f32⟩
  | 71 => ⟨S_, .f32⟩
  | 72 => ⟨S8x4096x1, .f32⟩
  | 73 => ⟨S8x4096x1, .f32⟩
  | 74 => ⟨S8x4096x1, .f32⟩
  | 75 => ⟨S8x4096x256, .f32⟩
  | 76 => ⟨S8x4096x256, .f32⟩
  | 77 => ⟨S1x1x256, .f32⟩
  | 78 => ⟨S8x4096x256, .f32⟩
  | 79 => ⟨S8x4096x256, .f32⟩
  | 80 => ⟨S8x4096x1152, .f32⟩
  | 81 => ⟨S8x4096x12x96, .f32⟩
  | 82 => ⟨S8x4096x128, .f32⟩
  | 83 => ⟨S_, .f32⟩
  | 84 => ⟨S8x4096, .f32⟩
  | 85 => ⟨S8x4096x1, .f32⟩
  | 86 => ⟨S_, .f32⟩
  | 87 => ⟨S8x4096x1, .f32⟩
  | 88 => ⟨S8x4096x1, .f32⟩
  | 89 => ⟨S_, .f32⟩
  | 90 => ⟨S8x4096x1, .f32⟩
  | 91 => ⟨S8x4096x1, .f32⟩
  | 92 => ⟨S8x4096x1, .f32⟩
  | 93 => ⟨S8x4096x128, .f32⟩
  | 94 => ⟨S8x4096x128, .f32⟩
  | 95 => ⟨S1x1x128, .f32⟩
  | 96 => ⟨S8x4096x128, .f32⟩
  | 97 => ⟨S8x4096x128, .f32⟩
  | 98 => ⟨S8x4096x1536, .f32⟩
  | 99 => ⟨S8x4096x12x128, .f32⟩
  | 100 => ⟨S8x4096x12x64, .f32⟩
  | 101 => ⟨S8x4096x12x32, .f32⟩
  | 102 => ⟨S8x4096x12x64, .f32⟩
  | 103 => ⟨S8x4096x12x64, .f32⟩
  | 104 => ⟨S4096x1x16, .f32⟩
  | 105 => ⟨S4096x1x16, .f32⟩
  | 106 => ⟨S8x4096x12x16x2, .f32⟩
  | 107 => ⟨S8x4096x12x16x1, .f32⟩
  | 108 => ⟨S8x4096x12x16, .f32⟩
  | 109 => ⟨S8x4096x12x16x1, .f32⟩
  | 110 => ⟨S8x4096x12x16, .f32⟩
  | 111 => ⟨S1x4096x1x16, .f32⟩
  | 112 => ⟨S8x4096x12x16, .f32⟩
  | 113 => ⟨S8x4096x12x16, .f32⟩
  | 114 => ⟨S1x4096x1x16, .f32⟩
  | 115 => ⟨S8x4096x12x16, .f32⟩
  | 116 => ⟨S8x4096x12x16, .f32⟩
  | 117 => ⟨S8x4096x12x16, .f32⟩
  | 118 => ⟨S1x4096x1x16, .f32⟩
  | 119 => ⟨S8x4096x12x16, .f32⟩
  | 120 => ⟨S8x4096x12x16, .f32⟩
  | 121 => ⟨S1x4096x1x16, .f32⟩
  | 122 => ⟨S8x4096x12x16, .f32⟩
  | 123 => ⟨S8x4096x12x16, .f32⟩
  | 124 => ⟨S8x4096x12x16, .f32⟩
  | 125 => ⟨S8x4096x12x16x1, .f32⟩
  | 126 => ⟨S8x4096x12x16x1, .f32⟩
  | 127 => ⟨S8x4096x12x16x2, .f32⟩
  | _ => ⟨S8x4096x1024, .f32⟩

abbrev hbmTy0_1 (i : Nat) : BufTy := match i % 128 with
  | 0 => ⟨S8x4096x12x32, .f32⟩
  | 1 => ⟨S8x4096x16x2, .f32⟩
  | 2 => ⟨S8x4096x16x1, .f32⟩
  | 3 => ⟨S8x4096x16, .f32⟩
  | 4 => ⟨S8x4096x16x1, .f32⟩
  | 5 => ⟨S8x4096x16, .f32⟩
  | 6 => ⟨S1x4096x16, .f32⟩
  | 7 => ⟨S8x4096x16, .f32⟩
  | 8 => ⟨S8x4096x16, .f32⟩
  | 9 => ⟨S1x4096x16, .f32⟩
  | 10 => ⟨S8x4096x16, .f32⟩
  | 11 => ⟨S8x4096x16, .f32⟩
  | 12 => ⟨S8x4096x16, .f32⟩
  | 13 => ⟨S1x4096x16, .f32⟩
  | 14 => ⟨S8x4096x16, .f32⟩
  | 15 => ⟨S8x4096x16, .f32⟩
  | 16 => ⟨S1x4096x16, .f32⟩
  | 17 => ⟨S8x4096x16, .f32⟩
  | 18 => ⟨S8x4096x16, .f32⟩
  | 19 => ⟨S8x4096x16, .f32⟩
  | 20 => ⟨S8x4096x16x1, .f32⟩
  | 21 => ⟨S8x4096x16x1, .f32⟩
  | 22 => ⟨S8x4096x16x2, .f32⟩
  | 23 => ⟨S8x4096x32, .f32⟩
  | 24 => ⟨S8x4096x1x32, .f32⟩
  | 25 => ⟨S8x4096x12x32, .f32⟩
  | 26 => ⟨S_, .f32⟩
  | 27 => ⟨S8x4096x12x32, .f32⟩
  | 28 => ⟨S8x4096x12x128, .f32⟩
  | 29 => ⟨S_, .f32⟩
  | 30 => ⟨S8x4096x12x128, .f32⟩
  | 31 => ⟨S8x4096x12x128, .f32⟩
  | 32 => ⟨S8x4096x12x128, .f32⟩
  | 33 => ⟨S8x4096x1536, .f32⟩
  | 34 => ⟨S8x4096x1536, .bf16⟩
  | 35 => ⟨S8x4096x1536, .f32⟩
  | 36 => ⟨S8x4096x1536, .bf16⟩
  | 37 => ⟨S8x4096x768, .f32⟩
  | 38 => ⟨S8x4096x768, .bf16⟩
  | 39 => ⟨S4096x8x256, .f32⟩
  | 40 => ⟨S4096x2048, .f32⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst : Ref sig .tc := ⟨.hbm, 32, rfl⟩
abbrev main_v22 : Ref sig .tc := ⟨.hbm, 33, rfl⟩
abbrev main_v23 : Ref sig .tc := ⟨.hbm, 34, rfl⟩
abbrev main_cst_0 : Ref sig .tc := ⟨.hbm, 35, rfl⟩
abbrev main_v24 : Ref sig .tc := ⟨.hbm, 36, rfl⟩
abbrev main_v25 : Ref sig .tc := ⟨.hbm, 37, rfl⟩
abbrev main_cst_1 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_2 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_cst_3 : Ref sig .tc := ⟨.hbm, 65, rfl⟩
abbrev main_v51 : Ref sig .tc := ⟨.hbm, 66, rfl⟩
abbrev main_v52 : Ref sig .tc := ⟨.hbm, 67, rfl⟩
abbrev main_cst_4 : Ref sig .tc := ⟨.hbm, 68, rfl⟩
abbrev main_v53 : Ref sig .tc := ⟨.hbm, 69, rfl⟩
abbrev main_v54 : Ref sig .tc := ⟨.hbm, 70, rfl⟩
abbrev main_cst_5 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_cst_6 : Ref sig .tc := ⟨.hbm, 83, rfl⟩
abbrev main_v66 : Ref sig .tc := ⟨.hbm, 84, rfl⟩
abbrev main_v67 : Ref sig .tc := ⟨.hbm, 85, rfl⟩
abbrev main_cst_7 : Ref sig .tc := ⟨.hbm, 86, rfl⟩
abbrev main_v68 : Ref sig .tc := ⟨.hbm, 87, rfl⟩
abbrev main_v69 : Ref sig .tc := ⟨.hbm, 88, rfl⟩
abbrev main_cst_8 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩
abbrev main_v124 : Ref sig .tc := ⟨.hbm, 144, rfl⟩
abbrev main_v125 : Ref sig .tc := ⟨.hbm, 145, rfl⟩
abbrev main_v126 : Ref sig .tc := ⟨.hbm, 146, rfl⟩
abbrev main_v127 : Ref sig .tc := ⟨.hbm, 147, rfl⟩
abbrev main_v128 : Ref sig .tc := ⟨.hbm, 148, rfl⟩
abbrev main_v129 : Ref sig .tc := ⟨.hbm, 149, rfl⟩
abbrev main_v130 : Ref sig .tc := ⟨.hbm, 150, rfl⟩
abbrev main_v131 : Ref sig .tc := ⟨.hbm, 151, rfl⟩
abbrev main_v132 : Ref sig .tc := ⟨.hbm, 152, rfl⟩
abbrev main_v133 : Ref sig .tc := ⟨.hbm, 153, rfl⟩
abbrev main_cst_9 : Ref sig .tc := ⟨.hbm, 154, rfl⟩
abbrev main_v134 : Ref sig .tc := ⟨.hbm, 155, rfl⟩
abbrev main_v135 : Ref sig .tc := ⟨.hbm, 156, rfl⟩
abbrev main_cst_10 : Ref sig .tc := ⟨.hbm, 157, rfl⟩
abbrev main_v136 : Ref sig .tc := ⟨.hbm, 158, rfl⟩
abbrev main_v137 : Ref sig .tc := ⟨.hbm, 159, rfl⟩
abbrev main_v138 : Ref sig .tc := ⟨.hbm, 160, rfl⟩
abbrev main_v139 : Ref sig .tc := ⟨.hbm, 161, rfl⟩
abbrev main_v140 : Ref sig .tc := ⟨.hbm, 162, rfl⟩
abbrev main_v141 : Ref sig .tc := ⟨.hbm, 163, rfl⟩
abbrev main_v142 : Ref sig .tc := ⟨.hbm, 164, rfl⟩
abbrev main_v143 : Ref sig .tc := ⟨.hbm, 165, rfl⟩
abbrev main_v144 : Ref sig .tc := ⟨.hbm, 166, rfl⟩
abbrev main_v145 : Ref sig .tc := ⟨.hbm, 167, rfl⟩
abbrev main_v146 : Ref sig .tc := ⟨.hbm, 168, rfl⟩

abbrev nD : Nat := 1
abbrev τ : Topo := Topo.v7x

variable {F : FTy → Type} [FloatOps F]
-- ==== FfnCtx.lean ====
abbrev S8x256x1024 : Shape := ⟨3, ![8, 256, 1024]⟩
abbrev S16x9x1024 : Shape := ⟨3, ![16, 9, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1x2048x1024 : Shape := ⟨3, ![1, 2048, 1024]⟩
abbrev S1024x5632 : Shape := ⟨2, ![1024, 5632]⟩
abbrev S2816x1024 : Shape := ⟨2, ![2816, 1024]⟩
abbrev S1x512x1024 : Shape := ⟨3, ![1, 512, 1024]⟩
abbrev S1x9x1024 : Shape := ⟨3, ![1, 9, 1024]⟩
abbrev S512x1024 : Shape := ⟨2, ![512, 1024]⟩
abbrev S9x1024 : Shape := ⟨2, ![9, 1024]⟩
abbrev S512 : Shape := ⟨1, ![512]⟩
abbrev S512x1 : Shape := ⟨2, ![512, 1]⟩
abbrev S1024x1536 : Shape := ⟨2, ![1024, 1536]⟩
abbrev S512x1536 : Shape := ⟨2, ![512, 1536]⟩
abbrev S1536x1024 : Shape := ⟨2, ![1536, 1024]⟩
abbrev S1024x1280 : Shape := ⟨2, ![1024, 1280]⟩
abbrev S512x1280 : Shape := ⟨2, ![512, 1280]⟩
abbrev S1280x1024 : Shape := ⟨2, ![1280, 1024]⟩

abbrev nBuf : Space → Nat
  | .hbm => 11
  | .vmem => 8
  | .smem => 0
  | _ => 0

abbrev bufTy : (tb : Table) → Fin (tcTables nBuf tb) → BufTy
  | .hbm, ⟨0, _⟩ => ⟨S8x256x1024, .f32⟩
  | .hbm, ⟨1, _⟩ => ⟨S16x9x1024, .f32⟩
  | .hbm, ⟨2, _⟩ => ⟨S1x1024, .f32⟩
  | .hbm, ⟨3, _⟩ => ⟨S1x1024x5632, .f32⟩
  | .hbm, ⟨4, _⟩ => ⟨S1x2816x1024, .f32⟩
  | .hbm, ⟨5, _⟩ => ⟨S1x2048x1024, .f32⟩
  | .hbm, ⟨6, _⟩ => ⟨S1024x5632, .f32⟩
  | .hbm, ⟨7, _⟩ => ⟨S1024x5632, .bf16⟩
  | .hbm, ⟨8, _⟩ => ⟨S2816x1024, .f32⟩
  | .hbm, ⟨9, _⟩ => ⟨S2816x1024, .bf16⟩
  | .hbm, ⟨10, _⟩ => ⟨S1x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x9x1024, .f32⟩
  | .local _ .vmem, ⟨3, _⟩ => ⟨S1x1024, .f32⟩
  | .local _ .vmem, ⟨4, _⟩ => ⟨S1024x5632, .bf16⟩
  | .local _ .vmem, ⟨5, _⟩ => ⟨S2816x1024, .bf16⟩
  | .local _ .vmem, ⟨6, _⟩ => ⟨S1x512x1024, .f32⟩
  | .local _ .vmem, ⟨7, _⟩ => ⟨S1x512x1024, .f32⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![1, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let c0_i32 : BitVec 32 := 0#32
  let c0_i32_0 : BitVec 32 := 0#32
  let c0_i32_1 : BitVec 32 := 0#32
  ![c8_i32.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x9x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FfnCtxReferenceIdeal.lean ====
abbrev S8x256x1024 : Shape := ⟨3, ![8, 256, 1024]⟩
abbrev S16x9x1024 : Shape := ⟨3, ![16, 9, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1x9x1024 : Shape := ⟨3, ![1, 9, 1024]⟩
abbrev S9x1024 : Shape := ⟨2, ![9, 1024]⟩
abbrev S1x1x9x1024 : Shape := ⟨4, ![1, 1, 9, 1024]⟩
abbrev S1x1x1x1024 : Shape := ⟨4, ![1, 1, 1, 1024]⟩
abbrev S1x1x1024 : Shape := ⟨3, ![1, 1, 1024]⟩
abbrev S_ : Shape := ⟨0, ![]⟩
abbrev S1024 : Shape := ⟨1, ![1024]⟩
abbrev S8x256 : Shape := ⟨2, ![8, 256]⟩
abbrev S8x256x1 : Shape := ⟨3, ![8, 256, 1]⟩
abbrev S1024x5632 : Shape := ⟨2, ![1024, 5632]⟩
abbrev S2816x1024 : Shape := ⟨2, ![2816, 1024]⟩
abbrev S8x256x5632 : Shape := ⟨3, ![8, 256, 5632]⟩
abbrev S8x256x2816 : Shape := ⟨3, ![8, 256, 2816]⟩
abbrev S1x2048x1024 : Shape := ⟨3, ![1, 2048, 1024]⟩

abbrev nBuf : Space → Nat
  | .hbm => 73
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S16x9x1024, .f32⟩
  | .hbm, ⟨2, _⟩ => ⟨S1x1024, .f32⟩
  | .hbm, ⟨3, _⟩ => ⟨S1x1024x5632, .f32⟩
  | .hbm, ⟨4, _⟩ => ⟨S1x2816x1024, .f32⟩
  | .hbm, ⟨5, _⟩ => ⟨S1x9x1024, .f32⟩
  | .hbm, ⟨6, _⟩ => ⟨S9x1024, .f32⟩
  | .hbm, ⟨7, _⟩ => ⟨S1x1x9x1024, .f32⟩
  | .hbm, ⟨8, _⟩ => ⟨S1x1x1x1024, .f32⟩
  | .hbm, ⟨9, _⟩ => ⟨S1x1x1024, .f32⟩
  | .hbm, ⟨10, _⟩ => ⟨S1x1x1x1024, .f32⟩
  | .hbm, ⟨11, _⟩ => ⟨S1x1x1024, .f32⟩
  | .hbm, ⟨12, _⟩ => ⟨S1x1x1x1024, .f32⟩
  | .hbm, ⟨13, _⟩ => ⟨S1x1x1024, .f32⟩
  | .hbm, ⟨14, _⟩ => ⟨S1x1x1x1024, .f32⟩
  | .hbm, ⟨15, _⟩ => ⟨S1x1x1024, .f32⟩
  | .hbm, ⟨16, _⟩ => ⟨S1x1x1x1024, .f32⟩
  | .hbm, ⟨17, _⟩ => ⟨S1x1x1024, .f32⟩
  | .hbm, ⟨18, _⟩ => ⟨S1x1x1x1024, .f32⟩
  | .hbm, ⟨19, _⟩ => ⟨S1x1x1024, .f32⟩
  | .hbm, ⟨20, _⟩ => ⟨S1x1x1x1024, .f32⟩
  | .hbm, ⟨21, _⟩ => ⟨S1x1x1024, .f32⟩
  | .hbm, ⟨22, _⟩ => ⟨S1x1x1x1024, .f32⟩
  | .hbm, ⟨23, _⟩ => ⟨S1x1x1024, .f32⟩
  | .hbm, ⟨24, _⟩ => ⟨S1x1x1x1024, .f32⟩
  | .hbm, ⟨25, _⟩ => ⟨S1x1x1024, .f32⟩
  | .hbm, ⟨26, _⟩ => ⟨S_, .f32⟩
  | .hbm, ⟨27, _⟩ => ⟨S1x1x1024, .f32⟩
  | .hbm, ⟨28, _⟩ => ⟨S1x1x1024, .f32⟩
  | .hbm, ⟨29, _⟩ => ⟨S1024, .f32⟩
  | .hbm, ⟨30, _⟩ => ⟨S8x256x1024, .f32⟩
  | .hbm, ⟨31, _⟩ => ⟨S_, .f32⟩
  | .hbm, ⟨32, _⟩ => ⟨S8x256, .f32⟩
  | .hbm, ⟨33, _⟩ => ⟨S8x256x1, .f32⟩
  | .hbm, ⟨34, _⟩ => ⟨S_, .f32⟩
  | .hbm, ⟨35, _⟩ => ⟨S8x256x1, .f32⟩
  | .hbm, ⟨36, _⟩ => ⟨S8x256x1, .f32⟩
  | .hbm, ⟨37, _⟩ => ⟨S_, .f32⟩
  | .hbm, ⟨38, _⟩ => ⟨S8x256x1, .f32⟩
  | .hbm, ⟨39, _⟩ => ⟨S8x256x1, .f32⟩
  | .hbm, ⟨40, _⟩ => ⟨S8x256x1, .f32⟩
  | .hbm, ⟨41, _⟩ => ⟨S8x256x1024, .f32⟩
  | .hbm, ⟨42, _⟩ => ⟨S8x256x1024, .f32⟩
  | .hbm, ⟨43, _⟩ => ⟨S1x1x1024, .f32⟩
  | .hbm, ⟨44, _⟩ => ⟨S8x256x1024, .f32⟩
  | .hbm, ⟨45, _⟩ => ⟨S8x256x1024, .f32⟩
  | .hbm, ⟨46, _⟩ => ⟨S_, .f32⟩
  | .hbm, ⟨47, _⟩ => ⟨S1x1x1024, .f32⟩
  | .hbm, ⟨48, _⟩ => ⟨S1x1x1024, .f32⟩
  | .hbm, ⟨49, _⟩ => ⟨S8x256x1024, .f32⟩
  | .hbm, ⟨50, _⟩ => ⟨S8x256x1024, .f32⟩
  | .hbm, ⟨51, _⟩ => ⟨S8x256x1024, .f32⟩
  | .hbm, ⟨52, _⟩ => ⟨S8x256x1024, .f32⟩
  | .hbm, ⟨53, _⟩ => ⟨S1024x5632, .f32⟩
  | .hbm, ⟨54, _⟩ => ⟨S2816x1024, .f32⟩
  | .hbm, ⟨55, _⟩ => ⟨S8x256x5632, .f32⟩
  | .hbm, ⟨56, _⟩ => ⟨S8x256x2816, .f32⟩
  | .hbm, ⟨57, _⟩ => ⟨S8x256x2816, .f32⟩
  | .hbm, ⟨58, _⟩ => ⟨S8x256x2816, .f32⟩
  | .hbm, ⟨59, _⟩ => ⟨S8x256x2816, .f32⟩
  | .hbm, ⟨60, _⟩ => ⟨S_, .f32⟩
  | .hbm, ⟨61, _⟩ => ⟨S8x256x2816, .f32⟩
  | .hbm, ⟨62, _⟩ => ⟨S8x256x2816, .f32⟩
  | .hbm, ⟨63, _⟩ => ⟨S_, .f32⟩
  | .hbm, ⟨64, _⟩ => ⟨S8x256x2816, .f32⟩
  | .hbm, ⟨65, _⟩ => ⟨S8x256x2816, .f32⟩
  | .hbm, ⟨66, _⟩ => ⟨S8x256x2816, .f32⟩
  | .hbm, ⟨67, _⟩ => ⟨S8x256x2816, .f32⟩
  | .hbm, ⟨68, _⟩ => ⟨S8x256x1024, .f32⟩
  | .hbm, ⟨69, _⟩ => ⟨S8x256x1024, .f32⟩
  | .hbm, ⟨70, _⟩ => ⟨S8x256x1024, .f32⟩
  | .hbm, ⟨71, _⟩ => ⟨S8x256x1024, .f32⟩
  | .hbm, ⟨72, _⟩ => ⟨S1x2048x1024, .f32⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_0 : Ref sig .tc := ⟨.hbm, 31, rfl⟩
abbrev main_v25 : Ref sig .tc := ⟨.hbm, 32, rfl⟩
abbrev main_v26 : Ref sig .tc := ⟨.hbm, 33, rfl⟩
abbrev main_cst_1 : Ref sig .tc := ⟨.hbm, 34, rfl⟩
abbrev main_v27 : Ref sig .tc := ⟨.hbm, 35, rfl⟩
abbrev main_v28 : Ref sig .tc := ⟨.hbm, 36, rfl⟩
abbrev main_cst_2 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_cst_3 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_call0_v0 : Ref sig .tc := ⟨.hbm, 58, rfl⟩
abbrev main_call0_v1 : Ref sig .tc := ⟨.hbm, 59, rfl⟩
abbrev main_call0_cst : Ref sig .tc := ⟨.hbm, 60, rfl⟩
abbrev main_call0_v2 : Ref sig .tc := ⟨.hbm, 61, rfl⟩
abbrev main_call0_v3 : Ref sig .tc := ⟨.hbm, 62, rfl⟩
abbrev main_call0_cst_0 : Ref sig .tc := ⟨.hbm, 63, rfl⟩
abbrev main_call0_v4 : Ref sig .tc := ⟨.hbm, 64, rfl⟩
abbrev main_call0_v5 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩

abbrev nD : Nat := 1
abbrev τ : Topo := Topo.v7x

variable {F : FTy → Type} [FloatOps F]
-- ==== ProjCtx.lean ====
abbrev S8x256x1024 : Shape := ⟨3, ![8, 256, 1024]⟩
abbrev S16x9x1024 : Shape := ⟨3, ![16, 9, 1024]⟩
abbrev S1x1024 : Shape := ⟨2, ![1, 1024]⟩
abbrev S1x1024x672 : Shape := ⟨3, ![1, 1024, 672]⟩
abbrev S1x256 : Shape := ⟨2, ![1, 256]⟩
abbrev S1x256x1152 : Shape := ⟨3, ![1, 256, 1152]⟩
abbrev S1x128 : Shape := ⟨2, ![1, 128]⟩
abbrev S1x128x1536 : Shape := ⟨3, ![1, 128, 1536]⟩
abbrev S1024x672 : Shape := ⟨2, ![1024, 672]⟩
abbrev S1024x32 : Shape := ⟨2, ![1024, 32]⟩
abbrev S_ : Shape := ⟨0, ![]⟩
abbrev S1024x64 : Shape := ⟨2, ![1024, 64]⟩
abbrev S1024x384 : Shape := ⟨2, ![1024, 384]⟩
abbrev S1024x16x2 : Shape := ⟨3, ![1024, 16, 2]⟩
abbrev S1024x16x1 : Shape := ⟨3, ![1024, 16, 1]⟩
abbrev S1024x16 : Shape := ⟨2, ![1024, 16]⟩
abbrev S1024x256 : Shape := ⟨2, ![1024, 256]⟩
abbrev S1024x896 : Shape := ⟨2, ![1024, 896]⟩
abbrev S256x12x96 : Shape := ⟨3, ![256, 12, 96]⟩
abbrev S256x12x64 : Shape := ⟨3, ![256, 12, 64]⟩
abbrev S256x12x32 : Shape := ⟨3, ![256, 12, 32]⟩
abbrev S256x384 : Shape := ⟨2, ![256, 384]⟩
abbrev S256x192x2 : Shape := ⟨3, ![256, 192, 2]⟩
abbrev S256x192x1 : Shape := ⟨3, ![256, 192, 1]⟩
abbrev S256x192 : Shape := ⟨2, ![256, 192]⟩
abbrev S256x12x128 : Shape := ⟨3, ![256, 12, 128]⟩
abbrev S256x1536 : Shape := ⟨2, ![256, 1536]⟩
abbrev S256x3072 : Shape := ⟨2, ![256, 3072]⟩
abbrev S128x12x128 : Shape := ⟨3, ![128, 12, 128]⟩
abbrev S128x12x64 : Shape := ⟨3, ![128, 12, 64]⟩
abbrev S128x12x32 : Shape := ⟨3, ![128, 12, 32]⟩
abbrev S128x1536 : Shape := ⟨2, ![128, 1536]⟩
abbrev S128x768 : Shape := ⟨2, ![128, 768]⟩
abbrev S128x2304 : Shape := ⟨2, ![128, 2304]⟩
abbrev S256x32 : Shape := ⟨2, ![256, 32]⟩
abbrev S256x64 : Shape := ⟨2, ![256, 64]⟩
abbrev S256x128 : Shape := ⟨2, ![256, 128]⟩
abbrev S8x256x1536 : Shape := ⟨3, ![8, 256, 1536]⟩
abbrev S8x256x768 : Shape := ⟨3, ![8, 256, 768]⟩
abbrev S256x2048 : Shape := ⟨2, ![256, 2048]⟩
abbrev S1x256x1024 : Shape := ⟨3, ![1, 256, 1024]⟩
abbrev S1x9x1024 : Shape := ⟨3, ![1, 9, 1024]⟩
abbrev S1x256x1536 : Shape := ⟨3, ![1, 256, 1536]⟩
abbrev S1x256x768 : Shape := ⟨3, ![1, 256, 768]⟩
abbrev S256x256 : Shape := ⟨2, ![256, 256]⟩
abbrev S256x1024 : Shape := ⟨2, ![256, 1024]⟩
abbrev S9x1024 : Shape := ⟨2, ![9, 1024]⟩
abbrev S256 : Shape := ⟨1, ![256]⟩
abbrev S256x1 : Shape := ⟨2, ![256, 1]⟩
abbrev S256x896 : Shape := ⟨2, ![256, 896]⟩
abbrev S256x2304 : Shape := ⟨2, ![256, 2304]⟩
abbrev S1x256x128 : Shape := ⟨3, ![1, 256, 128]⟩
abbrev S256x768 : Shape := ⟨2, ![256, 768]⟩

abbrev nBuf : Space → Nat
  | .hbm => 90
  | .vmem => 19
  | .smem => 0
  | _ => 0

abbrev bufTy : (tb : Table) → Fin (tcTables nBuf tb) → BufTy
  | .hbm, ⟨0, _⟩ => ⟨S8x256x1024, .f32⟩
  | .hbm, ⟨1, _⟩ => ⟨S16x9x1024, .f32⟩
  | .hbm, ⟨2, _⟩ => ⟨S1x1024, .f32⟩
  | .hbm, ⟨3, _⟩ => ⟨S1x1024x672, .f32⟩
  | .hbm, ⟨4, _⟩ => ⟨S1x256, .f32⟩
  | .hbm, ⟨5, _⟩ => ⟨S1x256x1152, .f32⟩
  | .hbm, ⟨6, _⟩ => ⟨S1x128, .f32⟩
  | .hbm, ⟨7, _⟩ => ⟨S1x128x1536, .f32⟩
  | .hbm, ⟨8, _⟩ => ⟨S1024x672, .f32⟩
  | .hbm, ⟨9, _⟩ => ⟨S1024x32, .f32⟩
  | .hbm, ⟨10, _⟩ => ⟨S_, .f32⟩
  | .hbm, ⟨11, _⟩ => ⟨S1024x64, .f32⟩
  | .hbm, ⟨12, _⟩ => ⟨S_, .f32⟩
  | .hbm, ⟨13, _⟩ => ⟨S1024x32, .f32⟩
  | .hbm, ⟨14, _⟩ => ⟨S1024x384, .f32⟩
  | .hbm, ⟨15, _⟩ => ⟨S1024x16x2, .f32⟩
  | .hbm, ⟨16, _⟩ => ⟨S1024x16x1, .f32⟩
  | .hbm, ⟨17, _⟩ => ⟨S1024x16, .f32⟩
  | .hbm, ⟨18, _⟩ => ⟨S1024x16, .f32⟩
  | .hbm, ⟨19, _⟩ => ⟨S1024x16x1, .f32⟩
  | .hbm, ⟨20, _⟩ => ⟨S1024x16, .f32⟩
  | .hbm, ⟨21, _⟩ => ⟨S1024x16x1, .f32⟩
  | .hbm, ⟨22, _⟩ => ⟨S1024x16x1, .f32⟩
  | .hbm, ⟨23, _⟩ => ⟨S1024x16x2, .f32⟩
  | .hbm, ⟨24, _⟩ => ⟨S1024x32, .f32⟩
  | .hbm, ⟨25, _⟩ => ⟨S1024x256, .f32⟩
  | .hbm, ⟨26, _⟩ => ⟨S1024x896, .f32⟩
  | .hbm, ⟨27, _⟩ => ⟨S1024x896, .bf16⟩
  | .hbm, ⟨28, _⟩ => ⟨S256x12x96, .f32⟩
  | .hbm, ⟨29, _⟩ => ⟨S256x12x64, .f32⟩
  | .hbm, ⟨30, _⟩ => ⟨S256x12x32, .f32⟩
  | .hbm, ⟨31, _⟩ => ⟨S256x384, .f32⟩
  | .hbm, ⟨32, _⟩ => ⟨S256x192x2, .f32⟩
  | .hbm, ⟨33, _⟩ => ⟨S256x192x1, .f32⟩
  | .hbm, ⟨34, _⟩ => ⟨S256x192, .f32⟩
  | .hbm, ⟨35, _⟩ => ⟨S256x192, .f32⟩
  | .hbm, ⟨36, _⟩ => ⟨S256x192x1, .f32⟩
  | .hbm, ⟨37, _⟩ => ⟨S256x192, .f32⟩
  | .hbm, ⟨38, _⟩ => ⟨S256x192x1, .f32⟩
  | .hbm, ⟨39, _⟩ => ⟨S256x192x1, .f32⟩
  | .hbm, ⟨40, _⟩ => ⟨S256x192x2, .f32⟩
  | .hbm, ⟨41, _⟩ => ⟨S256x384, .f32⟩
  | .hbm, ⟨42, _⟩ => ⟨S256x12x32, .f32⟩
  | .hbm, ⟨43, _⟩ => ⟨S_, .f32⟩
  | .hbm, ⟨44, _⟩ => ⟨S256x12x32, .f32⟩
  | .hbm, ⟨45, _⟩ => ⟨S256x12x128, .f32⟩
  | .hbm, ⟨46, _⟩ => ⟨S256x1536, .f32⟩
  | .hbm, ⟨47, _⟩ => ⟨S_, .f32⟩
  | .hbm, ⟨48, _⟩ => ⟨S256x12x64, .f32⟩
  | .hbm, ⟨49, _⟩ => ⟨S_, .f32⟩
  | .hbm, ⟨50, _⟩ => ⟨S256x12x32, .f32⟩
  | .hbm, ⟨51, _⟩ => ⟨S256x12x128, .f32⟩
  | .hbm, ⟨52, _⟩ => ⟨S256x1536, .f32⟩
  | .hbm, ⟨53, _⟩ => ⟨S256x3072, .f32⟩
  | .hbm, ⟨54, _⟩ => ⟨S256x3072, .bf16⟩
  | .hbm, ⟨55, _⟩ => ⟨S128x12x128, .f32⟩
  | .hbm, ⟨56, _⟩ => ⟨S128x12x64, .f32⟩
  | .hbm, ⟨57, _⟩ => ⟨S_, .f32⟩
  | .hbm, ⟨58, _⟩ => ⟨S128x12x32, .f32⟩
  | .hbm, ⟨59, _⟩ => ⟨S_, .f32⟩
  | .hbm, ⟨60, _⟩ => ⟨S128x12x32, .f32⟩
  | .hbm, ⟨61, _⟩ => ⟨S128x12x128, .f32⟩
  | .hbm, ⟨62, _⟩ => ⟨S128x1536, .f32⟩
  | .hbm, ⟨63, _⟩ => ⟨S128x12x64, .f32⟩
  | .hbm, ⟨64, _⟩ => ⟨S128x768, .f32⟩
  | .hbm, ⟨65, _⟩ => ⟨S128x2304, .f32⟩
  | .hbm, ⟨66, _⟩ => ⟨S128x2304, .bf16⟩
  | .hbm, ⟨67, _⟩ => ⟨S_, .f32⟩
  | .hbm, ⟨68, _⟩ => ⟨S256x32, .f32⟩
  | .hbm, ⟨69, _⟩ => ⟨S_, .f32⟩
  | .hbm, ⟨70, _⟩ => ⟨S256x32, .f32⟩
  | .hbm, ⟨71, _⟩ => ⟨S_, .f32⟩
  | .hbm, ⟨72, _⟩ => ⟨S256x64, .f32⟩
  | .hbm, ⟨73, _⟩ => ⟨S_, .f32⟩
  | .hbm, ⟨74, _⟩ => ⟨S256x32, .f32⟩
  | .hbm, ⟨75, _⟩ => ⟨S256x128, .f32⟩
  | .hbm, ⟨76, _⟩ => ⟨S_, .f32⟩
  | .hbm, ⟨77, _⟩ => ⟨S256x64, .f32⟩
  | .hbm, ⟨78, _⟩ => ⟨S_, .f32⟩
  | .hbm, ⟨79, _⟩ => ⟨S256x32, .f32⟩
  | .hbm, ⟨80, _⟩ => ⟨S256x128, .f32⟩
  | .hbm, ⟨81, _⟩ => ⟨S_, .f32⟩
  | .hbm, ⟨82, _⟩ => ⟨S256x128, .f32⟩
  | .hbm, ⟨83, _⟩ => ⟨S256x128, .f32⟩
  | .hbm, ⟨84, _⟩ => ⟨S_, .f32⟩
  | .hbm, ⟨85, _⟩ => ⟨S256x128, .f32⟩
  | .hbm, ⟨86, _⟩ => ⟨S256x128, .f32⟩
  | .hbm, ⟨87, _⟩ => ⟨S8x256x1536, .bf16⟩
  | .hbm, ⟨88, _⟩ => ⟨S8x256x768, .bf16⟩
  | .hbm, ⟨89, _⟩ => ⟨S256x2048, .f32⟩
  | .local _ .vmem, ⟨0, _⟩ => ⟨S1x256x1024, .f32⟩
  | .local _ .vmem, ⟨1, _⟩ => ⟨S1x256x1024, .f32⟩
  | .local _ .vmem, ⟨2, _⟩ => ⟨S1x9x1024, .f32⟩
  | .local _ .vmem, ⟨3, _⟩ => ⟨S1x1024, .f32⟩
  | .local _ .vmem, ⟨4, _⟩ => ⟨S1024x896, .bf16⟩
  | .local _ .vmem, ⟨5, _⟩ => ⟨S1x256, .f32⟩
  | .local _ .vmem, ⟨6, _⟩ => ⟨S256x3072, .bf16⟩
  | .local _ .vmem, ⟨7, _⟩ => ⟨S1x128, .f32⟩
  | .local _ .vmem, ⟨8, _⟩ => ⟨S128x2304, .bf16⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S1x256x1536, .bf16⟩
  | .local _ .vmem, ⟨14, _⟩ => ⟨S1x256x1536, .bf16⟩
  | .local _ .vmem, ⟨15, _⟩ => ⟨S1x256x768, .bf16⟩
  | .local _ .vmem, ⟨16, _⟩ => ⟨S1x256x768, .bf16⟩
  | .local _ .vmem, ⟨17, _⟩ => ⟨S256x256, .f32⟩
  | .local _ .vmem, ⟨18, _⟩ => ⟨S256x256, .f32⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_1 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_2 : Ref sig .tc := ⟨.hbm, 47, rfl⟩
abbrev main_v36 : Ref sig .tc := ⟨.hbm, 48, rfl⟩
abbrev main_cst_3 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_4 : Ref sig .tc := ⟨.hbm, 57, rfl⟩
abbrev main_v44 : Ref sig .tc := ⟨.hbm, 58, rfl⟩
abbrev main_cst_5 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_cst_6 : Ref sig .tc := ⟨.hbm, 67, rfl⟩
abbrev main_v52 : Ref sig .tc := ⟨.hbm, 68, rfl⟩
abbrev main_cst_7 : Ref sig .tc := ⟨.hbm, 69, rfl⟩
abbrev main_v53 : Ref sig .tc := ⟨.hbm, 70, rfl⟩
abbrev main_cst_8 : Ref sig .tc := ⟨.hbm, 71, rfl⟩
abbrev main_v54 : Ref sig .tc := ⟨.hbm, 72, rfl⟩
abbrev main_cst_9 : Ref sig .tc := ⟨.hbm, 73, rfl⟩
abbrev main_v55 : Ref sig .tc := ⟨.hbm, 74, rfl⟩
abbrev main_v56 : Ref sig .tc := ⟨.hbm, 75, rfl⟩
abbrev main_cst_10 : Ref sig .tc := ⟨.hbm, 76, rfl⟩
abbrev main_v57 : Ref sig .tc := ⟨.hbm, 77, rfl⟩
abbrev main_cst_11 : Ref sig .tc := ⟨.hbm, 78, rfl⟩
abbrev main_v58 : Ref sig .tc := ⟨.hbm, 79, rfl⟩
abbrev main_v59 : Ref sig .tc := ⟨.hbm, 80, rfl⟩
abbrev main_cst_12 : Ref sig .tc := ⟨.hbm, 81, rfl⟩
abbrev main_v60 : Ref sig .tc := ⟨.hbm, 82, rfl⟩
abbrev main_v61 : Ref sig .tc := ⟨.hbm, 83, rfl⟩
abbrev main_cst_13 : Ref sig .tc := ⟨.hbm, 84, rfl⟩
abbrev main_v62 : Ref sig .tc := ⟨.hbm, 85, rfl⟩
abbrev main_v63 : Ref sig .tc := ⟨.hbm, 86, rfl⟩
abbrev main_v64_0 : Ref sig .tc := ⟨.hbm, 87, rfl⟩
abbrev main_v64_1 : Ref sig .tc := ⟨.hbm, 88, rfl⟩
abbrev main_v64_2 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg12_1 : Ref sig .tc := ⟨.vmem, 14, rfl⟩
abbrev cc0_stg13_0 : Ref sig .tc := ⟨.vmem, 15, rfl⟩
abbrev cc0_stg13_1 : Ref sig .tc := ⟨.vmem, 16, rfl⟩
abbrev cc0_stg14_0 : Ref sig .tc := ⟨.vmem, 17, rfl⟩
abbrev cc0_stg14_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem12_1 : DmaSem sig := 14
abbrev cc0_sem13_0 : DmaSem sig := 15
abbrev cc0_sem13_1 : DmaSem sig := 16
abbrev cc0_sem14_0 : DmaSem sig := 17
abbrev cc0_sem14_1 : DmaSem sig := 18

abbrev nD : Nat := 1
abbrev τ : Topo := Topo.v7x

variable {F : FTy → Type} [FloatOps F]

abbrev grid0 : Pipeline.Grid := ⟨2, ![8, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let c0_i32 : BitVec 32 := 0#32
  let c0_i32_0 : BitVec 32 := 0#32
  let c0_i32_1 : BitVec 32 := 0#32
  ![c8_i32.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x9x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x896 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x3072 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x2304 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, true]

abbrev stage0_9 : Fin 1 → Memref sig .tc .vmem S256x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, true]

abbrev stage0_10 : Fin 1 → Memref sig .tc .vmem S256x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, true]

abbrev stage0_11 : Fin 1 → Memref sig .tc .vmem S256x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, true]

abbrev stage0_12 : Fin 2 → Memref sig .tc .vmem S1x256x1536 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x256x768 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S256x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== ProjCtxReferenceIdeal.lean ====
abbrev S8x256x1024 : Shape := ⟨3, ![8, 256, 1024]⟩
abbrev S16x9x1024 : Shape := ⟨3, ![16, 9, 1024]⟩
abbrev S1x1024 : Shape := ⟨2, ![1, 1024]⟩
abbrev S1x1024x672 : Shape := ⟨3, ![1, 1024, 672]⟩
abbrev S1x256 : Shape := ⟨2, ![1, 256]⟩
abbrev S1x256x1152 : Shape := ⟨3, ![1, 256, 1152]⟩
abbrev S1x128 : Shape := ⟨2, ![1, 128]⟩
abbrev S1x128x1536 : Shape := ⟨3, ![1, 128, 1536]⟩
abbrev S1x9x1024 : Shape := ⟨3, ![1, 9, 1024]⟩
abbrev S9x1024 : Shape := ⟨2, ![9, 1024]⟩
abbrev S1x1x9x1024 : Shape := ⟨4, ![1, 1, 9, 1024]⟩
abbrev S1x1x1x1024 : Shape := ⟨4, ![1, 1, 1, 1024]⟩
abbrev S1x1x1024 : Shape := ⟨3, ![1, 1, 1024]⟩
abbrev S1024 : Shape := ⟨1, ![1024]⟩
abbrev S_ : Shape := ⟨0, ![]⟩
abbrev S8x256 : Shape := ⟨2, ![8, 256]⟩
abbrev S8x256x1 : Shape := ⟨3, ![8, 256, 1]⟩
abbrev S1024x672 : Shape := ⟨2, ![1024, 672]⟩
abbrev S256 : Shape := ⟨1, ![256]⟩
abbrev S256x1152 : Shape := ⟨2, ![256, 1152]⟩
abbrev S128 : Shape := ⟨1, ![128]⟩
abbrev S128x1536 : Shape := ⟨2, ![128, 1536]⟩
abbrev S8x256x672 : Shape := ⟨3, ![8, 256, 672]⟩
abbrev S8x256x256 : Shape := ⟨3, ![8, 256, 256]⟩
abbrev S8x256x128 : Shape := ⟨3, ![8, 256, 128]⟩
abbrev S8x256x32 : Shape := ⟨3, ![8, 256, 32]⟩
abbrev S1x1x256 : Shape := ⟨3, ![1, 1, 256]⟩
abbrev S8x256x1152 : Shape := ⟨3, ![8, 256, 1152]⟩
abbrev S8x256x12x96 : Shape := ⟨4, ![8, 256, 12, 96]⟩
abbrev S1x1x128 : Shape := ⟨3, ![1, 1, 128]⟩
abbrev S8x256x1536 : Shape := ⟨3, ![8, 256, 1536]⟩
abbrev S8x256x12x128 : Shape := ⟨4, ![8, 256, 12, 128]⟩
abbrev S8x256x12x64 : Shape := ⟨4, ![8, 256, 12, 64]⟩
abbrev S8x256x12x32 : Shape := ⟨4, ![8, 256, 12, 32]⟩
abbrev S8x256x1x32 : Shape := ⟨4, ![8, 256, 1, 32]⟩
abbrev S8x256x768 : Shape := ⟨3, ![8, 256, 768]⟩
abbrev S256x8x256 : Shape := ⟨3, ![256, 8, 256]⟩
abbrev S256x2048 : Shape := ⟨2, ![256, 2048]⟩

abbrev nBuf : Space → Nat
  | .hbm => 114
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S16x9x1024, .f32⟩
  | .hbm, ⟨2, _⟩ => ⟨S1x1024, .f32⟩
  | .hbm, ⟨3, _⟩ => ⟨S1x1024x672, .f32⟩
  | .hbm, ⟨4, _⟩ => ⟨S1x256, .f32⟩
  | .hbm, ⟨5, _⟩ => ⟨S1x256x1152, .f32⟩
  | .hbm, ⟨6, _⟩ => ⟨S1x128, .f32⟩
  | .hbm, ⟨7, _⟩ => ⟨S1x128x1536, .f32⟩
  | .hbm, ⟨8, _⟩ => ⟨S1x9x1024, .f32⟩
  | .hbm, ⟨9, _⟩ => ⟨S9x1024, .f32⟩
  | .hbm, ⟨10, _⟩ => ⟨S1x1x9x1024, .f32⟩
  | .hbm, ⟨11, _⟩ => ⟨S1x1x1x1024, .f32⟩
  | .hbm, ⟨12, _⟩ => ⟨S1x1x1024, .f32⟩
  | .hbm, ⟨13, _⟩ => ⟨S1x1x1x1024, .f32⟩
  | .hbm, ⟨14, _⟩ => ⟨S1x1x1024, .f32⟩
  | .hbm, ⟨15, _⟩ => ⟨S1x1x1x1024, .f32⟩
  | .hbm, ⟨16, _⟩ => ⟨S1x1x1024, .f32⟩
  | .hbm, ⟨17, _⟩ => ⟨S1x1x1x1024, .f32⟩
  | .hbm, ⟨18, _⟩ => ⟨S1x1x1024, .f32⟩
  | .hbm, ⟨19, _⟩ => ⟨S1x1x1x1024, .f32⟩
  | .hbm, ⟨20, _⟩ => ⟨S1x1x1024, .f32⟩
  | .hbm, ⟨21, _⟩ => ⟨S1x1x1x1024, .f32⟩
  | .hbm, ⟨22, _⟩ => ⟨S1x1x1024, .f32⟩
  | .hbm, ⟨23, _⟩ => ⟨S1x1x1x1024, .f32⟩
  | .hbm, ⟨24, _⟩ => ⟨S1x1x1024, .f32⟩
  | .hbm, ⟨25, _⟩ => ⟨S1x1x1x1024, .f32⟩
  | .hbm, ⟨26, _⟩ => ⟨S1x1x1024, .f32⟩
  | .hbm, ⟨27, _⟩ => ⟨S1x1x1x1024, .f32⟩
  | .hbm, ⟨28, _⟩ => ⟨S1x1x1024, .f32⟩
  | .hbm, ⟨29, _⟩ => ⟨S1024, .f32⟩
  | .hbm, ⟨30, _⟩ => ⟨S8x256x1024, .f32⟩
  | .hbm, ⟨31, _⟩ => ⟨S_, .f32⟩
  | .hbm, ⟨32, _⟩ => ⟨S8x256, .f32⟩
  | .hbm, ⟨33, _⟩ => ⟨S8x256x1, .f32⟩
  | .hbm, ⟨34, _⟩ => ⟨S_, .f32⟩
  | .hbm, ⟨35, _⟩ => ⟨S8x256x1, .f32⟩
  | .hbm, ⟨36, _⟩ => ⟨S8x256x1, .f32⟩
  | .hbm, ⟨37, _⟩ => ⟨S_, .f32⟩
  | .hbm, ⟨38, _⟩ => ⟨S8x256x1, .f32⟩
  | .hbm, ⟨39, _⟩ => ⟨S8x256x1, .f32⟩
  | .hbm, ⟨40, _⟩ => ⟨S8x256x1, .f32⟩
  | .hbm, ⟨41, _⟩ => ⟨S8x256x1024, .f32⟩
  | .hbm, ⟨42, _⟩ => ⟨S8x256x1024, .f32⟩
  | .hbm, ⟨43, _⟩ => ⟨S1x1x1024, .f32⟩
  | .hbm, ⟨44, _⟩ => ⟨S8x256x1024, .f32⟩
  | .hbm, ⟨45, _⟩ => ⟨S8x256x1024, .f32⟩
  | .hbm, ⟨46, _⟩ => ⟨S_, .f32⟩
  | .hbm, ⟨47, _⟩ => ⟨S1x1x1024, .f32⟩
  | .hbm, ⟨48, _⟩ => ⟨S1x1x1024, .f32⟩
  | .hbm, ⟨49, _⟩ => ⟨S8x256x1024, .f32⟩
  | .hbm, ⟨50, _⟩ => ⟨S8x256x1024, .f32⟩
  | .hbm, ⟨51, _⟩ => ⟨S8x256x1024, .f32⟩
  | .hbm, ⟨52, _⟩ => ⟨S8x256x1024, .f32⟩
  | .hbm, ⟨53, _⟩ => ⟨S1024x672, .f32⟩
  | .hbm, ⟨54, _⟩ => ⟨S256, .f32⟩
  | .hbm, ⟨55, _⟩ => ⟨S256x1152, .f32⟩
  | .hbm, ⟨56, _⟩ => ⟨S128, .f32⟩
  | .hbm, ⟨57, _⟩ => ⟨S128x1536, .f32⟩
  | .hbm, ⟨58, _⟩ => ⟨S8x256x672, .f32⟩
  | .hbm, ⟨59, _⟩ => ⟨S8x256x256, .f32⟩
  | .hbm, ⟨60, _⟩ => ⟨S8x256x128, .f32⟩
  | .hbm, ⟨61, _⟩ => ⟨S8x256x32, .f32⟩
  | .hbm, ⟨62, _⟩ => ⟨S8x256x256, .f32⟩
  | .hbm, ⟨63, _⟩ => ⟨S8x256x256, .f32⟩
  | .hbm, ⟨64, _⟩ => ⟨S_, .f32⟩
  | .hbm, ⟨65, _⟩ => ⟨S8x256, .f32⟩
  | .hbm, ⟨66, _⟩ => ⟨S8x256x1, .f32⟩
  | .hbm, ⟨67, _⟩ => ⟨S_, .f32⟩
  | .hbm, ⟨68, _⟩ => ⟨S8x256x1, .f32⟩
  | .hbm, ⟨69, _⟩ => ⟨S8x256x1, .f32⟩
  | .hbm, ⟨70, _⟩ => ⟨S_, .f32⟩
  | .hbm, ⟨71, _⟩ => ⟨S8x256x1, .f32⟩
  | .hbm, ⟨72, _⟩ => ⟨S8x256x1, .f32⟩
  | .hbm, ⟨73, _⟩ => ⟨S8x256x1, .f32⟩
  | .hbm, ⟨74, _⟩ => ⟨S8x256x256, .f32⟩
  | .hbm, ⟨75, _⟩ => ⟨S8x256x256, .f32⟩
  | .hbm, ⟨76, _⟩ => ⟨S1x1x256, .f32⟩
  | .hbm, ⟨77, _⟩ => ⟨S8x256x256, .f32⟩
  | .hbm, ⟨78, _⟩ => ⟨S8x256x256, .f32⟩
  | .hbm, ⟨79, _⟩ => ⟨S8x256x1152, .f32⟩
  | .hbm, ⟨80, _⟩ => ⟨S8x256x12x96, .f32⟩
  | .hbm, ⟨81, _⟩ => ⟨S8x256x128, .f32⟩
  | .hbm, ⟨82, _⟩ => ⟨S_, .f32⟩
  | .hbm, ⟨83, _⟩ => ⟨S8x256, .f32⟩
  | .hbm, ⟨84, _⟩ => ⟨S8x256x1, .f32⟩
  | .hbm, ⟨85, _⟩ => ⟨S_, .f32⟩
  | .hbm, ⟨86, _⟩ => ⟨S8x256x1, .f32⟩
  | .hbm, ⟨87, _⟩ => ⟨S8x256x1, .f32⟩
  | .hbm, ⟨88, _⟩ => ⟨S_, .f32⟩
  | .hbm, ⟨89, _⟩ => ⟨S8x256x1, .f32⟩
  | .hbm, ⟨90, _⟩ => ⟨S8x256x1, .f32⟩
  | .hbm, ⟨91, _⟩ => ⟨S8x256x1, .f32⟩
  | .hbm, ⟨92, _⟩ => ⟨S8x256x128, .f32⟩
  | .hbm, ⟨93, _⟩ => ⟨S8x256x128, .f32⟩
  | .hbm, ⟨94, _⟩ => ⟨S1x1x128, .f32⟩
  | .hbm, ⟨95, _⟩ => ⟨S8x256x128, .f32⟩
  | .hbm, ⟨96, _⟩ => ⟨S8x256x128, .f32⟩
  | .hbm, ⟨97, _⟩ => ⟨S8x256x1536, .f32⟩
  | .hbm, ⟨98, _⟩ => ⟨S8x256x12x128, .f32⟩
  | .hbm, ⟨99, _⟩ => ⟨S8x256x12x64, .f32⟩
  | .hbm, ⟨100, _⟩ => ⟨S8x256x12x32, .f32⟩
  | .hbm, ⟨101, _⟩ => ⟨S8x256x12x64, .f32⟩
  | .hbm, ⟨102, _⟩ => ⟨S8x256x12x64, .f32⟩
  | .hbm, ⟨103, _⟩ => ⟨S8x256x1x32, .f32⟩
  | .hbm, ⟨104, _⟩ => ⟨S8x256x12x32, .f32⟩
  | .hbm, ⟨105, _⟩ => ⟨S_, .f32⟩
  | .hbm, ⟨106, _⟩ => ⟨S8x256x12x32, .f32⟩
  | .hbm, ⟨107, _⟩ => ⟨S8x256x12x128, .f32⟩
  | .hbm, ⟨108, _⟩ => ⟨S8x256x1536, .f32⟩
  | .hbm, ⟨109, _⟩ => ⟨S8x256x1536, .bf16⟩
  | .hbm, ⟨110, _⟩ => ⟨S8x256x768, .f32⟩
  | .hbm, ⟨111, _⟩ => ⟨S8x256x768, .bf16⟩
  | .hbm, ⟨112, _⟩ => ⟨S256x8x256, .f32⟩
  | .hbm, ⟨113, _⟩ => ⟨S256x2048, .f32⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst : Ref sig .tc := ⟨.hbm, 31, rfl⟩
abbrev main_v23 : Ref sig .tc := ⟨.hbm, 32, rfl⟩
abbrev main_v24 : Ref sig .tc := ⟨.hbm, 33, rfl⟩
abbrev main_cst_0 : Ref sig .tc := ⟨.hbm, 34, rfl⟩
abbrev main_v25 : Ref sig .tc := ⟨.hbm, 35, rfl⟩
abbrev main_v26 : Ref sig .tc := ⟨.hbm, 36, rfl⟩
abbrev main_cst_1 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_2 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_cst_3 : Ref sig .tc := ⟨.hbm, 64, rfl⟩
abbrev main_v52 : Ref sig .tc := ⟨.hbm, 65, rfl⟩
abbrev main_v53 : Ref sig .tc := ⟨.hbm, 66, rfl⟩
abbrev main_cst_4 : Ref sig .tc := ⟨.hbm, 67, rfl⟩
abbrev main_v54 : Ref sig .tc := ⟨.hbm, 68, rfl⟩
abbrev main_v55 : Ref sig .tc := ⟨.hbm, 69, rfl⟩
abbrev main_cst_5 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_cst_6 : Ref sig .tc := ⟨.hbm, 82, rfl⟩
abbrev main_v67 : Ref sig .tc := ⟨.hbm, 83, rfl⟩
abbrev main_v68 : Ref sig .tc := ⟨.hbm, 84, rfl⟩
abbrev main_cst_7 : Ref sig .tc := ⟨.hbm, 85, rfl⟩
abbrev main_v69 : Ref sig .tc := ⟨.hbm, 86, rfl⟩
abbrev main_v70 : Ref sig .tc := ⟨.hbm, 87, rfl⟩
abbrev main_cst_8 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_cst_9 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩

abbrev nD : Nat := 1
abbrev τ : Topo := Topo.v7x

variable {F : FTy → Type} [FloatOps F]
-- ==== Proof.Adaln.Spec.lean ====
/-
  The modulation rows over the extended reals: `silu` of a conditioning row, times the weights, plus the bias.
-/
module

public import Idealize.ShloMosaic.Lib.Pointwise
public import Idealize.ShloMosaic.Lib.IdealHost
public import Idealize.ShloMosaic.PureOps.Ideal.Laws

@[expose] public section

noncomputable section

namespace Cert.Adaln

open Idealize.ShloMosaic

/-- The sixteen conditioning rows: eight batches, the context, and rows of zeros. -/
def condAt (x : Fin 8 → Fin 1024 → EReal) (ctx : Fin 1024 → EReal) (r : Fin 16) (e : Fin 1024) : EReal :=
  if h : r.val < 8 then x ⟨r.val, h⟩ e else if r.val < 9 then ctx e else 0

/-- Lane `d` of the modulation of a conditioning row `x`. -/
def modulateAt (x : Fin 1024 → EReal) (w : Fin 1024 → Fin 9216 → EReal) (bias : Fin 9216 → EReal) (d : Fin 9216) : EReal :=
  (∑ e : Fin 1024, x e * Ideal.logistic (x e) * w e d) + bias d

end Cert.Adaln
-- ==== Proof.Adaln.Reference.lean ====
/-
  The reference's modulation rows, element by element.
-/
module

public import proofs.«01_k».proof.Proof.Gen.AdalnReferenceIdeal.Read
public import proofs.«01_k».proof.Proof.Adaln.Spec
public import Idealize.ShloMosaic.Lib.Pointwise.Blocks

@[expose] public section

noncomputable section

namespace Cert.Adaln

open Idealize.ShloMosaic Idealize.ShloMosaic.TcCoe Cert.AdalnReferenceIdeal Cert.AdalnReferenceIdeal.Gen Cert.AdalnReferenceIdeal.Read

variable (x0 : S8x1024.Idx → EReal) (x1 : S1024.Idx → EReal) (x2 : S1x1024x9216.Idx → EReal) (x3 : S1x9216.Idx → EReal)

/-- The conditioning rows. -/
theorem cond_ref (r : Fin 16) (e : Fin 1024) :
    val_main_v2 (F := Ideal) x0 x1 (ix2 r e) = condAt (fun r e => x0 (ix2 r e)) (fun e => x1 (ix1 e)) r e := by
  unfold condAt
  split_ifs with h h'
  · pointwise [val_main_v2, val_main_v1, val_main_v0, val_main_cst]
    rw [dif_pos h]
  · pointwise [val_main_v2, val_main_v1, val_main_v0, val_main_cst]
    rw [dif_neg h, dif_pos (by omega)]
  · pointwise [val_main_v2, val_main_v1, val_main_v0, val_main_cst]
    rw [dif_neg h, dif_neg (by omega)]

/-- The result is the modulation of each conditioning row. -/
theorem reference_apply (r : Fin 16) (d : Fin 9216) :
    val_main_v9 (F := Ideal) x0 x1 x2 x3 (ix2 r d)
      = modulateAt (condAt (fun r e => x0 (ix2 r e)) (fun e => x1 (ix1 e)) r) (fun e d => x2 (ix3 0 e d)) (fun d => x3 (ix2 0 d)) d := by
  pointwise [val_main_v9, val_main_v8, val_main_v7, val_main_v6, val_main_v5, val_main_v4, val_main_v3, val_main_call0_v5,
    val_main_call0_v4, val_main_call0_v3, val_main_call0_v2, val_main_call0_v1, val_main_call0_v0, val_main_call0_cst,
    val_main_call0_cst_0]
  simp only [cond_ref]
  rfl

end Cert.Adaln
-- ==== Proof.Adaln.Array.lean ====
/-
  The modulation kernel's output array, element by element.

  Grid point `j` writes lanes `1024 j … 1024 j + 1023` of all sixteen rows, from the conditioning rows and those lanes
  of the weights and of the bias. The nine blocks tile the array.
-/
module

public import proofs.«01_k».proof.Proof.Gen.AdalnIdeal.Value
public import proofs.«01_k».proof.Proof.Adaln.Reference
public import Idealize.ShloMosaic.Lib.Claim
public import Idealize.ShloMosaic.Lib.StableHlo.RunRead

@[expose] public section

noncomputable section

namespace Cert.Adaln

open Idealize.ShloMosaic Idealize.ShloMosaic.TcCoe Cert.AdalnIdeal Cert.AdalnIdeal.Gen
open Idealize.ShloMosaic.Pipeline (Dat)

/-- An element of the block: the row times those lanes of the weights. -/
theorem block_apply (x : Vec Ideal S16x1024 .f32) (w : Vec Ideal S1024x1024 .f32) (b : Vec Ideal S1x1024 .f32)
    (r : Fin 16) (d : Fin 1024) :
    out0_3 (F := Ideal) x w b (ix2 r d)
      = (∑ e : Fin 1024, x (ix2 r e) * Ideal.logistic (x (ix2 r e)) * w (ix2 e d)) + b (ix2 0 d) := by
  unfold out0_3
  refine (congrFun (View.canon_unit_zero (by funext a; fin_cases a <;> rfl) _ _) _).trans ?_
  pointwise [k0_pay1]

variable (m : (ℓ : Loc nD τ sig) → Buf (Elt Ideal) ℓ) (c : Dev nD)

/-- The block indices of the windows: the weights, the bias and the output move together. -/
theorem index_facts : ∀ t : Fin cfg0.N,
    (win0_3.index t (0 : Fin 2) = 0 ∧ win0_3.index t (1 : Fin 2) < 9)
    ∧ (win0_0.index t (0 : Fin 2) = 0 ∧ win0_0.index t (1 : Fin 2) = 0)
    ∧ (win0_1.index t (0 : Fin 2) = 0 ∧ win0_1.index t (1 : Fin 2) = win0_3.index t (1 : Fin 2))
    ∧ (win0_2.index t (0 : Fin 2) = 0 ∧ win0_2.index t (1 : Fin 2) = win0_3.index t (1 : Fin 2)) :=
  (by decide +kernel : ∀ t : Fin grid0.N, _)

/-- Every block of the output array is some point's. -/
theorem index_onto : ∀ j : Fin 9, ∃ t : Fin cfg0.N, win0_3.index t (1 : Fin 2) = j.val :=
  (by decide +kernel : ∀ j : Fin 9, ∃ t : Fin grid0.N, _)

theorem flush_all : ∀ t : Fin cfg0.N, (cfg0.win 3).flush t = true :=
  (by decide +kernel : ∀ t : Fin grid0.N, _)

/-- The tile of lanes of a point. -/
def tileOf (t : Fin cfg0.N) : Fin 9 := ⟨_, (index_facts t).1.2⟩

/-- The kernel's four arrays as launched. -/
abbrev argC : S8x1024.Idx → EReal := m ((c : Thread nD τ).loc main_arg0)
abbrev argCtx : S1024.Idx → EReal := m ((c : Thread nD τ).loc main_arg1)
abbrev argW : S1x1024x9216.Idx → EReal := m ((c : Thread nD τ).loc main_arg2)
abbrev argB : S1x9216.Idx → EReal := m ((c : Thread nD τ).loc main_arg3)

/-! ### What the operations before the kernel leave: the joined rows, and the weights without their leading axis -/

theorem entryC (r : Fin 16) (e : Fin 1024) : (V m c main_v2 : S16x1024.Idx → EReal) (ix2 r e)
    = condAt (fun r e => argC m c (ix2 r e)) (fun e => argCtx m c (ix1 e)) r e := by
  after_reads_simp
  exact cond_ref _ _ r e

theorem entryW (e : Fin 1024) (d : Fin 9216) : (V m c main_v3 : S1024x9216.Idx → EReal) (ix2 e d) = argW m c (ix3 0 e d) := by
  entry_read
  pointwise []

/-! ### The blocks a point reads -/

theorem iblk0_apply (t : Fin cfg0.N) (r : Fin 16) (e : Fin 1024) :
    iblk m c 0 t (ix2 r e) = condAt (fun r e => argC m c (ix2 r e)) (fun e => argCtx m c (ix1 e)) r e := by
  obtain ⟨_, ⟨e0, e1⟩, _⟩ := index_facts t
  rw [← entryC]
  refine congrArg (V m c main_v2 : S16x1024.Idx → EReal) (funext fun a => Fin.ext ?_)
  match a with
  | ⟨0, _⟩ => show win0_0.index t (0 : Fin 2) * 16 + 1 * r.val = r.val; omega
  | ⟨1, _⟩ => show win0_0.index t (1 : Fin 2) * 1024 + 1 * e.val = e.val; omega

theorem iblk1_apply (t : Fin cfg0.N) (e d : Fin 1024) :
    iblk m c 1 t (ix2 e d) = argW m c (ix3 0 e ⟨1024 * (tileOf t).val + d.val, by omega⟩) := by
  obtain ⟨_, _, ⟨e0, e1⟩, _⟩ := index_facts t
  rw [← entryW]
  refine congrArg (V m c main_v3 : S1024x9216.Idx → EReal) (funext fun a => Fin.ext ?_)
  match a with
  | ⟨0, _⟩ => show win0_1.index t (0 : Fin 2) * 1024 + 1 * e.val = e.val; omega
  | ⟨1, _⟩ => show win0_1.index t (1 : Fin 2) * 1024 + 1 * d.val = 1024 * win0_3.index t (1 : Fin 2) + d.val; omega

theorem iblk2_apply (t : Fin cfg0.N) (d : Fin 1024) :
    iblk m c 2 t (ix2 0 d) = argB m c (ix2 0 ⟨1024 * (tileOf t).val + d.val, by omega⟩) := by
  obtain ⟨_, _, _, ⟨e0, e1⟩⟩ := index_facts t
  refine congrArg (m ((c : Thread nD τ).loc main_arg3)) (funext fun a => Fin.ext ?_)
  match a with
  | ⟨0, _⟩ => show win0_2.index t (0 : Fin 2) * 1 + 1 * 0 = 0; omega
  | ⟨1, _⟩ => show win0_2.index t (1 : Fin 2) * 1024 + 1 * d.val = 1024 * win0_3.index t (1 : Fin 2) + d.val; omega

/-- Where the output block's element sits in the output array. -/
theorem emb3 (t : Fin cfg0.N) (r : Fin 16) (d : Fin 1024) :
    ((cfg0.win 3).blk t).view.emb (ix2 r d) = ix2 r ⟨1024 * (tileOf t).val + d.val, by omega⟩ := by
  obtain ⟨⟨e0, _⟩, _⟩ := index_facts t
  funext a; apply Fin.ext
  match a with
  | ⟨0, _⟩ => show win0_3.index t (0 : Fin 2) * 16 + 1 * r.val = r.val; omega
  | ⟨1, _⟩ => show win0_3.index t (1 : Fin 2) * 1024 + 1 * d.val = 1024 * win0_3.index t (1 : Fin 2) + d.val; omega

/-- The modulation of the kernel's conditioning rows, as an array. -/
def modArr : S16x9216.Idx → EReal := fun i =>
  modulateAt (condAt (fun r e => argC m c (ix2 r e)) (fun e => argCtx m c (ix1 e)) (i 0)) (fun e d => argW m c (ix3 0 e d))
    (fun d => argB m c (ix2 0 d)) (i 1)

/-- After the run the kernel's output array is the modulation of its conditioning rows. -/
theorem arrAt_eq : (dats m 0 c).arrAt 3 cfg0.N = modArr m c := by
  refine (dats m 0 c).arrAt_eq_of_cover 3 (modArr m c) (fun t _ => ?_) fun i => ?_
  · rw [Value.flushed3]
    funext y
    change S16x1024.Idx at y
    show out0_3 (iblk m c 0 t) (iblk m c 1 t) (iblk m c 2 t) y = modArr m c (((cfg0.win 3).blk t).view.emb y)
    obtain ⟨r, d, rfl⟩ : ∃ (r : Fin 16) (d : Fin 1024), y = ix2 r d :=
      ⟨y 0, y 1, funext fun a => match a with | ⟨0, _⟩ => rfl | ⟨1, _⟩ => rfl⟩
    rw [block_apply, emb3]
    simp only [iblk0_apply, iblk1_apply, iblk2_apply]
    rfl
  · change S16x9216.Idx at i
    have hi1 : (i 1).val < 9216 := (i 1).isLt
    obtain ⟨t, e1⟩ := index_onto ⟨(i 1).val / 1024, by omega⟩
    refine ⟨t, flush_all t, ?_⟩
    have e : i = ((cfg0.win 3).blk t).view.emb (ix2 ⟨(i 0).val, (i 0).isLt⟩ ⟨(i 1).val % 1024, by omega⟩) := by
      rw [emb3]
      funext a; apply Fin.ext
      match a with
      | ⟨0, _⟩ => rfl
      | ⟨1, _⟩ => show (i 1).val = 1024 * win0_3.index t (1 : Fin 2) + (i 1).val % 1024; rw [e1]; simp only []; omega
    rw [e]
    exact Finset.mem_map.2 ⟨_, Finset.mem_univ _, rfl⟩

end Cert.Adaln
-- ==== Proof.Adaln.Claims.lean ====
/-
  The claims about the modulation rows: the two programs end with the modulation of their conditioning rows.
-/
module

public import proofs.«01_k».proof.Defs
public import proofs.«01_k».proof.Proof.Adaln.Array

@[expose] public section

noncomputable section

namespace Cert.Adaln

open Idealize.ShloMosaic Idealize.ShloMosaic.TcCoe Idealize.SL.Sem

/-- The reference runs, leaves its arguments as they were and every counter at zero: it declares none. -/
theorem frame_reference : quiescent_AdalnReferenceIdeal := fun m ρ _ =>
  (θ_run (Cert.AdalnReferenceIdeal.defs (F := Ideal)) _ _).mono
    (fun r h => And.intro (fun c => (h c).2) (sem_eq_zero_of_no_sems (by decide) r.2))
    (Cert.AdalnReferenceIdeal.Value.run (F := Ideal) m ρ)

/-- Kernel and reference end with equal results. -/
theorem algebraic : algebraic_AdalnIdeal_AdalnReferenceIdeal := by
  intro m g m' g' hpre hargs
  refine ⟨fun c => modArr m c, ?_, ?_⟩
  · refine (θ_run _ _ _).mono (fun r h c => ?_) (Cert.AdalnIdeal.Value.run_blocks m g)
    obtain ⟨e, k⟩ := h c
    exact ⟨e.trans (arrAt_eq m c), k⟩
  · refine (θ_run _ _ _).mono (fun r h c => ?_) (Cert.AdalnReferenceIdeal.Value.run (F := Ideal) m' g')
    obtain ⟨e, k⟩ := h c
    refine ⟨e.trans ?_, k⟩
    obtain ⟨a0, a1, a2, a3⟩ := hargs c
    refine (Cert.AdalnReferenceIdeal.Read.val_main_v9_eq (F := Ideal) _ _ _ _).trans ?_
    funext i
    rw [a0, a1, a2, a3]
    obtain ⟨r, d, rfl⟩ : ∃ (r : Fin 16) (d : Fin 9216), i = ix2 r d :=
      ⟨i 0, i 1, funext fun a => match a with | ⟨0, _⟩ => rfl | ⟨1, _⟩ => rfl⟩
    exact reference_apply _ _ _ _ r d

end Cert.Adaln
-- ==== Proof.Mlp.Spec.lean ====
/-
  The half-step SwiGLU of one token, over the extended reals: norm, modulation, the gated products, the step.

  A token is a row of 1024 numbers. Each definition reads rows and matrices as functions, so that the kernel's blocks
  and the reference's arrays are both read through it.
-/
module

public import Idealize.ShloMosaic.Lib.Pointwise
public import Idealize.ShloMosaic.Lib.IdealHost
public import Idealize.ShloMosaic.PureOps.Ideal.Laws

@[expose] public section

noncomputable section

namespace Cert.Mlp

open Idealize.ShloMosaic

/-- The constants as the programs write them: the offset under the root, and one half. -/
def eps : EReal := Ideal.ofBits .f32 0x358637BD#32
def half : EReal := Ideal.ofBits .f32 0x3F000000#32
/-- The lengths 1024, 768 and 256 of the normalised rows. -/
def len1024 : EReal := Ideal.ofBits .f32 0x44800000#32
def len768 : EReal := Ideal.ofBits .f32 0x44400000#32
def len256 : EReal := Ideal.ofBits .f32 0x43800000#32

theorem one_bits : Ideal.ofBits .f32 0x3F800000#32 = 1 := Ideal.ofBits_one_f32

/-- A row over its root mean square, times a gain. -/
def normAt {n : ℕ} (len : EReal) (x g : Fin n → EReal) (d : Fin n) : EReal :=
  x d * Ideal.rsqrt (Ideal.div (∑ e : Fin n, x e * x e) len + eps) * g d

/-- The normalised row, scaled and shifted. -/
def modAt (x g shift scale : Fin 1024 → EReal) (d : Fin 1024) : EReal :=
  normAt len1024 x g d * (1 + scale d) + shift d

/-- The gated unit `f`: `silu` of the gate times the other product. -/
def unitAt (h : Fin 1024 → EReal) (w : Fin 1024 → Fin 5632 → EReal) (f : Fin 2816) : EReal :=
  (∑ e : Fin 1024, h e * w e ⟨f.val, by omega⟩) * Ideal.logistic (∑ e : Fin 1024, h e * w e ⟨f.val, by omega⟩)
    * ∑ e : Fin 1024, h e * w e ⟨2816 + f.val, by omega⟩

/-- The gated units, brought back to 1024 lanes. -/
def swigluAt (h : Fin 1024 → EReal) (w : Fin 1024 → Fin 5632 → EReal) (v : Fin 2816 → Fin 1024 → EReal) (d : Fin 1024) : EReal :=
  ∑ f : Fin 2816, unitAt h w f * v f d

/-- The half step: the row plus half the gate times the SwiGLU of its modulated norm. -/
def stepAt (x g shift scale gate : Fin 1024 → EReal) (w : Fin 1024 → Fin 5632 → EReal) (v : Fin 2816 → Fin 1024 → EReal)
    (d : Fin 1024) : EReal :=
  x d + half * gate d * swigluAt (modAt x g shift scale) w v d

/-- A sum over 2816 units is the sum over the first 1536 and the sum over the other 1280. -/
theorem sum_units (f : Fin 2816 → EReal) :
    ∑ i : Fin 2816, f i = (∑ i : Fin 1536, f ⟨i.val, by omega⟩) + ∑ i : Fin 1280, f ⟨1536 + i.val, by omega⟩ :=
  Fin.sum_univ_add (a := 1536) (b := 1280) f

end Cert.Mlp
-- ==== Proof.Proj.Spec.lean ====
/-
  The projections of one token, over the extended reals: what attention's queries, keys and values and the state-space
  inputs are, read off the rows and matrices given.
-/
module

public import proofs.«01_k».proof.Proof.Mlp.Spec

@[expose] public section

noncomputable section

namespace Cert.Proj

open Idealize.ShloMosaic Cert.Mlp

/-- The length 128 of the normalised key and value row. -/
def len128 : EReal := Ideal.ofBits .f32 0x43000000#32

/-- The factor on the queries, as the programs write it. -/
def factor : EReal := Ideal.ofBits .f32 0x3E16C740#32

/-- The first product: a modulated row against the input matrix. -/
def innerAt (x g shift scale : Fin 1024 → EReal) (w : Fin 1024 → Fin 672 → EReal) (j : Fin 672) : EReal :=
  ∑ e : Fin 1024, modAt x g shift scale e * w e j

/-- The queries of all heads, before rotation: 96 lanes for each head. -/
def queryAt (p : Fin 672 → EReal) (g : Fin 256 → EReal) (w : Fin 256 → Fin 1152 → EReal) (j : Fin 1152) : EReal :=
  ∑ e : Fin 256, normAt len256 (fun e : Fin 256 => p ⟨e.val, by omega⟩) g e * w e j

/-- The keys and values of all heads: 128 lanes for each head, 64 of the key and 64 of the value. -/
def keyValueAt (p : Fin 672 → EReal) (g : Fin 128 → EReal) (w : Fin 128 → Fin 1536 → EReal) (j : Fin 1536) : EReal :=
  ∑ e : Fin 128, normAt len128 (fun e : Fin 128 => p ⟨256 + e.val, by omega⟩) g e * w e j

/-- The even and the odd lane of the pair a lane belongs to. -/
def evenOf (i : Fin 32) : Fin 32 := ⟨i.val / 2 * 2, by omega⟩
def oddOf (i : Fin 32) : Fin 32 := ⟨i.val / 2 * 2 + 1, by omega⟩
/-- The pair's number. -/
def pairOf (i : Fin 32) : Fin 16 := ⟨i.val / 2, by omega⟩

/-- Pairs of lanes turned by the position's angles. -/
def ropeAt (t : Fin 32 → EReal) (cos sin : Fin 16 → EReal) (i : Fin 32) : EReal :=
  if i.val % 2 = 0 then t (evenOf i) * cos (pairOf i) - t (oddOf i) * sin (pairOf i)
  else t (evenOf i) * sin (pairOf i) + t (oddOf i) * cos (pairOf i)

/-- A head's 128 lanes: 64 plain, 32 rotated, 32 zero. -/
def headAt (plain : Fin 64 → EReal) (turned : Fin 32 → EReal) (l : Fin 128) : EReal :=
  if h : l.val < 64 then plain ⟨l.val, h⟩ else if h' : l.val < 96 then turned ⟨l.val - 64, by omega⟩ else 0

/-- The quarter turn of each pair: minus the odd lane, then the even lane. -/
def quarterAt (t : Fin 32 → EReal) (i : Fin 32) : EReal := if i.val % 2 = 0 then -t (oddOf i) else t (evenOf i)

end Cert.Proj
-- ==== Proof.Proj.Entry.lean ====
/-
  What the operations before the projection kernel leave: the joined weights and the tables, lane by lane.
-/
module

public import proofs.«01_k».proof.Proof.Gen.ProjIdeal.Value
public import proofs.«01_k».proof.Proof.Proj.Spec
public import Idealize.ShloMosaic.Lib.Pointwise.Blocks
public import Idealize.ShloMosaic.Lib.StableHlo.RunRead

@[expose] public section

noncomputable section

namespace Cert.Proj

open Idealize.ShloMosaic Idealize.ShloMosaic.TcCoe Cert.ProjIdeal Cert.ProjIdeal.Gen Cert.Mlp

variable (m : (ℓ : Loc nD τ sig) → Buf (Elt Ideal) ℓ) (c : Dev nD)

/-- The kernel's ten arrays as launched. -/
abbrev argX : S8x4096x1024.Idx → EReal := m ((c : Thread nD τ).loc main_arg0)
abbrev argMod : S16x9x1024.Idx → EReal := m ((c : Thread nD τ).loc main_arg1)
abbrev argG : S1x1024.Idx → EReal := m ((c : Thread nD τ).loc main_arg2)
abbrev argW : S1x1024x672.Idx → EReal := m ((c : Thread nD τ).loc main_arg3)
abbrev argGq : S1x256.Idx → EReal := m ((c : Thread nD τ).loc main_arg4)
abbrev argWq : S1x256x1152.Idx → EReal := m ((c : Thread nD τ).loc main_arg5)
abbrev argGkv : S1x128.Idx → EReal := m ((c : Thread nD τ).loc main_arg6)
abbrev argWkv : S1x128x1536.Idx → EReal := m ((c : Thread nD τ).loc main_arg7)
abbrev argCos : S4096x16.Idx → EReal := m ((c : Thread nD τ).loc main_arg8)
abbrev argSin : S4096x16.Idx → EReal := m ((c : Thread nD τ).loc main_arg9)

/-- The first 384 lanes are the input matrix's. -/
theorem low_lanes (e : Fin 1024) (j : Fin 384) : (V m c main_v17 : S1024x896.Idx → EReal) (ix2 e ⟨j.val, by omega⟩)
    = argW m c (ix3 0 e ⟨j.val, by omega⟩) := by
  after_reads_simp
  pointwise []
  after_reads_simp
  pointwise []

/-- The last 256 lanes are the input matrix's last. -/
theorem input_lanes (e : Fin 1024) (j : Fin 256) : (V m c main_v17 : S1024x896.Idx → EReal) (ix2 e ⟨640 + j.val, by omega⟩)
    = argW m c (ix3 0 e ⟨416 + j.val, by omega⟩) := by
  after_reads_simp
  pointwise []
  rw [dif_neg (by omega), dif_neg (by omega), dif_neg (by omega), dif_neg (by omega), dif_neg (by omega), dif_neg (by omega),
    dif_neg (by omega)]
  after_reads_simp
  pointwise []
  simp only [show 640 + j.val - 384 - 64 - 32 - 32 - 64 - 32 - 32 = j.val by omega]

/-- The lanes of the rotated part of the keys, set in a head's place. -/
theorem key_lanes (e : Fin 1024) (l : Fin 128) : (V m c main_v17 : S1024x896.Idx → EReal) (ix2 e ⟨384 + l.val, by omega⟩)
    = headAt (fun _ => 0) (fun i => argW m c (ix3 0 e ⟨384 + i.val, by omega⟩)) l := by
  unfold headAt
  split_ifs with h h'
  · after_reads_simp
    pointwise []
    rw [dif_pos h]
    after_reads_simp
    pointwise []
  · after_reads_simp
    pointwise []
    rw [dif_neg h, dif_pos (by omega)]
    after_reads_simp
    pointwise []
  · after_reads_simp
    pointwise []
    rw [dif_neg h, dif_neg (by omega), dif_pos (by omega)]
    after_reads_simp
    pointwise []

/-- The same lanes turned a quarter. -/
theorem turned_key_lanes (e : Fin 1024) (l : Fin 128) : (V m c main_v17 : S1024x896.Idx → EReal) (ix2 e ⟨512 + l.val, by omega⟩)
    = headAt (fun _ => 0) (quarterAt fun i => argW m c (ix3 0 e ⟨384 + i.val, by omega⟩)) l := by
  unfold headAt quarterAt
  split_ifs with h h' h''
  · after_reads_simp
    pointwise []
    rw [dif_neg (by omega), dif_neg (by omega), dif_neg (by omega), dif_neg (by omega), dif_pos (by omega)]
    after_reads_simp
    pointwise []
  · after_reads_simp
    pointwise []
    rw [dif_neg (by omega), dif_neg (by omega), dif_neg (by omega), dif_neg (by omega), dif_neg (by omega), dif_pos (by omega)]
    simp only [show 512 + l.val - 384 - 64 - 32 - 32 - 64 = l.val - 64 by omega]
    after_reads_simp
    pointwise []
    rw [dif_pos (by change (l.val - 64) % 2 = 0 at h''; omega)]
    after_reads_simp
    pointwise []
    rfl
  · after_reads_simp
    pointwise []
    rw [dif_neg (by omega), dif_neg (by omega), dif_neg (by omega), dif_neg (by omega), dif_neg (by omega), dif_pos (by omega)]
    simp only [show 512 + l.val - 384 - 64 - 32 - 32 - 64 = l.val - 64 by omega]
    after_reads_simp
    pointwise []
    rw [dif_neg (by change ¬(l.val - 64) % 2 = 0 at h''; omega)]
    after_reads_simp
    pointwise []
    rfl
  · after_reads_simp
    pointwise []
    rw [dif_neg (by omega), dif_neg (by omega), dif_neg (by omega), dif_neg (by omega), dif_neg (by omega), dif_neg (by omega), dif_pos (by omega)]
    after_reads_simp
    pointwise []

/-- A head's query weights. -/
theorem query_lanes (e : Fin 256) (h : Fin 12) (l : Fin 128) : (V m c main_v41 : S256x3072.Idx → EReal) (ix2 e ⟨128 * h.val + l.val, by omega⟩)
    = headAt (fun i => argWq m c (ix3 0 e ⟨h.val * 96 + i.val, by omega⟩)) (fun i => argWq m c (ix3 0 e ⟨h.val * 96 + (64 + i.val), by omega⟩)) l := by
  unfold headAt
  split_ifs with h1 h2
  · after_reads_simp
    pointwise []
    rw [dif_pos (by omega)]
    after_reads_simp
    pointwise []
    rw [dif_pos h1]
    after_reads_simp
    pointwise []
  · after_reads_simp
    pointwise []
    rw [dif_pos (by omega)]
    after_reads_simp
    pointwise []
    rw [dif_neg h1, dif_pos (by omega)]
    after_reads_simp
    pointwise []
  · after_reads_simp
    pointwise []
    rw [dif_pos (by omega)]
    after_reads_simp
    pointwise []
    rw [dif_neg h1, dif_neg (by omega)]
    after_reads_simp
    pointwise []
/-- A head's query weights, the rotated ones turned a quarter. -/
theorem turned_query_lanes (e : Fin 256) (h : Fin 12) (l : Fin 128) : (V m c main_v41 : S256x3072.Idx → EReal) (ix2 e ⟨1536 + (128 * h.val + l.val), by omega⟩)
    = headAt (fun _ => 0) (quarterAt fun i => argWq m c (ix3 0 e ⟨h.val * 96 + (64 + i.val), by omega⟩)) l := by
  unfold headAt
  split_ifs with h1 h2
  · after_reads_simp
    pointwise []
    after_reads_simp
    pointwise []
    rw [dif_pos h1]
    after_reads_simp
    pointwise []
  · after_reads_simp
    pointwise []
    after_reads_simp
    pointwise []
    rw [dif_neg h1, dif_pos (by omega)]
    after_reads_simp
    pointwise []
    unfold quarterAt
    by_cases h3 : (l.val - 64) % 2 = 0
    · rw [dif_pos (by omega), if_pos h3]
      after_reads_simp
      pointwise []
      simp only [show (h.val * 16 + (l.val - 64) / 2) / 16 = h.val by omega,
        show (h.val * 16 + (l.val - 64) / 2) % 16 = (l.val - 64) / 2 by omega]
      rfl
    · rw [dif_neg (by omega), if_neg h3]
      after_reads_simp
      pointwise []
      simp only [show (h.val * 16 + (l.val - 64) / 2) / 16 = h.val by omega,
        show (h.val * 16 + (l.val - 64) / 2) % 16 = (l.val - 64) / 2 by omega]
      rfl
  · after_reads_simp
    pointwise []
    after_reads_simp
    pointwise []
    rw [dif_neg h1, dif_neg (by omega)]
    after_reads_simp
    pointwise []
/-- A head's key weights. -/
theorem key_value_lanes (e : Fin 128) (h : Fin 12) (l : Fin 128) : (V m c main_v51 : S128x2304.Idx → EReal) (ix2 e ⟨128 * h.val + l.val, by omega⟩)
    = headAt (fun i => argWkv m c (ix3 0 e ⟨h.val * 128 + i.val, by omega⟩)) (fun _ => 0) l := by
  unfold headAt
  split_ifs with h1 h2
  · after_reads_simp
    pointwise []
    rw [dif_pos (by omega)]
    after_reads_simp
    pointwise []
    rw [dif_pos h1]
    after_reads_simp
    pointwise []
  · after_reads_simp
    pointwise []
    rw [dif_pos (by omega)]
    after_reads_simp
    pointwise []
    rw [dif_neg h1, dif_pos (by omega)]
    after_reads_simp
    pointwise []
  · after_reads_simp
    pointwise []
    rw [dif_pos (by omega)]
    after_reads_simp
    pointwise []
    rw [dif_neg h1, dif_neg (by omega)]
    after_reads_simp
    pointwise []
/-- The value weights, head after head. -/
theorem value_lanes (e : Fin 128) (j : Fin 768) : (V m c main_v51 : S128x2304.Idx → EReal) (ix2 e ⟨1536 + j.val, by omega⟩)
    = argWkv m c (ix3 0 e ⟨j.val / 64 * 128 + (64 + j.val % 64), by omega⟩) := by
  after_reads_simp
  pointwise []
  after_reads_simp
  pointwise []

/-- The cosines against the queries. -/
theorem query_cos (r : Fin 4096) (l : Fin 128) : (V m c main_v67 : S4096x128.Idx → EReal) (ix2 r l)
    = headAt (fun _ => 1) (fun i => argCos m c (ix2 r (pairOf i))) l * factor := by
  unfold headAt
  split_ifs with h h'
  · after_reads_simp
    pointwise []
    rw [dif_pos (by omega)]
    after_reads_simp
    pointwise []
    rfl
  · after_reads_simp
    pointwise []
    rw [dif_neg (by omega), dif_pos (by omega)]
    after_reads_simp
    pointwise []
    by_cases h2 : (l.val - 64) % 2 < 1
    · rw [dif_pos h2]
      after_reads_simp
      pointwise []
      rfl
    · rw [dif_neg h2]
      after_reads_simp
      pointwise []
      rfl
  · after_reads_simp
    pointwise []
    rw [dif_neg (by omega), dif_neg (by omega)]
    after_reads_simp
    pointwise []
    rfl

/-- The sines against the queries. -/
theorem query_sin (r : Fin 4096) (l : Fin 128) : (V m c main_v69 : S4096x128.Idx → EReal) (ix2 r l)
    = headAt (fun _ => 0) (fun i => argSin m c (ix2 r (pairOf i))) l * factor := by
  unfold headAt
  split_ifs with h h'
  · after_reads_simp
    pointwise []
    rw [dif_pos (by omega)]
    after_reads_simp
    pointwise []
    rfl
  · after_reads_simp
    pointwise []
    rw [dif_neg (by omega), dif_pos (by omega)]
    after_reads_simp
    pointwise []
    by_cases h2 : (l.val - 64) % 2 < 1
    · rw [dif_pos h2]
      after_reads_simp
      pointwise []
      rfl
    · rw [dif_neg h2]
      after_reads_simp
      pointwise []
      rfl
  · after_reads_simp
    pointwise []
    rw [dif_neg (by omega), dif_neg (by omega)]
    after_reads_simp
    pointwise []
    rfl

/-- The cosines against the keys. -/
theorem key_cos (r : Fin 4096) (l : Fin 128) : (V m c main_v77 : S4096x128.Idx → EReal) (ix2 r l)
    = headAt (fun _ => 0) (fun i => argCos m c (ix2 r (pairOf i))) l * 1 := by
  unfold headAt
  split_ifs with h h'
  · after_reads_simp
    pointwise []
    rw [dif_pos (by omega)]
    after_reads_simp
    pointwise []
  · after_reads_simp
    pointwise []
    rw [dif_neg (by omega), dif_pos (by omega)]
    after_reads_simp
    pointwise []
    by_cases h2 : (l.val - 64) % 2 < 1
    · rw [dif_pos h2]
      after_reads_simp
      pointwise []
      rfl
    · rw [dif_neg h2]
      after_reads_simp
      pointwise []
      rfl
  · after_reads_simp
    pointwise []
    rw [dif_neg (by omega), dif_neg (by omega)]
    after_reads_simp
    pointwise []

/-- The sines against the keys. -/
theorem key_sin (r : Fin 4096) (l : Fin 128) : (V m c main_v79 : S4096x128.Idx → EReal) (ix2 r l)
    = headAt (fun _ => 0) (fun i => argSin m c (ix2 r (pairOf i))) l * 1 := by
  unfold headAt
  split_ifs with h h'
  · after_reads_simp
    pointwise []
    rw [dif_pos (by omega)]
    after_reads_simp
    pointwise []
  · after_reads_simp
    pointwise []
    rw [dif_neg (by omega), dif_pos (by omega)]
    after_reads_simp
    pointwise []
    by_cases h2 : (l.val - 64) % 2 < 1
    · rw [dif_pos h2]
      after_reads_simp
      pointwise []
      rfl
    · rw [dif_neg h2]
      after_reads_simp
      pointwise []
      rfl
  · after_reads_simp
    pointwise []
    rw [dif_neg (by omega), dif_neg (by omega)]
    after_reads_simp
    pointwise []

end Cert.Proj
-- ==== Proof.Proj.Tiles.lean ====
/-
  The blocks a grid point of the projection kernel reads: its tokens, its batch's modulation, the weights, its rows of the tables.
-/
module

public import proofs.«01_k».proof.Proof.Proj.Entry
public import Idealize.ShloMosaic.Lib.Claim

@[expose] public section

noncomputable section

namespace Cert.Proj

open Idealize.ShloMosaic Idealize.ShloMosaic.TcCoe Cert.ProjIdeal Cert.ProjIdeal.Gen Cert.Mlp

variable (m : (ℓ : Loc nD τ sig) → Buf (Elt Ideal) ℓ) (c : Dev nD)

/-- The block indices of the windows: tokens and outputs move over batches and row tiles, the modulation over batches,
    the tables over row tiles, the rest stays. -/
theorem index_facts : ∀ t : Fin cfg0.N,
    (win0_12.index t (0 : Fin 3) < 8 ∧ win0_12.index t (1 : Fin 3) < 4 ∧ win0_12.index t (2 : Fin 3) = 0)
    ∧ (win0_0.index t (0 : Fin 3) = win0_12.index t (0 : Fin 3) ∧ win0_0.index t (1 : Fin 3) = win0_12.index t (1 : Fin 3)
      ∧ win0_0.index t (2 : Fin 3) = 0)
    ∧ (win0_1.index t (0 : Fin 3) = win0_12.index t (0 : Fin 3) ∧ win0_1.index t (1 : Fin 3) = 0 ∧ win0_1.index t (2 : Fin 3) = 0) :=
  (by decide +kernel : ∀ t : Fin grid0.N, _)

theorem index_still : ∀ t : Fin cfg0.N,
    (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0) :=
  (by decide +kernel : ∀ t : Fin grid0.N, _)

theorem index_tables : ∀ t : Fin cfg0.N,
    (win0_8.index t (0 : Fin 2) = win0_12.index t (1 : Fin 3) ∧ win0_8.index t (1 : Fin 2) = 0)
    ∧ (win0_9.index t (0 : Fin 2) = win0_12.index t (1 : Fin 3) ∧ win0_9.index t (1 : Fin 2) = 0)
    ∧ (win0_10.index t (0 : Fin 2) = win0_12.index t (1 : Fin 3) ∧ win0_10.index t (1 : Fin 2) = 0)
    ∧ (win0_11.index t (0 : Fin 2) = win0_12.index t (1 : Fin 3) ∧ win0_11.index t (1 : Fin 2) = 0) :=
  (by decide +kernel : ∀ t : Fin grid0.N, _)

theorem index_outputs : ∀ t : Fin cfg0.N,
    (win0_13.index t (0 : Fin 3) = win0_12.index t (0 : Fin 3) ∧ win0_13.index t (1 : Fin 3) = win0_12.index t (1 : Fin 3)
      ∧ win0_13.index t (2 : Fin 3) = 0)
    ∧ (win0_14.index t (0 : Fin 3) = win0_12.index t (0 : Fin 3) ∧ win0_14.index t (1 : Fin 3) = win0_12.index t (1 : Fin 3)
      ∧ win0_14.index t (2 : Fin 3) = 0)
    ∧ (win0_15.index t (0 : Fin 2) = win0_12.index t (1 : Fin 3) ∧ win0_15.index t (1 : Fin 2) = win0_12.index t (0 : Fin 3)) :=
  (by decide +kernel : ∀ t : Fin grid0.N, _)

/-- Every batch and row tile is some point's. -/
theorem index_onto : ∀ (b : Fin 8) (j : Fin 4), ∃ t : Fin cfg0.N,
    win0_12.index t (0 : Fin 3) = b.val ∧ win0_12.index t (1 : Fin 3) = j.val :=
  (by decide +kernel : ∀ (b : Fin 8) (j : Fin 4), ∃ t : Fin grid0.N, _)

theorem flush_all : ∀ t : Fin cfg0.N, (cfg0.win 12).flush t = true ∧ (cfg0.win 13).flush t = true
    ∧ (cfg0.win 14).flush t = true ∧ (cfg0.win 15).flush t = true :=
  (by decide +kernel : ∀ t : Fin grid0.N, _)

/-- The batch of a point, and the token of a row of its tile. -/
def batchOf (t : Fin cfg0.N) : Fin 8 := ⟨_, (index_facts t).1.1⟩
def tileOf (t : Fin cfg0.N) : Fin 4 := ⟨_, (index_facts t).1.2.1⟩
def tokenOf (t : Fin cfg0.N) (r : Fin 1024) : Fin 4096 := ⟨1024 * (tileOf t).val + r.val, by omega⟩

theorem iblk0_apply (t : Fin cfg0.N) (r d : Fin 1024) :
    iblk m c 0 t (ix3 0 r d) = argX m c (ix3 (batchOf t) (tokenOf t r) d) := by
  obtain ⟨_, ⟨e0, e1, e2⟩, _⟩ := index_facts t
  refine congrArg (m ((c : Thread nD τ).loc main_arg0)) (funext fun a => Fin.ext ?_)
  match a with
  | ⟨0, _⟩ => show win0_0.index t (0 : Fin 3) * 1 + 1 * 0 = win0_12.index t (0 : Fin 3); omega
  | ⟨1, _⟩ => show win0_0.index t (1 : Fin 3) * 1024 + 1 * r.val = 1024 * win0_12.index t (1 : Fin 3) + r.val; omega
  | ⟨2, _⟩ => show win0_0.index t (2 : Fin 3) * 1024 + 1 * d.val = d.val; omega

theorem iblk1_apply (t : Fin cfg0.N) (s : Fin 9) (d : Fin 1024) :
    iblk m c 1 t (ix3 0 s d) = argMod m c (ix3 ⟨(batchOf t).val, by omega⟩ s d) := by
  obtain ⟨_, _, ⟨e0, e1, e2⟩⟩ := index_facts t
  refine congrArg (m ((c : Thread nD τ).loc main_arg1)) (funext fun a => Fin.ext ?_)
  match a with
  | ⟨0, _⟩ => show win0_1.index t (0 : Fin 3) * 1 + 1 * 0 = win0_12.index t (0 : Fin 3); omega
  | ⟨1, _⟩ => show win0_1.index t (1 : Fin 3) * 9 + 1 * s.val = s.val; omega
  | ⟨2, _⟩ => show win0_1.index t (2 : Fin 3) * 1024 + 1 * d.val = d.val; omega

theorem iblk2_apply (t : Fin cfg0.N) (d : Fin 1024) : iblk m c 2 t (ix2 0 d) = argG m c (ix2 0 d) := by
  obtain ⟨⟨e0, e1⟩, _, _, _, _, _⟩ := index_still t
  refine congrArg (m ((c : Thread nD τ).loc main_arg2)) (funext fun a => Fin.ext ?_)
  match a with
  | ⟨0, _⟩ => show win0_2.index t (0 : Fin 2) * 1 + 1 * 0 = 0; omega
  | ⟨1, _⟩ => show win0_2.index t (1 : Fin 2) * 1024 + 1 * d.val = d.val; omega

theorem iblk3_apply (t : Fin cfg0.N) (e : Fin 1024) (j : Fin 896) :
    iblk m c 3 t (ix2 e j) = (V m c main_v17 : S1024x896.Idx → EReal) (ix2 e j) := by
  obtain ⟨_, ⟨e0, e1⟩, _, _, _, _⟩ := index_still t
  refine congrArg (V m c main_v17 : S1024x896.Idx → EReal) (funext fun a => Fin.ext ?_)
  match a with
  | ⟨0, _⟩ => show win0_3.index t (0 : Fin 2) * 1024 + 1 * e.val = e.val; omega
  | ⟨1, _⟩ => show win0_3.index t (1 : Fin 2) * 896 + 1 * j.val = j.val; omega

theorem iblk4_apply (t : Fin cfg0.N) (d : Fin 256) : iblk m c 4 t (ix2 0 d) = argGq m c (ix2 0 d) := by
  obtain ⟨_, _, ⟨e0, e1⟩, _, _, _⟩ := index_still t
  refine congrArg (m ((c : Thread nD τ).loc main_arg4)) (funext fun a => Fin.ext ?_)
  match a with
  | ⟨0, _⟩ => show win0_4.index t (0 : Fin 2) * 1 + 1 * 0 = 0; omega
  | ⟨1, _⟩ => show win0_4.index t (1 : Fin 2) * 256 + 1 * d.val = d.val; omega

theorem iblk5_apply (t : Fin cfg0.N) (e : Fin 256) (j : Fin 3072) :
    iblk m c 5 t (ix2 e j) = (V m c main_v41 : S256x3072.Idx → EReal) (ix2 e j) := by
  obtain ⟨_, _, _, ⟨e0, e1⟩, _, _⟩ := index_still t
  refine congrArg (V m c main_v41 : S256x3072.Idx → EReal) (funext fun a => Fin.ext ?_)
  match a with
  | ⟨0, _⟩ => show win0_5.index t (0 : Fin 2) * 256 + 1 * e.val = e.val; omega
  | ⟨1, _⟩ => show win0_5.index t (1 : Fin 2) * 3072 + 1 * j.val = j.val; omega

theorem iblk6_apply (t : Fin cfg0.N) (d : Fin 128) : iblk m c 6 t (ix2 0 d) = argGkv m c (ix2 0 d) := by
  obtain ⟨_, _, _, _, ⟨e0, e1⟩, _⟩ := index_still t
  refine congrArg (m ((c : Thread nD τ).loc main_arg6)) (funext fun a => Fin.ext ?_)
  match a with
  | ⟨0, _⟩ => show win0_6.index t (0 : Fin 2) * 1 + 1 * 0 = 0; omega
  | ⟨1, _⟩ => show win0_6.index t (1 : Fin 2) * 128 + 1 * d.val = d.val; omega

theorem iblk7_apply (t : Fin cfg0.N) (e : Fin 128) (j : Fin 2304) :
    iblk m c 7 t (ix2 e j) = (V m c main_v51 : S128x2304.Idx → EReal) (ix2 e j) := by
  obtain ⟨_, _, _, _, _, ⟨e0, e1⟩⟩ := index_still t
  refine congrArg (V m c main_v51 : S128x2304.Idx → EReal) (funext fun a => Fin.ext ?_)
  match a with
  | ⟨0, _⟩ => show win0_7.index t (0 : Fin 2) * 128 + 1 * e.val = e.val; omega
  | ⟨1, _⟩ => show win0_7.index t (1 : Fin 2) * 2304 + 1 * j.val = j.val; omega

theorem iblk8_apply (t : Fin cfg0.N) (r : Fin 1024) (l : Fin 128) :
    iblk m c 8 t (ix2 r l) = (V m c main_v67 : S4096x128.Idx → EReal) (ix2 (tokenOf t r) l) := by
  obtain ⟨⟨e0, e1⟩, _, _, _⟩ := index_tables t
  refine congrArg (V m c main_v67 : S4096x128.Idx → EReal) (funext fun a => Fin.ext ?_)
  match a with
  | ⟨0, _⟩ => show win0_8.index t (0 : Fin 2) * 1024 + 1 * r.val = 1024 * win0_12.index t (1 : Fin 3) + r.val; omega
  | ⟨1, _⟩ => show win0_8.index t (1 : Fin 2) * 128 + 1 * l.val = l.val; omega

theorem iblk9_apply (t : Fin cfg0.N) (r : Fin 1024) (l : Fin 128) :
    iblk m c 9 t (ix2 r l) = (V m c main_v69 : S4096x128.Idx → EReal) (ix2 (tokenOf t r) l) := by
  obtain ⟨_, ⟨e0, e1⟩, _, _⟩ := index_tables t
  refine congrArg (V m c main_v69 : S4096x128.Idx → EReal) (funext fun a => Fin.ext ?_)
  match a with
  | ⟨0, _⟩ => show win0_9.index t (0 : Fin 2) * 1024 + 1 * r.val = 1024 * win0_12.index t (1 : Fin 3) + r.val; omega
  | ⟨1, _⟩ => show win0_9.index t (1 : Fin 2) * 128 + 1 * l.val = l.val; omega

theorem iblk10_apply (t : Fin cfg0.N) (r : Fin 1024) (l : Fin 128) :
    iblk m c 10 t (ix2 r l) = (V m c main_v77 : S4096x128.Idx → EReal) (ix2 (tokenOf t r) l) := by
  obtain ⟨_, _, ⟨e0, e1⟩, _⟩ := index_tables t
  refine congrArg (V m c main_v77 : S4096x128.Idx → EReal) (funext fun a => Fin.ext ?_)
  match a with
  | ⟨0, _⟩ => show win0_10.index t (0 : Fin 2) * 1024 + 1 * r.val = 1024 * win0_12.index t (1 : Fin 3) + r.val; omega
  | ⟨1, _⟩ => show win0_10.index t (1 : Fin 2) * 128 + 1 * l.val = l.val; omega

theorem iblk11_apply (t : Fin cfg0.N) (r : Fin 1024) (l : Fin 128) :
    iblk m c 11 t (ix2 r l) = (V m c main_v79 : S4096x128.Idx → EReal) (ix2 (tokenOf t r) l) := by
  obtain ⟨_, _, _, ⟨e0, e1⟩⟩ := index_tables t
  refine congrArg (V m c main_v79 : S4096x128.Idx → EReal) (funext fun a => Fin.ext ?_)
  match a with
  | ⟨0, _⟩ => show win0_11.index t (0 : Fin 2) * 1024 + 1 * r.val = 1024 * win0_12.index t (1 : Fin 3) + r.val; omega
  | ⟨1, _⟩ => show win0_11.index t (1 : Fin 2) * 128 + 1 * l.val = l.val; omega

/-! ### Where the output blocks' elements sit in the output arrays -/

theorem emb12 (t : Fin cfg0.N) (r : Fin 1024) (d : Fin 1536) :
    ((cfg0.win 12).blk t).view.emb (ix3 0 r d) = ix3 (batchOf t) (tokenOf t r) d := by
  obtain ⟨⟨_, _, e2⟩, _⟩ := index_facts t
  funext a; apply Fin.ext
  match a with
  | ⟨0, _⟩ => show win0_12.index t (0 : Fin 3) * 1 + 1 * 0 = win0_12.index t (0 : Fin 3); omega
  | ⟨1, _⟩ => show win0_12.index t (1 : Fin 3) * 1024 + 1 * r.val = 1024 * win0_12.index t (1 : Fin 3) + r.val; omega
  | ⟨2, _⟩ => show win0_12.index t (2 : Fin 3) * 1536 + 1 * d.val = d.val; omega

theorem emb13 (t : Fin cfg0.N) (r : Fin 1024) (d : Fin 1536) :
    ((cfg0.win 13).blk t).view.emb (ix3 0 r d) = ix3 (batchOf t) (tokenOf t r) d := by
  obtain ⟨⟨e0, e1, e2⟩, _⟩ := index_outputs t
  funext a; apply Fin.ext
  match a with
  | ⟨0, _⟩ => show win0_13.index t (0 : Fin 3) * 1 + 1 * 0 = win0_12.index t (0 : Fin 3); omega
  | ⟨1, _⟩ => show win0_13.index t (1 : Fin 3) * 1024 + 1 * r.val = 1024 * win0_12.index t (1 : Fin 3) + r.val; omega
  | ⟨2, _⟩ => show win0_13.index t (2 : Fin 3) * 1536 + 1 * d.val = d.val; omega

theorem emb14 (t : Fin cfg0.N) (r : Fin 1024) (d : Fin 768) :
    ((cfg0.win 14).blk t).view.emb (ix3 0 r d) = ix3 (batchOf t) (tokenOf t r) d := by
  obtain ⟨_, ⟨e0, e1, e2⟩, _⟩ := index_outputs t
  funext a; apply Fin.ext
  match a with
  | ⟨0, _⟩ => show win0_14.index t (0 : Fin 3) * 1 + 1 * 0 = win0_12.index t (0 : Fin 3); omega
  | ⟨1, _⟩ => show win0_14.index t (1 : Fin 3) * 1024 + 1 * r.val = 1024 * win0_12.index t (1 : Fin 3) + r.val; omega
  | ⟨2, _⟩ => show win0_14.index t (2 : Fin 3) * 768 + 1 * d.val = d.val; omega

theorem emb15 (t : Fin cfg0.N) (r : Fin 1024) (d : Fin 256) :
    ((cfg0.win 15).blk t).view.emb (ix2 r d) = ix2 (tokenOf t r) ⟨256 * (batchOf t).val + d.val, by omega⟩ := by
  obtain ⟨_, _, ⟨e0, e1⟩⟩ := index_outputs t
  funext a; apply Fin.ext
  match a with
  | ⟨0, _⟩ => show win0_15.index t (0 : Fin 2) * 1024 + 1 * r.val = 1024 * win0_12.index t (1 : Fin 3) + r.val; omega
  | ⟨1, _⟩ => show win0_15.index t (1 : Fin 2) * 256 + 1 * d.val = 256 * win0_12.index t (0 : Fin 3) + d.val; omega

end Cert.Proj
-- ==== Proof.Proj.Block.lean ====
/-
  The four blocks a grid point of the projection kernel leaves, element by element, from the blocks it reads.
-/
module

public import proofs.«01_k».proof.Proof.Gen.ProjIdeal.Value
public import proofs.«01_k».proof.Proof.Proj.Spec
public import Idealize.ShloMosaic.Lib.Pointwise.Blocks

@[expose] public section

noncomputable section

namespace Cert.Proj

open Idealize.ShloMosaic Idealize.ShloMosaic.TcCoe Cert.ProjIdeal Cert.ProjIdeal.Gen Cert.Mlp

variable (x : Vec Ideal S1x1024x1024 .f32) (md : Vec Ideal S1x9x1024 .f32) (g : Vec Ideal S1x1024 .f32)
  (wa : Vec Ideal S1024x896 .bf16) (gq : Vec Ideal S1x256 .f32) (wq : Vec Ideal S256x3072 .bf16) (gkv : Vec Ideal S1x128 .f32)
  (wkv : Vec Ideal S128x2304 .bf16) (cq sq ck sk : Vec Ideal S1024x128 .f32)

/-- Row `r` of the first product. -/
def wideRow (r : Fin 1024) (j : Fin 896) : EReal :=
  ∑ e : Fin 1024, modAt (fun d => x (ix3 0 r d)) (fun d => g (ix2 0 d)) (fun d => md (ix3 0 3 d)) (fun d => md (ix3 0 4 d)) e
    * wa (ix2 e j)

/-- Row `r` of the key and value product. -/
def keyRow (r : Fin 1024) (j : Fin 2304) : EReal :=
  ∑ e : Fin 128, normAt len128 (fun e : Fin 128 => wideRow x md g wa r ⟨256 + e.val, by omega⟩) (fun e => gkv (ix2 0 e)) e
    * wkv (ix2 e j)

/-- Row `r` of the two query products, side by side. -/
def queryRow (r : Fin 1024) (j : Fin 3072) : EReal :=
  ∑ e : Fin 256, normAt len256 (fun e : Fin 256 => wideRow x md g wa r ⟨e.val, by omega⟩) (fun e => gq (ix2 0 e)) e
    * wq (ix2 e j)

theorem wide_apply (r : Fin 1024) (j : Fin 896) :
    k0_pay1 (F := Ideal) (View.ld x r0_0) (View.ld md r0_1) (View.ld g r0_2) (View.ld wa r0_3) (ix2 r j) = wideRow x md g wa r j := by
  pointwise [k0_pay1]
  rfl

theorem key_apply (r : Fin 1024) (j : Fin 2304) :
    k0_pay6 (F := Ideal) (k0_pay1 (View.ld x r0_0) (View.ld md r0_1) (View.ld g r0_2) (View.ld wa r0_3)) (View.ld gkv r0_6)
      (View.ld wkv r0_7) (ix2 r j) = keyRow x md g wa gkv wkv r j := by
  pointwise [k0_pay6]
  simp only [wide_apply]
  rfl

theorem hidden_apply (r : Fin 1024) (e : Fin 256) :
    k0_pay20 (F := Ideal) (k0_pay1 (View.ld x r0_0) (View.ld md r0_1) (View.ld g r0_2) (View.ld wa r0_3)) (View.ld gq r0_21) (ix2 r e)
      = normAt len256 (fun e : Fin 256 => wideRow x md g wa r ⟨e.val, by omega⟩) (fun e => gq (ix2 0 e)) e := by
  pointwise [k0_pay20]
  simp only [wide_apply]
  rfl

/-- The key block: each head's lanes, plus the rotated part all heads share. -/
theorem keys_apply (r : Fin 1024) (h : Fin 12) (l : Fin 128) :
    out0_13 (F := Ideal) x md g wa gq wq gkv wkv cq sq ck sk (ix3 0 r ⟨128 * h.val + l.val, by omega⟩)
      = keyRow x md g wa gkv wkv r ⟨128 * h.val + l.val, by omega⟩
        + (wideRow x md g wa r ⟨384 + l.val, by omega⟩ * ck (ix2 r l) + wideRow x md g wa r ⟨512 + l.val, by omega⟩ * sk (ix2 r l)) := by
  have e : ∀ y, out0_13 (F := Ideal) x md g wa gq wq gkv wkv cq sq ck sk y = _ :=
    fun y => Value.canon13_eq (View.ld x r0_0) (View.ld md r0_1) (View.ld g r0_2) (View.ld wa r0_3) (View.ld gkv r0_6)
      (View.ld wkv r0_7) (View.ld ck r0_5) (View.ld sk r0_5) y
  rw [e]
  have j0 : Value.ix13_0 (ix3 0 r ⟨128 * h.val + l.val, by omega⟩) = ix2 r ⟨128 * h.val + l.val, by omega⟩ :=
    funext fun a => match a with | ⟨0, _⟩ => rfl | ⟨1, _⟩ => rfl
  have j1 : Value.ix13_1 (ix3 0 r ⟨128 * h.val + l.val, by omega⟩) = ix2 r ⟨384 + l.val, by omega⟩ :=
    funext fun a => match a with
      | ⟨0, _⟩ => rfl
      | ⟨1, _⟩ => Fin.ext (by show (128 * h.val + l.val) % 128 + 384 = 384 + l.val; omega)
  have j2 : Value.ix13_2 (ix3 0 r ⟨128 * h.val + l.val, by omega⟩) = ix2 r l :=
    funext fun a => match a with
      | ⟨0, _⟩ => rfl
      | ⟨1, _⟩ => Fin.ext (by show (128 * h.val + l.val) % 128 = l.val; omega)
  have j3 : Value.ix13_3 (ix3 0 r ⟨128 * h.val + l.val, by omega⟩) = ix2 r ⟨512 + l.val, by omega⟩ :=
    funext fun a => match a with
      | ⟨0, _⟩ => rfl
      | ⟨1, _⟩ => Fin.ext (by show (128 * h.val + l.val) % 128 + 512 = 512 + l.val; omega)
  have j4 : Value.ix13_4 (ix3 0 r ⟨128 * h.val + l.val, by omega⟩) = ix2 r l :=
    funext fun a => match a with
      | ⟨0, _⟩ => rfl
      | ⟨1, _⟩ => Fin.ext (by show (128 * h.val + l.val) % 128 = l.val; omega)
  unfold Value.E13
  rw [j0, j1, j2, j3, j4, key_apply, wide_apply, wide_apply]
  pointwise []

/-- The query block: each head's lanes against the cosine table, plus the turned lanes against the sine table. -/
theorem queries_apply (r : Fin 1024) (h : Fin 12) (l : Fin 128) :
    out0_12 (F := Ideal) x md g wa gq wq gkv wkv cq sq ck sk (ix3 0 r ⟨128 * h.val + l.val, by omega⟩)
      = queryRow x md g wa gq wq r ⟨128 * h.val + l.val, by omega⟩ * cq (ix2 r l)
        + queryRow x md g wa gq wq r ⟨1536 + (128 * h.val + l.val), by omega⟩ * sq (ix2 r l) := by
  have e : ∀ y, out0_12 (F := Ideal) x md g wa gq wq gkv wkv cq sq ck sk y = _ :=
    fun y => Value.canon12_eq (View.ld x r0_0) (View.ld md r0_1) (View.ld g r0_2) (View.ld wa r0_3) (View.ld gq r0_21)
      (View.ld wq r0_22) (View.ld cq r0_5) (View.ld wq r0_23) (View.ld sq r0_5) y
  rw [e]
  have j0 : Value.ix12_0 (ix3 0 r ⟨128 * h.val + l.val, by omega⟩) = ix2 r ⟨128 * h.val + l.val, by omega⟩ :=
    funext fun a => match a with | ⟨0, _⟩ => rfl | ⟨1, _⟩ => rfl
  have j1 : Value.ix12_1 (ix3 0 r ⟨128 * h.val + l.val, by omega⟩) = ix2 r l :=
    funext fun a => match a with
      | ⟨0, _⟩ => rfl
      | ⟨1, _⟩ => Fin.ext (by show (128 * h.val + l.val) % 128 = l.val; omega)
  have j2 : Value.ix12_2 (ix3 0 r ⟨128 * h.val + l.val, by omega⟩) = ix2 r ⟨128 * h.val + l.val, by omega⟩ :=
    funext fun a => match a with | ⟨0, _⟩ => rfl | ⟨1, _⟩ => rfl
  have j3 : Value.ix12_3 (ix3 0 r ⟨128 * h.val + l.val, by omega⟩) = ix2 r l :=
    funext fun a => match a with
      | ⟨0, _⟩ => rfl
      | ⟨1, _⟩ => Fin.ext (by show (128 * h.val + l.val) % 128 = l.val; omega)
  unfold Value.E12
  rw [j0, j1, j2, j3]
  have a : ∀ j : Fin 1536, k0_pay21 (F := Ideal) (k0_pay20 (k0_pay1 (View.ld x r0_0) (View.ld md r0_1) (View.ld g r0_2) (View.ld wa r0_3))
      (View.ld gq r0_21)) (View.ld wq r0_22) (ix2 r j) = queryRow x md g wa gq wq r ⟨j.val, by omega⟩ := fun j => by
    pointwise [k0_pay21]
    simp only [hidden_apply]
    rfl
  have b : ∀ j : Fin 1536, k0_pay22 (F := Ideal) (k0_pay20 (k0_pay1 (View.ld x r0_0) (View.ld md r0_1) (View.ld g r0_2) (View.ld wa r0_3))
      (View.ld gq r0_21)) (View.ld wq r0_23) (ix2 r j) = queryRow x md g wa gq wq r ⟨1536 + j.val, by omega⟩ := fun j => by
    pointwise [k0_pay22]
    simp only [hidden_apply]
    rfl
  have ha := a ⟨128 * h.val + l.val, by omega⟩
  have hb := b ⟨128 * h.val + l.val, by omega⟩
  unfold k0_pay20 at ha hb
  refine (congrArg₂ (· + ·) (congrArg₂ (· * ·) ha ?_) (congrArg₂ (· * ·) hb ?_))
  · pointwise []
  · pointwise []

/-- The value block. -/
theorem values_apply (r : Fin 1024) (e : Fin 768) :
    out0_14 (F := Ideal) x md g wa gq wq gkv wkv cq sq ck sk (ix3 0 r e) = keyRow x md g wa gkv wkv r ⟨1536 + e.val, by omega⟩ := by
  unfold out0_14
  refine (congrFun (View.canon_unit_zero (by funext a; fin_cases a <;> rfl) _ _) _).trans ?_
  pointwise [k0_pay19, k0_pay43, k0_pay39]
  exact key_apply x md g wa gkv wkv r _

/-- The block of the state-space inputs. -/
theorem inputs_apply (r : Fin 1024) (e : Fin 256) :
    out0_15 (F := Ideal) x md g wa gq wq gkv wkv cq sq ck sk (ix2 r e) = wideRow x md g wa r ⟨640 + e.val, by omega⟩ := by
  unfold out0_15
  refine (congrFun (View.canon_unit_zero (by funext a; fin_cases a <;> rfl) _ _) _).trans ?_
  pointwise [k0_pay2]
  exact wide_apply x md g wa r _

end Cert.Proj
-- ==== Proof.Proj.Lanes.lean ====
/-
  A head's lanes and sums: what a product against joined weights is, lane by lane, and how the two table products of a
  head's lanes make the rotation.
-/
module

public import proofs.«01_k».proof.Proof.Proj.Spec

@[expose] public section

noncomputable section

namespace Cert.Proj

open Idealize.ShloMosaic Cert.Mlp

/-- A sum against a head's lanes is, lane by lane, the sums against the lanes. -/
theorem sum_headAt {n : ℕ} (h : Fin n → EReal) (plain : Fin n → Fin 64 → EReal) (turned : Fin n → Fin 32 → EReal) (l : Fin 128) :
    ∑ e : Fin n, h e * headAt (plain e) (turned e) l
      = headAt (fun i => ∑ e : Fin n, h e * plain e i) (fun i => ∑ e : Fin n, h e * turned e i) l := by
  unfold headAt
  split_ifs
  · rfl
  · rfl
  · simp

/-- Every number of a row is real. -/
def AllReal {n : ℕ} (x : Fin n → EReal) : Prop := ∀ d, ∃ r : ℝ, x d = (r : EReal)

theorem exists_real_mul {a b : EReal} (ha : ∃ r : ℝ, a = (r : EReal)) (hb : ∃ r : ℝ, b = (r : EReal)) :
    ∃ r : ℝ, a * b = (r : EReal) := by
  obtain ⟨r, rfl⟩ := ha
  obtain ⟨s, rfl⟩ := hb
  exact ⟨r * s, (EReal.coe_mul r s).symm⟩

theorem exists_real_add {a b : EReal} (ha : ∃ r : ℝ, a = (r : EReal)) (hb : ∃ r : ℝ, b = (r : EReal)) :
    ∃ r : ℝ, a + b = (r : EReal) := by
  obtain ⟨r, rfl⟩ := ha
  obtain ⟨s, rfl⟩ := hb
  exact ⟨r + s, (EReal.coe_add r s).symm⟩

/-- A sum of reals is real, and the sum of their opposites is its opposite. -/
theorem sum_real {n : ℕ} (f : Fin n → EReal) (hf : AllReal f) :
    (∃ r : ℝ, ∑ e : Fin n, f e = (r : EReal)) ∧ ∑ e : Fin n, -f e = -∑ e : Fin n, f e := by
  choose r hr using hf
  have e1 : ∀ s : Finset (Fin n), ∑ e ∈ s, f e = ((∑ e ∈ s, r e : ℝ) : EReal) ∧ ∑ e ∈ s, -f e = ((-∑ e ∈ s, r e : ℝ) : EReal) := by
    intro s
    induction s using Finset.induction_on with
    | empty => simp
    | insert a s ha ih =>
      rw [Finset.sum_insert ha, Finset.sum_insert ha, Finset.sum_insert ha, ih.1, ih.2, hr a]
      exact ⟨(EReal.coe_add _ _).symm, by rw [← EReal.coe_neg, ← EReal.coe_add, neg_add]⟩
  obtain ⟨a, b⟩ := e1 Finset.univ
  exact ⟨⟨_, a⟩, by rw [a, b, EReal.coe_neg]⟩

/-- A sum of reals against weights turned a quarter is the quarter turn of the sums. -/
theorem sum_quarterAt {n : ℕ} (h : Fin n → EReal) (w : Fin n → Fin 32 → EReal) (hh : AllReal h) (hw : ∀ e, AllReal (w e)) (i : Fin 32) :
    ∑ e : Fin n, h e * quarterAt (w e) i = quarterAt (fun i => ∑ e : Fin n, h e * w e i) i := by
  unfold quarterAt
  split_ifs
  · rw [← (sum_real (fun e => h e * w e (oddOf i)) fun e => exists_real_mul (hh e) (hw e _)).2]
    exact Finset.sum_congr rfl fun e _ => mul_neg _ _
  · rfl

/-- The lanes of a pair against cosine, the turned lanes against sine: the rotation. -/
theorem rope_eq (t : Fin 32 → EReal) (cos sin : Fin 16 → EReal) (i : Fin 32) :
    t i * cos (pairOf i) + quarterAt t i * sin (pairOf i) = ropeAt t cos sin i := by
  unfold quarterAt ropeAt
  split_ifs with h
  · have e : evenOf i = i := Fin.ext (by show i.val / 2 * 2 = i.val; omega)
    rw [e, neg_mul, ← sub_eq_add_neg]
  · have e : oddOf i = i := Fin.ext (by show i.val / 2 * 2 + 1 = i.val; omega)
    rw [e, add_comm]

/-- The key lanes: plain lanes untouched, rotated lanes from the two tables, zeros. -/
theorem key_lane (plain : Fin 64 → EReal) (t : Fin 32 → EReal) (cos sin : Fin 16 → EReal) (l : Fin 128) :
    headAt plain (fun _ => 0) l
        + (headAt (fun _ => 0) t l * (headAt (fun _ => 0) (fun i => cos (pairOf i)) l * 1)
          + headAt (fun _ => 0) (quarterAt t) l * (headAt (fun _ => 0) (fun i => sin (pairOf i)) l * 1))
      = headAt plain (ropeAt t cos sin) l := by
  unfold headAt
  split_ifs
  · simp
  · rw [zero_add, mul_one, mul_one, rope_eq]
  · simp

theorem factor_real : 0 ≤ factor ∧ factor ≠ ⊤ := by
  have h : ∃ r : ℝ, 0 ≤ r ∧ factor = (r : EReal) := by
    unfold factor
    simp only [Ideal.ofBits, Ideal.ieee]
    simp [-EReal.coe_mul]
  obtain ⟨r, h0, e⟩ := h
  rw [e]
  exact ⟨EReal.coe_nonneg.2 h0, EReal.coe_ne_top r⟩

theorem eps_real : ∃ r : ℝ, eps = (r : EReal) ∧ 0 < r := by
  unfold eps
  simp only [Ideal.ofBits, Ideal.ieee]
  simp [-EReal.coe_mul]

/-- The query lanes, the factor already in the tables. -/
theorem query_lane (plain : Fin 64 → EReal) (t : Fin 32 → EReal) (cos sin : Fin 16 → EReal) (l : Fin 128) :
    headAt plain t l * (headAt (fun _ => 1) (fun i => cos (pairOf i)) l * factor)
        + headAt (fun _ => 0) (quarterAt t) l * (headAt (fun _ => 0) (fun i => sin (pairOf i)) l * factor)
      = headAt plain (ropeAt t cos sin) l * factor := by
  unfold headAt
  split_ifs
  · simp
  · rw [← mul_assoc, ← mul_assoc, ← EReal.right_distrib_of_nonneg_of_ne_top factor_real.1 factor_real.2, rope_eq]
  · simp

theorem len1024_real : ∃ r : ℝ, len1024 = (r : EReal) ∧ 0 < r := by
  unfold len1024
  simp only [Ideal.ofBits, Ideal.ieee]
  simp [-EReal.coe_mul]

theorem len256_real : ∃ r : ℝ, len256 = (r : EReal) ∧ 0 < r := by
  unfold len256
  simp only [Ideal.ofBits, Ideal.ieee]
  simp [-EReal.coe_mul]

/-- The inverse root of a nonnegative number over a positive length, plus the offset, is real; of an infinite one it is zero. -/
theorem inverse_root_real {len : EReal} (hlen : ∃ r : ℝ, len = (r : EReal) ∧ 0 < r) (s : EReal) (hs : 0 ≤ s) :
    (∃ r : ℝ, Ideal.rsqrt (Ideal.div s len + eps) = (r : EReal)) ∧ (s = ⊤ → Ideal.rsqrt (Ideal.div s len + eps) = 0) := by
  obtain ⟨a, rfl, ha⟩ := hlen
  obtain ⟨b, hb, hb0⟩ := eps_real
  rw [Ideal.div_coe ha.ne', hb]
  have top : Ideal.rsqrt ((⊤ : EReal) * ((1 / a : ℝ) : EReal) + (b : EReal)) = 0 := by
    rw [EReal.top_mul_coe_of_pos (by positivity), EReal.top_add_coe, Ideal.rsqrt_top]
  induction s using EReal.rec with
  | bot => exact absurd hs (by simp)
  | top => exact ⟨⟨0, by rw [top]; rfl⟩, fun _ => top⟩
  | coe s =>
    have hs0 : 0 ≤ s := EReal.coe_nonneg.1 hs
    refine ⟨?_, fun h => absurd h (EReal.coe_ne_top s)⟩
    rw [← EReal.coe_mul, ← EReal.coe_add, Ideal.rsqrt_coe]
    have hp : 0 < s * (1 / a) + b := by positivity
    rw [if_neg (not_lt.2 hp.le), if_neg hp.ne']
    exact ⟨_, rfl⟩

theorem mul_self_nonneg' (a : EReal) : 0 ≤ a * a := by
  induction a using EReal.rec with
  | bot => simp
  | top => simp
  | coe r => rw [← EReal.coe_mul]; exact EReal.coe_nonneg.2 (mul_self_nonneg r)

/-- A normalised row is real whatever the row, if the gain is: an infinite entry makes the root infinite, and its inverse zero. -/
theorem normAt_real {n : ℕ} {len : EReal} (hlen : ∃ r : ℝ, len = (r : EReal) ∧ 0 < r) (x g : Fin n → EReal) (hg : AllReal g) :
    AllReal (normAt len x g) := by
  intro d
  have hs : 0 ≤ ∑ e : Fin n, x e * x e := Finset.sum_nonneg fun e _ => mul_self_nonneg' (x e)
  have hd : x d * x d ≤ ∑ e : Fin n, x e * x e :=
    Finset.single_le_sum (f := fun e => x e * x e) (fun e _ => mul_self_nonneg' (x e)) (Finset.mem_univ d)
  obtain ⟨hr, ht⟩ := inverse_root_real hlen _ hs
  refine exists_real_mul ?_ (hg d)
  by_cases h : ∃ r : ℝ, x d = (r : EReal)
  · exact exists_real_mul h hr
  · have e : x d * x d = ⊤ := by
      generalize x d = y at h
      induction y using EReal.rec with
      | bot => simp
      | top => simp
      | coe r => exact absurd ⟨r, rfl⟩ h
    rw [ht (top_le_iff.1 (e ▸ hd)), mul_zero]
    exact ⟨0, rfl⟩

/-- So is a modulated row, if gain, shift and scale are. -/
theorem modAt_real (x g shift scale : Fin 1024 → EReal) (hg : AllReal g) (hs : AllReal shift) (hc : AllReal scale) :
    AllReal (modAt x g shift scale) := fun d =>
  exists_real_add (exists_real_mul (normAt_real len1024_real x g hg d) (exists_real_add ⟨1, rfl⟩ (hc d))) (hs d)

end Cert.Proj
-- ==== Proof.Proj.Reference.lean ====
/-
  The reference's products and rotated lanes, element by element.
-/
module

public import proofs.«01_k».proof.Proof.Gen.ProjReferenceIdeal.Read
public import proofs.«01_k».proof.Proof.Proj.Spec
public import Idealize.ShloMosaic.Lib.Pointwise.Blocks

@[expose] public section

noncomputable section

namespace Cert.Proj

open Idealize.ShloMosaic Idealize.ShloMosaic.TcCoe Cert.ProjReferenceIdeal Cert.ProjReferenceIdeal.Gen Cert.ProjReferenceIdeal.Read
open Cert.Mlp

variable (x0 : S8x4096x1024.Idx → EReal) (x1 : S16x9x1024.Idx → EReal) (x2 : S1x1024.Idx → EReal) (x3 : S1x1024x672.Idx → EReal)
  (x4 : S1x256.Idx → EReal) (x5 : S1x256x1152.Idx → EReal) (x6 : S1x128.Idx → EReal) (x7 : S1x128x1536.Idx → EReal)
  (x8 x9 : S4096x16.Idx → EReal)

/-- The first product of token `i` of batch `b`. -/
def inner (b : Fin 8) (i : Fin 4096) (j : Fin 672) : EReal :=
  innerAt (fun d => x0 (ix3 b i d)) (fun d => x2 (ix2 0 d)) (fun d => x1 (ix3 ⟨b.val, by omega⟩ 3 d)) (fun d => x1 (ix3 ⟨b.val, by omega⟩ 4 d))
    (fun e j => x3 (ix3 0 e j)) j

/-- Its queries before rotation. -/
def query (b : Fin 8) (i : Fin 4096) (j : Fin 1152) : EReal :=
  queryAt (inner x0 x1 x2 x3 b i) (fun e => x4 (ix2 0 e)) (fun e j => x5 (ix3 0 e j)) j

/-- Its keys and values. -/
def keyValue (b : Fin 8) (i : Fin 4096) (j : Fin 1536) : EReal :=
  keyValueAt (inner x0 x1 x2 x3 b i) (fun e => x6 (ix2 0 e)) (fun e j => x7 (ix3 0 e j)) j

/-- Its query of head `h`. -/
def queryHead (b : Fin 8) (i : Fin 4096) (h : Fin 12) (l : Fin 128) : EReal :=
  headAt (fun e => query x0 x1 x2 x3 x4 x5 b i ⟨h.val * 96 + e.val, by omega⟩)
    (ropeAt (fun e => query x0 x1 x2 x3 x4 x5 b i ⟨h.val * 96 + (64 + e.val), by omega⟩) (fun d => x8 (ix2 i d)) (fun d => x9 (ix2 i d))) l
    * factor

/-- Its key of head `h`. -/
def keyHead (b : Fin 8) (i : Fin 4096) (h : Fin 12) (l : Fin 128) : EReal :=
  headAt (fun e => keyValue x0 x1 x2 x3 x6 x7 b i ⟨h.val * 128 + e.val, by omega⟩)
    (ropeAt (fun e => inner x0 x1 x2 x3 b i ⟨384 + e.val, by omega⟩) (fun d => x8 (ix2 i d)) (fun d => x9 (ix2 i d))) l

theorem inner_ref (b : Fin 8) (i : Fin 4096) (j : Fin 672) :
    val_main_v45 (F := Ideal) x0 x1 x2 x3 (ix3 b i j) = inner x0 x1 x2 x3 b i j := by
  pointwise [val_main_v45, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v11, val_main_v10, val_main_v9, val_main_v8, val_main_v1, val_main_v0, val_main_cst, val_main_cst_1, val_main_cst_2]
  rfl

theorem query_ref (b : Fin 8) (i : Fin 4096) (j : Fin 1152) :
    val_main_v63 (F := Ideal) x0 x1 x2 x3 x4 x5 (ix3 b i j) = query x0 x1 x2 x3 x4 x5 b i j := by
  pointwise [val_main_v63, val_main_v62, val_main_v61, val_main_v60, val_main_v59, val_main_v58, val_main_v57, val_main_v56, val_main_v55, val_main_v54, val_main_v53, val_main_v52, val_main_v51, val_main_v50, val_main_v46, val_main_v42, val_main_v41, val_main_cst_3, val_main_cst_4, val_main_cst_5]
  simp only [inner_ref]
  rfl

theorem keyValue_ref (b : Fin 8) (i : Fin 4096) (j : Fin 1536) :
    val_main_v78 (F := Ideal) x0 x1 x2 x3 x6 x7 (ix3 b i j) = keyValue x0 x1 x2 x3 x6 x7 b i j := by
  pointwise [val_main_v78, val_main_v77, val_main_v76, val_main_v75, val_main_v74, val_main_v73, val_main_v72, val_main_v71, val_main_v70, val_main_v69, val_main_v68, val_main_v67, val_main_v66, val_main_v65, val_main_v47, val_main_v44, val_main_v43, val_main_cst_6, val_main_cst_7, val_main_cst_8]
  simp only [inner_ref]
  rfl

/-- The rotated lanes of a query. -/
theorem turned_query_ref (b : Fin 8) (i : Fin 4096) (h : Fin 12) (l : Fin 32) :
    val_main_v108 (F := Ideal) x0 x1 x2 x3 x4 x5 x8 x9 (ix4 b i h l)
      = ropeAt (fun e => query x0 x1 x2 x3 x4 x5 b i ⟨h.val * 96 + (64 + e.val), by omega⟩) (fun d => x8 (ix2 i d)) (fun d => x9 (ix2 i d)) l := by
  unfold ropeAt
  split_ifs with e
  · pointwise [val_main_v108, val_main_v107, val_main_v106, val_main_v105, val_main_v104, val_main_v103, val_main_v102, val_main_v101, val_main_v100, val_main_v99, val_main_v98, val_main_v97, val_main_v96, val_main_v95, val_main_v94, val_main_v93, val_main_v92, val_main_v91, val_main_v90, val_main_v89, val_main_v88, val_main_v87, val_main_v86, val_main_v85, val_main_v84, val_main_v81, val_main_v64]
    simp only [query_ref]
    rw [dif_pos (by omega)]
    rfl
  · pointwise [val_main_v108, val_main_v107, val_main_v106, val_main_v105, val_main_v104, val_main_v103, val_main_v102, val_main_v101, val_main_v100, val_main_v99, val_main_v98, val_main_v97, val_main_v96, val_main_v95, val_main_v94, val_main_v93, val_main_v92, val_main_v91, val_main_v90, val_main_v89, val_main_v88, val_main_v87, val_main_v86, val_main_v85, val_main_v84, val_main_v81, val_main_v64]
    simp only [query_ref]
    rw [dif_neg (by omega)]
    rfl

/-- The rotated lanes all heads' keys share. -/
theorem turned_key_ref (b : Fin 8) (i : Fin 4096) (l : Fin 32) :
    val_main_v131 (F := Ideal) x0 x1 x2 x3 x8 x9 (ix3 b i l)
      = ropeAt (fun e => inner x0 x1 x2 x3 b i ⟨384 + e.val, by omega⟩) (fun d => x8 (ix2 i d)) (fun d => x9 (ix2 i d)) l := by
  unfold ropeAt
  split_ifs with e
  · pointwise [val_main_v131, val_main_v130, val_main_v129, val_main_v128, val_main_v127, val_main_v126, val_main_v125, val_main_v124, val_main_v123, val_main_v122, val_main_v121, val_main_v120, val_main_v119, val_main_v118, val_main_v117, val_main_v116, val_main_v115, val_main_v114, val_main_v113, val_main_v112, val_main_v111, val_main_v110, val_main_v109, val_main_v48]
    simp only [inner_ref]
    rw [dif_pos (by omega)]
    rfl
  · pointwise [val_main_v131, val_main_v130, val_main_v129, val_main_v128, val_main_v127, val_main_v126, val_main_v125, val_main_v124, val_main_v123, val_main_v122, val_main_v121, val_main_v120, val_main_v119, val_main_v118, val_main_v117, val_main_v116, val_main_v115, val_main_v114, val_main_v113, val_main_v112, val_main_v111, val_main_v110, val_main_v109, val_main_v48]
    simp only [inner_ref]
    rw [dif_neg (by omega)]
    rfl

end Cert.Proj
-- ==== Proof.Proj.Rows.lean ====
/-
  The rows of a point's three products, as the reference's products of its tokens: lane by lane of the joined weights.
-/
module

public import proofs.«01_k».proof.Proof.Proj.Tiles
public import proofs.«01_k».proof.Proof.Proj.Block
public import proofs.«01_k».proof.Proof.Proj.Lanes
public import proofs.«01_k».proof.Proof.Proj.Reference

@[expose] public section

noncomputable section

namespace Cert.Proj

open Idealize.ShloMosaic Idealize.ShloMosaic.TcCoe Cert.ProjIdeal Cert.ProjIdeal.Gen Cert.Mlp

variable (m : (ℓ : Loc nD τ sig) → Buf (Elt Ideal) ℓ) (c : Dev nD) (t : Fin cfg0.N) (r : Fin 1024)

/-- The modulation, the gain and the weights before the rotations are real. -/
def Finite : Prop :=
  (∀ i, ∃ r : ℝ, argMod m c i = r) ∧ (∀ i, ∃ r : ℝ, argG m c i = r) ∧ (∀ i, ∃ r : ℝ, argW m c i = r)
    ∧ (∀ i, ∃ r : ℝ, argGq m c i = r) ∧ ∀ i, ∃ r : ℝ, argWq m c i = r

/-- A token's modulated row. -/
def hiddenOf (b : Fin 8) (i : Fin 4096) : Fin 1024 → EReal :=
  modAt (fun d => argX m c (ix3 b i d)) (fun d => argG m c (ix2 0 d)) (fun d => argMod m c (ix3 ⟨b.val, by omega⟩ 3 d))
    (fun d => argMod m c (ix3 ⟨b.val, by omega⟩ 4 d))

/-- A token's first product, its queries, its keys and values. -/
abbrev innerOf (b : Fin 8) (i : Fin 4096) (j : Fin 672) : EReal := inner (argX m c) (argMod m c) (argG m c) (argW m c) b i j
abbrev queryOf (b : Fin 8) (i : Fin 4096) (j : Fin 1152) : EReal :=
  query (argX m c) (argMod m c) (argG m c) (argW m c) (argGq m c) (argWq m c) b i j
abbrev keyValueOf (b : Fin 8) (i : Fin 4096) (j : Fin 1536) : EReal :=
  keyValue (argX m c) (argMod m c) (argG m c) (argW m c) (argGkv m c) (argWkv m c) b i j

/-- The rows of the point's products. -/
abbrev wideOf (j : Fin 896) : EReal := wideRow (iblk m c 0 t) (iblk m c 1 t) (iblk m c 2 t) (iblk m c 3 t) r j
abbrev keyOf (j : Fin 2304) : EReal :=
  keyRow (iblk m c 0 t) (iblk m c 1 t) (iblk m c 2 t) (iblk m c 3 t) (iblk m c 6 t) (iblk m c 7 t) r j
abbrev queryLanesOf (j : Fin 3072) : EReal :=
  queryRow (iblk m c 0 t) (iblk m c 1 t) (iblk m c 2 t) (iblk m c 3 t) (iblk m c 4 t) (iblk m c 5 t) r j

theorem hiddenOf_real (h : Finite m c) (b : Fin 8) (i : Fin 4096) : AllReal (hiddenOf m c b i) :=
  modAt_real _ _ _ _ (fun _ => h.2.1 _) (fun _ => h.1 _) (fun _ => h.1 _)

theorem wideOf_eq (j : Fin 896) : wideOf m c t r j
    = ∑ e : Fin 1024, hiddenOf m c (batchOf t) (tokenOf t r) e * (V m c main_v17 : S1024x896.Idx → EReal) (ix2 e j) := by
  unfold wideOf wideRow
  simp only [iblk0_apply, iblk1_apply, iblk2_apply, iblk3_apply]
  rfl

theorem wide_low (j : Fin 384) : wideOf m c t r ⟨j.val, by omega⟩ = innerOf m c (batchOf t) (tokenOf t r) ⟨j.val, by omega⟩ := by
  refine (wideOf_eq m c t r _).trans ((Finset.sum_congr rfl fun e _ => congrArg (hiddenOf m c (batchOf t) (tokenOf t r) e * ·) (low_lanes m c e j)).trans ?_)
  rfl

theorem wide_input (j : Fin 256) :
    wideOf m c t r ⟨640 + j.val, by omega⟩ = innerOf m c (batchOf t) (tokenOf t r) ⟨416 + j.val, by omega⟩ := by
  refine (wideOf_eq m c t r _).trans ((Finset.sum_congr rfl fun e _ => congrArg (hiddenOf m c (batchOf t) (tokenOf t r) e * ·) (input_lanes m c e j)).trans ?_)
  rfl

theorem wide_key (l : Fin 128) : wideOf m c t r ⟨384 + l.val, by omega⟩
    = headAt (fun _ => 0) (fun i => innerOf m c (batchOf t) (tokenOf t r) ⟨384 + i.val, by omega⟩) l := by
  refine (wideOf_eq m c t r _).trans ((Finset.sum_congr rfl fun e _ => congrArg (hiddenOf m c (batchOf t) (tokenOf t r) e * ·) (key_lanes m c e l)).trans ?_)
  rw [sum_headAt]
  simp only [mul_zero, Finset.sum_const_zero]
  rfl

theorem wide_turned (h : Finite m c) (l : Fin 128) : wideOf m c t r ⟨512 + l.val, by omega⟩
    = headAt (fun _ => 0) (quarterAt fun i => innerOf m c (batchOf t) (tokenOf t r) ⟨384 + i.val, by omega⟩) l := by
  refine (wideOf_eq m c t r _).trans ((Finset.sum_congr rfl fun e _ => congrArg (hiddenOf m c (batchOf t) (tokenOf t r) e * ·) (turned_key_lanes m c e l)).trans ?_)
  rw [sum_headAt]
  simp only [mul_zero, Finset.sum_const_zero]
  simp only [sum_quarterAt _ (fun e i => argW m c (ix3 0 e ⟨384 + i.val, by omega⟩)) (hiddenOf_real m c h _ _) fun _ _ => h.2.2.1 _]
  rfl

/-- The row the keys and values are made of. -/
theorem keyOf_eq (j : Fin 2304) : keyOf m c t r j
    = ∑ e : Fin 128, normAt len128 (fun e : Fin 128 => innerOf m c (batchOf t) (tokenOf t r) ⟨256 + e.val, by omega⟩)
        (fun e => argGkv m c (ix2 0 e)) e * (V m c main_v51 : S128x2304.Idx → EReal) (ix2 e j) := by
  have e : (fun e : Fin 128 => wideOf m c t r ⟨256 + e.val, by omega⟩)
      = fun e : Fin 128 => innerOf m c (batchOf t) (tokenOf t r) ⟨256 + e.val, by omega⟩ :=
    funext fun e => wide_low m c t r ⟨256 + e.val, by omega⟩
  unfold keyOf keyRow
  rw [← e]
  simp only [iblk6_apply, iblk7_apply]

theorem key_plain (h : Fin 12) (l : Fin 128) : keyOf m c t r ⟨128 * h.val + l.val, by omega⟩
    = headAt (fun e => keyValueOf m c (batchOf t) (tokenOf t r) ⟨h.val * 128 + e.val, by omega⟩) (fun _ => 0) l := by
  refine (keyOf_eq m c t r _).trans ((Finset.sum_congr rfl fun e _ => congrArg (normAt len128 (fun e : Fin 128 => innerOf m c (batchOf t) (tokenOf t r) ⟨256 + e.val, by omega⟩) (fun e => argGkv m c (ix2 0 e)) e * ·) (key_value_lanes m c e h l)).trans ?_)
  rw [sum_headAt]
  simp only [mul_zero, Finset.sum_const_zero]
  rfl

theorem key_value (j : Fin 768) : keyOf m c t r ⟨1536 + j.val, by omega⟩
    = keyValueOf m c (batchOf t) (tokenOf t r) ⟨j.val / 64 * 128 + (64 + j.val % 64), by omega⟩ := by
  refine (keyOf_eq m c t r _).trans ((Finset.sum_congr rfl fun e _ => congrArg (normAt len128 (fun e : Fin 128 => innerOf m c (batchOf t) (tokenOf t r) ⟨256 + e.val, by omega⟩) (fun e => argGkv m c (ix2 0 e)) e * ·) (value_lanes m c e j)).trans ?_)
  rfl

/-- The row the queries are made of. -/
theorem queryLanesOf_eq (j : Fin 3072) : queryLanesOf m c t r j
    = ∑ e : Fin 256, normAt len256 (fun e : Fin 256 => innerOf m c (batchOf t) (tokenOf t r) ⟨e.val, by omega⟩)
        (fun e => argGq m c (ix2 0 e)) e * (V m c main_v41 : S256x3072.Idx → EReal) (ix2 e j) := by
  have e : (fun e : Fin 256 => wideOf m c t r ⟨e.val, by omega⟩)
      = fun e : Fin 256 => innerOf m c (batchOf t) (tokenOf t r) ⟨e.val, by omega⟩ :=
    funext fun e => wide_low m c t r ⟨e.val, by omega⟩
  unfold queryLanesOf queryRow
  rw [← e]
  simp only [iblk4_apply, iblk5_apply]

theorem query_plain (h : Fin 12) (l : Fin 128) : queryLanesOf m c t r ⟨128 * h.val + l.val, by omega⟩
    = headAt (fun e => queryOf m c (batchOf t) (tokenOf t r) ⟨h.val * 96 + e.val, by omega⟩)
        (fun e => queryOf m c (batchOf t) (tokenOf t r) ⟨h.val * 96 + (64 + e.val), by omega⟩) l := by
  refine (queryLanesOf_eq m c t r _).trans ((Finset.sum_congr rfl fun e _ => congrArg (normAt len256 (fun e : Fin 256 => innerOf m c (batchOf t) (tokenOf t r) ⟨e.val, by omega⟩) (fun e => argGq m c (ix2 0 e)) e * ·) (query_lanes m c e h l)).trans ?_)
  rw [sum_headAt]
  rfl

theorem query_turned (hf : Finite m c) (h : Fin 12) (l : Fin 128) :
    queryLanesOf m c t r ⟨1536 + (128 * h.val + l.val), by omega⟩
      = headAt (fun _ => 0) (quarterAt fun e => queryOf m c (batchOf t) (tokenOf t r) ⟨h.val * 96 + (64 + e.val), by omega⟩) l := by
  refine (queryLanesOf_eq m c t r _).trans ((Finset.sum_congr rfl fun e _ => congrArg (normAt len256 (fun e : Fin 256 => innerOf m c (batchOf t) (tokenOf t r) ⟨e.val, by omega⟩) (fun e => argGq m c (ix2 0 e)) e * ·) (turned_query_lanes m c e h l)).trans ?_)
  rw [sum_headAt]
  simp only [mul_zero, Finset.sum_const_zero]
  simp only [sum_quarterAt _ (fun e i => argWq m c (ix3 0 e ⟨h.val * 96 + (64 + i.val), by omega⟩))
    (normAt_real len256_real _ _ fun _ => hf.2.2.2.1 _) fun _ _ => hf.2.2.2.2 _]
  rfl

end Cert.Proj
-- ==== Proof.Proj.Array.lean ====
/-
  The projection kernel's four output arrays, element by element: grid point `(b, j)` writes the queries, keys, values and
  state-space inputs of tokens `1024 j … 1024 j + 1023` of batch `b`, and the 32 blocks tile each array.
-/
module

public import proofs.«01_k».proof.Proof.Proj.Rows

@[expose] public section

noncomputable section

namespace Cert.Proj

open Idealize.ShloMosaic Idealize.ShloMosaic.TcCoe Cert.ProjIdeal Cert.ProjIdeal.Gen Cert.Mlp
open Idealize.ShloMosaic.Pipeline (Dat)

variable (m : (ℓ : Loc nD τ sig) → Buf (Elt Ideal) ℓ) (c : Dev nD)

/-- The four results, as arrays. -/
def queryArr : S8x4096x1536.Idx → EReal := fun i =>
  queryHead (argX m c) (argMod m c) (argG m c) (argW m c) (argGq m c) (argWq m c) (argCos m c) (argSin m c) (i 0) (i 1)
    ⟨(i 2).val / 128, Nat.div_lt_of_lt_mul (i 2).isLt⟩ ⟨(i 2).val % 128, Nat.mod_lt _ (by decide)⟩
def keyArr : S8x4096x1536.Idx → EReal := fun i =>
  keyHead (argX m c) (argMod m c) (argG m c) (argW m c) (argGkv m c) (argWkv m c) (argCos m c) (argSin m c) (i 0) (i 1)
    ⟨(i 2).val / 128, Nat.div_lt_of_lt_mul (i 2).isLt⟩ ⟨(i 2).val % 128, Nat.mod_lt _ (by decide)⟩
def valueArr : S8x4096x768.Idx → EReal := fun i =>
  keyValueOf m c (i 0) (i 1) ⟨(i 2).val / 64 * 128 + (64 + (i 2).val % 64), by have h : (i 2).val < 768 := (i 2).isLt; omega⟩
def inputArr : S4096x2048.Idx → EReal := fun i =>
  innerOf m c ⟨(i 1).val / 256, Nat.div_lt_of_lt_mul (i 1).isLt⟩ (i 0)
    ⟨416 + (i 1).val % 256, by omega⟩

/-! ### The blocks a point writes -/

theorem queries_block (hf : Finite m c) (t : Fin cfg0.N) (r : Fin 1024) (h : Fin 12) (l : Fin 128) :
    out0_12 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix3 0 r ⟨128 * h.val + l.val, by omega⟩)
      = queryHead (argX m c) (argMod m c) (argG m c) (argW m c) (argGq m c) (argWq m c) (argCos m c) (argSin m c) (batchOf t) (tokenOf t r) h l := by
  refine (queries_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) r h l).trans ?_
  refine (congrArg₂ (· + ·)
    (congrArg₂ (· * ·) (query_plain m c t r h l) ((iblk8_apply m c t r l).trans (query_cos m c (tokenOf t r) l)))
    (congrArg₂ (· * ·) (query_turned m c t r hf h l) ((iblk9_apply m c t r l).trans (query_sin m c (tokenOf t r) l)))).trans ?_
  exact query_lane _ _ (fun d => argCos m c (ix2 (tokenOf t r) d)) (fun d => argSin m c (ix2 (tokenOf t r) d)) l

theorem keys_block (hf : Finite m c) (t : Fin cfg0.N) (r : Fin 1024) (h : Fin 12) (l : Fin 128) :
    out0_13 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix3 0 r ⟨128 * h.val + l.val, by omega⟩)
      = keyHead (argX m c) (argMod m c) (argG m c) (argW m c) (argGkv m c) (argWkv m c) (argCos m c) (argSin m c) (batchOf t) (tokenOf t r) h l := by
  refine (keys_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) r h l).trans ?_
  refine (congrArg₂ (· + ·) (key_plain m c t r h l) (congrArg₂ (· + ·)
    (congrArg₂ (· * ·) (wide_key m c t r l) ((iblk10_apply m c t r l).trans (key_cos m c (tokenOf t r) l)))
    (congrArg₂ (· * ·) (wide_turned m c t r hf l) ((iblk11_apply m c t r l).trans (key_sin m c (tokenOf t r) l))))).trans ?_
  exact key_lane _ _ (fun d => argCos m c (ix2 (tokenOf t r) d)) (fun d => argSin m c (ix2 (tokenOf t r) d)) l

/-- A lane is a head and a lane of it. -/
theorem lane_split (d : Fin 1536) : d = ⟨128 * (⟨d.val / 128, by omega⟩ : Fin 12).val + (⟨d.val % 128, by omega⟩ : Fin 128).val, by
    simp only []; omega⟩ :=
  Fin.ext (by show d.val = 128 * (d.val / 128) + d.val % 128; omega)

/-- An index of a row tile of one batch. -/
theorem tile_index {w : ℕ} (y : (⟨3, ![1, 1024, w]⟩ : Shape).Idx) : ∃ (r : Fin 1024) (d : Fin w), y = ix3 (0 : Fin 1) r d := by
  refine ⟨y 1, y 2, funext fun a => ?_⟩
  match a with
  | ⟨0, _⟩ => exact Fin.ext (by have h : (y 0).val < 1 := (y 0).isLt; show (y 0).val = 0; omega)
  | ⟨1, _⟩ => rfl
  | ⟨2, _⟩ => rfl

/-- The point and the row of its tile a token belongs to. -/
theorem token_split (b : Fin 8) (i : Fin 4096) : ∃ (t : Fin cfg0.N) (r : Fin 1024), batchOf t = b ∧ tokenOf t r = i := by
  obtain ⟨t, e0, e1⟩ := index_onto b ⟨i.val / 1024, by omega⟩
  refine ⟨t, ⟨i.val % 1024, by omega⟩, Fin.ext e0, Fin.ext ?_⟩
  show 1024 * win0_12.index t (1 : Fin 3) + i.val % 1024 = i.val
  rw [e1]; simp only []; omega

/-! ### The arrays after the run -/

theorem queryArr_eq (hf : Finite m c) : (dats m 0 c).arrAt 12 cfg0.N = queryArr m c := by
  refine (dats m 0 c).arrAt_eq_of_cover 12 (queryArr m c) (fun t _ => ?_) fun i => ?_
  · rw [Value.flushed12]
    funext y
    change S1x1024x1536.Idx at y
    show out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y = queryArr m c (((cfg0.win 12).blk t).view.emb y)
    obtain ⟨r, d, rfl⟩ := tile_index y
    rw [emb12]
    refine (congrArg (fun d => out0_12 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix3 0 r d)) (lane_split d)).trans ?_
    exact queries_block m c hf t r _ _
  · change S8x4096x1536.Idx at i
    obtain ⟨t, r, e0, e1⟩ := token_split (i 0) (i 1)
    refine ⟨t, (flush_all t).1, ?_⟩
    have e : i = ((cfg0.win 12).blk t).view.emb (ix3 0 r ⟨(i 2).val, (i 2).isLt⟩) := by
      rw [emb12, e0, e1]
      exact funext fun a => match a with | ⟨0, _⟩ => rfl | ⟨1, _⟩ => rfl | ⟨2, _⟩ => rfl
    rw [e]
    exact Finset.mem_map.2 ⟨_, Finset.mem_univ _, rfl⟩

theorem keyArr_eq (hf : Finite m c) : (dats m 0 c).arrAt 13 cfg0.N = keyArr m c := by
  refine (dats m 0 c).arrAt_eq_of_cover 13 (keyArr m c) (fun t _ => ?_) fun i => ?_
  · rw [Value.flushed13]
    funext y
    change S1x1024x1536.Idx at y
    show out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y = keyArr m c (((cfg0.win 13).blk t).view.emb y)
    obtain ⟨r, d, rfl⟩ := tile_index y
    rw [emb13]
    refine (congrArg (fun d => out0_13 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix3 0 r d)) (lane_split d)).trans ?_
    exact keys_block m c hf t r _ _
  · change S8x4096x1536.Idx at i
    obtain ⟨t, r, e0, e1⟩ := token_split (i 0) (i 1)
    refine ⟨t, (flush_all t).2.1, ?_⟩
    have e : i = ((cfg0.win 13).blk t).view.emb (ix3 0 r ⟨(i 2).val, (i 2).isLt⟩) := by
      rw [emb13, e0, e1]
      exact funext fun a => match a with | ⟨0, _⟩ => rfl | ⟨1, _⟩ => rfl | ⟨2, _⟩ => rfl
    rw [e]
    exact Finset.mem_map.2 ⟨_, Finset.mem_univ _, rfl⟩

theorem valueArr_eq : (dats m 0 c).arrAt 14 cfg0.N = valueArr m c := by
  refine (dats m 0 c).arrAt_eq_of_cover 14 (valueArr m c) (fun t _ => ?_) fun i => ?_
  · rw [Value.flushed14]
    funext y
    change S1x1024x768.Idx at y
    show out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y = valueArr m c (((cfg0.win 14).blk t).view.emb y)
    obtain ⟨r, d, rfl⟩ := tile_index y
    rw [emb14]
    exact (values_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) r d).trans (key_value m c t r d)
  · change S8x4096x768.Idx at i
    obtain ⟨t, r, e0, e1⟩ := token_split (i 0) (i 1)
    refine ⟨t, (flush_all t).2.2.1, ?_⟩
    have e : i = ((cfg0.win 14).blk t).view.emb (ix3 0 r ⟨(i 2).val, (i 2).isLt⟩) := by
      rw [emb14, e0, e1]
      exact funext fun a => match a with | ⟨0, _⟩ => rfl | ⟨1, _⟩ => rfl | ⟨2, _⟩ => rfl
    rw [e]
    exact Finset.mem_map.2 ⟨_, Finset.mem_univ _, rfl⟩

theorem inputArr_eq : (dats m 0 c).arrAt 15 cfg0.N = inputArr m c := by
  refine (dats m 0 c).arrAt_eq_of_cover 15 (inputArr m c) (fun t _ => ?_) fun i => ?_
  · rw [Value.flushed15]
    funext y
    change S1024x256.Idx at y
    show out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y = inputArr m c (((cfg0.win 15).blk t).view.emb y)
    obtain ⟨r, d, rfl⟩ : ∃ (r : Fin 1024) (d : Fin 256), y = ix2 r d :=
      ⟨y 0, y 1, funext fun a => match a with | ⟨0, _⟩ => rfl | ⟨1, _⟩ => rfl⟩
    rw [emb15]
    refine (inputs_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) r d).trans ((wide_input m c t r d).trans ?_)
    have e0 : (256 * (batchOf t).val + d.val) / 256 = (batchOf t).val := by omega
    have e1 : (256 * (batchOf t).val + d.val) % 256 = d.val := by omega
    exact congrArg₂ (fun b j => innerOf m c b (tokenOf t r) j) (Fin.ext e0.symm) (Fin.ext (congrArg (416 + ·) e1.symm))
  · change S4096x2048.Idx at i
    have hi : (i 1).val < 2048 := (i 1).isLt
    obtain ⟨t, r, e0, e1⟩ := token_split ⟨(i 1).val / 256, by omega⟩ (i 0)
    refine ⟨t, (flush_all t).2.2.2, ?_⟩
    have e : i = ((cfg0.win 15).blk t).view.emb (ix2 r ⟨(i 1).val % 256, by omega⟩) := by
      rw [emb15]
      funext a; apply Fin.ext
      match a with
      | ⟨0, _⟩ => exact congrArg Fin.val e1.symm
      | ⟨1, _⟩ => show (i 1).val = 256 * (batchOf t).val + (i 1).val % 256; rw [e0]; simp only []; omega
    rw [e]
    exact Finset.mem_map.2 ⟨_, Finset.mem_univ _, rfl⟩

end Cert.Proj
-- ==== Proof.Proj.Heads.lean ====
/-
  The reference's four results, element by element, from the products and rotations they are made of.
-/
module

public import proofs.«01_k».proof.Proof.Proj.Reference
public import Idealize.ShloMosaic.Lib.Pointwise.Blocks

@[expose] public section

noncomputable section

namespace Cert.Proj

open Idealize.ShloMosaic Idealize.ShloMosaic.TcCoe Cert.ProjReferenceIdeal Cert.ProjReferenceIdeal.Gen Cert.ProjReferenceIdeal.Read
open Cert.Mlp

variable (x0 : S8x4096x1024.Idx → EReal) (x1 : S16x9x1024.Idx → EReal) (x2 : S1x1024.Idx → EReal) (x3 : S1x1024x672.Idx → EReal)
  (x4 : S1x256.Idx → EReal) (x5 : S1x256x1152.Idx → EReal) (x6 : S1x128.Idx → EReal) (x7 : S1x128x1536.Idx → EReal)
  (x8 x9 : S4096x16.Idx → EReal)

/-- A head's query. -/
theorem query_head_ref (b : Fin 8) (i : Fin 4096) (h : Fin 12) (l : Fin 128) :
    val_main_v137 (F := Ideal) x0 x1 x2 x3 x4 x5 x8 x9 (ix4 b i h l) = queryHead x0 x1 x2 x3 x4 x5 x8 x9 b i h l := by
  unfold queryHead headAt
  split_ifs with e e'
  · pointwise [val_main_v137, val_main_v136, val_main_v135, val_main_v134, val_main_v80, val_main_v64, val_main_cst_9, val_main_cst_10]
    simp only [turned_query_ref, query_ref]
    rw [dif_pos e]
    rfl
  · pointwise [val_main_v137, val_main_v136, val_main_v135, val_main_v134, val_main_v80, val_main_v64, val_main_cst_9, val_main_cst_10]
    simp only [turned_query_ref, query_ref]
    rw [dif_neg e, dif_pos (by omega)]
    rfl
  · pointwise [val_main_v137, val_main_v136, val_main_v135, val_main_v134, val_main_v80, val_main_v64, val_main_cst_9, val_main_cst_10]
    simp only [turned_query_ref, query_ref]
    rw [dif_neg e, dif_neg (by omega)]
    rfl

/-- A head's key. -/
theorem key_head_ref (b : Fin 8) (i : Fin 4096) (h : Fin 12) (l : Fin 128) :
    val_main_v138 (F := Ideal) x0 x1 x2 x3 x6 x7 x8 x9 (ix4 b i h l) = keyHead x0 x1 x2 x3 x6 x7 x8 x9 b i h l := by
  unfold keyHead headAt
  split_ifs with e e'
  · pointwise [val_main_v138, val_main_v134, val_main_v133, val_main_v132, val_main_v82, val_main_v79, val_main_cst_9]
    simp only [turned_key_ref, keyValue_ref]
    rw [dif_pos e]
  · pointwise [val_main_v138, val_main_v134, val_main_v133, val_main_v132, val_main_v82, val_main_v79, val_main_cst_9]
    simp only [turned_key_ref, keyValue_ref]
    rw [dif_neg e, dif_pos (by omega)]
  · pointwise [val_main_v138, val_main_v134, val_main_v133, val_main_v132, val_main_v82, val_main_v79, val_main_cst_9]
    simp only [turned_key_ref, keyValue_ref]
    rw [dif_neg e, dif_neg (by omega)]

/-- Heads laid one after the other, rounded, read at one lane. -/
theorem flat_heads (k : Vec Ideal S8x4096x12x128 .f32) (b : Fin 8) (i : Fin 4096) (j : Fin 1536) :
    truncf (F := Ideal) .bf16 (shapeCast S8x4096x1536 k shapeCasts_S8x4096x12x128_S8x4096x1536) bitsLt_bf16_f32 (ix3 b i j)
      = k (ix4 b i ⟨j.val / 128, by omega⟩ ⟨j.val % 128, by omega⟩) := by
  pointwise []

/-- The queries, laid head after head. -/
theorem queries_ref (b : Fin 8) (i : Fin 4096) (j : Fin 1536) :
    val_main_v140 (F := Ideal) x0 x1 x2 x3 x4 x5 x8 x9 (ix3 b i j)
      = queryHead x0 x1 x2 x3 x4 x5 x8 x9 b i ⟨j.val / 128, by omega⟩ ⟨j.val % 128, by omega⟩ := by
  unfold val_main_v140 val_main_v139
  rw [← query_head_ref]
  exact flat_heads _ b i j

/-- The keys, laid head after head. -/
theorem keys_ref (b : Fin 8) (i : Fin 4096) (j : Fin 1536) :
    val_main_v142 (F := Ideal) x0 x1 x2 x3 x6 x7 x8 x9 (ix3 b i j)
      = keyHead x0 x1 x2 x3 x6 x7 x8 x9 b i ⟨j.val / 128, by omega⟩ ⟨j.val % 128, by omega⟩ := by
  unfold val_main_v142 val_main_v141
  rw [← key_head_ref]
  exact flat_heads _ b i j

/-- The values, laid head after head. -/
theorem values_ref (b : Fin 8) (i : Fin 4096) (j : Fin 768) :
    val_main_v144 (F := Ideal) x0 x1 x2 x3 x6 x7 (ix3 b i j)
      = keyValue x0 x1 x2 x3 x6 x7 b i ⟨j.val / 64 * 128 + (64 + j.val % 64), by omega⟩ := by
  pointwise [val_main_v144, val_main_v143, val_main_v83, val_main_v79]
  simp only [keyValue_ref]

/-- The state-space inputs, token by token, batch after batch. -/
theorem inputs_ref (i : Fin 4096) (j : Fin 2048) :
    val_main_v146 (F := Ideal) x0 x1 x2 x3 (ix2 i j)
      = inner x0 x1 x2 x3 ⟨j.val / 256, by omega⟩ i ⟨416 + j.val % 256, by omega⟩ := by
  pointwise [val_main_v146, val_main_v145, val_main_v49]
  simp only [inner_ref]

end Cert.Proj
-- ==== Proof.Attn.Softmax.lean ====
/-
  The mathematics of a softmax mean computed in chunks, over the extended reals.

  A row's scores are real numbers `σ k` and its values `v k` are any extended reals. Weights are powers of two, so the
  mean is `(∑ 2^(σ k) * v k) / ∑ 2^(σ k)`. A kernel never forms `2^(σ k)` but `2^(σ k - μ)` for a running real `μ`;
  multiplying by a positive real distributes over a sum of extended reals, so every such sum is `2^(-μ)` times the plain
  one, and the factor cancels in the quotient. Nothing here needs `μ` to be the largest score, only to be real.
-/
module

public import Idealize.ShloMosaic.PureOps.Ideal
public import Mathlib.Analysis.SpecialFunctions.Pow.Real

@[expose] public section

noncomputable section

namespace Cert.Attn

open Idealize.ShloMosaic

/-- A nonnegative real factor distributes over a finite sum of extended reals. -/
theorem coe_mul_sum {ι : Type} (s : Finset ι) {c : ℝ} (hc : 0 ≤ c) (f : ι → EReal) :
    (c : EReal) * ∑ i ∈ s, f i = ∑ i ∈ s, (c : EReal) * f i := by
  classical
  induction s using Finset.induction_on with
  | empty => simp
  | insert a s ha ih =>
    rw [Finset.sum_insert ha, Finset.sum_insert ha,
      EReal.left_distrib_of_nonneg_of_ne_top (by exact_mod_cast hc) (EReal.coe_ne_top c), ih]

/-- The same over a sum of two. -/
theorem coe_mul_add {c : ℝ} (hc : 0 ≤ c) (x y : EReal) : (c : EReal) * (x + y) = c * x + c * y :=
  EReal.left_distrib_of_nonneg_of_ne_top (by exact_mod_cast hc) (EReal.coe_ne_top c) x y

/-- A finite sum of reals, as an extended real. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Powers of two, as a real function. -/
def pw (x : ℝ) : ℝ := Real.rpow 2 x

theorem pw_pos (x : ℝ) : 0 < pw x := Real.rpow_pos_of_pos two_pos x

theorem pw_add (x y : ℝ) : pw (x + y) = pw x * pw y := Real.rpow_add two_pos x y

/-- The weighted sum of the values, with weights `2^(σ k)`. -/
def total {n : Nat} (σ : Fin n → ℝ) (v : Fin n → EReal) : EReal := ∑ k, (pw (σ k) : EReal) * v k

/-- The softmax mean: the weighted sum over the sum of the weights. -/
def mean {n : Nat} (σ : Fin n → ℝ) (v : Fin n → EReal) : EReal := total σ v * (((∑ k, pw (σ k))⁻¹ : ℝ) : EReal)

/-- Weights taken relative to a real `μ` scale the sum by `2^(-μ)`. -/
theorem total_shift {n : Nat} (σ : Fin n → ℝ) (v : Fin n → EReal) (μ : ℝ) :
    ∑ k, (pw (σ k - μ) : EReal) * v k = (pw (-μ) : EReal) * total σ v := by
  unfold total
  rw [coe_mul_sum _ (pw_pos _).le]
  refine Finset.sum_congr rfl fun k _ => ?_
  rw [← mul_assoc, ← EReal.coe_mul, ← pw_add, neg_add_eq_sub]

/-- Moving a scaled sum from `μ` to `ν` and adding a chunk taken relative to `ν`. -/
theorem rescale_add {n : Nat} (A : EReal) (σ : Fin n → ℝ) (v : Fin n → EReal) (μ ν : ℝ) :
    (pw (μ - ν) : EReal) * ((pw (-μ) : EReal) * A) + ∑ k, (pw (σ k - ν) : EReal) * v k
      = (pw (-ν) : EReal) * (A + total σ v) := by
  rw [total_shift, coe_mul_add (pw_pos _).le, ← mul_assoc, ← EReal.coe_mul, ← pw_add]
  congr 4
  ring

/-- The ideal difference of two reals, exponentiated. -/
theorem exp2_sub (x y : ℝ) : Ideal.exp2 ((x : EReal) - (y : EReal)) = (pw (x - y) : EReal) := by
  rw [← EReal.coe_sub, Ideal.exp2_coe]; rfl

/-- The quotient of two sums with the same positive factor. -/
theorem div_scaled (A : EReal) {c L : ℝ} (hc : 0 < c) (hL : 0 < L) :
    Ideal.div ((c : EReal) * A) ((c : EReal) * (L : EReal)) = A * ((L⁻¹ : ℝ) : EReal) := by
  rw [← EReal.coe_mul]
  unfold Ideal.div
  have h : ((c * L : ℝ) : EReal) ≠ 0 := by exact_mod_cast (mul_pos hc hL).ne'
  rw [if_neg h, ← EReal.coe_inv, mul_comm (c : EReal) A, mul_assoc, ← EReal.coe_mul]
  congr 2
  field_simp

/-- A sum of ones with weights `2^(σ k)` is real. -/
theorem total_one {n : Nat} (σ : Fin n → ℝ) : total σ (fun _ => 1) = ((∑ k, pw (σ k) : ℝ) : EReal) := by
  unfold total; rw [coe_sum]; exact Finset.sum_congr rfl fun k _ => mul_one _

/-- The larger of two reals is real. -/
theorem max_real {x y : EReal} (hx : ∃ r : ℝ, x = r) (hy : ∃ r : ℝ, y = r) : ∃ r : ℝ, max x y = r := by
  obtain ⟨a, rfl⟩ := hx; obtain ⟨b, rfl⟩ := hy
  exact ⟨max a b, (EReal.coe_strictMono.monotone.map_max (a := a) (b := b)).symm⟩

/-- The largest of finitely many reals, at least one of them, is real. -/
theorem fold_max_real {n : Nat} (f : Fin (n + 1) → EReal) (h : ∀ k, ∃ r : ℝ, f k = r) :
    ∃ r : ℝ, Finset.univ.fold max ⊥ f = r := by
  classical
  have key : ∀ s : Finset (Fin (n + 1)), s.Nonempty → ∃ r : ℝ, s.fold max ⊥ f = r := by
    intro s hs
    induction hs using Finset.Nonempty.cons_induction with
    | singleton a => rw [Finset.fold_singleton, max_bot_right]; exact h a
    | cons a s ha hs ih => rw [Finset.fold_cons]; exact max_real (h a) ih
  exact key _ Finset.univ_nonempty

/-- A finite sum of products of reals is real. -/
theorem dot_real {n : Nat} (f g : Fin n → EReal) (hf : ∀ k, ∃ r : ℝ, f k = r) (hg : ∀ k, ∃ r : ℝ, g k = r) :
    ∃ r : ℝ, ∑ k, f k * g k = r := by
  choose a ha using hf
  choose b hb using hg
  refine ⟨∑ k, a k * b k, ?_⟩
  rw [coe_sum]
  exact Finset.sum_congr rfl fun k _ => by rw [ha, hb, EReal.coe_mul]

/-- A sum over 4352 keys: the four chunks of 1024 that follow the first 256, then the first 256. -/
theorem sum_chunks {M : Type} [AddCommMonoid M] (f : Fin 4352 → M) :
    ∑ k, f k = ((((∑ k : Fin 1024, f ⟨256 + k.val, by omega⟩) + ∑ k : Fin 1024, f ⟨1280 + k.val, by omega⟩)
      + ∑ k : Fin 1024, f ⟨2304 + k.val, by omega⟩) + ∑ k : Fin 1024, f ⟨3328 + k.val, by omega⟩)
      + ∑ k : Fin 256, f ⟨k.val, by omega⟩ := by
  have e : ∀ (a b : Nat) (h : a + b ≤ 4352), (∑ k : Fin (a + b), f ⟨k.val, by omega⟩)
      = (∑ k : Fin a, f ⟨k.val, by omega⟩) + ∑ k : Fin b, f ⟨a + k.val, by omega⟩ := by
    intro a b h
    rw [Fin.sum_univ_add]
    rfl
  have h1 := e 3328 1024 (by omega)
  have h2 := e 2304 1024 (by omega)
  have h3 := e 1280 1024 (by omega)
  have h4 := e 256 1024 (by omega)
  refine Eq.trans (b := ∑ k : Fin (3328 + 1024), f ⟨k.val, by omega⟩) rfl ?_
  rw [h1]
  refine Eq.trans (congrArg (· + _) h2) ?_
  refine Eq.trans (congrArg (fun x => x + _ + _) h3) ?_
  refine Eq.trans (congrArg (fun x => x + _ + _ + _) h4) ?_
  ac_rfl

end Cert.Attn

end
-- ==== Proof.Attn.Spec.lean ====
/-
  The attention as one function of its five arrays: what the kernel and the reference are both shown to compute.

  Queries and keys hold twelve heads of 128 lanes, values twelve heads of 64 lanes. A row attends to the 256 context
  rows and the 4096 rows of its own sequence, in that order.
-/
module

public import proofs.«01_k».proof.Proof.Attn.Softmax
public import Idealize.ShloMosaic.Lib.Pointwise

@[expose] public section

noncomputable section

namespace Cert.Attn

open Idealize.ShloMosaic

/-- Row `k` of batch `b`'s 256 context rows followed by its 4096 own rows, lane `c`. -/
def joinedA {w : Nat} (x : (⟨3, ![8, 4096, w]⟩ : Shape).Idx → EReal) (y : (⟨3, ![8, 256, w]⟩ : Shape).Idx → EReal)
    (b : Fin 8) (k : Fin 4352) (c : Fin w) : EReal :=
  if h : k.val < 256 then y (ix3 b ⟨k.val, h⟩ c) else x (ix3 b ⟨k.val - 256, by omega⟩ c)

/-- The score of query row `i` against key row `k`, in head `h` of batch `b`. -/
def scoreA (q kx : (⟨3, ![8, 4096, 1536]⟩ : Shape).Idx → EReal) (kc : (⟨3, ![8, 256, 1536]⟩ : Shape).Idx → EReal)
    (b : Fin 8) (h : Fin 12) (i : Fin 4096) (k : Fin 4352) : EReal :=
  ∑ d : Fin 128, q (ix3 b i ⟨128 * h.val + d.val, by omega⟩) * joinedA kx kc b k ⟨128 * h.val + d.val, by omega⟩

/-- The attention at batch `b`, row `i`, lane `l`: lane `l` of the values, averaged with weights two to the scores. -/
def attnAt (q kx : (⟨3, ![8, 4096, 1536]⟩ : Shape).Idx → EReal) (kc : (⟨3, ![8, 256, 1536]⟩ : Shape).Idx → EReal)
    (vx : (⟨3, ![8, 4096, 768]⟩ : Shape).Idx → EReal) (vc : (⟨3, ![8, 256, 768]⟩ : Shape).Idx → EReal)
    (b : Fin 8) (i : Fin 4096) (l : Fin 768) : EReal :=
  mean (fun k => (scoreA q kx kc b ⟨l.val / 64, by omega⟩ i k).toReal) (fun k => joinedA vx vc b k l)

/-- Every element of an array is a real number. -/
def AllReal {s : Shape} (x : s.Idx → EReal) : Prop := ∀ i, ∃ r : ℝ, x i = r

theorem joinedA_real {w : Nat} (x : (⟨3, ![8, 4096, w]⟩ : Shape).Idx → EReal)
    (y : (⟨3, ![8, 256, w]⟩ : Shape).Idx → EReal) (hx : AllReal x) (hy : AllReal y) (b : Fin 8) (k : Fin 4352)
    (c : Fin w) : ∃ r : ℝ, joinedA x y b k c = r := by
  unfold joinedA
  split
  · exact hy _
  · exact hx _

theorem scoreA_real (q kx : (⟨3, ![8, 4096, 1536]⟩ : Shape).Idx → EReal)
    (kc : (⟨3, ![8, 256, 1536]⟩ : Shape).Idx → EReal) (hq : AllReal q) (hx : AllReal kx) (hc : AllReal kc)
    (b : Fin 8) (h : Fin 12) (i : Fin 4096) (k : Fin 4352) : ∃ r : ℝ, scoreA q kx kc b h i k = r :=
  dot_real _ _ (fun _ => hq _) fun _ => joinedA_real kx kc hx hc b k _

end Cert.Attn
-- ==== Proof.Attn.Finite.lean ====
/-
  What the precondition says: every element of the queries and of both key arrays is a real number.
-/
module

public import proofs.«01_k».proof.Pre_finite_scores
public import proofs.«01_k».proof.Proof.Attn.Spec
public import Idealize.ShloMosaic.Lib.ReduceAll
public import Idealize.ShloMosaic.PureOps.Ideal.Laws

@[expose] public section

noncomputable section

namespace Cert.Attn

open Idealize.ShloMosaic

/-- The shape relations the precondition's operations take. -/
theorem finiteFacts : Cert.Pre_finite_scores.Facts where
  bitsLt_bf16_f32 := by decide
  bcast_S_S8x4096x1536 := by decide
  reducesTo_S8x4096x1536_S_d0_1_2 := by decide
  h_S_ := by decide
  bcast_S_S8x256x1536 := by decide
  reducesTo_S8x256x1536_S_d0_1_2 := by decide

/-- An extended real whose absolute value is below infinity is real. -/
theorem real_of_abs_lt (x : EReal)
    (h : FloatOps.cmpf (F := Ideal) (φ := .f32) .olt (FloatOps.absf (F := Ideal) (φ := .f32) x) (Ideal.ofBits .f32 0x7F800000#32) = 1#1) :
    ∃ r : ℝ, x = r := by
  have e : Ideal.ofBits .f32 0x7F800000#32 = ⊤ := by simp [Ideal.ofBits, Ideal.ieee]
  rw [e] at h
  have hlt : max x (-x) < ⊤ := by
    by_contra hn
    have h' : BitVec.ofBool (decide (max x (-x) < ⊤)) = 1#1 := h
    rw [decide_eq_false hn] at h'
    exact absurd h' (by decide)
  induction x with
  | bot => exact absurd hlt (by simp)
  | top => exact absurd hlt (by simp)
  | coe r => exact ⟨r, rfl⟩

variable [Cert.Pre_finite_scores.Facts]

open Cert.Pre_finite_scores Cert.Pre_finite_scores.Facts

theorem real_of_fn (q kx : S8x4096x1536.Idx → EReal) (kc : S8x256x1536.Idx → EReal) (vx : S8x4096x768.Idx → EReal)
    (vc : S8x256x768.Idx → EReal) (h : fn (F := Ideal) q kx kc vx vc = fun _ => 1#1) :
    AllReal q ∧ AllReal kx ∧ AllReal kc := by
  have : Subsingleton S_.Idx := ⟨fun _ _ => funext fun a => a.elim0⟩
  have h0 := congrFun h (Shape.Idx.first h_S_)
  obtain ⟨h1, hc⟩ := IntOp.andi_eq_one.1 h0
  obtain ⟨hq, hx⟩ := IntOp.andi_eq_one.1 h1
  exact ⟨fun i => real_of_abs_lt _ (Host.reduce_andi_all _ _ _ _ _ hq i),
    fun i => real_of_abs_lt _ (Host.reduce_andi_all _ _ _ _ _ hx i),
    fun i => real_of_abs_lt _ (Host.reduce_andi_all _ _ _ _ _ hc i)⟩

end Cert.Attn
-- ==== Proof.Proj.Finite.lean ====
/-
  What the precondition gives: every number of the modulation, of the two gains and of the two matrices is real.
-/
module

public import proofs.«01_k».proof.Proof.Attn.Finite
public import proofs.«01_k».proof.Pre_finite_projection

@[expose] public section

noncomputable section

namespace Cert.Proj

open Idealize.ShloMosaic Cert.Attn

/-- The shape relations the precondition's operations take. -/
theorem finiteFacts : Cert.Pre_finite_projection.Facts where
  bcast_S_S16x9x1024 := by decide
  reducesTo_S16x9x1024_S_d0_1_2 := by decide
  h_S_ := by decide
  bcast_S_S1x1024 := by decide
  reducesTo_S1x1024_S_d0_1 := by decide
  bcast_S_S1x1024x672 := by decide
  reducesTo_S1x1024x672_S_d0_1_2 := by decide
  bcast_S_S1x256 := by decide
  reducesTo_S1x256_S_d0_1 := by decide
  bcast_S_S1x256x1152 := by decide
  reducesTo_S1x256x1152_S_d0_1_2 := by decide

variable [Cert.Pre_finite_projection.Facts]

open Cert.Pre_finite_projection Cert.Pre_finite_projection.Facts

theorem real_of_fn (x0 : S8x4096x1024.Idx → EReal) (x1 : S16x9x1024.Idx → EReal) (x2 : S1x1024.Idx → EReal)
    (x3 : S1x1024x672.Idx → EReal) (x4 : S1x256.Idx → EReal) (x5 : S1x256x1152.Idx → EReal) (x6 : S1x128.Idx → EReal)
    (x7 : S1x128x1536.Idx → EReal) (x8 x9 : S4096x16.Idx → EReal)
    (h : fn (F := Ideal) x0 x1 x2 x3 x4 x5 x6 x7 x8 x9 = fun _ => 1#1) :
    (∀ i, ∃ r : ℝ, x1 i = r) ∧ (∀ i, ∃ r : ℝ, x2 i = r) ∧ (∀ i, ∃ r : ℝ, x3 i = r) ∧ (∀ i, ∃ r : ℝ, x4 i = r)
      ∧ ∀ i, ∃ r : ℝ, x5 i = r := by
  have : Subsingleton S_.Idx := ⟨fun _ _ => funext fun a => a.elim0⟩
  have h0 := congrFun h (Shape.Idx.first h_S_)
  obtain ⟨h1, a5⟩ := IntOp.andi_eq_one.1 h0
  obtain ⟨h2, a4⟩ := IntOp.andi_eq_one.1 h1
  obtain ⟨h3, a3⟩ := IntOp.andi_eq_one.1 h2
  obtain ⟨a1, a2⟩ := IntOp.andi_eq_one.1 h3
  exact ⟨fun i => real_of_abs_lt _ (Host.reduce_andi_all _ _ _ _ _ a1 i),
    fun i => real_of_abs_lt _ (Host.reduce_andi_all _ _ _ _ _ a2 i),
    fun i => real_of_abs_lt _ (Host.reduce_andi_all _ _ _ _ _ a3 i),
    fun i => real_of_abs_lt _ (Host.reduce_andi_all _ _ _ _ _ a4 i),
    fun i => real_of_abs_lt _ (Host.reduce_andi_all _ _ _ _ _ a5 i)⟩

end Cert.Proj
-- ==== Proof.Proj.Claims.lean ====
/-
  The claims about the projection call: the two programs end with the same queries, keys, values and state-space inputs.
-/
module

public import proofs.«01_k».proof.Defs
public import proofs.«01_k».proof.Proof.Proj.Array
public import proofs.«01_k».proof.Proof.Proj.Heads
public import proofs.«01_k».proof.Proof.Proj.Finite

@[expose] public section

noncomputable section

namespace Cert.Proj

open Idealize.ShloMosaic Idealize.ShloMosaic.TcCoe Idealize.SL.Sem

/-- An index of a matrix is its two coordinates. -/
theorem index_pair {a b : ℕ} (y : (⟨2, ![a, b]⟩ : Shape).Idx) : ∃ (r : Fin a) (d : Fin b), y = ix2 r d :=
  ⟨y 0, y 1, funext fun k => match k with | ⟨0, _⟩ => rfl | ⟨1, _⟩ => rfl⟩

/-- An index of an array of rank three is its three coordinates. -/
theorem index_triple {a b e : ℕ} (y : (⟨3, ![a, b, e]⟩ : Shape).Idx) :
    ∃ (p : Fin a) (r : Fin b) (d : Fin e), y = ix3 p r d :=
  ⟨y 0, y 1, y 2, funext fun k => match k with | ⟨0, _⟩ => rfl | ⟨1, _⟩ => rfl | ⟨2, _⟩ => rfl⟩

/-- The reference runs, leaves its arguments as they were and every counter at zero: it declares none. -/
theorem frame_reference : quiescent_ProjReferenceIdeal := fun m ρ _ =>
  (θ_run (Cert.ProjReferenceIdeal.defs (F := Ideal)) _ _).mono
    (fun r h => And.intro (fun c => (h c).2.2.2.2) (sem_eq_zero_of_no_sems (by decide) r.2))
    (Cert.ProjReferenceIdeal.Value.run (F := Ideal) m ρ)

/-- Kernel and reference end with equal results when the modulation and the query weights are real numbers. -/
theorem algebraic : algebraic_ProjIdeal_ProjReferenceIdeal_pre_finite_projection
    (hPre_finite_projection := finiteFacts) := by
  intro m g m' g' hpre hargs
  refine ⟨fun c => queryArr m c, fun c => keyArr m c, fun c => valueArr m c, fun c => inputArr m c, ?_, ?_⟩
  · refine (θ_run _ _ _).mono (fun r h c => ?_) (Cert.ProjIdeal.Value.run_blocks m g)
    obtain ⟨e0, e1, e2, e3, k⟩ := h c
    have hp : Finite m c := @real_of_fn finiteFacts _ _ _ _ _ _ _ _ _ _ (hpre c)
    exact ⟨e0.trans (queryArr_eq m c hp), e1.trans (keyArr_eq m c hp), e2.trans (valueArr_eq m c),
      e3.trans (inputArr_eq m c), k⟩
  · refine (θ_run _ _ _).mono (fun r h c => ?_) (Cert.ProjReferenceIdeal.Value.run (F := Ideal) m' g')
    obtain ⟨e0, e1, e2, e3, k⟩ := h c
    obtain ⟨a0, a1, a2, a3, a4, a5, a6, a7, a8, a9⟩ := hargs c
    refine ⟨e0.trans ?_, e1.trans ?_, e2.trans ?_, e3.trans ?_, k⟩
    · refine (Cert.ProjReferenceIdeal.Read.val_main_v140_eq (F := Ideal) m' c).trans ?_
      rw [a0, a1, a2, a3, a4, a5, a8, a9]
      funext i
      obtain ⟨b, t, d, rfl⟩ := index_triple i
      exact queries_ref _ _ _ _ _ _ _ _ b t d
    · refine (Cert.ProjReferenceIdeal.Read.val_main_v142_eq (F := Ideal) m' c).trans ?_
      rw [a0, a1, a2, a3, a6, a7, a8, a9]
      funext i
      obtain ⟨b, t, d, rfl⟩ := index_triple i
      exact keys_ref _ _ _ _ _ _ _ _ b t d
    · refine (Cert.ProjReferenceIdeal.Read.val_main_v144_eq (F := Ideal) m' c).trans ?_
      rw [a0, a1, a2, a3, a6, a7]
      funext i
      obtain ⟨b, t, d, rfl⟩ := index_triple i
      exact values_ref _ _ _ _ _ _ b t d
    · refine (Cert.ProjReferenceIdeal.Read.val_main_v146_eq (F := Ideal) _ _ _ _).trans ?_
      rw [a0, a1, a2, a3]
      funext i
      obtain ⟨t, d, rfl⟩ := index_pair i
      exact inputs_ref _ _ _ _ t d

end Cert.Proj
-- ==== Proof.FfnCtx.Block.lean ====
/-
  The block a grid point of the context's SwiGLU kernel leaves, element by element, from the blocks it reads.
-/
module

public import proofs.«01_k».proof.Proof.Gen.FfnCtxIdeal.Value
public import proofs.«01_k».proof.Proof.Mlp.Spec
public import Idealize.ShloMosaic.Lib.Pointwise.Blocks

@[expose] public section

noncomputable section

namespace Cert.FfnCtx

open Idealize.ShloMosaic Idealize.ShloMosaic.TcCoe Cert.FfnCtxIdeal Cert.FfnCtxIdeal.Gen Cert.Mlp

variable (x : Vec Ideal S1x512x1024 .f32) (md : Vec Ideal S1x9x1024 .f32) (g : Vec Ideal S1x1024 .f32)
  (w : Vec Ideal S1024x5632 .bf16) (v : Vec Ideal S2816x1024 .bf16)

/-- The modulated norm of row `r`. -/
theorem hidden_apply (r : Fin 512) (d : Fin 1024) :
    k0_pay4 (F := Ideal) (View.ld x r0_0) (View.ld md r0_1) (View.ld g r0_2) (ix2 r d)
      = modAt (fun d => x (ix3 0 r d)) (fun d => g (ix2 0 d)) (fun d => md (ix3 0 0 d)) (fun d => md (ix3 0 1 d)) d := by
  pointwise [k0_pay4, k0_pay2, k0_pay3]
  rfl

/-- Row `r` of the block is the half step of row `r` of the context tokens. -/
theorem block_apply (r : Fin 512) (d : Fin 1024) :
    out0_5 (F := Ideal) x md g w v (ix3 0 r d)
      = stepAt (fun d => x (ix3 0 r d)) (fun d => g (ix2 0 d)) (fun d => md (ix3 0 0 d)) (fun d => md (ix3 0 1 d))
          (fun d => md (ix3 0 2 d)) (fun e f => w (ix2 e f)) (fun f d => v (ix2 f d)) d := by
  unfold out0_5
  refine (congrFun (View.canon_unit_zero (by funext a; fin_cases a <;> rfl) _ _) _).trans ?_
  pointwise [k0_pay1, k0_pay2, k0_pay3, k0_pay5, k0_pay6]
  simp only [hidden_apply]
  unfold stepAt swigluAt unitAt
  rw [sum_units]
  have e : ∀ i : Fin 1280, (⟨4352 + i.val, by omega⟩ : Fin 5632) = ⟨2816 + (1536 + i.val), by omega⟩ :=
    fun i => Fin.ext (by simp only []; omega)
  simp only [e]
  rfl

end Cert.FfnCtx
-- ==== Proof.FfnCtx.Array.lean ====
/-
  The context's SwiGLU kernel's output array, element by element.

  Grid point `j` writes rows `512 j … 512 j + 511` of the 2048 context tokens, from those rows of the tokens, the context's
  modulation and the whole weights. The four blocks tile the array.
-/
module

public import proofs.«01_k».proof.Proof.FfnCtx.Block
public import Idealize.ShloMosaic.Lib.Claim

@[expose] public section

noncomputable section

namespace Cert.FfnCtx

open Idealize.ShloMosaic Idealize.ShloMosaic.TcCoe Cert.FfnCtxIdeal Cert.FfnCtxIdeal.Gen Cert.Mlp
open Idealize.ShloMosaic.Pipeline (Dat)

variable (m : (ℓ : Loc nD τ sig) → Buf (Elt Ideal) ℓ) (c : Dev nD)

/-- The block indices of the input windows: the tokens' follow the output's, the modulation stays at the context's row. -/
theorem index_facts : ∀ t : Fin cfg0.N,
    (win0_5.index t (0 : Fin 3) = 0 ∧ win0_5.index t (1 : Fin 3) < 4 ∧ win0_5.index t (2 : Fin 3) = 0)
    ∧ (win0_0.index t (0 : Fin 3) = 0 ∧ win0_0.index t (1 : Fin 3) = win0_5.index t (1 : Fin 3)
      ∧ win0_0.index t (2 : Fin 3) = 0)
    ∧ (win0_1.index t (0 : Fin 3) = 8 ∧ win0_1.index t (1 : Fin 3) = 0 ∧ win0_1.index t (2 : Fin 3) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0) :=
  (by decide +kernel : ∀ t : Fin grid0.N, _)

/-- Every block of the output array is some point's. -/
theorem index_onto : ∀ j : Fin 4, ∃ t : Fin cfg0.N, win0_5.index t (1 : Fin 3) = j.val :=
  (by decide +kernel : ∀ j : Fin 4, ∃ t : Fin grid0.N, _)

theorem flush_all : ∀ t : Fin cfg0.N, (cfg0.win 5).flush t = true :=
  (by decide +kernel : ∀ t : Fin grid0.N, _)

/-- The row tile of a point, and the token of a row of it. -/
def tileOf (t : Fin cfg0.N) : Fin 4 := ⟨_, (index_facts t).1.2.1⟩
def tokenOf (t : Fin cfg0.N) (r : Fin 512) : Fin 2048 := ⟨512 * (tileOf t).val + r.val, by omega⟩

/-- The kernel's five arrays as launched. -/
abbrev argX : S8x256x1024.Idx → EReal := m ((c : Thread nD τ).loc main_arg0)
abbrev argMod : S16x9x1024.Idx → EReal := m ((c : Thread nD τ).loc main_arg1)
abbrev argG : S1x1024.Idx → EReal := m ((c : Thread nD τ).loc main_arg2)
abbrev argW : S1x1024x5632.Idx → EReal := m ((c : Thread nD τ).loc main_arg3)
abbrev argV : S1x2816x1024.Idx → EReal := m ((c : Thread nD τ).loc main_arg4)

/-! ### The tokens and the weights at the region's entry: the arguments without their leading axis; the tokens one after the other -/

theorem entryX (n : Fin 2048) (d : Fin 1024) : (V m c main_v0 : S1x2048x1024.Idx → EReal) (ix3 0 n d)
    = argX m c (ix3 ⟨n.val / 256, by omega⟩ ⟨n.val % 256, by omega⟩ d) := by
  entry_read
  pointwise []

theorem entryW (e : Fin 1024) (f : Fin 5632) : (V m c main_v2 : S1024x5632.Idx → EReal) (ix2 e f) = argW m c (ix3 0 e f) := by
  entry_read
  pointwise []

theorem entryV (f : Fin 2816) (d : Fin 1024) : (V m c main_v4 : S2816x1024.Idx → EReal) (ix2 f d) = argV m c (ix3 0 f d) := by
  entry_read
  pointwise []

/-! ### The blocks a point reads -/

theorem iblk0_apply (t : Fin cfg0.N) (r : Fin 512) (d : Fin 1024) :
    iblk m c 0 t (ix3 0 r d) = argX m c (ix3 ⟨(tokenOf t r).val / 256, by omega⟩ ⟨(tokenOf t r).val % 256, by omega⟩ d) := by
  obtain ⟨_, ⟨e0, e1, e2⟩, _⟩ := index_facts t
  rw [← entryX]
  refine congrArg (V m c main_v0 : S1x2048x1024.Idx → EReal) (funext fun a => Fin.ext ?_)
  match a with
  | ⟨0, _⟩ => show win0_0.index t (0 : Fin 3) * 1 + 1 * 0 = 0; omega
  | ⟨1, _⟩ => show win0_0.index t (1 : Fin 3) * 512 + 1 * r.val = 512 * win0_5.index t (1 : Fin 3) + r.val; omega
  | ⟨2, _⟩ => show win0_0.index t (2 : Fin 3) * 1024 + 1 * d.val = d.val; omega

theorem iblk1_apply (t : Fin cfg0.N) (s : Fin 9) (d : Fin 1024) : iblk m c 1 t (ix3 0 s d) = argMod m c (ix3 8 s d) := by
  obtain ⟨_, _, ⟨e0, e1, e2⟩, _⟩ := index_facts t
  refine congrArg (m ((c : Thread nD τ).loc main_arg1)) (funext fun a => Fin.ext ?_)
  match a with
  | ⟨0, _⟩ => show win0_1.index t (0 : Fin 3) * 1 + 1 * 0 = 8; omega
  | ⟨1, _⟩ => show win0_1.index t (1 : Fin 3) * 9 + 1 * s.val = s.val; omega
  | ⟨2, _⟩ => show win0_1.index t (2 : Fin 3) * 1024 + 1 * d.val = d.val; omega

theorem iblk2_apply (t : Fin cfg0.N) (d : Fin 1024) : iblk m c 2 t (ix2 0 d) = argG m c (ix2 0 d) := by
  obtain ⟨_, _, _, ⟨e0, e1⟩, _⟩ := index_facts t
  refine congrArg (m ((c : Thread nD τ).loc main_arg2)) (funext fun a => Fin.ext ?_)
  match a with
  | ⟨0, _⟩ => show win0_2.index t (0 : Fin 2) * 1 + 1 * 0 = 0; omega
  | ⟨1, _⟩ => show win0_2.index t (1 : Fin 2) * 1024 + 1 * d.val = d.val; omega

theorem iblk3_apply (t : Fin cfg0.N) (e : Fin 1024) (f : Fin 5632) : iblk m c 3 t (ix2 e f) = argW m c (ix3 0 e f) := by
  obtain ⟨_, _, _, _, ⟨e0, e1⟩, _⟩ := index_facts t
  rw [← entryW]
  refine congrArg (V m c main_v2 : S1024x5632.Idx → EReal) (funext fun a => Fin.ext ?_)
  match a with
  | ⟨0, _⟩ => show win0_3.index t (0 : Fin 2) * 1024 + 1 * e.val = e.val; omega
  | ⟨1, _⟩ => show win0_3.index t (1 : Fin 2) * 5632 + 1 * f.val = f.val; omega

theorem iblk4_apply (t : Fin cfg0.N) (f : Fin 2816) (d : Fin 1024) : iblk m c 4 t (ix2 f d) = argV m c (ix3 0 f d) := by
  obtain ⟨_, _, _, _, _, ⟨e0, e1⟩⟩ := index_facts t
  rw [← entryV]
  refine congrArg (V m c main_v4 : S2816x1024.Idx → EReal) (funext fun a => Fin.ext ?_)
  match a with
  | ⟨0, _⟩ => show win0_4.index t (0 : Fin 2) * 2816 + 1 * f.val = f.val; omega
  | ⟨1, _⟩ => show win0_4.index t (1 : Fin 2) * 1024 + 1 * d.val = d.val; omega

/-- Where the output block's element sits in the output array. -/
theorem emb5 (t : Fin cfg0.N) (r : Fin 512) (d : Fin 1024) :
    ((cfg0.win 5).blk t).view.emb (ix3 0 r d) = ix3 0 (tokenOf t r) d := by
  obtain ⟨⟨e0, _, e2⟩, _⟩ := index_facts t
  funext a; apply Fin.ext
  match a with
  | ⟨0, _⟩ => show win0_5.index t (0 : Fin 3) * 1 + 1 * 0 = 0; omega
  | ⟨1, _⟩ => show win0_5.index t (1 : Fin 3) * 512 + 1 * r.val = 512 * win0_5.index t (1 : Fin 3) + r.val; omega
  | ⟨2, _⟩ => show win0_5.index t (2 : Fin 3) * 1024 + 1 * d.val = d.val; omega

/-- The half step of the context's tokens, as an array. -/
def stepArr : S1x2048x1024.Idx → EReal := fun i =>
  stepAt (fun d => argX m c (ix3 ⟨(i 1).val / 256, Nat.div_lt_of_lt_mul (i 1).isLt⟩ ⟨(i 1).val % 256, Nat.mod_lt _ (by decide)⟩ d))
    (fun d => argG m c (ix2 0 d)) (fun d => argMod m c (ix3 8 0 d)) (fun d => argMod m c (ix3 8 1 d)) (fun d => argMod m c (ix3 8 2 d))
    (fun e f => argW m c (ix3 0 e f)) (fun f d => argV m c (ix3 0 f d)) (i 2)

/-- An index of an array with one leading row. -/
theorem index_row {w k : ℕ} (y : (⟨3, ![1, w, k]⟩ : Shape).Idx) : ∃ (r : Fin w) (d : Fin k), y = ix3 (0 : Fin 1) r d := by
  refine ⟨y 1, y 2, funext fun a => ?_⟩
  match a with
  | ⟨0, _⟩ => exact Fin.ext (by have h : (y 0).val < 1 := (y 0).isLt; show (y 0).val = 0; omega)
  | ⟨1, _⟩ => rfl
  | ⟨2, _⟩ => rfl

/-- After the run the kernel's output array is the half step of the context's tokens. -/
theorem arrAt_eq : (dats m 0 c).arrAt 5 cfg0.N = stepArr m c := by
  refine (dats m 0 c).arrAt_eq_of_cover 5 (stepArr m c) (fun t _ => ?_) fun i => ?_
  · rw [Value.flushed5]
    funext y
    change S1x512x1024.Idx at y
    show out0_5 (iblk m c 0 t) (iblk m c 1 t) (iblk m c 2 t) (iblk m c 3 t) (iblk m c 4 t) y
      = stepArr m c (((cfg0.win 5).blk t).view.emb y)
    obtain ⟨r, d, rfl⟩ := index_row y
    rw [block_apply, emb5]
    simp only [iblk0_apply, iblk1_apply, iblk2_apply, iblk3_apply, iblk4_apply]
    rfl
  · change S1x2048x1024.Idx at i
    obtain ⟨n, d, rfl⟩ := index_row i
    obtain ⟨t, e1⟩ := index_onto ⟨n.val / 512, by omega⟩
    refine ⟨t, flush_all t, ?_⟩
    have e : ix3 (0 : Fin 1) n d = ((cfg0.win 5).blk t).view.emb (ix3 0 ⟨n.val % 512, by omega⟩ d) := by
      rw [emb5]
      refine congrArg (fun n => ix3 (0 : Fin 1) n d) (Fin.ext ?_)
      show n.val = 512 * win0_5.index t (1 : Fin 3) + n.val % 512
      rw [e1]; simp only []; omega
    rw [e]
    exact Finset.mem_map.2 ⟨_, Finset.mem_univ _, rfl⟩

end Cert.FfnCtx
-- ==== Proof.FfnCtx.Reference.lean ====
/-
  The reference's half step of the context tokens, element by element.
-/
module

public import proofs.«01_k».proof.Proof.Gen.FfnCtxReferenceIdeal.Read
public import proofs.«01_k».proof.Proof.Mlp.Spec
public import Idealize.ShloMosaic.Lib.Pointwise.Blocks

@[expose] public section

noncomputable section

namespace Cert.FfnCtx

open Idealize.ShloMosaic Idealize.ShloMosaic.TcCoe Cert.FfnCtxReferenceIdeal Cert.FfnCtxReferenceIdeal.Gen Cert.FfnCtxReferenceIdeal.Read
open Cert.Mlp

variable (x0 : S8x256x1024.Idx → EReal) (x1 : S16x9x1024.Idx → EReal) (x2 : S1x1024.Idx → EReal) (x3 : S1x1024x5632.Idx → EReal)
  (x4 : S1x2816x1024.Idx → EReal)

/-- The modulated norm of a token. -/
theorem hidden_ref (b : Fin 8) (i : Fin 256) (d : Fin 1024) :
    val_main_v42 (F := Ideal) x0 x1 x2 (ix3 b i d)
      = modAt (fun d => x0 (ix3 b i d)) (fun d => x2 (ix2 0 d)) (fun d => x1 (ix3 8 0 d)) (fun d => x1 (ix3 8 1 d)) d := by
  pointwise [val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v6, val_main_v5, val_main_v4, val_main_v3, val_main_v2, val_main_v1, val_main_v0, val_main_cst_0, val_main_cst_1, val_main_cst_2, val_main_cst_3]
  rfl

/-- A gated unit of a token. -/
theorem unit_ref (b : Fin 8) (i : Fin 256) (f : Fin 2816) :
    val_main_v49 (F := Ideal) x0 x1 x2 x3 (ix3 b i f)
      = unitAt (modAt (fun d => x0 (ix3 b i d)) (fun d => x2 (ix2 0 d)) (fun d => x1 (ix3 8 0 d))
          (fun d => x1 (ix3 8 1 d))) (fun e f => x3 (ix3 0 e f)) f := by
  pointwise [val_main_v49, val_main_v48, val_main_v47, val_main_v46, val_main_v45, val_main_v43, val_main_call0_v5,
    val_main_call0_v4, val_main_call0_v3, val_main_call0_v2, val_main_call0_v1, val_main_call0_v0, val_main_call0_cst,
    val_main_call0_cst_0]
  simp only [hidden_ref]
  rfl

/-- The half step of each token with the context's modulation. -/
theorem step_ref (b : Fin 8) (i : Fin 256) (d : Fin 1024) :
    val_main_v53 (F := Ideal) x0 x1 x2 x3 x4 (ix3 b i d)
      = stepAt (fun d => x0 (ix3 b i d)) (fun d => x2 (ix2 0 d)) (fun d => x1 (ix3 8 0 d))
          (fun d => x1 (ix3 8 1 d)) (fun d => x1 (ix3 8 2 d)) (fun e f => x3 (ix3 0 e f))
          (fun f d => x4 (ix3 0 f d)) d := by
  pointwise [val_main_v53, val_main_v52, val_main_v51, val_main_v50, val_main_v44, val_main_v22, val_main_v21, val_main_v8,
    val_main_v7, val_main_v2, val_main_v1, val_main_v0, val_main_cst]
  simp only [unit_ref]
  rfl

/-- The result: the tokens of all batches one after the other. -/
theorem reference_apply (n : Fin 2048) (d : Fin 1024) :
    val_main_v54 (F := Ideal) x0 x1 x2 x3 x4 (ix3 0 n d)
      = stepAt (fun d => x0 (ix3 ⟨n.val / 256, by omega⟩ ⟨n.val % 256, by omega⟩ d)) (fun d => x2 (ix2 0 d)) (fun d => x1 (ix3 8 0 d))
          (fun d => x1 (ix3 8 1 d)) (fun d => x1 (ix3 8 2 d)) (fun e f => x3 (ix3 0 e f)) (fun f d => x4 (ix3 0 f d)) d := by
  rw [← step_ref]
  pointwise [val_main_v54]

end Cert.FfnCtx
-- ==== Proof.FfnCtx.Claims.lean ====
/-
  The claims about the context's SwiGLU half step: the two programs end with the half step of their context tokens.
-/
module

public import proofs.«01_k».proof.Defs
public import proofs.«01_k».proof.Proof.FfnCtx.Array
public import proofs.«01_k».proof.Proof.FfnCtx.Reference

@[expose] public section

noncomputable section

namespace Cert.FfnCtx

open Idealize.ShloMosaic Idealize.ShloMosaic.TcCoe Idealize.SL.Sem

/-- The reference runs, leaves its arguments as they were and every counter at zero: it declares none. -/
theorem frame_reference : quiescent_FfnCtxReferenceIdeal := fun m ρ _ =>
  (θ_run (Cert.FfnCtxReferenceIdeal.defs (F := Ideal)) _ _).mono
    (fun r h => And.intro (fun c => (h c).2) (sem_eq_zero_of_no_sems (by decide) r.2))
    (Cert.FfnCtxReferenceIdeal.Value.run (F := Ideal) m ρ)

/-- Kernel and reference end with equal results. -/
theorem algebraic : algebraic_FfnCtxIdeal_FfnCtxReferenceIdeal := by
  intro m g m' g' hpre hargs
  refine ⟨fun c => stepArr m c, ?_, ?_⟩
  · refine (θ_run _ _ _).mono (fun r h c => ?_) (Cert.FfnCtxIdeal.Value.run_blocks m g)
    obtain ⟨e, k⟩ := h c
    exact ⟨e.trans (arrAt_eq m c), k⟩
  · refine (θ_run _ _ _).mono (fun r h c => ?_) (Cert.FfnCtxReferenceIdeal.Value.run (F := Ideal) m' g')
    obtain ⟨e, k⟩ := h c
    refine ⟨e.trans ?_, k⟩
    obtain ⟨a0, a1, a2, a3, a4⟩ := hargs c
    refine (Cert.FfnCtxReferenceIdeal.Read.val_main_v54_eq (F := Ideal) m' c).trans ?_
    rw [a0, a1, a2, a3, a4]
    funext i
    obtain ⟨n, d, rfl⟩ := index_row i
    exact reference_apply _ _ _ _ _ n d

end Cert.FfnCtx
-- ==== Proof.ProjCtx.Entry.lean ====
/-
  What the operations before the projection kernel on context tokens leave: the joined weights and the tables, lane by
  lane. The tables turn nothing: their cosines are one and their sines zero.
-/
module

public import proofs.«01_k».proof.Proof.Gen.ProjCtxIdeal.Value
public import proofs.«01_k».proof.Proof.Proj.Spec
public import Idealize.ShloMosaic.Lib.Pointwise.Blocks
public import Idealize.ShloMosaic.Lib.StableHlo.RunRead

@[expose] public section

noncomputable section

namespace Cert.ProjCtx

open Idealize.ShloMosaic Idealize.ShloMosaic.TcCoe Cert.ProjCtxIdeal Cert.ProjCtxIdeal.Gen Cert.Mlp Cert.Proj

variable (m : (ℓ : Loc nD τ sig) → Buf (Elt Ideal) ℓ) (c : Dev nD)

/-- The kernel's eight arrays as launched. -/
abbrev argX : S8x256x1024.Idx → EReal := m ((c : Thread nD τ).loc main_arg0)
abbrev argMod : S16x9x1024.Idx → EReal := m ((c : Thread nD τ).loc main_arg1)
abbrev argG : S1x1024.Idx → EReal := m ((c : Thread nD τ).loc main_arg2)
abbrev argW : S1x1024x672.Idx → EReal := m ((c : Thread nD τ).loc main_arg3)
abbrev argGq : S1x256.Idx → EReal := m ((c : Thread nD τ).loc main_arg4)
abbrev argWq : S1x256x1152.Idx → EReal := m ((c : Thread nD τ).loc main_arg5)
abbrev argGkv : S1x128.Idx → EReal := m ((c : Thread nD τ).loc main_arg6)
abbrev argWkv : S1x128x1536.Idx → EReal := m ((c : Thread nD τ).loc main_arg7)

/-- The first 384 lanes are the input matrix's. -/
theorem low_lanes (e : Fin 1024) (j : Fin 384) : (V m c main_v17 : S1024x896.Idx → EReal) (ix2 e ⟨j.val, by omega⟩)
    = argW m c (ix3 0 e ⟨j.val, by omega⟩) := by
  after_reads_simp
  pointwise []
  after_reads_simp
  pointwise []

/-- The last 256 lanes are the input matrix's last. -/
theorem input_lanes (e : Fin 1024) (j : Fin 256) : (V m c main_v17 : S1024x896.Idx → EReal) (ix2 e ⟨640 + j.val, by omega⟩)
    = argW m c (ix3 0 e ⟨416 + j.val, by omega⟩) := by
  after_reads_simp
  pointwise []
  rw [dif_neg (by omega), dif_neg (by omega), dif_neg (by omega), dif_neg (by omega), dif_neg (by omega), dif_neg (by omega),
    dif_neg (by omega)]
  after_reads_simp
  pointwise []
  simp only [show 640 + j.val - 384 - 64 - 32 - 32 - 64 - 32 - 32 = j.val by omega]

/-- The lanes of the rotated part of the keys, set in a head's place. -/
theorem key_lanes (e : Fin 1024) (l : Fin 128) : (V m c main_v17 : S1024x896.Idx → EReal) (ix2 e ⟨384 + l.val, by omega⟩)
    = headAt (fun _ => 0) (fun i => argW m c (ix3 0 e ⟨384 + i.val, by omega⟩)) l := by
  unfold headAt
  split_ifs with h h'
  · after_reads_simp
    pointwise []
    rw [dif_pos h]
    after_reads_simp
    pointwise []
  · after_reads_simp
    pointwise []
    rw [dif_neg h, dif_pos (by omega)]
    after_reads_simp
    pointwise []
  · after_reads_simp
    pointwise []
    rw [dif_neg h, dif_neg (by omega), dif_pos (by omega)]
    after_reads_simp
    pointwise []

/-- A head's key weights. -/
theorem key_value_lanes (e : Fin 128) (h : Fin 12) (l : Fin 128) : (V m c main_v51 : S128x2304.Idx → EReal) (ix2 e ⟨128 * h.val + l.val, by omega⟩)
    = headAt (fun i => argWkv m c (ix3 0 e ⟨h.val * 128 + i.val, by omega⟩)) (fun _ => 0) l := by
  unfold headAt
  split_ifs with h1 h2
  · after_reads_simp
    pointwise []
    rw [dif_pos (by omega)]
    after_reads_simp
    pointwise []
    rw [dif_pos h1]
    after_reads_simp
    pointwise []
  · after_reads_simp
    pointwise []
    rw [dif_pos (by omega)]
    after_reads_simp
    pointwise []
    rw [dif_neg h1, dif_pos (by omega)]
    after_reads_simp
    pointwise []
  · after_reads_simp
    pointwise []
    rw [dif_pos (by omega)]
    after_reads_simp
    pointwise []
    rw [dif_neg h1, dif_neg (by omega)]
    after_reads_simp
    pointwise []
/-- The value weights, head after head. -/
theorem value_lanes (e : Fin 128) (j : Fin 768) : (V m c main_v51 : S128x2304.Idx → EReal) (ix2 e ⟨1536 + j.val, by omega⟩)
    = argWkv m c (ix3 0 e ⟨j.val / 64 * 128 + (64 + j.val % 64), by omega⟩) := by
  after_reads_simp
  pointwise []
  after_reads_simp
  pointwise []

/-- The cosines: one where a head's rotated lanes sit. -/
theorem key_cos (r : Fin 256) (l : Fin 128) : (V m c main_v61 : S256x128.Idx → EReal) (ix2 r l)
    = headAt (fun _ => 0) (fun _ => 1) l * 1 := by
  unfold headAt
  split_ifs with h h'
  · after_reads_simp
    pointwise []
    rw [dif_pos (by omega)]
    after_reads_simp
    pointwise []
  · after_reads_simp
    pointwise []
    rw [dif_neg (by omega), dif_pos (by omega)]
    after_reads_simp
    pointwise []
  · after_reads_simp
    pointwise []
    rw [dif_neg (by omega), dif_neg (by omega)]
    after_reads_simp
    pointwise []

/-- The sines: zero everywhere. -/
theorem key_sin (r : Fin 256) (l : Fin 128) : (V m c main_v63 : S256x128.Idx → EReal) (ix2 r l)
    = headAt (fun _ => 0) (fun _ => 0) l * 1 := by
  unfold headAt
  split_ifs with h h'
  · after_reads_simp
    pointwise []
    rw [dif_pos (by omega)]
    after_reads_simp
    pointwise []
  · after_reads_simp
    pointwise []
    rw [dif_neg (by omega), dif_pos (by omega)]
    after_reads_simp
    pointwise []
  · after_reads_simp
    pointwise []
    rw [dif_neg (by omega), dif_neg (by omega)]
    after_reads_simp
    pointwise []

/-- The key lanes against such tables: the rotated part is added as it is, whatever stands in the turned lanes. -/
theorem still_lane (plain : Fin 64 → EReal) (t : Fin 32 → EReal) (y : EReal) (l : Fin 128) :
    headAt plain (fun _ => 0) l
        + (headAt (fun _ => 0) t l * (headAt (fun _ => 0) (fun _ => 1) l * 1) + y * (headAt (fun _ => 0) (fun _ => 0) l * 1))
      = headAt plain t l := by
  unfold headAt
  split_ifs <;> simp

end Cert.ProjCtx
-- ==== Proof.ProjCtx.Tiles.lean ====
/-
  The blocks a grid point of the projection kernel on context tokens reads: its batch's tokens, the modulation all batches
  share, the weights, the tables.
-/
module

public import proofs.«01_k».proof.Proof.ProjCtx.Entry
public import Idealize.ShloMosaic.Lib.Claim

@[expose] public section

noncomputable section

namespace Cert.ProjCtx

open Idealize.ShloMosaic Idealize.ShloMosaic.TcCoe Cert.ProjCtxIdeal Cert.ProjCtxIdeal.Gen Cert.Mlp Cert.Proj

variable (m : (ℓ : Loc nD τ sig) → Buf (Elt Ideal) ℓ) (c : Dev nD)

/-- The block indices of the windows: tokens and outputs move over batches, the modulation stays at its ninth row, the rest
    stays. -/
theorem index_facts : ∀ t : Fin cfg0.N,
    (win0_12.index t (0 : Fin 3) < 8 ∧ win0_12.index t (1 : Fin 3) = 0 ∧ win0_12.index t (2 : Fin 3) = 0)
    ∧ (win0_0.index t (0 : Fin 3) = win0_12.index t (0 : Fin 3) ∧ win0_0.index t (1 : Fin 3) = 0 ∧ win0_0.index t (2 : Fin 3) = 0)
    ∧ (win0_1.index t (0 : Fin 3) = 8 ∧ win0_1.index t (1 : Fin 3) = 0 ∧ win0_1.index t (2 : Fin 3) = 0) :=
  (by decide +kernel : ∀ t : Fin grid0.N, _)

theorem index_still : ∀ t : Fin cfg0.N,
    (win0_2.index t (0 : Fin 2) = 0 ∧ win0_2.index t (1 : Fin 2) = 0)
    ∧ (win0_3.index t (0 : Fin 2) = 0 ∧ win0_3.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_10.index t (0 : Fin 2) = 0 ∧ win0_10.index t (1 : Fin 2) = 0)
    ∧ (win0_11.index t (0 : Fin 2) = 0 ∧ win0_11.index t (1 : Fin 2) = 0) :=
  (by decide +kernel : ∀ t : Fin grid0.N, _)

theorem index_outputs : ∀ t : Fin cfg0.N,
    (win0_13.index t (0 : Fin 3) = win0_12.index t (0 : Fin 3) ∧ win0_13.index t (1 : Fin 3) = 0
      ∧ win0_13.index t (2 : Fin 3) = 0)
    ∧ (win0_14.index t (0 : Fin 2) = 0 ∧ win0_14.index t (1 : Fin 2) = win0_12.index t (0 : Fin 3)) :=
  (by decide +kernel : ∀ t : Fin grid0.N, _)

/-- Every batch is some point's. -/
theorem index_onto : ∀ b : Fin 8, ∃ t : Fin cfg0.N, win0_12.index t (0 : Fin 3) = b.val :=
  (by decide +kernel : ∀ b : Fin 8, ∃ t : Fin grid0.N, _)

theorem flush_all : ∀ t : Fin cfg0.N, (cfg0.win 12).flush t = true ∧ (cfg0.win 13).flush t = true
    ∧ (cfg0.win 14).flush t = true :=
  (by decide +kernel : ∀ t : Fin grid0.N, _)

/-- The batch of a point. -/
def batchOf (t : Fin cfg0.N) : Fin 8 := ⟨_, (index_facts t).1.1⟩

theorem iblk0_apply (t : Fin cfg0.N) (r : Fin 256) (d : Fin 1024) :
    iblk m c 0 t (ix3 0 r d) = argX m c (ix3 (batchOf t) r d) := by
  obtain ⟨_, ⟨e0, e1, e2⟩, _⟩ := index_facts t
  refine congrArg (m ((c : Thread nD τ).loc main_arg0)) (funext fun a => Fin.ext ?_)
  match a with
  | ⟨0, _⟩ => show win0_0.index t (0 : Fin 3) * 1 + 1 * 0 = win0_12.index t (0 : Fin 3); omega
  | ⟨1, _⟩ => show win0_0.index t (1 : Fin 3) * 256 + 1 * r.val = r.val; omega
  | ⟨2, _⟩ => show win0_0.index t (2 : Fin 3) * 1024 + 1 * d.val = d.val; omega

theorem iblk1_apply (t : Fin cfg0.N) (s : Fin 9) (d : Fin 1024) :
    iblk m c 1 t (ix3 0 s d) = argMod m c (ix3 8 s d) := by
  obtain ⟨_, _, ⟨e0, e1, e2⟩⟩ := index_facts t
  refine congrArg (m ((c : Thread nD τ).loc main_arg1)) (funext fun a => Fin.ext ?_)
  match a with
  | ⟨0, _⟩ => show win0_1.index t (0 : Fin 3) * 1 + 1 * 0 = 8; omega
  | ⟨1, _⟩ => show win0_1.index t (1 : Fin 3) * 9 + 1 * s.val = s.val; omega
  | ⟨2, _⟩ => show win0_1.index t (2 : Fin 3) * 1024 + 1 * d.val = d.val; omega

theorem iblk2_apply (t : Fin cfg0.N) (d : Fin 1024) : iblk m c 2 t (ix2 0 d) = argG m c (ix2 0 d) := by
  obtain ⟨⟨e0, e1⟩, _, _, _, _, _⟩ := index_still t
  refine congrArg (m ((c : Thread nD τ).loc main_arg2)) (funext fun a => Fin.ext ?_)
  match a with
  | ⟨0, _⟩ => show win0_2.index t (0 : Fin 2) * 1 + 1 * 0 = 0; omega
  | ⟨1, _⟩ => show win0_2.index t (1 : Fin 2) * 1024 + 1 * d.val = d.val; omega

theorem iblk3_apply (t : Fin cfg0.N) (e : Fin 1024) (j : Fin 896) :
    iblk m c 3 t (ix2 e j) = (V m c main_v17 : S1024x896.Idx → EReal) (ix2 e j) := by
  obtain ⟨_, ⟨e0, e1⟩, _, _, _, _⟩ := index_still t
  refine congrArg (V m c main_v17 : S1024x896.Idx → EReal) (funext fun a => Fin.ext ?_)
  match a with
  | ⟨0, _⟩ => show win0_3.index t (0 : Fin 2) * 1024 + 1 * e.val = e.val; omega
  | ⟨1, _⟩ => show win0_3.index t (1 : Fin 2) * 896 + 1 * j.val = j.val; omega

theorem iblk6_apply (t : Fin cfg0.N) (d : Fin 128) : iblk m c 6 t (ix2 0 d) = argGkv m c (ix2 0 d) := by
  obtain ⟨_, _, ⟨e0, e1⟩, _, _, _⟩ := index_still t
  refine congrArg (m ((c : Thread nD τ).loc main_arg6)) (funext fun a => Fin.ext ?_)
  match a with
  | ⟨0, _⟩ => show win0_6.index t (0 : Fin 2) * 1 + 1 * 0 = 0; omega
  | ⟨1, _⟩ => show win0_6.index t (1 : Fin 2) * 128 + 1 * d.val = d.val; omega

theorem iblk7_apply (t : Fin cfg0.N) (e : Fin 128) (j : Fin 2304) :
    iblk m c 7 t (ix2 e j) = (V m c main_v51 : S128x2304.Idx → EReal) (ix2 e j) := by
  obtain ⟨_, _, _, ⟨e0, e1⟩, _, _⟩ := index_still t
  refine congrArg (V m c main_v51 : S128x2304.Idx → EReal) (funext fun a => Fin.ext ?_)
  match a with
  | ⟨0, _⟩ => show win0_7.index t (0 : Fin 2) * 128 + 1 * e.val = e.val; omega
  | ⟨1, _⟩ => show win0_7.index t (1 : Fin 2) * 2304 + 1 * j.val = j.val; omega

theorem iblk10_apply (t : Fin cfg0.N) (r : Fin 256) (l : Fin 128) :
    iblk m c 10 t (ix2 r l) = (V m c main_v61 : S256x128.Idx → EReal) (ix2 r l) := by
  obtain ⟨_, _, _, _, ⟨e0, e1⟩, _⟩ := index_still t
  refine congrArg (V m c main_v61 : S256x128.Idx → EReal) (funext fun a => Fin.ext ?_)
  match a with
  | ⟨0, _⟩ => show win0_10.index t (0 : Fin 2) * 256 + 1 * r.val = r.val; omega
  | ⟨1, _⟩ => show win0_10.index t (1 : Fin 2) * 128 + 1 * l.val = l.val; omega

theorem iblk11_apply (t : Fin cfg0.N) (r : Fin 256) (l : Fin 128) :
    iblk m c 11 t (ix2 r l) = (V m c main_v63 : S256x128.Idx → EReal) (ix2 r l) := by
  obtain ⟨_, _, _, _, _, ⟨e0, e1⟩⟩ := index_still t
  refine congrArg (V m c main_v63 : S256x128.Idx → EReal) (funext fun a => Fin.ext ?_)
  match a with
  | ⟨0, _⟩ => show win0_11.index t (0 : Fin 2) * 256 + 1 * r.val = r.val; omega
  | ⟨1, _⟩ => show win0_11.index t (1 : Fin 2) * 128 + 1 * l.val = l.val; omega

/-! ### Where the output blocks' elements sit in the output arrays -/

theorem emb12 (t : Fin cfg0.N) (r : Fin 256) (d : Fin 1536) :
    ((cfg0.win 12).blk t).view.emb (ix3 0 r d) = ix3 (batchOf t) r d := by
  obtain ⟨⟨_, e1, e2⟩, _⟩ := index_facts t
  funext a; apply Fin.ext
  match a with
  | ⟨0, _⟩ => show win0_12.index t (0 : Fin 3) * 1 + 1 * 0 = win0_12.index t (0 : Fin 3); omega
  | ⟨1, _⟩ => show win0_12.index t (1 : Fin 3) * 256 + 1 * r.val = r.val; omega
  | ⟨2, _⟩ => show win0_12.index t (2 : Fin 3) * 1536 + 1 * d.val = d.val; omega

theorem emb13 (t : Fin cfg0.N) (r : Fin 256) (d : Fin 768) :
    ((cfg0.win 13).blk t).view.emb (ix3 0 r d) = ix3 (batchOf t) r d := by
  obtain ⟨⟨e0, e1, e2⟩, _⟩ := index_outputs t
  funext a; apply Fin.ext
  match a with
  | ⟨0, _⟩ => show win0_13.index t (0 : Fin 3) * 1 + 1 * 0 = win0_12.index t (0 : Fin 3); omega
  | ⟨1, _⟩ => show win0_13.index t (1 : Fin 3) * 256 + 1 * r.val = r.val; omega
  | ⟨2, _⟩ => show win0_13.index t (2 : Fin 3) * 768 + 1 * d.val = d.val; omega

theorem emb14 (t : Fin cfg0.N) (r d : Fin 256) :
    ((cfg0.win 14).blk t).view.emb (ix2 r d) = ix2 r ⟨256 * (batchOf t).val + d.val, by omega⟩ := by
  obtain ⟨_, ⟨e0, e1⟩⟩ := index_outputs t
  funext a; apply Fin.ext
  match a with
  | ⟨0, _⟩ => show win0_14.index t (0 : Fin 2) * 256 + 1 * r.val = r.val; omega
  | ⟨1, _⟩ => show win0_14.index t (1 : Fin 2) * 256 + 1 * d.val = 256 * win0_12.index t (0 : Fin 3) + d.val; omega

end Cert.ProjCtx
-- ==== Proof.ProjCtx.Block.lean ====
/-
  The three blocks a grid point of the projection kernel on context tokens leaves, element by element, from the blocks it reads.
-/
module

public import proofs.«01_k».proof.Proof.Gen.ProjCtxIdeal.Value
public import proofs.«01_k».proof.Proof.Proj.Spec
public import Idealize.ShloMosaic.Lib.Pointwise.Blocks

@[expose] public section

noncomputable section

namespace Cert.ProjCtx

open Idealize.ShloMosaic Idealize.ShloMosaic.TcCoe Cert.ProjCtxIdeal Cert.ProjCtxIdeal.Gen Cert.Mlp Cert.Proj

variable (x : Vec Ideal S1x256x1024 .f32) (md : Vec Ideal S1x9x1024 .f32) (g : Vec Ideal S1x1024 .f32)
  (wa : Vec Ideal S1024x896 .bf16) (gq : Vec Ideal S1x256 .f32) (wq : Vec Ideal S256x3072 .bf16) (gkv : Vec Ideal S1x128 .f32)
  (wkv : Vec Ideal S128x2304 .bf16) (cq sq ck sk : Vec Ideal S256x128 .f32)

/-- Row `r` of the first product. -/
def wideRow (r : Fin 256) (j : Fin 896) : EReal :=
  ∑ e : Fin 1024, modAt (fun d => x (ix3 0 r d)) (fun d => g (ix2 0 d)) (fun d => md (ix3 0 3 d)) (fun d => md (ix3 0 4 d)) e
    * wa (ix2 e j)

/-- Row `r` of the key and value product. -/
def keyRow (r : Fin 256) (j : Fin 2304) : EReal :=
  ∑ e : Fin 128, normAt len128 (fun e : Fin 128 => wideRow x md g wa r ⟨256 + e.val, by omega⟩) (fun e => gkv (ix2 0 e)) e
    * wkv (ix2 e j)

theorem wide_apply (r : Fin 256) (j : Fin 896) :
    k0_pay5 (F := Ideal) (View.ld x r0_0) (View.ld md r0_1) (View.ld g r0_2) (View.ld wa r0_3) (ix2 r j) = wideRow x md g wa r j := by
  pointwise [k0_pay5]
  rfl

theorem key_apply (r : Fin 256) (j : Fin 2304) :
    k0_pay10 (F := Ideal) (k0_pay5 (View.ld x r0_0) (View.ld md r0_1) (View.ld g r0_2) (View.ld wa r0_3)) (View.ld gkv r0_6)
      (View.ld wkv r0_7) (ix2 r j) = keyRow x md g wa gkv wkv r j := by
  pointwise [k0_pay10]
  simp only [wide_apply]
  rfl

/-- The key block: each head's lanes, plus the rotated part all heads share. -/
theorem keys_apply (r : Fin 256) (h : Fin 12) (l : Fin 128) :
    out0_12 (F := Ideal) x md g wa gq wq gkv wkv cq sq ck sk (ix3 0 r ⟨128 * h.val + l.val, by omega⟩)
      = keyRow x md g wa gkv wkv r ⟨128 * h.val + l.val, by omega⟩
        + (wideRow x md g wa r ⟨384 + l.val, by omega⟩ * ck (ix2 r l) + wideRow x md g wa r ⟨512 + l.val, by omega⟩ * sk (ix2 r l)) := by
  have e : ∀ y, out0_12 (F := Ideal) x md g wa gq wq gkv wkv cq sq ck sk y = _ :=
    fun y => Value.canon12_eq (View.ld x r0_0) (View.ld md r0_1) (View.ld g r0_2) (View.ld wa r0_3) (View.ld gkv r0_6)
      (View.ld wkv r0_7) (View.ld ck r0_5) (View.ld sk r0_5) y
  rw [e]
  have j0 : Value.ix12_0 (ix3 0 r ⟨128 * h.val + l.val, by omega⟩) = ix2 r ⟨128 * h.val + l.val, by omega⟩ :=
    funext fun a => match a with | ⟨0, _⟩ => rfl | ⟨1, _⟩ => rfl
  have j1 : Value.ix12_1 (ix3 0 r ⟨128 * h.val + l.val, by omega⟩) = ix2 r ⟨384 + l.val, by omega⟩ :=
    funext fun a => match a with
      | ⟨0, _⟩ => rfl
      | ⟨1, _⟩ => Fin.ext (by show (128 * h.val + l.val) % 128 + 384 = 384 + l.val; omega)
  have j2 : Value.ix12_2 (ix3 0 r ⟨128 * h.val + l.val, by omega⟩) = ix2 r l :=
    funext fun a => match a with
      | ⟨0, _⟩ => rfl
      | ⟨1, _⟩ => Fin.ext (by show (128 * h.val + l.val) % 128 = l.val; omega)
  have j3 : Value.ix12_3 (ix3 0 r ⟨128 * h.val + l.val, by omega⟩) = ix2 r ⟨512 + l.val, by omega⟩ :=
    funext fun a => match a with
      | ⟨0, _⟩ => rfl
      | ⟨1, _⟩ => Fin.ext (by show (128 * h.val + l.val) % 128 + 512 = 512 + l.val; omega)
  have j4 : Value.ix12_4 (ix3 0 r ⟨128 * h.val + l.val, by omega⟩) = ix2 r l :=
    funext fun a => match a with
      | ⟨0, _⟩ => rfl
      | ⟨1, _⟩ => Fin.ext (by show (128 * h.val + l.val) % 128 = l.val; omega)
  unfold Value.E12
  rw [j0, j1, j2, j3, j4, key_apply, wide_apply, wide_apply]
  pointwise []

/-- The value block. -/
theorem values_apply (r : Fin 256) (e : Fin 768) :
    out0_13 (F := Ideal) x md g wa gq wq gkv wkv cq sq ck sk (ix3 0 r e) = keyRow x md g wa gkv wkv r ⟨1536 + e.val, by omega⟩ := by
  unfold out0_13
  refine (congrFun (View.canon_unit_zero (by funext a; fin_cases a <;> rfl) _ _) _).trans ?_
  pointwise [k0_pay4, k0_pay24, k0_pay20]
  exact key_apply x md g wa gkv wkv r _

/-- The block of the state-space inputs. -/
theorem inputs_apply (r : Fin 256) (e : Fin 256) :
    out0_14 (F := Ideal) x md g wa gq wq gkv wkv cq sq ck sk (ix2 r e) = wideRow x md g wa r ⟨640 + e.val, by omega⟩ := by
  unfold out0_14
  refine (congrFun (View.canon_unit_zero (by funext a; fin_cases a <;> rfl) _ _) _).trans ?_
  pointwise [k0_pay6]
  exact wide_apply x md g wa r _

end Cert.ProjCtx
-- ==== Proof.ProjCtx.Reference.lean ====
/-
  The reference's three results on context tokens, element by element. One row of the modulation serves all batches.
-/
module

public import proofs.«01_k».proof.Proof.Gen.ProjCtxReferenceIdeal.Read
public import proofs.«01_k».proof.Proof.Proj.Spec
public import Idealize.ShloMosaic.Lib.Pointwise.Blocks

@[expose] public section

noncomputable section

namespace Cert.ProjCtx

open Idealize.ShloMosaic Idealize.ShloMosaic.TcCoe Cert.ProjCtxReferenceIdeal Cert.ProjCtxReferenceIdeal.Gen Cert.ProjCtxReferenceIdeal.Read
open Cert.Mlp Cert.Proj

variable (x0 : S8x256x1024.Idx → EReal) (x1 : S16x9x1024.Idx → EReal) (x2 : S1x1024.Idx → EReal) (x3 : S1x1024x672.Idx → EReal)
  (x6 : S1x128.Idx → EReal) (x7 : S1x128x1536.Idx → EReal)

/-- The first product of token `i` of batch `b`. -/
def inner (b : Fin 8) (i : Fin 256) (j : Fin 672) : EReal :=
  innerAt (fun d => x0 (ix3 b i d)) (fun d => x2 (ix2 0 d)) (fun d => x1 (ix3 8 3 d)) (fun d => x1 (ix3 8 4 d))
    (fun e j => x3 (ix3 0 e j)) j

/-- Its keys and values. -/
def keyValue (b : Fin 8) (i : Fin 256) (j : Fin 1536) : EReal :=
  keyValueAt (inner x0 x1 x2 x3 b i) (fun e => x6 (ix2 0 e)) (fun e j => x7 (ix3 0 e j)) j

/-- Its key of head `h`: the lanes all heads share are not rotated. -/
def keyHead (b : Fin 8) (i : Fin 256) (h : Fin 12) (l : Fin 128) : EReal :=
  headAt (fun e => keyValue x0 x1 x2 x3 x6 x7 b i ⟨h.val * 128 + e.val, by omega⟩)
    (fun e => inner x0 x1 x2 x3 b i ⟨384 + e.val, by omega⟩) l

theorem inner_ref (b : Fin 8) (i : Fin 256) (j : Fin 672) :
    val_main_v46 (F := Ideal) x0 x1 x2 x3 (ix3 b i j) = inner x0 x1 x2 x3 b i j := by
  pointwise [val_main_v46, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v12, val_main_v11, val_main_v10, val_main_v9, val_main_v2, val_main_v1, val_main_v0, val_main_cst, val_main_cst_0, val_main_cst_1, val_main_cst_2]
  rfl

theorem keyValue_ref (b : Fin 8) (i : Fin 256) (j : Fin 1536) :
    val_main_v79 (F := Ideal) x0 x1 x2 x3 x6 x7 (ix3 b i j) = keyValue x0 x1 x2 x3 x6 x7 b i j := by
  pointwise [val_main_v79, val_main_v78, val_main_v77, val_main_v76, val_main_v75, val_main_v74, val_main_v73, val_main_v72, val_main_v71, val_main_v70, val_main_v69, val_main_v68, val_main_v67, val_main_v66, val_main_v48, val_main_v45, val_main_v44, val_main_cst_6, val_main_cst_7, val_main_cst_8]
  simp only [inner_ref]
  rfl

/-- A head's key. -/
theorem key_head_ref (b : Fin 8) (i : Fin 256) (h : Fin 12) (l : Fin 128) :
    val_main_v88 (F := Ideal) x0 x1 x2 x3 x6 x7 (ix4 b i h l) = keyHead x0 x1 x2 x3 x6 x7 b i h l := by
  unfold keyHead headAt
  split_ifs with e e'
  · pointwise [val_main_v88, val_main_v87, val_main_v86, val_main_v85, val_main_v83, val_main_v80, val_main_v49, val_main_cst_9]
    simp only [inner_ref, keyValue_ref]
    rw [dif_pos e]
  · pointwise [val_main_v88, val_main_v87, val_main_v86, val_main_v85, val_main_v83, val_main_v80, val_main_v49, val_main_cst_9]
    simp only [inner_ref, keyValue_ref]
    rw [dif_neg e, dif_pos (by omega)]
  · pointwise [val_main_v88, val_main_v87, val_main_v86, val_main_v85, val_main_v83, val_main_v80, val_main_v49, val_main_cst_9]
    simp only [inner_ref, keyValue_ref]
    rw [dif_neg e, dif_neg (by omega)]

/-- Heads laid one after the other, rounded, read at one lane. -/
theorem flat_heads (k : Vec Ideal S8x256x12x128 .f32) (b : Fin 8) (i : Fin 256) (j : Fin 1536) :
    truncf (F := Ideal) .bf16 (shapeCast S8x256x1536 k shapeCasts_S8x256x12x128_S8x256x1536) bitsLt_bf16_f32 (ix3 b i j)
      = k (ix4 b i ⟨j.val / 128, by omega⟩ ⟨j.val % 128, by omega⟩) := by
  pointwise []

/-- The keys, laid head after head. -/
theorem keys_ref (b : Fin 8) (i : Fin 256) (j : Fin 1536) :
    val_main_v90 (F := Ideal) x0 x1 x2 x3 x6 x7 (ix3 b i j)
      = keyHead x0 x1 x2 x3 x6 x7 b i ⟨j.val / 128, by omega⟩ ⟨j.val % 128, by omega⟩ := by
  unfold val_main_v90 val_main_v89
  rw [← key_head_ref]
  exact flat_heads _ b i j

/-- The values, laid head after head. -/
theorem values_ref (b : Fin 8) (i : Fin 256) (j : Fin 768) :
    val_main_v92 (F := Ideal) x0 x1 x2 x3 x6 x7 (ix3 b i j)
      = keyValue x0 x1 x2 x3 x6 x7 b i ⟨j.val / 64 * 128 + (64 + j.val % 64), by omega⟩ := by
  pointwise [val_main_v92, val_main_v91, val_main_v84, val_main_v80]
  simp only [keyValue_ref]

/-- The state-space inputs, token by token, batch after batch. -/
theorem inputs_ref (i : Fin 256) (j : Fin 2048) :
    val_main_v94 (F := Ideal) x0 x1 x2 x3 (ix2 i j)
      = inner x0 x1 x2 x3 ⟨j.val / 256, by omega⟩ i ⟨416 + j.val % 256, by omega⟩ := by
  pointwise [val_main_v94, val_main_v93, val_main_v50]
  simp only [inner_ref]

end Cert.ProjCtx
-- ==== Proof.ProjCtx.Rows.lean ====
/-
  The rows of a point's two products, as the reference's products of its tokens: lane by lane of the joined weights.
-/
module

public import proofs.«01_k».proof.Proof.ProjCtx.Tiles
public import proofs.«01_k».proof.Proof.ProjCtx.Block
public import proofs.«01_k».proof.Proof.Proj.Lanes
public import proofs.«01_k».proof.Proof.ProjCtx.Reference

@[expose] public section

noncomputable section

namespace Cert.ProjCtx

open Idealize.ShloMosaic Idealize.ShloMosaic.TcCoe Cert.ProjCtxIdeal Cert.ProjCtxIdeal.Gen Cert.Mlp Cert.Proj

variable (m : (ℓ : Loc nD τ sig) → Buf (Elt Ideal) ℓ) (c : Dev nD) (t : Fin cfg0.N) (r : Fin 256)

/-- A token's modulated row. -/
def hiddenOf (b : Fin 8) (i : Fin 256) : Fin 1024 → EReal :=
  modAt (fun d => argX m c (ix3 b i d)) (fun d => argG m c (ix2 0 d)) (fun d => argMod m c (ix3 8 3 d))
    (fun d => argMod m c (ix3 8 4 d))

/-- A token's first product, its keys and values. -/
abbrev innerOf (b : Fin 8) (i : Fin 256) (j : Fin 672) : EReal := inner (argX m c) (argMod m c) (argG m c) (argW m c) b i j
abbrev keyValueOf (b : Fin 8) (i : Fin 256) (j : Fin 1536) : EReal :=
  keyValue (argX m c) (argMod m c) (argG m c) (argW m c) (argGkv m c) (argWkv m c) b i j

/-- The rows of the point's products. -/
abbrev wideOf (j : Fin 896) : EReal := wideRow (iblk m c 0 t) (iblk m c 1 t) (iblk m c 2 t) (iblk m c 3 t) r j
abbrev keyOf (j : Fin 2304) : EReal :=
  keyRow (iblk m c 0 t) (iblk m c 1 t) (iblk m c 2 t) (iblk m c 3 t) (iblk m c 6 t) (iblk m c 7 t) r j
theorem wideOf_eq (j : Fin 896) : wideOf m c t r j
    = ∑ e : Fin 1024, hiddenOf m c (batchOf t) r e * (V m c main_v17 : S1024x896.Idx → EReal) (ix2 e j) := by
  unfold wideOf wideRow
  simp only [iblk0_apply, iblk1_apply, iblk2_apply, iblk3_apply]
  rfl

theorem wide_low (j : Fin 384) : wideOf m c t r ⟨j.val, by omega⟩ = innerOf m c (batchOf t) r ⟨j.val, by omega⟩ := by
  refine (wideOf_eq m c t r _).trans ((Finset.sum_congr rfl fun e _ => congrArg (hiddenOf m c (batchOf t) r e * ·) (low_lanes m c e j)).trans ?_)
  rfl

theorem wide_input (j : Fin 256) :
    wideOf m c t r ⟨640 + j.val, by omega⟩ = innerOf m c (batchOf t) r ⟨416 + j.val, by omega⟩ := by
  refine (wideOf_eq m c t r _).trans ((Finset.sum_congr rfl fun e _ => congrArg (hiddenOf m c (batchOf t) r e * ·) (input_lanes m c e j)).trans ?_)
  rfl

theorem wide_key (l : Fin 128) : wideOf m c t r ⟨384 + l.val, by omega⟩
    = headAt (fun _ => 0) (fun i => innerOf m c (batchOf t) r ⟨384 + i.val, by omega⟩) l := by
  refine (wideOf_eq m c t r _).trans ((Finset.sum_congr rfl fun e _ => congrArg (hiddenOf m c (batchOf t) r e * ·) (key_lanes m c e l)).trans ?_)
  rw [sum_headAt]
  simp only [mul_zero, Finset.sum_const_zero]
  rfl

/-- The row the keys and values are made of. -/
theorem keyOf_eq (j : Fin 2304) : keyOf m c t r j
    = ∑ e : Fin 128, normAt len128 (fun e : Fin 128 => innerOf m c (batchOf t) r ⟨256 + e.val, by omega⟩)
        (fun e => argGkv m c (ix2 0 e)) e * (V m c main_v51 : S128x2304.Idx → EReal) (ix2 e j) := by
  have e : (fun e : Fin 128 => wideOf m c t r ⟨256 + e.val, by omega⟩)
      = fun e : Fin 128 => innerOf m c (batchOf t) r ⟨256 + e.val, by omega⟩ :=
    funext fun e => wide_low m c t r ⟨256 + e.val, by omega⟩
  unfold keyOf keyRow
  rw [← e]
  simp only [iblk6_apply, iblk7_apply]

theorem key_plain (h : Fin 12) (l : Fin 128) : keyOf m c t r ⟨128 * h.val + l.val, by omega⟩
    = headAt (fun e => keyValueOf m c (batchOf t) r ⟨h.val * 128 + e.val, by omega⟩) (fun _ => 0) l := by
  refine (keyOf_eq m c t r _).trans ((Finset.sum_congr rfl fun e _ => congrArg (normAt len128 (fun e : Fin 128 => innerOf m c (batchOf t) r ⟨256 + e.val, by omega⟩) (fun e => argGkv m c (ix2 0 e)) e * ·) (key_value_lanes m c e h l)).trans ?_)
  rw [sum_headAt]
  simp only [mul_zero, Finset.sum_const_zero]
  rfl

theorem key_value (j : Fin 768) : keyOf m c t r ⟨1536 + j.val, by omega⟩
    = keyValueOf m c (batchOf t) r ⟨j.val / 64 * 128 + (64 + j.val % 64), by omega⟩ := by
  refine (keyOf_eq m c t r _).trans ((Finset.sum_congr rfl fun e _ => congrArg (normAt len128 (fun e : Fin 128 => innerOf m c (batchOf t) r ⟨256 + e.val, by omega⟩) (fun e => argGkv m c (ix2 0 e)) e * ·) (value_lanes m c e j)).trans ?_)
  rfl

end Cert.ProjCtx
-- ==== Proof.ProjCtx.Array.lean ====
/-
  The three output arrays of the projection kernel on context tokens, element by element: grid point `b` writes the keys,
  values and state-space inputs of batch `b`, and the 8 blocks tile each array.
-/
module

public import proofs.«01_k».proof.Proof.ProjCtx.Rows

@[expose] public section

noncomputable section

namespace Cert.ProjCtx

open Idealize.ShloMosaic Idealize.ShloMosaic.TcCoe Cert.ProjCtxIdeal Cert.ProjCtxIdeal.Gen Cert.Mlp Cert.Proj
open Idealize.ShloMosaic.Pipeline (Dat)

variable (m : (ℓ : Loc nD τ sig) → Buf (Elt Ideal) ℓ) (c : Dev nD)

/-- The three results, as arrays. -/
def keyArr : S8x256x1536.Idx → EReal := fun i =>
  keyHead (argX m c) (argMod m c) (argG m c) (argW m c) (argGkv m c) (argWkv m c) (i 0) (i 1)
    ⟨(i 2).val / 128, Nat.div_lt_of_lt_mul (i 2).isLt⟩ ⟨(i 2).val % 128, Nat.mod_lt _ (by decide)⟩
def valueArr : S8x256x768.Idx → EReal := fun i =>
  keyValueOf m c (i 0) (i 1) ⟨(i 2).val / 64 * 128 + (64 + (i 2).val % 64), by have h : (i 2).val < 768 := (i 2).isLt; omega⟩
def inputArr : S256x2048.Idx → EReal := fun i =>
  innerOf m c ⟨(i 1).val / 256, Nat.div_lt_of_lt_mul (i 1).isLt⟩ (i 0)
    ⟨416 + (i 1).val % 256, by omega⟩

/-! ### The blocks a point writes -/

theorem keys_block (t : Fin cfg0.N) (r : Fin 256) (h : Fin 12) (l : Fin 128) :
    out0_12 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix3 0 r ⟨128 * h.val + l.val, by omega⟩)
      = keyHead (argX m c) (argMod m c) (argG m c) (argW m c) (argGkv m c) (argWkv m c) (batchOf t) r h l := by
  refine (keys_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) r h l).trans ?_
  refine (congrArg₂ (· + ·) (key_plain m c t r h l) (congrArg₂ (· + ·)
    (congrArg₂ (· * ·) (wide_key m c t r l) ((iblk10_apply m c t r l).trans (key_cos m c r l)))
    (congrArg (_ * ·) ((iblk11_apply m c t r l).trans (key_sin m c r l))))).trans ?_
  exact still_lane _ _ _ l

/-- A lane is a head and a lane of it. -/
theorem lane_split (d : Fin 1536) : d = ⟨128 * (⟨d.val / 128, by omega⟩ : Fin 12).val + (⟨d.val % 128, by omega⟩ : Fin 128).val, by
    simp only []; omega⟩ :=
  Fin.ext (by show d.val = 128 * (d.val / 128) + d.val % 128; omega)

/-- An index of a row tile of one batch. -/
theorem tile_index {w : ℕ} (y : (⟨3, ![1, 256, w]⟩ : Shape).Idx) : ∃ (r : Fin 256) (d : Fin w), y = ix3 (0 : Fin 1) r d := by
  refine ⟨y 1, y 2, funext fun a => ?_⟩
  match a with
  | ⟨0, _⟩ => exact Fin.ext (by have h : (y 0).val < 1 := (y 0).isLt; show (y 0).val = 0; omega)
  | ⟨1, _⟩ => rfl
  | ⟨2, _⟩ => rfl

/-- The point of a batch. -/
theorem batch_point (b : Fin 8) : ∃ t : Fin cfg0.N, batchOf t = b := by
  obtain ⟨t, e⟩ := index_onto b
  exact ⟨t, Fin.ext e⟩

/-- An index of a matrix is its two coordinates. -/
theorem index_pair {a b : ℕ} (y : (⟨2, ![a, b]⟩ : Shape).Idx) : ∃ (r : Fin a) (d : Fin b), y = ix2 r d :=
  ⟨y 0, y 1, funext fun k => match k with | ⟨0, _⟩ => rfl | ⟨1, _⟩ => rfl⟩

/-- An index of an array of rank three is its three coordinates. -/
theorem index_triple {a b e : ℕ} (y : (⟨3, ![a, b, e]⟩ : Shape).Idx) :
    ∃ (p : Fin a) (r : Fin b) (d : Fin e), y = ix3 p r d :=
  ⟨y 0, y 1, y 2, funext fun k => match k with | ⟨0, _⟩ => rfl | ⟨1, _⟩ => rfl | ⟨2, _⟩ => rfl⟩

/-! ### The arrays after the run -/

theorem keyArr_eq : (dats m 0 c).arrAt 12 cfg0.N = keyArr m c := by
  refine (dats m 0 c).arrAt_eq_of_cover 12 (keyArr m c) (fun t _ => ?_) fun i => ?_
  · rw [Value.flushed12]
    funext y
    change S1x256x1536.Idx at y
    show out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y = keyArr m c (((cfg0.win 12).blk t).view.emb y)
    obtain ⟨r, d, rfl⟩ := tile_index y
    rw [emb12]
    refine (congrArg (fun d => out0_12 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix3 0 r d)) (lane_split d)).trans ?_
    exact keys_block m c t r _ _
  · obtain ⟨b, r, d, rfl⟩ := index_triple (a := 8) (b := 256) (e := 1536) i
    obtain ⟨t, e0⟩ := batch_point b
    refine ⟨t, (flush_all t).1, ?_⟩
    have e : ix3 b r d = ((cfg0.win 12).blk t).view.emb (ix3 0 r d) := by rw [emb12, e0]
    rw [e]
    exact Finset.mem_map.2 ⟨_, Finset.mem_univ _, rfl⟩

theorem valueArr_eq : (dats m 0 c).arrAt 13 cfg0.N = valueArr m c := by
  refine (dats m 0 c).arrAt_eq_of_cover 13 (valueArr m c) (fun t _ => ?_) fun i => ?_
  · rw [Value.flushed13]
    funext y
    change S1x256x768.Idx at y
    show out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y = valueArr m c (((cfg0.win 13).blk t).view.emb y)
    obtain ⟨r, d, rfl⟩ := tile_index y
    rw [emb13]
    exact (values_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) r d).trans (key_value m c t r d)
  · obtain ⟨b, r, d, rfl⟩ := index_triple (a := 8) (b := 256) (e := 768) i
    obtain ⟨t, e0⟩ := batch_point b
    refine ⟨t, (flush_all t).2.1, ?_⟩
    have e : ix3 b r d = ((cfg0.win 13).blk t).view.emb (ix3 0 r d) := by rw [emb13, e0]
    rw [e]
    exact Finset.mem_map.2 ⟨_, Finset.mem_univ _, rfl⟩

theorem inputArr_eq : (dats m 0 c).arrAt 14 cfg0.N = inputArr m c := by
  refine (dats m 0 c).arrAt_eq_of_cover 14 (inputArr m c) (fun t _ => ?_) fun i => ?_
  · rw [Value.flushed14]
    funext y
    change S256x256.Idx at y
    show out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y = inputArr m c (((cfg0.win 14).blk t).view.emb y)
    obtain ⟨r, d, rfl⟩ : ∃ (r : Fin 256) (d : Fin 256), y = ix2 r d :=
      ⟨y 0, y 1, funext fun a => match a with | ⟨0, _⟩ => rfl | ⟨1, _⟩ => rfl⟩
    rw [emb14]
    refine (inputs_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) r d).trans ((wide_input m c t r d).trans ?_)
    have e0 : (256 * (batchOf t).val + d.val) / 256 = (batchOf t).val := by omega
    have e1 : (256 * (batchOf t).val + d.val) % 256 = d.val := by omega
    exact congrArg₂ (fun b j => innerOf m c b r j) (Fin.ext e0.symm) (Fin.ext (congrArg (416 + ·) e1.symm))
  · obtain ⟨r, d, rfl⟩ := index_pair (a := 256) (b := 2048) i
    obtain ⟨t, e0⟩ := batch_point ⟨d.val / 256, by omega⟩
    refine ⟨t, (flush_all t).2.2, ?_⟩
    have e : ix2 r d = ((cfg0.win 14).blk t).view.emb (ix2 r ⟨d.val % 256, by omega⟩) := by
      rw [emb14]
      exact congrArg (ix2 r) (Fin.ext (by show d.val = 256 * (batchOf t).val + d.val % 256; rw [e0]; simp only []; omega))
    rw [e]
    exact Finset.mem_map.2 ⟨_, Finset.mem_univ _, rfl⟩

end Cert.ProjCtx
-- ==== Proof.ProjCtx.Claims.lean ====
/-
  The claims about the projection call on context tokens: the two programs end with the same keys, values and
  state-space inputs.
-/
module

public import proofs.«01_k».proof.Defs
public import proofs.«01_k».proof.Proof.ProjCtx.Array
public import proofs.«01_k».proof.Proof.ProjCtx.Reference

@[expose] public section

noncomputable section

namespace Cert.ProjCtx

open Idealize.ShloMosaic Idealize.ShloMosaic.TcCoe Idealize.SL.Sem

/-- The reference runs, leaves its arguments as they were and every counter at zero: it declares none. -/
theorem frame_reference : quiescent_ProjCtxReferenceIdeal := fun m ρ _ =>
  (θ_run (Cert.ProjCtxReferenceIdeal.defs (F := Ideal)) _ _).mono
    (fun r h => And.intro (fun c => (h c).2.2.2) (sem_eq_zero_of_no_sems (by decide) r.2))
    (Cert.ProjCtxReferenceIdeal.Value.run (F := Ideal) m ρ)

/-- Kernel and reference end with equal results. -/
theorem algebraic : algebraic_ProjCtxIdeal_ProjCtxReferenceIdeal := by
  intro m g m' g' _ hargs
  refine ⟨fun c => keyArr m c, fun c => valueArr m c, fun c => inputArr m c, ?_, ?_⟩
  · refine (θ_run _ _ _).mono (fun r h c => ?_) (Cert.ProjCtxIdeal.Value.run_blocks m g)
    obtain ⟨e0, e1, e2, k⟩ := h c
    exact ⟨e0.trans (keyArr_eq m c), e1.trans (valueArr_eq m c), e2.trans (inputArr_eq m c), k⟩
  · refine (θ_run _ _ _).mono (fun r h c => ?_) (Cert.ProjCtxReferenceIdeal.Value.run (F := Ideal) m' g')
    obtain ⟨e0, e1, e2, k⟩ := h c
    obtain ⟨a0, a1, a2, a3, a4, a5, a6, a7⟩ := hargs c
    refine ⟨e0.trans ?_, e1.trans ?_, e2.trans ?_, k⟩
    · refine (Cert.ProjCtxReferenceIdeal.Read.val_main_v90_eq (F := Ideal) m' c).trans ?_
      rw [a0, a1, a2, a3, a6, a7]
      funext i
      obtain ⟨b, t, d, rfl⟩ := index_triple i
      exact keys_ref _ _ _ _ _ _ b t d
    · refine (Cert.ProjCtxReferenceIdeal.Read.val_main_v92_eq (F := Ideal) m' c).trans ?_
      rw [a0, a1, a2, a3, a6, a7]
      funext i
      obtain ⟨b, t, d, rfl⟩ := index_triple i
      exact values_ref _ _ _ _ _ _ b t d
    · refine (Cert.ProjCtxReferenceIdeal.Read.val_main_v94_eq (F := Ideal) _ _ _ _).trans ?_
      rw [a0, a1, a2, a3]
      funext i
      obtain ⟨t, d, rfl⟩ := index_pair i
      exact inputs_ref _ _ _ _ t d

end Cert.ProjCtx
-- ==== Proof.Attn.Head.lean ====
/-
  One head of the attention kernel, in words of its own: what the body does with one head's queries and one chunk of
  keys and values, and the five chunks in order.

  The body treats its four heads by the same text written four times. `head` is that text as one function of the
  head's loads, and `out0_5_eq` says that the block the body leaves is made of four of them: lanes 0-127 hold heads 0
  and 1 (64 value lanes each), lanes 128-255 hold heads 2 and 3.
-/
module

public import proofs.«01_k».proof.Proof.Gen.KernelIdeal.Value

@[expose] public section

noncomputable section

namespace Cert.Attn

open Idealize.ShloMosaic Idealize.ShloMosaic.TcCoe Cert.KernelIdeal Cert.KernelIdeal.Gen

variable {F : FTy → Type} [FloatOps F]

/-! ### A chunk of 1024 keys -/

/-- The scores of the block's 1024 queries against a chunk of 1024 keys. -/
def scores (q k : FVec F S1024x128 .bf16) : FVec F S1024x1024 .f32 :=
  matmul dot_S1024x128_S1024x128_S1024x1024_1_1_0_0_n_n none q k (constant S1024x1024 .f32 0x00000000#32)

/-- A column of row values, spread over 128 lanes. -/
def spread (x : FVec F S1024 .f32) : FVec F S1024x128 .f32 :=
  broadcastTo S1024x128 (shapeCast S1024x1 (shapeCast S1024x1 x shapeCasts_S1024_S1024x1) shapeCasts_S1024x1_S1024x1)
    broadcasts_S1024x1_S1024x128

/-- The largest of 128 lanes, row by row, spread over 128 lanes. -/
def laneMax (x : FVec F S1024x128 .f32) : FVec F S1024x128 .f32 :=
  spread (multiReduction .maximumf [1] S1024 x 0xFF800000#32 reduces_S1024x128_S1024 (.inl rfl) rfl)

/-- The largest score of each row of a chunk: the eight lane groups first, then the lanes. -/
def chunkMax (s : FVec F S1024x1024 .f32) : FVec F S1024x128 .f32 :=
  laneMax (maximumf (maximumf (maximumf (maximumf (maximumf (maximumf (maximumf
    (extractStridedSlice S1024x128 ![0, 0] s slices_S1024x1024_o0_0_S1024x128)
    (extractStridedSlice S1024x128 ![0, 128] s slices_S1024x1024_o0_128_S1024x128))
    (extractStridedSlice S1024x128 ![0, 256] s slices_S1024x1024_o0_256_S1024x128))
    (extractStridedSlice S1024x128 ![0, 384] s slices_S1024x1024_o0_384_S1024x128))
    (extractStridedSlice S1024x128 ![0, 512] s slices_S1024x1024_o0_512_S1024x128))
    (extractStridedSlice S1024x128 ![0, 640] s slices_S1024x1024_o0_640_S1024x128))
    (extractStridedSlice S1024x128 ![0, 768] s slices_S1024x1024_o0_768_S1024x128))
    (extractStridedSlice S1024x128 ![0, 896] s slices_S1024x1024_o0_896_S1024x128))

/-- A lane group's scores less the running maximum, as powers of two, narrowed. -/
def power (x m : FVec F S1024x128 .f32) : FVec F S1024x128 .bf16 := truncf .bf16 (exp2 (subf x m)) bitsLt_bf16_f32

/-- The unnormalised weights of a chunk. -/
def weights (s : FVec F S1024x1024 .f32) (m : FVec F S1024x128 .f32) : FVec F S1024x1024 .bf16 :=
  concatenate S1024x1024 1
    [⟨S1024x128, power (extractStridedSlice S1024x128 ![0, 0] s slices_S1024x1024_o0_0_S1024x128) m⟩,
     ⟨S1024x128, power (extractStridedSlice S1024x128 ![0, 128] s slices_S1024x1024_o0_128_S1024x128) m⟩,
     ⟨S1024x128, power (extractStridedSlice S1024x128 ![0, 256] s slices_S1024x1024_o0_256_S1024x128) m⟩,
     ⟨S1024x128, power (extractStridedSlice S1024x128 ![0, 384] s slices_S1024x1024_o0_384_S1024x128) m⟩,
     ⟨S1024x128, power (extractStridedSlice S1024x128 ![0, 512] s slices_S1024x1024_o0_512_S1024x128) m⟩,
     ⟨S1024x128, power (extractStridedSlice S1024x128 ![0, 640] s slices_S1024x1024_o0_640_S1024x128) m⟩,
     ⟨S1024x128, power (extractStridedSlice S1024x128 ![0, 768] s slices_S1024x1024_o0_768_S1024x128) m⟩,
     ⟨S1024x128, power (extractStridedSlice S1024x128 ![0, 896] s slices_S1024x1024_o0_896_S1024x128) m⟩]
    concatenates_S1024x128_S1024x128_S1024x128_S1024x128_S1024x128_S1024x128_S1024x128_S1024x128_S1024x1024_d1

/-- The values of two heads beside 128 lanes of ones: the product with the weights sums both at once. -/
def withOnes (v : FVec F S1024x128 .bf16) : FVec F S1024x256 .bf16 :=
  concatenate S1024x256 1 [⟨S1024x128, v⟩, ⟨S1024x128, broadcast S1024x128 (Scalar.ofBits .bf16 0x3F80#16)⟩]
    concatenates_S1024x128_S1024x128_S1024x256_d1

/-- The weighted sums of a chunk: values in lanes 0-127, the weights' own sum in lanes 128-255. -/
def weighted (p : FVec F S1024x1024 .bf16) (v : FVec F S1024x256 .bf16) : FVec F S1024x256 .f32 :=
  matmul dot_S1024x1024_S1024x256_S1024x256_1_0_0_1_n_n none p v (constant S1024x256 .f32 0x00000000#32)

/-- 128 lanes written twice. -/
def twice (x : FVec F S1024x128 .f32) : FVec F S1024x256 .f32 :=
  concatenate S1024x256 1 [⟨S1024x128, x⟩, ⟨S1024x128, x⟩] concatenates_S1024x128_S1024x128_S1024x256_d1

/-- The old sums, brought from the old maximum to the new one. -/
def rescaled (old new : FVec F S1024x128 .f32) (a : FVec F S1024x256 .f32) : FVec F S1024x256 .f32 :=
  mulf (twice (exp2 (subf old new))) a

/-- A load of 1024 rows and 128 lanes without its leading unit axis. -/
def rows (x : Vec F S1x1024x128 .bf16) : FVec F S1024x128 .bf16 := shapeCast S1024x128 x shapeCasts_S1x1024x128_S1024x128

/-- The first chunk's state: the running maximum and the weighted sums. -/
def first (q k v : Vec F S1x1024x128 .bf16) : FVec F S1024x128 .f32 × FVec F S1024x256 .f32 :=
  (chunkMax (scores (rows q) (rows k)),
   weighted (weights (scores (rows q) (rows k)) (chunkMax (scores (rows q) (rows k)))) (withOnes (rows v)))

/-- A later chunk's state from the one before. -/
def next (q k v : Vec F S1x1024x128 .bf16) (st : FVec F S1024x128 .f32 × FVec F S1024x256 .f32) :
    FVec F S1024x128 .f32 × FVec F S1024x256 .f32 :=
  (maximumf st.1 (chunkMax (scores (rows q) (rows k))),
   addf (rescaled st.1 (maximumf st.1 (chunkMax (scores (rows q) (rows k)))) st.2)
     (weighted (weights (scores (rows q) (rows k)) (maximumf st.1 (chunkMax (scores (rows q) (rows k)))))
       (withOnes (rows v))))

/-! ### The chunk of 256 context keys -/

/-- The scores against the context keys. -/
def scoresC (q : FVec F S1024x128 .bf16) (k : FVec F S256x128 .bf16) : FVec F S1024x256 .f32 :=
  matmul dot_S1024x128_S256x128_S1024x256_1_1_0_0_n_n none q k (constant S1024x256 .f32 0x00000000#32)

/-- The largest score of each row. -/
def chunkMaxC (s : FVec F S1024x256 .f32) : FVec F S1024x128 .f32 :=
  laneMax (maximumf (extractStridedSlice S1024x128 ![0, 0] s slices_S1024x256_o0_0_S1024x128)
    (extractStridedSlice S1024x128 ![0, 128] s slices_S1024x256_o0_128_S1024x128))

/-- The unnormalised weights. -/
def weightsC (s : FVec F S1024x256 .f32) (m : FVec F S1024x128 .f32) : FVec F S1024x256 .bf16 :=
  concatenate S1024x256 1
    [⟨S1024x128, power (extractStridedSlice S1024x128 ![0, 0] s slices_S1024x256_o0_0_S1024x128) m⟩,
     ⟨S1024x128, power (extractStridedSlice S1024x128 ![0, 128] s slices_S1024x256_o0_128_S1024x128) m⟩]
    concatenates_S1024x128_S1024x128_S1024x256_d1

/-- The values beside ones. -/
def withOnesC (v : FVec F S256x128 .bf16) : FVec F S256x256 .bf16 :=
  concatenate S256x256 1 [⟨S256x128, v⟩, ⟨S256x128, broadcast S256x128 (Scalar.ofBits .bf16 0x3F80#16)⟩]
    concatenates_S256x128_S256x128_S256x256_d1

/-- The weighted sums. -/
def weightedC (p : FVec F S1024x256 .bf16) (v : FVec F S256x256 .bf16) : FVec F S1024x256 .f32 :=
  matmul dot_S1024x256_S256x256_S1024x256_1_0_0_1_n_n none p v (constant S1024x256 .f32 0x00000000#32)

/-- A load of 256 rows without its leading unit axis. -/
def rowsC (x : Vec F S1x256x128 .bf16) : FVec F S256x128 .bf16 := shapeCast S256x128 x shapeCasts_S1x256x128_S256x128

/-- The state after the context chunk. -/
def nextC (q : Vec F S1x1024x128 .bf16) (k v : Vec F S1x256x128 .bf16)
    (st : FVec F S1024x128 .f32 × FVec F S1024x256 .f32) : FVec F S1024x128 .f32 × FVec F S1024x256 .f32 :=
  (maximumf st.1 (chunkMaxC (scoresC (rows q) (rowsC k))),
   addf (rescaled st.1 (maximumf st.1 (chunkMaxC (scoresC (rows q) (rowsC k)))) st.2)
     (weightedC (weightsC (scoresC (rows q) (rowsC k)) (maximumf st.1 (chunkMaxC (scoresC (rows q) (rowsC k)))))
       (withOnesC (rowsC v))))

/-! ### A head, and the block -/

/-- The value lanes over the weights' sum. -/
def quotient (a : FVec F S1024x256 .f32) : FVec F S1024x128 .f32 :=
  divf (extractStridedSlice S1024x128 ![0, 0] a slices_S1024x256_o0_0_S1024x128)
    (extractStridedSlice S1024x128 ![0, 128] a slices_S1024x256_o0_128_S1024x128)

/-- One head from its loads: queries, four chunks of keys and the context's, and their values. -/
def head (q k0 k1 k2 k3 : Vec F S1x1024x128 .bf16) (kc : Vec F S1x256x128 .bf16)
    (v0 v1 v2 v3 : Vec F S1x1024x128 .bf16) (vc : Vec F S1x256x128 .bf16) : FVec F S1024x128 .f32 :=
  quotient (nextC q kc vc (next q k3 v3 (next q k2 v2 (next q k1 v1 (first q k0 v0))))).2

/-- Two heads in one 128-lane group: the first 64 lanes from one, the rest from the other. -/
def merged (a b : FVec F S1024x128 .f32) : FVec F S1x1024x128 .f32 :=
  shapeCast S1x1024x128
    (select (cmpi .slt (iota .tc S1024x128 32 [1] iota_S1024x128_d1_w32) (broadcast S1024x128 64#32)) a b)
    shapeCasts_S1024x128_S1x1024x128

set_option maxRecDepth 10000 in
/-- The block the body leaves, by heads. -/
theorem out0_5_eq (x0 : Vec F S1x1024x512 .bf16) (x1 : Vec F S1x4096x512 .bf16) (x2 : Vec F S1x256x512 .bf16)
    (x3 : Vec F S1x4096x256 .bf16) (x4 : Vec F S1x256x256 .bf16) :
    out0_5 x0 x1 x2 x3 x4 = View.canon
      [⟨r0_35, merged
          (head (View.ld x0 r0_17) (View.ld x1 r0_18) (View.ld x1 r0_20) (View.ld x1 r0_22) (View.ld x1 r0_24)
            (View.ld x2 r0_26) (View.ld x3 r0_19) (View.ld x3 r0_21) (View.ld x3 r0_23) (View.ld x3 r0_25)
            (View.ld x4 r0_27))
          (head (View.ld x0 r0_28) (View.ld x1 r0_29) (View.ld x1 r0_30) (View.ld x1 r0_31) (View.ld x1 r0_32)
            (View.ld x2 r0_33) (View.ld x3 r0_19) (View.ld x3 r0_21) (View.ld x3 r0_23) (View.ld x3 r0_25)
            (View.ld x4 r0_27))⟩,
       ⟨r0_34, merged
          (head (View.ld x0 r0_0) (View.ld x1 r0_1) (View.ld x1 r0_3) (View.ld x1 r0_5) (View.ld x1 r0_7)
            (View.ld x2 r0_9) (View.ld x3 r0_2) (View.ld x3 r0_4) (View.ld x3 r0_6) (View.ld x3 r0_8)
            (View.ld x4 r0_10))
          (head (View.ld x0 r0_11) (View.ld x1 r0_12) (View.ld x1 r0_13) (View.ld x1 r0_14) (View.ld x1 r0_15)
            (View.ld x2 r0_16) (View.ld x3 r0_2) (View.ld x3 r0_4) (View.ld x3 r0_6) (View.ld x3 r0_8)
            (View.ld x4 r0_10))⟩] := by
  dsimp only [out0_5, merged, head, quotient, nextC, weightedC, withOnesC, weightsC, chunkMaxC, scoresC, rowsC, next, first,
    rescaled, twice, weighted, withOnes, weights, power, chunkMax, laneMax, spread, scores, rows,
    k0_pay1, k0_pay2, k0_pay3, k0_pay4, k0_pay5, k0_pay6, k0_pay7, k0_pay8, k0_pay9, k0_pay10, k0_pay11, k0_pay12,
    k0_pay13, k0_pay14, k0_pay15, k0_pay16, k0_pay17, k0_pay18, k0_pay19, k0_pay20, k0_pay21, k0_pay22, k0_pay23,
    k0_pay24, k0_pay25, k0_pay26, k0_pay27, k0_pay28, k0_pay29, k0_pay30, k0_pay31, k0_pay32, k0_pay33, k0_pay34,
    k0_pay35, k0_pay36, k0_pay37, k0_pay38, k0_pay39, k0_pay40, k0_pay41, k0_pay42, k0_pay43, k0_pay44, k0_pay45,
    k0_pay46, k0_pay47, k0_pay48, k0_pay49, k0_pay50, k0_pay51, k0_pay52, k0_pay53, k0_pay54, k0_pay55, k0_pay56,
    k0_pay57, k0_pay58, k0_pay59, k0_pay60, k0_pay61, k0_pay62, k0_pay63, k0_pay64, k0_pay65, k0_pay66, k0_pay67,
    k0_pay68, k0_pay69, k0_pay70, k0_pay71, k0_pay72, k0_pay73, k0_pay74, k0_pay75, k0_pay76, k0_pay77, k0_pay78,
    k0_pay79, k0_pay80, k0_pay81, k0_pay82, k0_pay83, k0_pay84, k0_pay85, k0_pay86, k0_pay87, k0_pay88, k0_pay89,
    k0_pay90, k0_pay91, k0_pay92, k0_pay93, k0_pay94, k0_pay95, k0_pay96, k0_pay97, k0_pay98, k0_pay99, k0_pay100,
    k0_pay101, k0_pay102, k0_pay103, k0_pay104, k0_pay105, k0_pay106, k0_pay107, k0_pay108, k0_pay109, k0_pay110,
    k0_pay111, k0_pay112, k0_pay113, k0_pay114, k0_pay115, k0_pay116, k0_pay117, k0_pay118, k0_pay119, k0_pay120,
    k0_pay121, k0_pay122, k0_pay123, k0_pay124, k0_pay125, k0_pay126, k0_pay127, k0_pay128, k0_pay129, k0_pay130,
    k0_pay131, k0_pay132, k0_pay133, k0_pay134, k0_pay135, k0_pay136, k0_pay137, k0_pay138, k0_pay139, k0_pay140,
    k0_pay141, k0_pay142, k0_pay143, k0_pay144, k0_pay145, k0_pay146, k0_pay147, k0_pay148, k0_pay149, k0_pay150,
    k0_pay151, k0_pay152, k0_pay153, k0_pay154, k0_pay155, k0_pay156, k0_pay157, k0_pay158, k0_pay159, k0_pay160,
    k0_pay161, k0_pay162, k0_pay163, k0_pay164, k0_pay165, k0_pay166, k0_pay167, k0_pay168, k0_pay169, k0_pay170,
    k0_pay171, k0_pay172, k0_pay173, k0_pay174, k0_pay175, k0_pay176, k0_pay177, k0_pay178, k0_pay179, k0_pay180,
    k0_pay181, k0_pay182, k0_pay183, k0_pay184, k0_pay185, k0_pay186, k0_pay187, k0_pay188, k0_pay189, k0_pay190,
    k0_pay191, k0_pay192, k0_pay193, k0_pay194, k0_pay195, k0_pay196, k0_pay197, k0_pay198, k0_pay199, k0_pay200,
    k0_pay201, k0_pay202, k0_pay203, k0_pay204, k0_pay205, k0_pay206, k0_pay207, k0_pay208, k0_pay209, k0_pay210,
    k0_pay211, k0_pay212, k0_pay213, k0_pay214, k0_pay215, k0_pay216, k0_pay217, k0_pay218, k0_pay219, k0_pay220,
    k0_pay221, k0_pay222, k0_pay223, k0_pay224, k0_pay225, k0_pay226, k0_pay227, k0_pay228, k0_pay229, k0_pay230,
    k0_pay231, k0_pay232, k0_pay233, k0_pay234, k0_pay235, k0_pay236, k0_pay237, k0_pay238, k0_pay239, k0_pay240,
    k0_pay241, k0_pay242, k0_pay243, k0_pay244, k0_pay245, k0_pay246, k0_pay247, k0_pay248, k0_pay249, k0_pay250,
    k0_pay251, k0_pay252, k0_pay253, k0_pay254, k0_pay255, k0_pay256, k0_pay257, k0_pay258, k0_pay259, k0_pay260,
    k0_pay261, k0_pay262, k0_pay263, k0_pay264, k0_pay265, k0_pay266, k0_pay267, k0_pay268, k0_pay269, k0_pay270,
    k0_pay271, k0_pay272, k0_pay273, k0_pay274, k0_pay275, k0_pay276]

end Cert.Attn

end
-- ==== Proof.Attn.State.lean ====
/-
  The vector operations of one head read at an index, and what each chunk does to a row's state.

  After some chunks a row holds a real `μ` in all its 128 maximum lanes, and in lane `j` of its sums `2^(-μ)` times the
  plain weighted sum of lane `j` over the keys seen so far. `first` brings that about, `next` and `nextC` keep it, and
  `quotient` turns it into the softmax mean.
-/
module

public import proofs.«01_k».proof.Proof.Attn.Head
public import proofs.«01_k».proof.Proof.Attn.Softmax
public import Idealize.ShloMosaic.Lib.Pointwise

@[expose] public section

noncomputable section

namespace Cert.Attn

open Idealize.ShloMosaic Idealize.ShloMosaic.TcCoe Cert.KernelIdeal Cert.KernelIdeal.Gen

/-! ### Operations at an index -/

theorem rows_apply (x : Vec Ideal S1x1024x128 .bf16) (r : Fin 1024) (d : Fin 128) : rows x (ix2 r d) = x (ix3 0 r d) := by
  pointwise [rows]

theorem rowsC_apply (x : Vec Ideal S1x256x128 .bf16) (r : Fin 256) (d : Fin 128) : rowsC x (ix2 r d) = x (ix3 0 r d) := by
  pointwise [rowsC]

theorem scores_apply (q k : FVec Ideal S1024x128 .bf16) (r c : Fin 1024) :
    scores q k (ix2 r c) = ∑ d : Fin 128, q (ix2 r d) * k (ix2 c d) := by
  pointwise [scores]

theorem scoresC_apply (q : FVec Ideal S1024x128 .bf16) (k : FVec Ideal S256x128 .bf16) (r : Fin 1024) (c : Fin 256) :
    scoresC q k (ix2 r c) = ∑ d : Fin 128, q (ix2 r d) * k (ix2 c d) := by
  pointwise [scoresC]

theorem negInf : Ideal.ofBits .f32 4286578688#32 = ⊥ := by
  rw [show (4286578688#32) = 0xFF800000#32 from rfl]
  simp [Ideal.ofBits, Ideal.ieee]

/-- Lane maxima of a row of reals are one real. -/
theorem laneMax_real (x : FVec Ideal S1024x128 .f32) (r : Fin 1024) (h : ∀ d : Fin 128, ∃ a : ℝ, x (ix2 r d) = a) :
    ∃ μ : ℝ, ∀ l : Fin 128, laneMax x (ix2 r l) = μ := by
  obtain ⟨μ, hμ⟩ := fold_max_real (n := 127) (fun d => x (ix2 r d)) h
  refine ⟨μ, fun l => ?_⟩
  pointwise [laneMax, spread]
  rw [negInf]
  exact hμ

/-- The chunk maximum of a row of real scores is one real. -/
theorem chunkMax_real (s : FVec Ideal S1024x1024 .f32) (r : Fin 1024) (h : ∀ c : Fin 1024, ∃ a : ℝ, s (ix2 r c) = a) :
    ∃ μ : ℝ, ∀ l : Fin 128, chunkMax s (ix2 r l) = μ := by
  refine laneMax_real _ r fun d => ?_
  pointwise
  exact max_real (max_real (max_real (max_real (max_real (max_real (max_real (h _) (h _)) (h _)) (h _)) (h _)) (h _))
    (h _)) (h _)

theorem chunkMaxC_real (s : FVec Ideal S1024x256 .f32) (r : Fin 1024) (h : ∀ c : Fin 256, ∃ a : ℝ, s (ix2 r c) = a) :
    ∃ μ : ℝ, ∀ l : Fin 128, chunkMaxC s (ix2 r l) = μ := by
  refine laneMax_real _ r fun d => ?_
  pointwise
  exact max_real (h _) (h _)

/-- A chunk's weight at a key: two to the power of its score less the row's running maximum. -/
theorem weights_apply (s : FVec Ideal S1024x1024 .f32) (m : FVec Ideal S1024x128 .f32) (r c : Fin 1024) (x μ : ℝ)
    (hs : s (ix2 r c) = x) (hm : ∀ l : Fin 128, m (ix2 r l) = μ) : weights s m (ix2 r c) = (pw (x - μ) : EReal) := by
  have e : ∀ (i : Nat) (hi : i < 1024), i = c.val → s (ix2 r ⟨i, hi⟩) = x := fun i hi h => by
    rw [← hs]; exact congrArg (fun k => s (ix2 r k)) (Fin.ext h)
  have hx : (FloatOps.exp2 (F := Ideal) (φ := .f32) ((x : EReal) - (μ : EReal)) : EReal) = (pw (x - μ) : EReal) := exp2_sub x μ
  pointwise [weights, power, hm]
  split_ifs <;> (rw [e _ _ (by omega)]; exact hx)

theorem weightsC_apply (s : FVec Ideal S1024x256 .f32) (m : FVec Ideal S1024x128 .f32) (r : Fin 1024) (c : Fin 256) (x μ : ℝ)
    (hs : s (ix2 r c) = x) (hm : ∀ l : Fin 128, m (ix2 r l) = μ) : weightsC s m (ix2 r c) = (pw (x - μ) : EReal) := by
  have e : ∀ (i : Nat) (hi : i < 256), i = c.val → s (ix2 r ⟨i, hi⟩) = x := fun i hi h => by
    rw [← hs]; exact congrArg (fun k => s (ix2 r k)) (Fin.ext h)
  have hx : (FloatOps.exp2 (F := Ideal) (φ := .f32) ((x : EReal) - (μ : EReal)) : EReal) = (pw (x - μ) : EReal) := exp2_sub x μ
  pointwise [weightsC, power, hm]
  split_ifs <;> (rw [e _ _ (by omega)]; exact hx)

theorem weighted_apply (p : FVec Ideal S1024x1024 .bf16) (v : FVec Ideal S1024x256 .bf16) (r : Fin 1024) (j : Fin 256) :
    weighted p v (ix2 r j) = ∑ c : Fin 1024, p (ix2 r c) * v (ix2 c j) := by
  pointwise [weighted]

theorem weightedC_apply (p : FVec Ideal S1024x256 .bf16) (v : FVec Ideal S256x256 .bf16) (r : Fin 1024) (j : Fin 256) :
    weightedC p v (ix2 r j) = ∑ c : Fin 256, p (ix2 r c) * v (ix2 c j) := by
  pointwise [weightedC]

theorem withOnes_lo (v : FVec Ideal S1024x128 .bf16) (c : Fin 1024) (l : Fin 128) :
    withOnes v (ix2 c ⟨l.val, by omega⟩) = v (ix2 c l) := by
  pointwise [withOnes]

theorem withOnes_hi (v : FVec Ideal S1024x128 .bf16) (c : Fin 1024) (l : Fin 128) :
    withOnes v (ix2 c ⟨128 + l.val, by omega⟩) = 1 := by
  pointwise [withOnes]

theorem withOnesC_lo (v : FVec Ideal S256x128 .bf16) (c : Fin 256) (l : Fin 128) :
    withOnesC v (ix2 c ⟨l.val, by omega⟩) = v (ix2 c l) := by
  pointwise [withOnesC]

theorem withOnesC_hi (v : FVec Ideal S256x128 .bf16) (c : Fin 256) (l : Fin 128) :
    withOnesC v (ix2 c ⟨128 + l.val, by omega⟩) = 1 := by
  pointwise [withOnesC]

/-- The rescaled sums of a row whose maximum moves from `μ` to `ν`. -/
theorem rescaled_apply (m m' : FVec Ideal S1024x128 .f32) (a : FVec Ideal S1024x256 .f32) (r : Fin 1024) (j : Fin 256)
    (μ ν : ℝ) (hm : ∀ l : Fin 128, m (ix2 r l) = μ) (hm' : ∀ l : Fin 128, m' (ix2 r l) = ν) :
    rescaled m m' a (ix2 r j) = (pw (μ - ν) : EReal) * a (ix2 r j) := by
  have hx : (FloatOps.exp2 (F := Ideal) (φ := .f32) ((μ : EReal) - (ν : EReal)) : EReal) = (pw (μ - ν) : EReal) := exp2_sub μ ν
  pointwise [rescaled, twice, hm, hm']
  split_ifs <;> rw [← hx] <;> rfl

/-! ### A row's state -/

/-- A row's state: one real in every maximum lane, and `2^(-μ)` times the plain sums. -/
def IsState (st : FVec Ideal S1024x128 .f32 × FVec Ideal S1024x256 .f32) (r : Fin 1024) (A : Fin 256 → EReal) : Prop :=
  ∃ μ : ℝ, (∀ l : Fin 128, st.1 (ix2 r l) = μ) ∧ ∀ j : Fin 256, st.2 (ix2 r j) = (pw (-μ) : EReal) * A j

theorem isState_first (q k v : Vec Ideal S1x1024x128 .bf16) (r : Fin 1024) (σ : Fin 1024 → ℝ)
    (hσ : ∀ c, scores (rows q) (rows k) (ix2 r c) = σ c) :
    IsState (first q k v) r fun j => total σ fun c => withOnes (rows v) (ix2 c j) := by
  obtain ⟨μ, hμ⟩ := chunkMax_real (scores (rows q) (rows k)) r fun c => ⟨_, hσ c⟩
  unfold IsState
  dsimp only [first]
  refine ⟨μ, hμ, fun j => ?_⟩
  rw [weighted_apply, ← total_shift]
  exact Finset.sum_congr rfl fun c _ => by rw [weights_apply _ _ r c _ μ (hσ c) hμ]

theorem isState_next (q k v : Vec Ideal S1x1024x128 .bf16) (st : FVec Ideal S1024x128 .f32 × FVec Ideal S1024x256 .f32)
    (r : Fin 1024) (A : Fin 256 → EReal) (σ : Fin 1024 → ℝ) (hst : IsState st r A)
    (hσ : ∀ c, scores (rows q) (rows k) (ix2 r c) = σ c) :
    IsState (next q k v st) r fun j => A j + total σ fun c => withOnes (rows v) (ix2 c j) := by
  obtain ⟨μ, hμ⟩ := chunkMax_real (scores (rows q) (rows k)) r fun c => ⟨_, hσ c⟩
  obtain ⟨ρ, hρ, hA⟩ := hst
  obtain ⟨ν, hν⟩ := max_real (x := (ρ : EReal)) (y := (μ : EReal)) ⟨ρ, rfl⟩ ⟨μ, rfl⟩
  have hm : ∀ l : Fin 128, maximumf st.1 (chunkMax (scores (rows q) (rows k))) (ix2 r l) = (ν : EReal) := fun l => by
    rw [← hν, ← hρ l, ← hμ l]; rfl
  unfold IsState
  dsimp only [next]
  refine ⟨ν, hm, fun j => ?_⟩
  rw [← rescale_add (A j) σ _ ρ ν, ← hA j, ← rescaled_apply st.1 _ st.2 r j ρ ν hρ hm, ValueIdx.addf_apply, weighted_apply]
  congr 1
  exact Finset.sum_congr rfl fun c _ => by rw [weights_apply _ _ r c _ ν (hσ c) hm]

theorem isState_nextC (q : Vec Ideal S1x1024x128 .bf16) (k v : Vec Ideal S1x256x128 .bf16)
    (st : FVec Ideal S1024x128 .f32 × FVec Ideal S1024x256 .f32)
    (r : Fin 1024) (A : Fin 256 → EReal) (σ : Fin 256 → ℝ) (hst : IsState st r A)
    (hσ : ∀ c, scoresC (rows q) (rowsC k) (ix2 r c) = σ c) :
    IsState (nextC q k v st) r fun j => A j + total σ fun c => withOnesC (rowsC v) (ix2 c j) := by
  obtain ⟨μ, hμ⟩ := chunkMaxC_real (scoresC (rows q) (rowsC k)) r fun c => ⟨_, hσ c⟩
  obtain ⟨ρ, hρ, hA⟩ := hst
  obtain ⟨ν, hν⟩ := max_real (x := (ρ : EReal)) (y := (μ : EReal)) ⟨ρ, rfl⟩ ⟨μ, rfl⟩
  have hm : ∀ l : Fin 128, maximumf st.1 (chunkMaxC (scoresC (rows q) (rowsC k))) (ix2 r l) = (ν : EReal) := fun l => by
    rw [← hν, ← hρ l, ← hμ l]; rfl
  unfold IsState
  dsimp only [nextC]
  refine ⟨ν, hm, fun j => ?_⟩
  rw [← rescale_add (A j) σ _ ρ ν, ← hA j, ← rescaled_apply st.1 _ st.2 r j ρ ν hρ hm, ValueIdx.addf_apply, weightedC_apply]
  congr 1
  exact Finset.sum_congr rfl fun c _ => by rw [weightsC_apply _ _ r c _ ν (hσ c) hm]

theorem quotient_apply (a : FVec Ideal S1024x256 .f32) (r : Fin 1024) (l : Fin 128) :
    quotient a (ix2 r l) = Ideal.div (a (ix2 r ⟨l.val, by omega⟩)) (a (ix2 r ⟨128 + l.val, by omega⟩)) := by
  pointwise [quotient]

/-- **One head, at a row and a value lane: the softmax mean over all 4352 keys**, the context's 256 first. -/
theorem head_apply (q k0 k1 k2 k3 : Vec Ideal S1x1024x128 .bf16) (kc : Vec Ideal S1x256x128 .bf16)
    (v0 v1 v2 v3 : Vec Ideal S1x1024x128 .bf16) (vc : Vec Ideal S1x256x128 .bf16) (r : Fin 1024) (l : Fin 128)
    (σ : Fin 4352 → ℝ) (v : Fin 4352 → EReal)
    (s0 : ∀ c : Fin 1024, ∑ d : Fin 128, q (ix3 0 r d) * k0 (ix3 0 c d) = (σ ⟨256 + c.val, by omega⟩ : EReal))
    (s1 : ∀ c : Fin 1024, ∑ d : Fin 128, q (ix3 0 r d) * k1 (ix3 0 c d) = (σ ⟨1280 + c.val, by omega⟩ : EReal))
    (s2 : ∀ c : Fin 1024, ∑ d : Fin 128, q (ix3 0 r d) * k2 (ix3 0 c d) = (σ ⟨2304 + c.val, by omega⟩ : EReal))
    (s3 : ∀ c : Fin 1024, ∑ d : Fin 128, q (ix3 0 r d) * k3 (ix3 0 c d) = (σ ⟨3328 + c.val, by omega⟩ : EReal))
    (sc : ∀ c : Fin 256, ∑ d : Fin 128, q (ix3 0 r d) * kc (ix3 0 c d) = (σ ⟨c.val, by omega⟩ : EReal))
    (w0 : ∀ c : Fin 1024, v0 (ix3 0 c l) = v ⟨256 + c.val, by omega⟩)
    (w1 : ∀ c : Fin 1024, v1 (ix3 0 c l) = v ⟨1280 + c.val, by omega⟩)
    (w2 : ∀ c : Fin 1024, v2 (ix3 0 c l) = v ⟨2304 + c.val, by omega⟩)
    (w3 : ∀ c : Fin 1024, v3 (ix3 0 c l) = v ⟨3328 + c.val, by omega⟩)
    (wc : ∀ c : Fin 256, vc (ix3 0 c l) = v ⟨c.val, by omega⟩) :
    head q k0 k1 k2 k3 kc v0 v1 v2 v3 vc (ix2 r l) = mean σ v := by
  have hs : ∀ (k : Vec Ideal S1x1024x128 .bf16) (c : Fin 1024),
      scores (rows q) (rows k) (ix2 r c) = ∑ d : Fin 128, q (ix3 0 r d) * k (ix3 0 c d) := fun k c => by
    rw [scores_apply]; exact Finset.sum_congr rfl fun d _ => by rw [rows_apply, rows_apply]
  have hsc : ∀ c : Fin 256,
      scoresC (rows q) (rowsC kc) (ix2 r c) = ∑ d : Fin 128, q (ix3 0 r d) * kc (ix3 0 c d) := fun c => by
    rw [scoresC_apply]; exact Finset.sum_congr rfl fun d _ => by rw [rows_apply, rowsC_apply]
  have h := isState_nextC q kc vc _ r _ _
    (isState_next q k3 v3 _ r _ _ (isState_next q k2 v2 _ r _ _ (isState_next q k1 v1 _ r _ _
      (isState_first q k0 v0 r _ fun c => (hs k0 c).trans (s0 c)) fun c => (hs k1 c).trans (s1 c))
      fun c => (hs k2 c).trans (s2 c)) fun c => (hs k3 c).trans (s3 c)) fun c => (hsc c).trans (sc c)
  obtain ⟨μ, -, hA⟩ := h
  have key : ∀ (j : Fin 256) (w : Fin 4352 → EReal),
      (∀ c : Fin 1024, withOnes (rows v0) (ix2 c j) = w ⟨256 + c.val, by omega⟩) →
      (∀ c : Fin 1024, withOnes (rows v1) (ix2 c j) = w ⟨1280 + c.val, by omega⟩) →
      (∀ c : Fin 1024, withOnes (rows v2) (ix2 c j) = w ⟨2304 + c.val, by omega⟩) →
      (∀ c : Fin 1024, withOnes (rows v3) (ix2 c j) = w ⟨3328 + c.val, by omega⟩) →
      (∀ c : Fin 256, withOnesC (rowsC vc) (ix2 c j) = w ⟨c.val, by omega⟩) →
      (nextC q kc vc (next q k3 v3 (next q k2 v2 (next q k1 v1 (first q k0 v0))))).2 (ix2 r j)
        = (pw (-μ) : EReal) * total σ w := by
    intro j w e0 e1 e2 e3 ec
    rw [hA j]
    refine congrArg (_ * ·) ?_
    refine Eq.trans ?_ (sum_chunks fun k => (pw (σ k) : EReal) * w k).symm
    simp only [total, e0, e1, e2, e3, ec]
  unfold head
  rw [quotient_apply,
    key ⟨l.val, by omega⟩ v (fun c => by rw [withOnes_lo, rows_apply, w0]) (fun c => by rw [withOnes_lo, rows_apply, w1])
      (fun c => by rw [withOnes_lo, rows_apply, w2]) (fun c => by rw [withOnes_lo, rows_apply, w3])
      (fun c => by rw [withOnesC_lo, rowsC_apply, wc]),
    key ⟨128 + l.val, by omega⟩ (fun _ => 1) (fun c => withOnes_hi _ c l) (fun c => withOnes_hi _ c l)
      (fun c => withOnes_hi _ c l) (fun c => withOnes_hi _ c l) (fun c => withOnesC_hi _ c l),
    total_one, div_scaled _ (pw_pos _) (Finset.sum_pos (fun k _ => pw_pos _) Finset.univ_nonempty)]
  rfl

/-- Which of two heads a lane of a merged group holds. -/
theorem merged_apply (a b : FVec Ideal S1024x128 .f32) (r : Fin 1024) (l : Fin 128) :
    merged a b (ix3 0 r l) = if l.val < 64 then a (ix2 r l) else b (ix2 r l) := by
  have h : ∀ l : Fin 128, IntOp.cmpi .slt (BitVec.ofNat 32 l.val) 64#32 = if l.val < 64 then 1#1 else 0#1 := by
    decide +kernel
  pointwise [merged]
  rw [h l]
  split_ifs <;> rfl

end Cert.Attn

end
-- ==== Proof.Attn.Block.lean ====
/-
  What one grid point leaves in the output block, element by element.

  Of the block's 256 lanes, lane `l` belongs to head `l / 64` of the point's four heads. Head `h` uses lanes
  `128 h … 128 h + 127` of the query and key blocks. Keys come in one order: the 256 context keys, then the 4096 others.
-/
module

public import proofs.«01_k».proof.Proof.Attn.State
public import Idealize.ShloMosaic.Lib.Pointwise.Blocks

@[expose] public section

noncomputable section

namespace Cert.Attn

open Idealize.ShloMosaic Idealize.ShloMosaic.TcCoe Cert.KernelIdeal Cert.KernelIdeal.Gen

/-- Row `k` of the 256 context rows followed by the 4096 others, lane `c`, read from two blocks. -/
def joined {w : Nat} (x : (⟨3, ![1, 4096, w]⟩ : Shape).Idx → EReal) (y : (⟨3, ![1, 256, w]⟩ : Shape).Idx → EReal)
    (k : Fin 4352) (c : Fin w) : EReal :=
  if h : k.val < 256 then y (ix3 0 ⟨k.val, h⟩ c) else x (ix3 0 ⟨k.val - 256, by omega⟩ c)

theorem joined_ctx {w : Nat} (x : (⟨3, ![1, 4096, w]⟩ : Shape).Idx → EReal)
    (y : (⟨3, ![1, 256, w]⟩ : Shape).Idx → EReal) (k : Fin 256) (c : Fin w) :
    joined x y ⟨k.val, by omega⟩ c = y (ix3 0 k c) := dif_pos k.isLt

theorem joined_key {w : Nat} (x : (⟨3, ![1, 4096, w]⟩ : Shape).Idx → EReal)
    (y : (⟨3, ![1, 256, w]⟩ : Shape).Idx → EReal) (k : Fin 4352) (j : Fin 4096) (c : Fin w) (h : k.val = 256 + j.val) :
    joined x y k c = x (ix3 0 j c) := by
  unfold joined
  rw [dif_neg (by omega)]
  congr 2
  exact Fin.ext (by simp only []; omega)

/-- The score of the block's query `r` against key `k`, from the 128 lanes at offset `o`. -/
def blockScore (x0 : Vec Ideal S1x1024x512 .bf16) (x1 : Vec Ideal S1x4096x512 .bf16) (x2 : Vec Ideal S1x256x512 .bf16)
    (o : Nat) (ho : o + 128 ≤ 512) (r : Fin 1024) (k : Fin 4352) : EReal :=
  ∑ d : Fin 128, x0 (ix3 0 r ⟨o + d.val, by omega⟩) * joined (w := 512) x1 x2 k ⟨o + d.val, by omega⟩

/-- One head, from loads that start at lane `o` of the query and key blocks and at lane `u` of the value blocks. -/
theorem head_block (x0 : Vec Ideal S1x1024x512 .bf16) (x1 : Vec Ideal S1x4096x512 .bf16)
    (x2 : Vec Ideal S1x256x512 .bf16) (x3 : Vec Ideal S1x4096x256 .bf16) (x4 : Vec Ideal S1x256x256 .bf16)
    (o : Nat) (ho : o + 128 ≤ 512) (u : Nat) (hu : u + 128 ≤ 256)
    (q k0 k1 k2 k3 : Vec Ideal S1x1024x128 .bf16) (kc : Vec Ideal S1x256x128 .bf16)
    (v0 v1 v2 v3 : Vec Ideal S1x1024x128 .bf16) (vc : Vec Ideal S1x256x128 .bf16)
    (hq : ∀ r d, q (ix3 0 r d) = x0 (ix3 0 r ⟨o + d.val, by omega⟩))
    (h0 : ∀ c d, k0 (ix3 0 c d) = x1 (ix3 0 ⟨0 + c.val, by omega⟩ ⟨o + d.val, by omega⟩))
    (h1 : ∀ c d, k1 (ix3 0 c d) = x1 (ix3 0 ⟨1024 + c.val, by omega⟩ ⟨o + d.val, by omega⟩))
    (h2 : ∀ c d, k2 (ix3 0 c d) = x1 (ix3 0 ⟨2048 + c.val, by omega⟩ ⟨o + d.val, by omega⟩))
    (h3 : ∀ c d, k3 (ix3 0 c d) = x1 (ix3 0 ⟨3072 + c.val, by omega⟩ ⟨o + d.val, by omega⟩))
    (hc : ∀ c d, kc (ix3 0 c d) = x2 (ix3 0 c ⟨o + d.val, by omega⟩))
    (w0 : ∀ c l, v0 (ix3 0 c l) = x3 (ix3 0 ⟨0 + c.val, by omega⟩ ⟨u + l.val, by omega⟩))
    (w1 : ∀ c l, v1 (ix3 0 c l) = x3 (ix3 0 ⟨1024 + c.val, by omega⟩ ⟨u + l.val, by omega⟩))
    (w2 : ∀ c l, v2 (ix3 0 c l) = x3 (ix3 0 ⟨2048 + c.val, by omega⟩ ⟨u + l.val, by omega⟩))
    (w3 : ∀ c l, v3 (ix3 0 c l) = x3 (ix3 0 ⟨3072 + c.val, by omega⟩ ⟨u + l.val, by omega⟩))
    (wc : ∀ c l, vc (ix3 0 c l) = x4 (ix3 0 c ⟨u + l.val, by omega⟩))
    (hreal : ∀ (r : Fin 1024) (k : Fin 4352), ∃ s : ℝ, blockScore x0 x1 x2 o ho r k = s)
    (r : Fin 1024) (l : Fin 128) :
    head q k0 k1 k2 k3 kc v0 v1 v2 v3 vc (ix2 r l)
      = mean (fun k => (blockScore x0 x1 x2 o ho r k).toReal)
          (fun k => joined (w := 256) x3 x4 k ⟨u + l.val, by omega⟩) := by
  have hs : ∀ k, ((blockScore x0 x1 x2 o ho r k).toReal : EReal) = blockScore x0 x1 x2 o ho r k := fun k => by
    obtain ⟨s, e⟩ := hreal r k
    rw [e, EReal.toReal_coe]
  have hk : ∀ (t : Nat) (ht : t + 1024 ≤ 4096) (kk : Vec Ideal S1x1024x128 .bf16)
      (_ : ∀ c d, kk (ix3 0 c d) = x1 (ix3 0 ⟨t + c.val, by omega⟩ ⟨o + d.val, by omega⟩)) (c : Fin 1024)
      (k : Fin 4352) (_ : k.val = 256 + (t + c.val)),
      ∑ d : Fin 128, q (ix3 0 r d) * kk (ix3 0 c d) = ((blockScore x0 x1 x2 o ho r k).toReal : EReal) := by
    intro t ht kk hkk c k hkc
    rw [hs]
    exact Finset.sum_congr rfl fun d _ => by
      rw [hq, hkk, joined_key x1 x2 k ⟨t + c.val, by omega⟩ _ hkc]
  refine head_apply q k0 k1 k2 k3 kc v0 v1 v2 v3 vc r l _ _ (fun c => hk 0 (by omega) k0 h0 c _ ?_)
    (fun c => hk 1024 (by omega) k1 h1 c _ ?_) (fun c => hk 2048 (by omega) k2 h2 c _ ?_)
    (fun c => hk 3072 (by omega) k3 h3 c _ ?_) (fun c => ?_) (fun c => ?_) (fun c => ?_) (fun c => ?_) (fun c => ?_)
    (fun c => ?_)
  · simp only []; omega
  · simp only []; omega
  · simp only []; omega
  · simp only []; omega
  · rw [hs]
    exact Finset.sum_congr rfl fun d _ => by rw [hq, hc, joined_ctx]
  · rw [w0]; exact (joined_key x3 x4 _ ⟨0 + c.val, by omega⟩ _ (by simp only []; omega)).symm
  · rw [w1]; exact (joined_key x3 x4 _ ⟨1024 + c.val, by omega⟩ _ (by simp only []; omega)).symm
  · rw [w2]; exact (joined_key x3 x4 _ ⟨2048 + c.val, by omega⟩ _ (by simp only []; omega)).symm
  · rw [w3]; exact (joined_key x3 x4 _ ⟨3072 + c.val, by omega⟩ _ (by simp only []; omega)).symm
  · rw [wc]; exact (joined_ctx x3 x4 c _).symm

/-- Four heads' scores are real numbers. -/
def RealScores (x0 : Vec Ideal S1x1024x512 .bf16) (x1 : Vec Ideal S1x4096x512 .bf16)
    (x2 : Vec Ideal S1x256x512 .bf16) : Prop :=
  ∀ (o : Nat) (ho : o + 128 ≤ 512) (r : Fin 1024) (k : Fin 4352), ∃ s : ℝ, blockScore x0 x1 x2 o ho r k = s

/-- The block's element at row `r`, lane `l`: the softmax mean of the lane's values under the scores of head `l / 64`. -/
def blockValue (x0 : Vec Ideal S1x1024x512 .bf16) (x1 : Vec Ideal S1x4096x512 .bf16)
    (x2 : Vec Ideal S1x256x512 .bf16) (x3 : Vec Ideal S1x4096x256 .bf16) (x4 : Vec Ideal S1x256x256 .bf16)
    (r : Fin 1024) (l : Fin 256) : EReal :=
  mean (fun k => (blockScore x0 x1 x2 (128 * (l.val / 64)) (by omega) r k).toReal)
    (fun k => joined (w := 256) x3 x4 k l)

theorem blockValue_of (x0 : Vec Ideal S1x1024x512 .bf16) (x1 : Vec Ideal S1x4096x512 .bf16)
    (x2 : Vec Ideal S1x256x512 .bf16) (x3 : Vec Ideal S1x4096x256 .bf16) (x4 : Vec Ideal S1x256x256 .bf16)
    (r : Fin 1024) (l : Fin 256) (o : Nat) (ho : o + 128 ≤ 512) (l' : Fin 256) (h : o = 128 * (l.val / 64))
    (hl : l' = l) :
    mean (fun k => (blockScore x0 x1 x2 o ho r k).toReal) (fun k => joined (w := 256) x3 x4 k l')
      = blockValue x0 x1 x2 x3 x4 r l := by
  subst h; subst hl; rfl

section Loads

variable (x0 : Vec Ideal S1x1024x512 .bf16) (x1 : Vec Ideal S1x4096x512 .bf16) (x2 : Vec Ideal S1x256x512 .bf16)
  (x3 : Vec Ideal S1x4096x256 .bf16) (x4 : Vec Ideal S1x256x256 .bf16) (hS : RealScores x0 x1 x2) (r : Fin 1024)

include hS

theorem head0 (l : Fin 128) :
    head (View.ld x0 r0_0) (View.ld x1 r0_1) (View.ld x1 r0_3) (View.ld x1 r0_5) (View.ld x1 r0_7)
      (View.ld x2 r0_9) (View.ld x3 r0_2) (View.ld x3 r0_4) (View.ld x3 r0_6) (View.ld x3 r0_8)
      (View.ld x4 r0_10) (ix2 r l)
      = mean (fun k => (blockScore x0 x1 x2 0 (by omega) r k).toReal)
          (fun k => joined (w := 256) x3 x4 k ⟨0 + l.val, by omega⟩) := by
  refine head_block x0 x1 x2 x3 x4 0 (by omega) 0 (by omega) _ _ _ _ _ _ _ _ _ _ _ ?_ ?_ ?_ ?_ ?_ ?_ ?_ ?_ ?_ ?_ ?_
    (hS 0 (by omega)) r l
  all_goals
    intro c d
    pointwise

theorem head1 (l : Fin 128) :
    head (View.ld x0 r0_11) (View.ld x1 r0_12) (View.ld x1 r0_13) (View.ld x1 r0_14) (View.ld x1 r0_15)
      (View.ld x2 r0_16) (View.ld x3 r0_2) (View.ld x3 r0_4) (View.ld x3 r0_6) (View.ld x3 r0_8)
      (View.ld x4 r0_10) (ix2 r l)
      = mean (fun k => (blockScore x0 x1 x2 128 (by omega) r k).toReal)
          (fun k => joined (w := 256) x3 x4 k ⟨0 + l.val, by omega⟩) := by
  refine head_block x0 x1 x2 x3 x4 128 (by omega) 0 (by omega) _ _ _ _ _ _ _ _ _ _ _ ?_ ?_ ?_ ?_ ?_ ?_ ?_ ?_ ?_ ?_ ?_
    (hS 128 (by omega)) r l
  all_goals
    intro c d
    pointwise

theorem head2 (l : Fin 128) :
    head (View.ld x0 r0_17) (View.ld x1 r0_18) (View.ld x1 r0_20) (View.ld x1 r0_22) (View.ld x1 r0_24)
      (View.ld x2 r0_26) (View.ld x3 r0_19) (View.ld x3 r0_21) (View.ld x3 r0_23) (View.ld x3 r0_25)
      (View.ld x4 r0_27) (ix2 r l)
      = mean (fun k => (blockScore x0 x1 x2 256 (by omega) r k).toReal)
          (fun k => joined (w := 256) x3 x4 k ⟨128 + l.val, by omega⟩) := by
  refine head_block x0 x1 x2 x3 x4 256 (by omega) 128 (by omega) _ _ _ _ _ _ _ _ _ _ _ ?_ ?_ ?_ ?_ ?_ ?_ ?_ ?_ ?_ ?_ ?_
    (hS 256 (by omega)) r l
  all_goals
    intro c d
    pointwise

theorem head3 (l : Fin 128) :
    head (View.ld x0 r0_28) (View.ld x1 r0_29) (View.ld x1 r0_30) (View.ld x1 r0_31) (View.ld x1 r0_32)
      (View.ld x2 r0_33) (View.ld x3 r0_19) (View.ld x3 r0_21) (View.ld x3 r0_23) (View.ld x3 r0_25)
      (View.ld x4 r0_27) (ix2 r l)
      = mean (fun k => (blockScore x0 x1 x2 384 (by omega) r k).toReal)
          (fun k => joined (w := 256) x3 x4 k ⟨128 + l.val, by omega⟩) := by
  refine head_block x0 x1 x2 x3 x4 384 (by omega) 128 (by omega) _ _ _ _ _ _ _ _ _ _ _ ?_ ?_ ?_ ?_ ?_ ?_ ?_ ?_ ?_ ?_ ?_
    (hS 384 (by omega)) r l
  all_goals
    intro c d
    pointwise

end Loads

/-- Two stores of 128 lanes, read back: the later holds lanes 128-255, the earlier lanes 0-127. -/
theorem pieces_apply (w1 : Vec Ideal S1x1024x128 .f32) (w0 : Vec Ideal S1x1024x128 .f32) (r : Fin 1024) (l : Fin 256) :
    View.canon (Val := Elt Ideal) (s := S1x1024x256) (e := .f32) [⟨r0_35, w1⟩, ⟨r0_34, w0⟩] (ix3 0 r l)
      = if h : 128 ≤ l.val then w1 (ix3 0 r ⟨l.val - 128, by omega⟩) else w0 (ix3 0 r ⟨l.val, by omega⟩) := by
  split
  · rename_i hl
    have e : (ix3 (0 : Fin 1) r l : S1x1024x256.Idx) = r0_35.emb (ix3 0 r ⟨l.val - 128, by omega⟩) := by
      funext a; apply Fin.ext
      match a with
      | ⟨0, _⟩ => rfl
      | ⟨1, _⟩ => show r.val = 0 + 1 * r.val; omega
      | ⟨2, _⟩ => show l.val = 128 + 1 * (l.val - 128); omega
    rw [e]
    exact View.canon_cons_emb r0_35 _ _ _
  · rename_i hl
    have hn : (ix3 (0 : Fin 1) r l : S1x1024x256.Idx) ∉ r0_35.set := fun h =>
      hl (Rect.mem_set_unit.1 h (2 : Fin 3)).1
    have e : (ix3 (0 : Fin 1) r l : S1x1024x256.Idx) = r0_34.emb (ix3 0 r ⟨l.val, by omega⟩) := by
      funext a; apply Fin.ext
      match a with
      | ⟨0, _⟩ => rfl
      | ⟨1, _⟩ => show r.val = 0 + 1 * r.val; omega
      | ⟨2, _⟩ => show l.val = 0 + 1 * l.val; omega
    rw [View.canon_cons_of_not_mem (⟨r0_35, w1⟩ : View.Piece (Elt Ideal) S1x1024x256 .f32) _ hn, e]
    exact View.canon_cons_emb r0_34 _ _ _

/-- The block a point leaves, at row `r` and lane `l`. -/
theorem block_apply (x0 : Vec Ideal S1x1024x512 .bf16) (x1 : Vec Ideal S1x4096x512 .bf16)
    (x2 : Vec Ideal S1x256x512 .bf16) (x3 : Vec Ideal S1x4096x256 .bf16) (x4 : Vec Ideal S1x256x256 .bf16)
    (hS : RealScores x0 x1 x2) (r : Fin 1024) (l : Fin 256) :
    out0_5 x0 x1 x2 x3 x4 (ix3 0 r l) = blockValue x0 x1 x2 x3 x4 r l := by
  rw [out0_5_eq, pieces_apply]
  split
  · rw [merged_apply, head2 x0 x1 x2 x3 x4 hS, head3 x0 x1 x2 x3 x4 hS]
    split
    · rename_i h
      exact blockValue_of x0 x1 x2 x3 x4 r l 256 (by omega) _ (by simp only [] at h; omega)
        (Fin.ext (by simp only []; omega))
    · rename_i h
      exact blockValue_of x0 x1 x2 x3 x4 r l 384 (by omega) _ (by simp only [] at h; omega)
        (Fin.ext (by simp only []; omega))
  · rw [merged_apply, head0 x0 x1 x2 x3 x4 hS, head1 x0 x1 x2 x3 x4 hS]
    split
    · rename_i h
      exact blockValue_of x0 x1 x2 x3 x4 r l 0 (by omega) _ (by simp only [] at h; omega)
        (Fin.ext (by simp only []; omega))
    · rename_i h
      exact blockValue_of x0 x1 x2 x3 x4 r l 128 (by omega) _ (by simp only [] at h; omega)
        (Fin.ext (by simp only []; omega))

end Cert.Attn
-- ==== Proof.Attn.Array.lean ====
/-
  The kernel's output array, element by element.

  Grid point `(b, p, j)` writes rows `1024 j … 1024 j + 1023` and lanes `256 p … 256 p + 255` of batch `b`. The 96 blocks
  tile the array, and each element of a block is `blockValue` of the blocks the point reads.
-/
module

public import proofs.«01_k».proof.Proof.Attn.Block
public import proofs.«01_k».proof.Proof.Attn.Spec

@[expose] public section

noncomputable section

namespace Cert.Attn

open Idealize.ShloMosaic Idealize.ShloMosaic.TcCoe Cert.KernelIdeal Cert.KernelIdeal.Gen
open Idealize.ShloMosaic.Pipeline (Dat)

variable (m : (ℓ : Loc nD τ sig) → Buf (Elt Ideal) ℓ) (c : Dev nD)

/-- The block indices of the input windows follow those of the output window, which stay in range. -/
theorem index_facts : ∀ t : Fin cfg0.N,
    (win0_5.index t (0 : Fin 3) < 8 ∧ win0_5.index t (1 : Fin 3) < 4 ∧ win0_5.index t (2 : Fin 3) < 3)
    ∧ (win0_0.index t (0 : Fin 3) = win0_5.index t (0 : Fin 3) ∧ win0_0.index t (1 : Fin 3) = win0_5.index t (1 : Fin 3)
      ∧ win0_0.index t (2 : Fin 3) = win0_5.index t (2 : Fin 3))
    ∧ (win0_1.index t (0 : Fin 3) = win0_5.index t (0 : Fin 3) ∧ win0_1.index t (1 : Fin 3) = 0
      ∧ win0_1.index t (2 : Fin 3) = win0_5.index t (2 : Fin 3))
    ∧ (win0_2.index t (0 : Fin 3) = win0_5.index t (0 : Fin 3) ∧ win0_2.index t (1 : Fin 3) = 0
      ∧ win0_2.index t (2 : Fin 3) = win0_5.index t (2 : Fin 3))
    ∧ (win0_3.index t (0 : Fin 3) = win0_5.index t (0 : Fin 3) ∧ win0_3.index t (1 : Fin 3) = 0
      ∧ win0_3.index t (2 : Fin 3) = win0_5.index t (2 : Fin 3))
    ∧ (win0_4.index t (0 : Fin 3) = win0_5.index t (0 : Fin 3) ∧ win0_4.index t (1 : Fin 3) = 0
      ∧ win0_4.index t (2 : Fin 3) = win0_5.index t (2 : Fin 3)) :=
  (by decide +kernel : ∀ t : Fin grid0.N, _)

/-- Every block of the output array is some point's. -/
theorem index_onto : ∀ (b : Fin 8) (j : Fin 4) (p : Fin 3), ∃ t : Fin cfg0.N,
    win0_5.index t (0 : Fin 3) = b.val ∧ win0_5.index t (1 : Fin 3) = j.val ∧ win0_5.index t (2 : Fin 3) = p.val :=
  (by decide +kernel : ∀ (b : Fin 8) (j : Fin 4) (p : Fin 3), ∃ t : Fin grid0.N, _)

theorem flush_all : ∀ t : Fin cfg0.N, (cfg0.win 5).flush t = true :=
  (by decide +kernel : ∀ t : Fin grid0.N, _)

/-- The batch, the row tile and the group of four heads of a point. -/
def batchOf (t : Fin cfg0.N) : Fin 8 := ⟨_, (index_facts t).1.1⟩
def tileOf (t : Fin cfg0.N) : Fin 4 := ⟨_, (index_facts t).1.2.1⟩
def groupOf (t : Fin cfg0.N) : Fin 3 := ⟨_, (index_facts t).1.2.2⟩

/-! ### The blocks a point reads -/

theorem iblk0_apply (t : Fin cfg0.N) (r : Fin 1024) (d : Fin 512) :
    iblk m c 0 t (ix3 0 r d) = m ((c : Thread nD τ).loc main_arg0)
      (ix3 (batchOf t) ⟨1024 * (tileOf t).val + r.val, by omega⟩ ⟨512 * (groupOf t).val + d.val, by omega⟩) := by
  obtain ⟨_, ⟨e0, e1, e2⟩, _⟩ := index_facts t
  refine congrArg (m ((c : Thread nD τ).loc main_arg0)) (funext fun a => Fin.ext ?_)
  match a with
  | ⟨0, _⟩ => show win0_0.index t (0 : Fin 3) * 1 + 1 * 0 = win0_5.index t (0 : Fin 3); omega
  | ⟨1, _⟩ => show win0_0.index t (1 : Fin 3) * 1024 + 1 * r.val = 1024 * win0_5.index t (1 : Fin 3) + r.val; omega
  | ⟨2, _⟩ => show win0_0.index t (2 : Fin 3) * 512 + 1 * d.val = 512 * win0_5.index t (2 : Fin 3) + d.val; omega

theorem iblk1_apply (t : Fin cfg0.N) (r : Fin 4096) (d : Fin 512) :
    iblk m c 1 t (ix3 0 r d) = m ((c : Thread nD τ).loc main_arg1)
      (ix3 (batchOf t) r ⟨512 * (groupOf t).val + d.val, by omega⟩) := by
  obtain ⟨_, _, ⟨e0, e1, e2⟩, _⟩ := index_facts t
  refine congrArg (m ((c : Thread nD τ).loc main_arg1)) (funext fun a => Fin.ext ?_)
  match a with
  | ⟨0, _⟩ => show win0_1.index t (0 : Fin 3) * 1 + 1 * 0 = win0_5.index t (0 : Fin 3); omega
  | ⟨1, _⟩ => show win0_1.index t (1 : Fin 3) * 4096 + 1 * r.val = r.val; omega
  | ⟨2, _⟩ => show win0_1.index t (2 : Fin 3) * 512 + 1 * d.val = 512 * win0_5.index t (2 : Fin 3) + d.val; omega

theorem iblk2_apply (t : Fin cfg0.N) (r : Fin 256) (d : Fin 512) :
    iblk m c 2 t (ix3 0 r d) = m ((c : Thread nD τ).loc main_arg2)
      (ix3 (batchOf t) r ⟨512 * (groupOf t).val + d.val, by omega⟩) := by
  obtain ⟨_, _, _, ⟨e0, e1, e2⟩, _⟩ := index_facts t
  refine congrArg (m ((c : Thread nD τ).loc main_arg2)) (funext fun a => Fin.ext ?_)
  match a with
  | ⟨0, _⟩ => show win0_2.index t (0 : Fin 3) * 1 + 1 * 0 = win0_5.index t (0 : Fin 3); omega
  | ⟨1, _⟩ => show win0_2.index t (1 : Fin 3) * 256 + 1 * r.val = r.val; omega
  | ⟨2, _⟩ => show win0_2.index t (2 : Fin 3) * 512 + 1 * d.val = 512 * win0_5.index t (2 : Fin 3) + d.val; omega

theorem iblk3_apply (t : Fin cfg0.N) (r : Fin 4096) (d : Fin 256) :
    iblk m c 3 t (ix3 0 r d) = m ((c : Thread nD τ).loc main_arg3)
      (ix3 (batchOf t) r ⟨256 * (groupOf t).val + d.val, by omega⟩) := by
  obtain ⟨_, _, _, _, ⟨e0, e1, e2⟩, _⟩ := index_facts t
  refine congrArg (m ((c : Thread nD τ).loc main_arg3)) (funext fun a => Fin.ext ?_)
  match a with
  | ⟨0, _⟩ => show win0_3.index t (0 : Fin 3) * 1 + 1 * 0 = win0_5.index t (0 : Fin 3); omega
  | ⟨1, _⟩ => show win0_3.index t (1 : Fin 3) * 4096 + 1 * r.val = r.val; omega
  | ⟨2, _⟩ => show win0_3.index t (2 : Fin 3) * 256 + 1 * d.val = 256 * win0_5.index t (2 : Fin 3) + d.val; omega

theorem iblk4_apply (t : Fin cfg0.N) (r : Fin 256) (d : Fin 256) :
    iblk m c 4 t (ix3 0 r d) = m ((c : Thread nD τ).loc main_arg4)
      (ix3 (batchOf t) r ⟨256 * (groupOf t).val + d.val, by omega⟩) := by
  obtain ⟨_, _, _, _, _, ⟨e0, e1, e2⟩⟩ := index_facts t
  refine congrArg (m ((c : Thread nD τ).loc main_arg4)) (funext fun a => Fin.ext ?_)
  match a with
  | ⟨0, _⟩ => show win0_4.index t (0 : Fin 3) * 1 + 1 * 0 = win0_5.index t (0 : Fin 3); omega
  | ⟨1, _⟩ => show win0_4.index t (1 : Fin 3) * 256 + 1 * r.val = r.val; omega
  | ⟨2, _⟩ => show win0_4.index t (2 : Fin 3) * 256 + 1 * d.val = 256 * win0_5.index t (2 : Fin 3) + d.val; omega

/-- Where the output block's element sits in the output array. -/
theorem emb5 (t : Fin cfg0.N) (r : Fin 1024) (l : Fin 256) :
    ((cfg0.win 5).blk t).view.emb (ix3 0 r l)
      = ix3 (batchOf t) ⟨1024 * (tileOf t).val + r.val, by omega⟩ ⟨256 * (groupOf t).val + l.val, by omega⟩ := by
  funext a; apply Fin.ext
  match a with
  | ⟨0, _⟩ => show win0_5.index t (0 : Fin 3) * 1 + 1 * 0 = win0_5.index t (0 : Fin 3); omega
  | ⟨1, _⟩ => show win0_5.index t (1 : Fin 3) * 1024 + 1 * r.val = 1024 * win0_5.index t (1 : Fin 3) + r.val; omega
  | ⟨2, _⟩ => show win0_5.index t (2 : Fin 3) * 256 + 1 * l.val = 256 * win0_5.index t (2 : Fin 3) + l.val; omega

/-! ### The values of a block are those of the whole attention -/

theorem joined_block (x : S8x4096x1536.Idx → EReal) (y : S8x256x1536.Idx → EReal) (u : (⟨3, ![1, 4096, 512]⟩ : Shape).Idx → EReal)
    (v : (⟨3, ![1, 256, 512]⟩ : Shape).Idx → EReal) (b : Fin 8) (p : Fin 3)
    (hu : ∀ r d, u (ix3 0 r d) = x (ix3 b r ⟨512 * p.val + d.val, by omega⟩))
    (hv : ∀ r d, v (ix3 0 r d) = y (ix3 b r ⟨512 * p.val + d.val, by omega⟩)) (k : Fin 4352) (d : Fin 512) :
    joined u v k d = joinedA (w := 1536) x y b k ⟨512 * p.val + d.val, by omega⟩ := by
  unfold joined joinedA
  split
  · rw [hv]
  · rw [hu]

theorem joined_block_v (x : S8x4096x768.Idx → EReal) (y : S8x256x768.Idx → EReal) (u : (⟨3, ![1, 4096, 256]⟩ : Shape).Idx → EReal)
    (v : (⟨3, ![1, 256, 256]⟩ : Shape).Idx → EReal) (b : Fin 8) (p : Fin 3)
    (hu : ∀ r d, u (ix3 0 r d) = x (ix3 b r ⟨256 * p.val + d.val, by omega⟩))
    (hv : ∀ r d, v (ix3 0 r d) = y (ix3 b r ⟨256 * p.val + d.val, by omega⟩)) (k : Fin 4352) (d : Fin 256) :
    joined u v k d = joinedA (w := 768) x y b k ⟨256 * p.val + d.val, by omega⟩ := by
  unfold joined joinedA
  split
  · rw [hv]
  · rw [hu]

/-- The kernel's five arrays as launched. -/
abbrev argQ : S8x4096x1536.Idx → EReal := m ((c : Thread nD τ).loc main_arg0)
abbrev argKx : S8x4096x1536.Idx → EReal := m ((c : Thread nD τ).loc main_arg1)
abbrev argKc : S8x256x1536.Idx → EReal := m ((c : Thread nD τ).loc main_arg2)
abbrev argVx : S8x4096x768.Idx → EReal := m ((c : Thread nD τ).loc main_arg3)
abbrev argVc : S8x256x768.Idx → EReal := m ((c : Thread nD τ).loc main_arg4)

/-- A block's scores are products of real numbers when the arrays' elements are. -/
theorem realScores (hq : AllReal (argQ m c)) (hx : AllReal (argKx m c)) (hc : AllReal (argKc m c)) (t : Fin cfg0.N) :
    RealScores (iblk m c 0 t) (iblk m c 1 t) (iblk m c 2 t) := by
  intro o ho r k
  refine dot_real _ _ (fun d => ?_) fun d => ?_
  · rw [iblk0_apply]; exact hq _
  · rw [joined_block (argKx m c) (argKc m c) _ _ (batchOf t) (groupOf t) (iblk1_apply m c t) (iblk2_apply m c t)]
    exact joinedA_real _ _ hx hc _ _ _

theorem blockValue_eq (t : Fin cfg0.N) (r : Fin 1024) (l : Fin 256) :
    blockValue (iblk m c 0 t) (iblk m c 1 t) (iblk m c 2 t) (iblk m c 3 t) (iblk m c 4 t) r l
      = attnAt (argQ m c) (argKx m c) (argKc m c) (argVx m c) (argVc m c) (batchOf t)
          ⟨1024 * (tileOf t).val + r.val, by omega⟩ ⟨256 * (groupOf t).val + l.val, by omega⟩ := by
  unfold blockValue attnAt
  congr 1
  · funext k
    congr 1
    refine Finset.sum_congr rfl fun d _ => ?_
    rw [iblk0_apply, joined_block (argKx m c) (argKc m c) _ _ (batchOf t) (groupOf t) (iblk1_apply m c t) (iblk2_apply m c t)]
    have e : (⟨512 * (groupOf t).val + (128 * (l.val / 64) + d.val), by omega⟩ : Fin 1536)
        = ⟨128 * ((256 * (groupOf t).val + l.val) / 64) + d.val, by omega⟩ := Fin.ext (by simp only []; omega)
    exact congrArg (fun u : Fin 1536 => argQ m c (ix3 (batchOf t) ⟨1024 * (tileOf t).val + r.val, by omega⟩ u)
      * joinedA (argKx m c) (argKc m c) (batchOf t) k u) e
  · funext k
    exact joined_block_v (argVx m c) (argVc m c) _ _ (batchOf t) (groupOf t) (iblk3_apply m c t) (iblk4_apply m c t) k l

/-- The attention of the kernel's arrays, as an array. -/
def attnArr : S8x4096x768.Idx → EReal := fun i =>
  attnAt (argQ m c) (argKx m c) (argKc m c) (argVx m c) (argVc m c) (i 0) (i 1) (i 2)

/-- After the run the kernel's output array is the attention of its arrays. -/
theorem arrAt_eq (hq : AllReal (argQ m c)) (hx : AllReal (argKx m c)) (hc : AllReal (argKc m c)) :
    (dats m 0 c).arrAt 5 cfg0.N = attnArr m c := by
  refine (dats m 0 c).arrAt_eq_of_cover 5 (attnArr m c) (fun t _ => ?_) fun i => ?_
  · rw [Value.flushed5]
    funext y
    change S1x1024x256.Idx at y
    show out0_5 (iblk m c 0 t) (iblk m c 1 t) (iblk m c 2 t) (iblk m c 3 t) (iblk m c 4 t) y
      = attnArr m c (((cfg0.win 5).blk t).view.emb y)
    obtain ⟨r, l, rfl⟩ : ∃ (r : Fin 1024) (l : Fin 256), y = ix3 (0 : Fin 1) r l := by
      refine ⟨y 1, y 2, funext fun a => ?_⟩
      match a with
      | ⟨0, _⟩ => exact Fin.ext (by have h : (y 0).val < 1 := (y 0).isLt; show (y 0).val = 0; omega)
      | ⟨1, _⟩ => rfl
      | ⟨2, _⟩ => rfl
    rw [block_apply _ _ _ _ _ (realScores m c hq hx hc t), emb5, blockValue_eq]
    rfl
  · change S8x4096x768.Idx at i
    have hi1 : (i 1).val < 4096 := (i 1).isLt
    have hi2 : (i 2).val < 768 := (i 2).isLt
    obtain ⟨t, e0, e1, e2⟩ := index_onto (i 0) ⟨(i 1).val / 1024, by omega⟩ ⟨(i 2).val / 256, by omega⟩
    refine ⟨t, flush_all t, ?_⟩
    have e : i = ((cfg0.win 5).blk t).view.emb (ix3 0 ⟨(i 1).val % 1024, by omega⟩ ⟨(i 2).val % 256, by omega⟩) := by
      rw [emb5]
      funext a; apply Fin.ext
      match a with
      | ⟨0, _⟩ => exact e0.symm
      | ⟨1, _⟩ => show (i 1).val = 1024 * win0_5.index t (1 : Fin 3) + (i 1).val % 1024; rw [e1]; simp only []; omega
      | ⟨2, _⟩ => show (i 2).val = 256 * win0_5.index t (2 : Fin 3) + (i 2).val % 256; rw [e2]; simp only []; omega
    rw [e]
    exact Finset.mem_map.2 ⟨_, Finset.mem_univ _, rfl⟩

end Cert.Attn
-- ==== Proof.Attn.Row.lean ====
/-
  One row of an ordinary softmax, over the extended reals, is the mean with weights two to the scores.

  The row's exponents are `σ k * log 2` less a real `M`, so each weight before division is `2^(σ k)` times `e^(-M)`, and
  that factor cancels.
-/
module

public import proofs.«01_k».proof.Proof.Attn.Softmax

@[expose] public section

noncomputable section

namespace Cert.Attn

open Idealize.ShloMosaic

theorem exp_log_two (x M : ℝ) : Ideal.exp ((x : EReal) * (Real.log 2 : ℝ) - (M : EReal)) = ((Real.exp (-M) * pw x : ℝ) : EReal) := by
  rw [← EReal.coe_mul, ← EReal.coe_sub, Ideal.exp_coe]
  have h : pw x = Real.exp (x * Real.log 2) := by
    show (2 : ℝ) ^ x = _
    rw [Real.rpow_def_of_pos two_pos, mul_comm]
  rw [h, ← Real.exp_add]
  congr 2
  ring

/-- The softmax of a row, weighting its values. -/
theorem softmax_row {n : Nat} (σ : Fin (n + 1) → ℝ) (v : Fin (n + 1) → EReal) (M : ℝ) :
    ∑ k, v k * Ideal.div (Ideal.exp ((σ k : EReal) * (Real.log 2 : ℝ) - (M : EReal)))
        (0 + ∑ j, Ideal.exp ((σ j : EReal) * (Real.log 2 : ℝ) - (M : EReal))) = mean σ v := by
  have hS : 0 < ∑ k, pw (σ k) := Finset.sum_pos (fun k _ => pw_pos _) Finset.univ_nonempty
  have hd : (0 : EReal) + ∑ j, Ideal.exp ((σ j : EReal) * (Real.log 2 : ℝ) - (M : EReal))
      = (Real.exp (-M) : EReal) * ((∑ k, pw (σ k) : ℝ) : EReal) := by
    rw [zero_add, ← EReal.coe_mul, Finset.mul_sum, coe_sum]
    exact Finset.sum_congr rfl fun k _ => exp_log_two _ _
  unfold mean total
  rw [hd, mul_comm (∑ k, _), coe_mul_sum _ (inv_nonneg.2 hS.le)]
  refine Finset.sum_congr rfl fun k _ => ?_
  rw [exp_log_two, EReal.coe_mul, div_scaled _ (Real.exp_pos _) hS]
  rw [mul_comm (v k), mul_comm (pw (σ k) : EReal), mul_assoc]

end Cert.Attn
-- ==== Proof.Attn.Reference.lean ====
/-
  The reference program's result, element by element: the attention of its five arrays.
-/
module

public import proofs.«01_k».proof.Proof.Gen.ReferenceIdeal.Read
public import proofs.«01_k».proof.Proof.Attn.Spec
public import proofs.«01_k».proof.Proof.Attn.Row

@[expose] public section

noncomputable section

namespace Cert.Attn

open Idealize.ShloMosaic Idealize.ShloMosaic.TcCoe Cert.ReferenceIdeal Cert.ReferenceIdeal.Gen Cert.ReferenceIdeal.Read

variable (x0 x1 : S8x4096x1536.Idx → EReal) (x2 : S8x256x1536.Idx → EReal) (x3 : S8x4096x768.Idx → EReal)
  (x4 : S8x256x768.Idx → EReal)

/-! ### The operands of the two products -/

theorem queries_apply (b : Fin 8) (h : Fin 12) (i : Fin 4096) (k : Fin 4352) (d : Fin 128) :
    val_main_v1 (F := Ideal) x0 (lidx_main_v8 (ix4 b h i k) d) = x0 (ix3 b i ⟨128 * h.val + d.val, by omega⟩) := by
  rw [val_main_v1_apply, val_main_v0_apply]
  refine congrArg x0 (funext fun a => Fin.ext ?_)
  match a with
  | ⟨0, _⟩ => show (((b.val * 4096 + i.val) * 12 + h.val) * 128 + d.val) / 6291456 = b.val; omega
  | ⟨1, _⟩ => show (((b.val * 4096 + i.val) * 12 + h.val) * 128 + d.val) / 1536 % 4096 = i.val; omega
  | ⟨2, _⟩ => show (((b.val * 4096 + i.val) * 12 + h.val) * 128 + d.val) % 1536 = 128 * h.val + d.val; omega

theorem joinedKeys_apply (b : Fin 8) (k : Fin 4352) (l : Fin 1536) :
    val_main_v2 (F := Ideal) x1 x2 (ix3 b k l) = joinedA x1 x2 b k l := by
  unfold joinedA
  pointwise [val_main_v2]

theorem joinedValues_apply (b : Fin 8) (k : Fin 4352) (l : Fin 768) :
    val_main_v5 (F := Ideal) x3 x4 (ix3 b k l) = joinedA x3 x4 b k l := by
  unfold joinedA
  pointwise [val_main_v5]

theorem keys_apply (b : Fin 8) (h : Fin 12) (i : Fin 4096) (k : Fin 4352) (d : Fin 128) :
    val_main_v4 (F := Ideal) x1 x2 (ridx_main_v8 (ix4 b h i k) d) = joinedA x1 x2 b k ⟨128 * h.val + d.val, by omega⟩ := by
  rw [val_main_v4_apply, val_main_v3_apply, ← joinedKeys_apply]
  refine congrArg (val_main_v2 (F := Ideal) x1 x2) (funext fun a => Fin.ext ?_)
  match a with
  | ⟨0, _⟩ => show (((b.val * 4352 + k.val) * 12 + h.val) * 128 + d.val) / 6684672 = b.val; omega
  | ⟨1, _⟩ => show (((b.val * 4352 + k.val) * 12 + h.val) * 128 + d.val) / 1536 % 4352 = k.val; omega
  | ⟨2, _⟩ => show (((b.val * 4352 + k.val) * 12 + h.val) * 128 + d.val) % 1536 = 128 * h.val + d.val; omega

theorem values_apply (b : Fin 8) (h : Fin 12) (e : Fin 64) (i : Fin 4096) (k : Fin 4352) :
    val_main_v7 (F := Ideal) x3 x4 (lidx_main_v23 (ix4 b h e i) k) = joinedA x3 x4 b k ⟨64 * h.val + e.val, by omega⟩ := by
  rw [val_main_v7_apply, val_main_v6_apply, ← joinedValues_apply]
  refine congrArg (val_main_v5 (F := Ideal) x3 x4) (funext fun a => Fin.ext ?_)
  match a with
  | ⟨0, _⟩ => show (((b.val * 4352 + k.val) * 12 + h.val) * 64 + e.val) / 3342336 = b.val; omega
  | ⟨1, _⟩ => show (((b.val * 4352 + k.val) * 12 + h.val) * 64 + e.val) / 768 % 4352 = k.val; omega
  | ⟨2, _⟩ => show (((b.val * 4352 + k.val) * 12 + h.val) * 64 + e.val) % 768 = 64 * h.val + e.val; omega

/-! ### The softmax of a row -/

theorem log_two : (val_main_v9 (F := Ideal)) = fun _ => ((Real.log 2 : ℝ) : EReal) := by
  funext i
  have h : Ideal.ofBits .f32 0x40000000#32 = ((2 : ℝ) : EReal) := by
    simp [Ideal.ofBits, Ideal.ieee, -EReal.coe_mul]; norm_num
  show Ideal.log (Ideal.ofBits .f32 0x40000000#32) = _
  rw [h, Ideal.log_coe, if_neg (by norm_num)]

/-- The exponent before the largest is taken off. -/
theorem exponent_apply (b : Fin 8) (h : Fin 12) (i : Fin 4096) (k : Fin 4352) :
    val_main_v11 (F := Ideal) x0 x1 x2 (ix4 b h i k) = scoreA x0 x1 x2 b h i k * (Real.log 2 : ℝ) := by
  rw [val_main_v11_apply, val_main_v10_apply, log_two, val_main_v8_apply]
  show (∑ d : Fin 128, _) * _ = _
  congr 1
  exact Finset.sum_congr rfl fun d _ => by rw [queries_apply, keys_apply]

theorem largest_apply (y : S8x12x4096x4352.Idx → EReal) (b : Fin 8) (h : Fin 12) (i : Fin 4096) :
    Host.reduce (FloatOps.maximumf (F := Ideal) (φ := .f32)) y (val_main_cst_0 (F := Ideal)) reducesTo_S8x12x4096x4352_S8x12x4096_d3
      h_S_ (ix3 b h i) = Finset.univ.fold max ⊥ fun k : Fin 4352 => y (ix4 b h i k) := by
  have e : Ideal.ofBits .f32 4286578688#32 = ⊥ := by simp [Ideal.ofBits, Ideal.ieee]
  pointwise [val_main_cst_0]
  rw [e]

section Rows

variable (hq : AllReal x0) (hx : AllReal x1) (hc : AllReal x2)

include hq hx hc

/-- The largest exponent of a row is a real number. -/
theorem largest_real (b : Fin 8) (h : Fin 12) (i : Fin 4096) :
    ∃ M : ℝ, val_main_v14 (F := Ideal) x0 x1 x2 (ix3 b h i) = M := by
  rw [val_main_v14_apply]
  have e : ∀ j, val_main_v13 (F := Ideal) j = ⊥ := fun j => by
    rw [val_main_v13_apply, val_main_cst_1_apply]
    show Ideal.ofBits .f32 0xFF800000#32 = ⊥
    simp [Ideal.ofBits, Ideal.ieee]
  obtain ⟨M, hM⟩ := fold_max_real (n := 4351) (fun k : Fin 4352 => val_main_v11 (F := Ideal) x0 x1 x2 (ix4 b h i k)) fun k => by
    obtain ⟨s, hs⟩ := scoreA_real x0 x1 x2 hq hx hc b h i k
    exact ⟨s * Real.log 2, by rw [exponent_apply, hs, EReal.coe_mul]⟩
  refine ⟨M, ?_⟩
  rw [e]
  show max ⊥ (val_main_v12 (F := Ideal) x0 x1 x2 (ix3 b h i)) = M
  rw [max_bot_left]
  exact (largest_apply _ b h i).trans hM

/-- A row's weights before division, for one real `M`. -/
theorem weight_apply (b : Fin 8) (h : Fin 12) (i : Fin 4096) : ∃ M : ℝ, ∀ k : Fin 4352,
    val_main_v18 (F := Ideal) x0 x1 x2 (ix4 b h i k)
      = Ideal.exp (((scoreA x0 x1 x2 b h i k).toReal : EReal) * (Real.log 2 : ℝ) - (M : EReal)) := by
  obtain ⟨M, hM⟩ := largest_real x0 x1 x2 hq hx hc b h i
  refine ⟨M, fun k => ?_⟩
  obtain ⟨s, hs⟩ := scoreA_real x0 x1 x2 hq hx hc b h i k
  rw [val_main_v18_apply, val_main_v17_apply, exponent_apply, val_main_v16_apply, val_main_v15_apply]
  have e : idx_main_v15 (idx_main_v16 (ix4 b h i k)) = ix3 b h i := by
    funext a
    match a with
    | ⟨0, _⟩ => rfl
    | ⟨1, _⟩ => rfl
    | ⟨2, _⟩ => rfl
  rw [e, hM, hs, EReal.toReal_coe]
  rfl

/-- The weighted values of a row, summed. -/
theorem row_apply (b : Fin 8) (h : Fin 12) (e : Fin 64) (i : Fin 4096) :
    val_main_v23 (F := Ideal) x0 x1 x2 x3 x4 (ix4 b h e i)
      = mean (fun k => (scoreA x0 x1 x2 b h i k).toReal) fun k => joinedA x3 x4 b k ⟨64 * h.val + e.val, by omega⟩ := by
  obtain ⟨M, hM⟩ := weight_apply x0 x1 x2 hq hx hc b h i
  rw [val_main_v23_apply, ← softmax_row (n := 4351) _ _ M]
  refine Finset.sum_congr rfl fun k _ => ?_
  have e1 : ridx_main_v23 (ix4 b h e i) k = ix4 b h i k := by
    funext a
    match a with
    | ⟨0, _⟩ => rfl
    | ⟨1, _⟩ => rfl
    | ⟨2, _⟩ => rfl
    | ⟨3, _⟩ => rfl
  have e2 : idx_main_v20 (idx_main_v21 (ix4 b h i k)) = ix3 b h i := by
    funext a
    match a with
    | ⟨0, _⟩ => rfl
    | ⟨1, _⟩ => rfl
    | ⟨2, _⟩ => rfl
  have e3 : ∀ j : Fin 4352, idx_main_v19 (ix3 b h i) j = ix4 b h i j := fun j => by
    funext a
    match a with
    | ⟨0, _⟩ => rfl
    | ⟨1, _⟩ => rfl
    | ⟨2, _⟩ => rfl
    | ⟨3, _⟩ => rfl
  have e4 : val_main_cst_2 (F := Ideal) (Shape.Idx.first h_S_) = 0 := by
    rw [val_main_cst_2_apply]
    show Ideal.ofBits .f32 0x00000000#32 = 0
    simp [Ideal.ofBits, Ideal.ieee]
  rw [values_apply, e1, val_main_v22_apply, val_main_v21_apply, val_main_v20_apply, e2, val_main_v19_apply, e4, hM]
  have e5 : (∑ j : Fin 4352, val_main_v18 (F := Ideal) x0 x1 x2 (idx_main_v19 (ix3 b h i) j))
      = ∑ j : Fin 4352, Ideal.exp (((scoreA x0 x1 x2 b h i j).toReal : EReal) * (Real.log 2 : ℝ) - (M : EReal)) :=
    Finset.sum_congr rfl fun j _ => by rw [e3, hM]
  rw [e5]
  rfl

/-- The reference's result is the attention of its arrays. -/
theorem reference_apply (i : S8x4096x768.Idx) :
    val_main_v25 (F := Ideal) x0 x1 x2 x3 x4 i = attnAt x0 x1 x2 x3 x4 (i 0) (i 1) (i 2) := by
  have h0 : (i 0).val < 8 := (i 0).isLt
  have h1 : (i 1).val < 4096 := (i 1).isLt
  have h2 : (i 2).val < 768 := (i 2).isLt
  rw [val_main_v25_apply, val_main_v24_apply]
  have e : idx_main_v24 (idx_main_v25 i)
      = ix4 (i 0) ⟨(i 2).val / 64, by omega⟩ ⟨(i 2).val % 64, by omega⟩ (i 1) := by
    funext a; apply Fin.ext
    match a with
    | ⟨0, _⟩ => show (((i 0).val * 4096 + (i 1).val) * 768 + (i 2).val) / 3145728 = (i 0).val; omega
    | ⟨1, _⟩ => show (((i 0).val * 4096 + (i 1).val) * 768 + (i 2).val) / 64 % 12 = (i 2).val / 64; omega
    | ⟨2, _⟩ => show (((i 0).val * 4096 + (i 1).val) * 768 + (i 2).val) % 64 = (i 2).val % 64; omega
    | ⟨3, _⟩ => show (((i 0).val * 4096 + (i 1).val) * 768 + (i 2).val) / 768 % 4096 = (i 1).val; omega
  rw [e]
  refine (row_apply x0 x1 x2 x3 x4 hq hx hc (i 0) ⟨(i 2).val / 64, by omega⟩ ⟨(i 2).val % 64, by omega⟩ (i 1)).trans ?_
  unfold attnAt
  congr 1
  funext k
  congr 1
  exact Fin.ext (by show 64 * ((i 2).val / 64) + (i 2).val % 64 = (i 2).val; omega)

end Rows

end Cert.Attn
-- ==== Proof.Attn.Claims.lean ====
/-
  The claims about the attention: the two programs end with the attention of their arrays.
-/
module

public import proofs.«01_k».proof.Defs
public import proofs.«01_k».proof.Proof.Attn.Array
public import proofs.«01_k».proof.Proof.Attn.Reference
public import proofs.«01_k».proof.Proof.Attn.Finite

@[expose] public section

noncomputable section

namespace Cert.Attn

open Idealize.ShloMosaic Idealize.ShloMosaic.TcCoe Idealize.SL.Sem

/-- The reference runs, leaves its arguments as they were and every counter at zero: it declares none. -/
theorem frame_reference : quiescent_ReferenceIdeal := fun m ρ _ =>
  (θ_run (Cert.ReferenceIdeal.defs (F := Ideal)) _ _).mono
    (fun r h => And.intro (fun c => (h c).2) (sem_eq_zero_of_no_sems (by decide) r.2))
    (Cert.ReferenceIdeal.Value.run (F := Ideal) m ρ)

/-- Kernel and reference end with equal results when queries and keys are real numbers. -/
theorem algebraic : algebraic_KernelIdeal_ReferenceIdeal_pre_finite_scores
    (hPre_finite_scores := finiteFacts) := by
  intro m g m' g' hpre hargs
  refine ⟨fun c => attnArr m c, ?_, ?_⟩
  · refine (θ_run _ _ _).mono (fun r h c => ?_) (Cert.KernelIdeal.Value.run_blocks m g)
    obtain ⟨e, k⟩ := h c
    have hp := @real_of_fn finiteFacts _ _ _ _ _ (hpre c)
    exact ⟨e.trans (arrAt_eq m c hp.1 hp.2.1 hp.2.2), k⟩
  · refine (θ_run _ _ _).mono (fun r h c => ?_) (Cert.ReferenceIdeal.Value.run (F := Ideal) m' g')
    obtain ⟨e, k⟩ := h c
    have hp := @real_of_fn finiteFacts _ _ _ _ _ (hpre c)
    refine ⟨e.trans ?_, k⟩
    obtain ⟨a0, a1, a2, a3, a4⟩ := hargs c
    refine (Cert.ReferenceIdeal.Read.val_main_v25_eq (F := Ideal) _ _ _ _ _).trans ?_
    funext i
    rw [a0, a1, a2, a3, a4]
    exact reference_apply _ _ _ _ _ hp.1 hp.2.1 hp.2.2 i

end Cert.Attn
-- ==== Proof.Ffn.Block.lean ====
/-
  The block a grid point of the SwiGLU kernel leaves, element by element, from the blocks it reads.
-/
module

public import proofs.«01_k».proof.Proof.Gen.FfnIdeal.Value
public import proofs.«01_k».proof.Proof.Mlp.Spec
public import Idealize.ShloMosaic.Lib.Pointwise.Blocks

@[expose] public section

noncomputable section

namespace Cert.Ffn

open Idealize.ShloMosaic Idealize.ShloMosaic.TcCoe Cert.FfnIdeal Cert.FfnIdeal.Gen Cert.Mlp

variable (x : Vec Ideal S1x1024x1024 .f32) (md : Vec Ideal S1x9x1024 .f32) (g : Vec Ideal S1x1024 .f32)
  (w : Vec Ideal S1024x5632 .bf16) (v : Vec Ideal S2816x1024 .bf16)

/-- The modulated norm of row `r`. -/
theorem hidden_apply (r d : Fin 1024) :
    k0_pay4 (F := Ideal) (View.ld x r0_0) (View.ld md r0_1) (View.ld g r0_2) (ix2 r d)
      = modAt (fun d => x (ix3 0 r d)) (fun d => g (ix2 0 d)) (fun d => md (ix3 0 0 d)) (fun d => md (ix3 0 1 d)) d := by
  pointwise [k0_pay4, k0_pay2, k0_pay3]
  rfl

/-- Row `r` of the block is the half step of row `r` of the tokens. -/
theorem block_apply (r d : Fin 1024) :
    out0_5 (F := Ideal) x md g w v (ix3 0 r d)
      = stepAt (fun d => x (ix3 0 r d)) (fun d => g (ix2 0 d)) (fun d => md (ix3 0 0 d)) (fun d => md (ix3 0 1 d))
          (fun d => md (ix3 0 2 d)) (fun e f => w (ix2 e f)) (fun f d => v (ix2 f d)) d := by
  unfold out0_5
  refine (congrFun (View.canon_unit_zero (by funext a; fin_cases a <;> rfl) _ _) _).trans ?_
  pointwise [k0_pay1, k0_pay2, k0_pay3, k0_pay5, k0_pay6]
  simp only [hidden_apply]
  unfold stepAt swigluAt unitAt
  rw [sum_units]
  have e : ∀ i : Fin 1280, (⟨4352 + i.val, by omega⟩ : Fin 5632) = ⟨2816 + (1536 + i.val), by omega⟩ :=
    fun i => Fin.ext (by simp only []; omega)
  simp only [e]
  rfl

end Cert.Ffn
-- ==== Proof.Ffn.Array.lean ====
/-
  The SwiGLU kernel's output array, element by element.

  Grid point `(b, j)` writes rows `1024 j … 1024 j + 1023` of batch `b`, from those rows of the tokens, batch `b`'s
  modulation and the whole weights. The 32 blocks tile the array.
-/
module

public import proofs.«01_k».proof.Proof.Ffn.Block
public import Idealize.ShloMosaic.Lib.Claim

@[expose] public section

noncomputable section

namespace Cert.Ffn

open Idealize.ShloMosaic Idealize.ShloMosaic.TcCoe Cert.FfnIdeal Cert.FfnIdeal.Gen Cert.Mlp
open Idealize.ShloMosaic.Pipeline (Dat)

variable (m : (ℓ : Loc nD τ sig) → Buf (Elt Ideal) ℓ) (c : Dev nD)

/-- The block indices of the input windows follow those of the output window, which stay in range. -/
theorem index_facts : ∀ t : Fin cfg0.N,
    (win0_5.index t (0 : Fin 3) < 8 ∧ win0_5.index t (1 : Fin 3) < 4 ∧ win0_5.index t (2 : Fin 3) = 0)
    ∧ (win0_0.index t (0 : Fin 3) = win0_5.index t (0 : Fin 3) ∧ win0_0.index t (1 : Fin 3) = win0_5.index t (1 : Fin 3)
      ∧ win0_0.index t (2 : Fin 3) = 0)
    ∧ (win0_1.index t (0 : Fin 3) = win0_5.index t (0 : Fin 3) ∧ win0_1.index t (1 : Fin 3) = 0
      ∧ win0_1.index t (2 : Fin 3) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0) :=
  (by decide +kernel : ∀ t : Fin grid0.N, _)

/-- Every block of the output array is some point's. -/
theorem index_onto : ∀ (b : Fin 8) (j : Fin 4), ∃ t : Fin cfg0.N,
    win0_5.index t (0 : Fin 3) = b.val ∧ win0_5.index t (1 : Fin 3) = j.val :=
  (by decide +kernel : ∀ (b : Fin 8) (j : Fin 4), ∃ t : Fin grid0.N, _)

theorem flush_all : ∀ t : Fin cfg0.N, (cfg0.win 5).flush t = true :=
  (by decide +kernel : ∀ t : Fin grid0.N, _)

/-- The batch and the row tile of a point. -/
def batchOf (t : Fin cfg0.N) : Fin 8 := ⟨_, (index_facts t).1.1⟩
def tileOf (t : Fin cfg0.N) : Fin 4 := ⟨_, (index_facts t).1.2.1⟩

/-- The kernel's five arrays as launched. -/
abbrev argX : S8x4096x1024.Idx → EReal := m ((c : Thread nD τ).loc main_arg0)
abbrev argMod : S16x9x1024.Idx → EReal := m ((c : Thread nD τ).loc main_arg1)
abbrev argG : S1x1024.Idx → EReal := m ((c : Thread nD τ).loc main_arg2)
abbrev argW : S1x1024x5632.Idx → EReal := m ((c : Thread nD τ).loc main_arg3)
abbrev argV : S1x2816x1024.Idx → EReal := m ((c : Thread nD τ).loc main_arg4)

/-! ### The weights at the region's entry: the arguments without their leading axis -/

theorem entryW (e : Fin 1024) (f : Fin 5632) : (V m c main_v1 : S1024x5632.Idx → EReal) (ix2 e f) = argW m c (ix3 0 e f) := by
  entry_read
  pointwise []

theorem entryV (f : Fin 2816) (d : Fin 1024) : (V m c main_v3 : S2816x1024.Idx → EReal) (ix2 f d) = argV m c (ix3 0 f d) := by
  entry_read
  pointwise []

/-! ### The blocks a point reads -/

theorem iblk0_apply (t : Fin cfg0.N) (r d : Fin 1024) :
    iblk m c 0 t (ix3 0 r d) = argX m c (ix3 (batchOf t) ⟨1024 * (tileOf t).val + r.val, by omega⟩ d) := by
  obtain ⟨_, ⟨e0, e1, e2⟩, _⟩ := index_facts t
  refine congrArg (m ((c : Thread nD τ).loc main_arg0)) (funext fun a => Fin.ext ?_)
  match a with
  | ⟨0, _⟩ => show win0_0.index t (0 : Fin 3) * 1 + 1 * 0 = win0_5.index t (0 : Fin 3); omega
  | ⟨1, _⟩ => show win0_0.index t (1 : Fin 3) * 1024 + 1 * r.val = 1024 * win0_5.index t (1 : Fin 3) + r.val; omega
  | ⟨2, _⟩ => show win0_0.index t (2 : Fin 3) * 1024 + 1 * d.val = d.val; omega

theorem iblk1_apply (t : Fin cfg0.N) (s : Fin 9) (d : Fin 1024) :
    iblk m c 1 t (ix3 0 s d) = argMod m c (ix3 ⟨(batchOf t).val, by omega⟩ s d) := by
  obtain ⟨_, _, ⟨e0, e1, e2⟩, _⟩ := index_facts t
  refine congrArg (m ((c : Thread nD τ).loc main_arg1)) (funext fun a => Fin.ext ?_)
  match a with
  | ⟨0, _⟩ => show win0_1.index t (0 : Fin 3) * 1 + 1 * 0 = win0_5.index t (0 : Fin 3); omega
  | ⟨1, _⟩ => show win0_1.index t (1 : Fin 3) * 9 + 1 * s.val = s.val; omega
  | ⟨2, _⟩ => show win0_1.index t (2 : Fin 3) * 1024 + 1 * d.val = d.val; omega

theorem iblk2_apply (t : Fin cfg0.N) (d : Fin 1024) : iblk m c 2 t (ix2 0 d) = argG m c (ix2 0 d) := by
  obtain ⟨_, _, _, ⟨e0, e1⟩, _⟩ := index_facts t
  refine congrArg (m ((c : Thread nD τ).loc main_arg2)) (funext fun a => Fin.ext ?_)
  match a with
  | ⟨0, _⟩ => show win0_2.index t (0 : Fin 2) * 1 + 1 * 0 = 0; omega
  | ⟨1, _⟩ => show win0_2.index t (1 : Fin 2) * 1024 + 1 * d.val = d.val; omega

theorem iblk3_apply (t : Fin cfg0.N) (e : Fin 1024) (f : Fin 5632) : iblk m c 3 t (ix2 e f) = argW m c (ix3 0 e f) := by
  obtain ⟨_, _, _, _, ⟨e0, e1⟩, _⟩ := index_facts t
  rw [← entryW]
  refine congrArg (V m c main_v1 : S1024x5632.Idx → EReal) (funext fun a => Fin.ext ?_)
  match a with
  | ⟨0, _⟩ => show win0_3.index t (0 : Fin 2) * 1024 + 1 * e.val = e.val; omega
  | ⟨1, _⟩ => show win0_3.index t (1 : Fin 2) * 5632 + 1 * f.val = f.val; omega

theorem iblk4_apply (t : Fin cfg0.N) (f : Fin 2816) (d : Fin 1024) : iblk m c 4 t (ix2 f d) = argV m c (ix3 0 f d) := by
  obtain ⟨_, _, _, _, _, ⟨e0, e1⟩⟩ := index_facts t
  rw [← entryV]
  refine congrArg (V m c main_v3 : S2816x1024.Idx → EReal) (funext fun a => Fin.ext ?_)
  match a with
  | ⟨0, _⟩ => show win0_4.index t (0 : Fin 2) * 2816 + 1 * f.val = f.val; omega
  | ⟨1, _⟩ => show win0_4.index t (1 : Fin 2) * 1024 + 1 * d.val = d.val; omega

/-- Where the output block's element sits in the output array. -/
theorem emb5 (t : Fin cfg0.N) (r d : Fin 1024) :
    ((cfg0.win 5).blk t).view.emb (ix3 0 r d) = ix3 (batchOf t) ⟨1024 * (tileOf t).val + r.val, by omega⟩ d := by
  obtain ⟨⟨_, _, e2⟩, _⟩ := index_facts t
  funext a; apply Fin.ext
  match a with
  | ⟨0, _⟩ => show win0_5.index t (0 : Fin 3) * 1 + 1 * 0 = win0_5.index t (0 : Fin 3); omega
  | ⟨1, _⟩ => show win0_5.index t (1 : Fin 3) * 1024 + 1 * r.val = 1024 * win0_5.index t (1 : Fin 3) + r.val; omega
  | ⟨2, _⟩ => show win0_5.index t (2 : Fin 3) * 1024 + 1 * d.val = d.val; omega

/-- The half step of the kernel's tokens, as an array. -/
def stepArr : S8x4096x1024.Idx → EReal := fun i =>
  stepAt (fun d => argX m c (ix3 (i 0) (i 1) d)) (fun d => argG m c (ix2 0 d))
    (fun d => argMod m c (ix3 ⟨(i 0).val, Nat.lt_trans (i 0).isLt (by decide)⟩ 0 d))
    (fun d => argMod m c (ix3 ⟨(i 0).val, Nat.lt_trans (i 0).isLt (by decide)⟩ 1 d))
    (fun d => argMod m c (ix3 ⟨(i 0).val, Nat.lt_trans (i 0).isLt (by decide)⟩ 2 d))
    (fun e f => argW m c (ix3 0 e f)) (fun f d => argV m c (ix3 0 f d)) (i 2)

/-- After the run the kernel's output array is the half step of its tokens. -/
theorem arrAt_eq : (dats m 0 c).arrAt 5 cfg0.N = stepArr m c := by
  refine (dats m 0 c).arrAt_eq_of_cover 5 (stepArr m c) (fun t _ => ?_) fun i => ?_
  · rw [Value.flushed5]
    funext y
    change S1x1024x1024.Idx at y
    show out0_5 (iblk m c 0 t) (iblk m c 1 t) (iblk m c 2 t) (iblk m c 3 t) (iblk m c 4 t) y
      = stepArr m c (((cfg0.win 5).blk t).view.emb y)
    obtain ⟨r, d, rfl⟩ : ∃ r d : Fin 1024, y = ix3 (0 : Fin 1) r d := by
      refine ⟨y 1, y 2, funext fun a => ?_⟩
      match a with
      | ⟨0, _⟩ => exact Fin.ext (by have h : (y 0).val < 1 := (y 0).isLt; show (y 0).val = 0; omega)
      | ⟨1, _⟩ => rfl
      | ⟨2, _⟩ => rfl
    rw [block_apply, emb5]
    simp only [iblk0_apply, iblk1_apply, iblk2_apply, iblk3_apply, iblk4_apply]
    rfl
  · change S8x4096x1024.Idx at i
    have hi1 : (i 1).val < 4096 := (i 1).isLt
    obtain ⟨t, e0, e1⟩ := index_onto (i 0) ⟨(i 1).val / 1024, by omega⟩
    refine ⟨t, flush_all t, ?_⟩
    have e : i = ((cfg0.win 5).blk t).view.emb (ix3 0 ⟨(i 1).val % 1024, by omega⟩ ⟨(i 2).val, (i 2).isLt⟩) := by
      rw [emb5]
      funext a; apply Fin.ext
      match a with
      | ⟨0, _⟩ => exact e0.symm
      | ⟨1, _⟩ => show (i 1).val = 1024 * win0_5.index t (1 : Fin 3) + (i 1).val % 1024; rw [e1]; simp only []; omega
      | ⟨2, _⟩ => rfl
    rw [e]
    exact Finset.mem_map.2 ⟨_, Finset.mem_univ _, rfl⟩

end Cert.Ffn
-- ==== Proof.Ffn.Reference.lean ====
/-
  The reference's half step, element by element.
-/
module

public import proofs.«01_k».proof.Proof.Gen.FfnReferenceIdeal.Read
public import proofs.«01_k».proof.Proof.Mlp.Spec
public import Idealize.ShloMosaic.Lib.Pointwise.Blocks

@[expose] public section

noncomputable section

namespace Cert.Ffn

open Idealize.ShloMosaic Idealize.ShloMosaic.TcCoe Cert.FfnReferenceIdeal Cert.FfnReferenceIdeal.Gen Cert.FfnReferenceIdeal.Read
open Cert.Mlp

variable (x0 : S8x4096x1024.Idx → EReal) (x1 : S16x9x1024.Idx → EReal) (x2 : S1x1024.Idx → EReal) (x3 : S1x1024x5632.Idx → EReal)
  (x4 : S1x2816x1024.Idx → EReal)

/-- The modulated norm of a token. -/
theorem hidden_ref (b : Fin 8) (i : Fin 4096) (d : Fin 1024) :
    val_main_v41 (F := Ideal) x0 x1 x2 (ix3 b i d)
      = modAt (fun d => x0 (ix3 b i d)) (fun d => x2 (ix2 0 d)) (fun d => x1 (ix3 ⟨b.val, by omega⟩ 0 d)) (fun d => x1 (ix3 ⟨b.val, by omega⟩ 1 d)) d := by
  pointwise [val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v5, val_main_v4, val_main_v3, val_main_v2, val_main_v1, val_main_v0, val_main_cst_0, val_main_cst_1, val_main_cst_2, val_main_cst_3]
  rfl

/-- A gated unit of a token. -/
theorem unit_ref (b : Fin 8) (i : Fin 4096) (f : Fin 2816) :
    val_main_v48 (F := Ideal) x0 x1 x2 x3 (ix3 b i f)
      = unitAt (modAt (fun d => x0 (ix3 b i d)) (fun d => x2 (ix2 0 d)) (fun d => x1 (ix3 ⟨b.val, by omega⟩ 0 d))
          (fun d => x1 (ix3 ⟨b.val, by omega⟩ 1 d))) (fun e f => x3 (ix3 0 e f)) f := by
  pointwise [val_main_v48, val_main_v47, val_main_v46, val_main_v45, val_main_v44, val_main_v42, val_main_call0_v5,
    val_main_call0_v4, val_main_call0_v3, val_main_call0_v2, val_main_call0_v1, val_main_call0_v0, val_main_call0_cst,
    val_main_call0_cst_0]
  simp only [hidden_ref]
  rfl

/-- The result is the half step of each token with its batch's modulation. -/
theorem reference_apply (b : Fin 8) (i : Fin 4096) (d : Fin 1024) :
    val_main_v52 (F := Ideal) x0 x1 x2 x3 x4 (ix3 b i d)
      = stepAt (fun d => x0 (ix3 b i d)) (fun d => x2 (ix2 0 d)) (fun d => x1 (ix3 ⟨b.val, by omega⟩ 0 d))
          (fun d => x1 (ix3 ⟨b.val, by omega⟩ 1 d)) (fun d => x1 (ix3 ⟨b.val, by omega⟩ 2 d)) (fun e f => x3 (ix3 0 e f))
          (fun f d => x4 (ix3 0 f d)) d := by
  pointwise [val_main_v52, val_main_v51, val_main_v50, val_main_v49, val_main_v43, val_main_v21, val_main_v20, val_main_v7,
    val_main_v6, val_main_v1, val_main_v0, val_main_cst]
  simp only [unit_ref]
  rfl

end Cert.Ffn
-- ==== Proof.Ffn.Claims.lean ====
/-
  The claims about the SwiGLU half step: the two programs end with the half step of their tokens.
-/
module

public import proofs.«01_k».proof.Defs
public import proofs.«01_k».proof.Proof.Ffn.Array
public import proofs.«01_k».proof.Proof.Ffn.Reference

@[expose] public section

noncomputable section

namespace Cert.Ffn

open Idealize.ShloMosaic Idealize.ShloMosaic.TcCoe Idealize.SL.Sem

/-- The reference runs, leaves its arguments as they were and every counter at zero: it declares none. -/
theorem frame_reference : quiescent_FfnReferenceIdeal := fun m ρ _ =>
  (θ_run (Cert.FfnReferenceIdeal.defs (F := Ideal)) _ _).mono
    (fun r h => And.intro (fun c => (h c).2) (sem_eq_zero_of_no_sems (by decide) r.2))
    (Cert.FfnReferenceIdeal.Value.run (F := Ideal) m ρ)

/-- Kernel and reference end with equal results. -/
theorem algebraic : algebraic_FfnIdeal_FfnReferenceIdeal := by
  intro m g m' g' hpre hargs
  refine ⟨fun c => stepArr m c, ?_, ?_⟩
  · refine (θ_run _ _ _).mono (fun r h c => ?_) (Cert.FfnIdeal.Value.run_blocks m g)
    obtain ⟨e, k⟩ := h c
    exact ⟨e.trans (arrAt_eq m c), k⟩
  · refine (θ_run _ _ _).mono (fun r h c => ?_) (Cert.FfnReferenceIdeal.Value.run (F := Ideal) m' g')
    obtain ⟨e, k⟩ := h c
    refine ⟨e.trans ?_, k⟩
    obtain ⟨a0, a1, a2, a3, a4⟩ := hargs c
    refine (Cert.FfnReferenceIdeal.Read.val_main_v52_eq (F := Ideal) _ _).trans ?_
    funext i
    rw [a0, a1, a2, a3, a4]
    obtain ⟨b, r, d, rfl⟩ : ∃ (b : Fin 8) (r : Fin 4096) (d : Fin 1024), i = ix3 b r d :=
      ⟨i 0, i 1, i 2, funext fun a => match a with | ⟨0, _⟩ => rfl | ⟨1, _⟩ => rfl | ⟨2, _⟩ => rfl⟩
    exact reference_apply _ _ _ _ _ b r d

end Cert.Ffn
-- ==== Proof.Final.Spec.lean ====
/-
  What the closing kernel makes of one token, over the extended reals: the S5 branch's GLU, the product with the output
  weights, the second half step and the closing norm.
-/
module

public import proofs.«01_k».proof.Proof.Mlp.Spec

@[expose] public section

noncomputable section

namespace Cert.Final

open Idealize.ShloMosaic Cert.Mlp

/-- The tanh form of GELU, with the constants as the programs write them. -/
def gelu (x : EReal) : EReal :=
  half * x * (1 + Ideal.tanh (Ideal.ofBits .f32 0x3F4C422A#32 * (x + Ideal.ofBits .f32 0x3D372713#32 * (x * x * x))))

/-- The gated lane `f` of the S5 branch, from the branch's row `y`. -/
def gluAt (y : Fin 256 → EReal) (w : Fin 256 → Fin 512 → EReal) (f : Fin 256) : EReal :=
  (∑ e : Fin 256, gelu (y e) * w e ⟨f.val, by omega⟩) * Ideal.logistic (∑ e : Fin 256, gelu (y e) * w e ⟨256 + f.val, by omega⟩)

/-- Both branches, each over its own norm, through the output weights: attention takes rows 0–767, S5 rows 768–1023. -/
def mixAt (a ga : Fin 768 → EReal) (s gs : Fin 256 → EReal) (w : Fin 1024 → Fin 1024 → EReal) (d : Fin 1024) : EReal :=
  (∑ e : Fin 768, normAt len768 a ga e * w ⟨e.val, by omega⟩ d) + ∑ e : Fin 256, normAt len256 s gs e * w ⟨768 + e.val, by omega⟩ d

/-- The token after the mixer's gated addition. -/
def mixedAt (x : Fin 1024 → EReal) (a ga : Fin 768 → EReal) (y gs : Fin 256 → EReal) (wglu : Fin 256 → Fin 512 → EReal)
    (w : Fin 1024 → Fin 1024 → EReal) (gate : Fin 1024 → EReal) (d : Fin 1024) : EReal :=
  x d + gate d * mixAt a ga (gluAt y wglu) gs w d

/-! ### The rows, from whole arrays -/

abbrev Arr2 (p q : ℕ) : Type := (⟨2, ![p, q]⟩ : Shape).Idx → EReal
abbrev Arr3 (p q r : ℕ) : Type := (⟨3, ![p, q, r]⟩ : Shape).Idx → EReal

variable (x : Arr3 8 4096 1024) (a : Arr3 8 4096 768) (u yf yb : Arr2 4096 2048) (md : Arr3 16 9 1024) (ds : Arr2 1 256)
  (wglu : Arr3 1 256 512) (ga : Arr2 1 768) (gs : Arr2 1 256) (wo : Arr3 1 1024 1024) (g : Arr2 1 1024) (w : Arr3 1 1024 5632)
  (v : Arr3 1 2816 1024)

/-- Modulation row `s` of batch `b`. -/
def modRow (b : Fin 8) (s : Fin 9) (d : Fin 1024) : EReal := md (ix3 ⟨b.val, by omega⟩ s d)

/-- Token `i` of batch `b` of the S5 branch: the skip and the two directions. -/
def branchRow (b : Fin 8) (i : Fin 4096) (e : Fin 256) : EReal :=
  u (ix2 i ⟨b.val * 256 + e.val, by omega⟩) * ds (ix2 0 e) + yf (ix2 i ⟨b.val * 256 + e.val, by omega⟩)
    + yb (ix2 i ⟨b.val * 256 + e.val, by omega⟩)

/-- Token `i` of batch `b` after the mixer. -/
def mixedRow (b : Fin 8) (i : Fin 4096) : Fin 1024 → EReal :=
  mixedAt (fun d => x (ix3 b i d)) (fun d => a (ix3 b i d)) (fun d => ga (ix2 0 d)) (branchRow u yf yb ds b i) (fun d => gs (ix2 0 d))
    (fun e f => wglu (ix3 0 e f)) (fun e d => wo (ix3 0 e d)) (modRow md b 5)

/-- Token `i` of batch `b` after the second half step. -/
def steppedRow (b : Fin 8) (i : Fin 4096) : Fin 1024 → EReal :=
  stepAt (mixedRow x a u yf yb md ds wglu ga gs wo b i) (fun d => g (ix2 0 d)) (modRow md b 6) (modRow md b 7) (modRow md b 8)
    (fun e f => w (ix3 0 e f)) (fun f d => v (ix3 0 f d))

end Cert.Final
-- ==== Proof.Final.Block.lean ====
/-
  The block a grid point of the closing kernel leaves, element by element, from the blocks it reads.
-/
module

public import proofs.«01_k».proof.Proof.Gen.FinalIdeal.Value
public import proofs.«01_k».proof.Proof.Final.Spec
public import Idealize.ShloMosaic.Lib.Pointwise.Blocks

@[expose] public section

noncomputable section

namespace Cert.Final

open Idealize.ShloMosaic Idealize.ShloMosaic.TcCoe Cert.FinalIdeal Cert.FinalIdeal.Gen Cert.Mlp

variable (x : Vec Ideal S1x512x1024 .f32) (a : Vec Ideal S1x512x768 .f32) (u yf yb : Vec Ideal S512x256 .f32)
  (md : Vec Ideal S1x9x1024 .f32) (ds : Vec Ideal S1x256 .f32) (wglu : Vec Ideal S256x512 .bf16) (ga : Vec Ideal S1x768 .f32)
  (gs : Vec Ideal S1x256 .f32) (wo : Vec Ideal S1024x1024 .bf16) (g : Vec Ideal S1x1024 .f32) (w : Vec Ideal S1024x5632 .bf16)
  (v : Vec Ideal S2816x1024 .bf16) (gf : Vec Ideal S1x1024 .f32)

/-- The S5 branch's row `r`: the skip and the two directions. -/
def branchOf (r : Fin 512) (e : Fin 256) : EReal := u (ix2 r e) * ds (ix2 0 e) + yf (ix2 r e) + yb (ix2 r e)

/-- The token `r` after the mixer. -/
def mixedOf (r : Fin 512) : Fin 1024 → EReal :=
  mixedAt (fun d => x (ix3 0 r d)) (fun d => a (ix3 0 r d)) (fun d => ga (ix2 0 d)) (branchOf u yf yb ds r) (fun d => gs (ix2 0 d))
    (fun e f => wglu (ix2 e f)) (fun e d => wo (ix2 e d)) (fun d => md (ix3 0 5 d))

theorem glu_apply (r : Fin 512) (f : Fin 256) :
    k0_pay14 (F := Ideal) x a u yf yb md ds wglu ga gs wo g w v gf (ix2 r f)
      = gluAt (branchOf u yf yb ds r) (fun e f => wglu (ix2 e f)) f := by
  pointwise [k0_pay14, k0_pay4]
  rfl

theorem mixed_apply (r : Fin 512) (d : Fin 1024) :
    k0_pay15 (F := Ideal) x a u yf yb md ds wglu ga gs wo g w v gf (ix2 r d)
      = mixedOf x a u yf yb md ds wglu ga gs wo r d := by
  pointwise [k0_pay15, k0_pay12, k0_pay13, k0_pay2, k0_pay3, k0_pay5]
  simp only [glu_apply]
  rfl

theorem hidden_apply (r : Fin 512) (d : Fin 1024) :
    k0_pay7 (F := Ideal) (k0_pay13 x a u yf yb md ds wglu ga gs wo g w v gf) (k0_pay15 x a u yf yb md ds wglu ga gs wo g w v gf)
        (View.ld g r0_9) (k0_pay16 x a u yf yb md ds wglu ga gs wo g w v gf) (ix2 r d)
      = modAt (mixedOf x a u yf yb md ds wglu ga gs wo r) (fun d => g (ix2 0 d)) (fun d => md (ix3 0 6 d)) (fun d => md (ix3 0 7 d)) d := by
  have e : k0_pay16 (F := Ideal) x a u yf yb md ds wglu ga gs wo g w v gf
      = mulf (k0_pay15 x a u yf yb md ds wglu ga gs wo g w v gf) (k0_pay15 x a u yf yb md ds wglu ga gs wo g w v gf) := rfl
  rw [e]
  pointwise [k0_pay7, k0_pay13, k0_pay3]
  simp only [mixed_apply]
  rfl

/-- The half step of row `r`. -/
def steppedOf (r : Fin 512) : Fin 1024 → EReal :=
  stepAt (mixedOf x a u yf yb md ds wglu ga gs wo r) (fun d => g (ix2 0 d)) (fun d => md (ix3 0 6 d)) (fun d => md (ix3 0 7 d))
    (fun d => md (ix3 0 8 d)) (fun e f => w (ix2 e f)) (fun f d => v (ix2 f d))

/-- Row `r` of the block is the closing norm of the second half step of the mixed token. -/
theorem block_apply (r : Fin 512) (d : Fin 1024) :
    out0_15 (F := Ideal) x a u yf yb md ds wglu ga gs wo g w v gf (ix3 0 r d)
      = normAt len1024 (steppedOf x a u yf yb md ds wglu ga gs wo g w v r) (fun d => gf (ix2 0 d)) d := by
  have e : ∀ i : Fin 1280, (⟨4352 + i.val, by omega⟩ : Fin 5632) = ⟨2816 + (1536 + i.val), by omega⟩ :=
    fun i => Fin.ext (by simp only []; omega)
  unfold out0_15
  refine (congrFun (View.canon_unit_zero (by funext a; fin_cases a <;> rfl) _ _) _).trans ?_
  pointwise [k0_pay1, k0_pay8, k0_pay9, k0_pay10, k0_pay11]
  simp only [hidden_apply, mixed_apply]
  pointwise [k0_pay13, k0_pay3]
  unfold normAt steppedOf stepAt swigluAt unitAt
  simp only [sum_units]
  simp only [e]
  rfl

end Cert.Final
-- ==== Proof.Final.Array.lean ====
/-
  The closing kernel's output array, element by element.

  Grid point `(b, j)` writes rows `512 j … 512 j + 511` of batch `b`, from those rows of the tokens and of the attention,
  the same rows of the S5 arrays at lanes `256 b … 256 b + 255`, batch `b`'s modulation and the whole weights. The 64
  blocks tile the array.
-/
module

public import proofs.«01_k».proof.Proof.Final.Block
public import Idealize.ShloMosaic.Lib.Claim

@[expose] public section

noncomputable section

namespace Cert.Final

open Idealize.ShloMosaic Idealize.ShloMosaic.TcCoe Cert.FinalIdeal Cert.FinalIdeal.Gen Cert.Mlp
open Idealize.ShloMosaic.Pipeline (Dat)

variable (m : (ℓ : Loc nD τ sig) → Buf (Elt Ideal) ℓ) (c : Dev nD)

/-- The block indices of the output window, which stay in range; those of the moving input windows follow them. -/
theorem index_out : ∀ t : Fin cfg0.N,
    win0_15.index t (0 : Fin 3) < 8 ∧ win0_15.index t (1 : Fin 3) < 8 ∧ win0_15.index t (2 : Fin 3) = 0 :=
  (by decide +kernel : ∀ t : Fin grid0.N, _)

theorem index0 : ∀ t : Fin cfg0.N,
    win0_0.index t (0 : Fin 3) = win0_15.index t (0 : Fin 3)
      ∧ win0_0.index t (1 : Fin 3) = win0_15.index t (1 : Fin 3)
      ∧ win0_0.index t (2 : Fin 3) = 0 :=
  (by decide +kernel : ∀ t : Fin grid0.N, _)

theorem index1 : ∀ t : Fin cfg0.N,
    win0_1.index t (0 : Fin 3) = win0_15.index t (0 : Fin 3)
      ∧ win0_1.index t (1 : Fin 3) = win0_15.index t (1 : Fin 3)
      ∧ win0_1.index t (2 : Fin 3) = 0 :=
  (by decide +kernel : ∀ t : Fin grid0.N, _)

theorem index2 : ∀ t : Fin cfg0.N,
    win0_2.index t (0 : Fin 2) = win0_15.index t (1 : Fin 3)
      ∧ win0_2.index t (1 : Fin 2) = win0_15.index t (0 : Fin 3) :=
  (by decide +kernel : ∀ t : Fin grid0.N, _)

theorem index3 : ∀ t : Fin cfg0.N,
    win0_3.index t (0 : Fin 2) = win0_15.index t (1 : Fin 3)
      ∧ win0_3.index t (1 : Fin 2) = win0_15.index t (0 : Fin 3) :=
  (by decide +kernel : ∀ t : Fin grid0.N, _)

theorem index4 : ∀ t : Fin cfg0.N,
    win0_4.index t (0 : Fin 2) = win0_15.index t (1 : Fin 3)
      ∧ win0_4.index t (1 : Fin 2) = win0_15.index t (0 : Fin 3) :=
  (by decide +kernel : ∀ t : Fin grid0.N, _)

theorem index5 : ∀ t : Fin cfg0.N,
    win0_5.index t (0 : Fin 3) = win0_15.index t (0 : Fin 3)
      ∧ win0_5.index t (1 : Fin 3) = 0
      ∧ win0_5.index t (2 : Fin 3) = 0 :=
  (by decide +kernel : ∀ t : Fin grid0.N, _)

theorem index6 : ∀ t : Fin cfg0.N,
    win0_6.index t (0 : Fin 2) = 0
      ∧ win0_6.index t (1 : Fin 2) = 0 :=
  (by decide +kernel : ∀ t : Fin grid0.N, _)

theorem index7 : ∀ t : Fin cfg0.N,
    win0_7.index t (0 : Fin 2) = 0
      ∧ win0_7.index t (1 : Fin 2) = 0 :=
  (by decide +kernel : ∀ t : Fin grid0.N, _)

theorem index8 : ∀ t : Fin cfg0.N,
    win0_8.index t (0 : Fin 2) = 0
      ∧ win0_8.index t (1 : Fin 2) = 0 :=
  (by decide +kernel : ∀ t : Fin grid0.N, _)

theorem index9 : ∀ t : Fin cfg0.N,
    win0_9.index t (0 : Fin 2) = 0
      ∧ win0_9.index t (1 : Fin 2) = 0 :=
  (by decide +kernel : ∀ t : Fin grid0.N, _)

theorem index10 : ∀ t : Fin cfg0.N,
    win0_10.index t (0 : Fin 2) = 0
      ∧ win0_10.index t (1 : Fin 2) = 0 :=
  (by decide +kernel : ∀ t : Fin grid0.N, _)

theorem index11 : ∀ t : Fin cfg0.N,
    win0_11.index t (0 : Fin 2) = 0
      ∧ win0_11.index t (1 : Fin 2) = 0 :=
  (by decide +kernel : ∀ t : Fin grid0.N, _)

theorem index12 : ∀ t : Fin cfg0.N,
    win0_12.index t (0 : Fin 2) = 0
      ∧ win0_12.index t (1 : Fin 2) = 0 :=
  (by decide +kernel : ∀ t : Fin grid0.N, _)

theorem index13 : ∀ t : Fin cfg0.N,
    win0_13.index t (0 : Fin 2) = 0
      ∧ win0_13.index t (1 : Fin 2) = 0 :=
  (by decide +kernel : ∀ t : Fin grid0.N, _)

theorem index14 : ∀ t : Fin cfg0.N,
    win0_14.index t (0 : Fin 2) = 0
      ∧ win0_14.index t (1 : Fin 2) = 0 :=
  (by decide +kernel : ∀ t : Fin grid0.N, _)

/-- Every block of the output array is some point's. -/
theorem index_onto : ∀ (b : Fin 8) (j : Fin 8), ∃ t : Fin cfg0.N,
    win0_15.index t (0 : Fin 3) = b.val ∧ win0_15.index t (1 : Fin 3) = j.val :=
  (by decide +kernel : ∀ (b : Fin 8) (j : Fin 8), ∃ t : Fin grid0.N, _)

theorem flush_all : ∀ t : Fin cfg0.N, (cfg0.win 15).flush t = true :=
  (by decide +kernel : ∀ t : Fin grid0.N, _)

/-- The batch and the row tile of a point. -/
def batchOf (t : Fin cfg0.N) : Fin 8 := ⟨_, (index_out t).1⟩
def tileOf (t : Fin cfg0.N) : Fin 8 := ⟨_, (index_out t).2.1⟩

/-- Row `r` of the point's tile. -/
def rowOf (t : Fin cfg0.N) (r : Fin 512) : Fin 4096 := ⟨512 * (tileOf t).val + r.val, by omega⟩

/-- The kernel's arrays as launched. -/
abbrev argX : S8x4096x1024.Idx → EReal := m ((c : Thread nD τ).loc main_arg0)
abbrev argA : S8x4096x768.Idx → EReal := m ((c : Thread nD τ).loc main_arg1)
abbrev argU : S4096x2048.Idx → EReal := m ((c : Thread nD τ).loc main_arg2)
abbrev argYf : S4096x2048.Idx → EReal := m ((c : Thread nD τ).loc main_arg3)
abbrev argYb : S4096x2048.Idx → EReal := m ((c : Thread nD τ).loc main_arg4)
abbrev argMod : S16x9x1024.Idx → EReal := m ((c : Thread nD τ).loc main_arg5)
abbrev argDs : S1x256.Idx → EReal := m ((c : Thread nD τ).loc main_arg6)
abbrev argGlu : S1x256x512.Idx → EReal := m ((c : Thread nD τ).loc main_arg7)
abbrev argGa : S1x768.Idx → EReal := m ((c : Thread nD τ).loc main_arg8)
abbrev argGs : S1x256.Idx → EReal := m ((c : Thread nD τ).loc main_arg9)
abbrev argWo : S1x1024x1024.Idx → EReal := m ((c : Thread nD τ).loc main_arg10)
abbrev argG : S1x1024.Idx → EReal := m ((c : Thread nD τ).loc main_arg11)
abbrev argW : S1x1024x5632.Idx → EReal := m ((c : Thread nD τ).loc main_arg12)
abbrev argV : S1x2816x1024.Idx → EReal := m ((c : Thread nD τ).loc main_arg13)
abbrev argGf : S1024.Idx → EReal := m ((c : Thread nD τ).loc main_arg14)

/-! ### The weights at the region's entry: the arguments without their leading axis -/

theorem entryGlu (e : Fin 256) (f : Fin 512) : (V m c main_v1 : S256x512.Idx → EReal) (ix2 e f) = argGlu m c (ix3 0 e f) := by
  entry_read
  pointwise []

theorem entryWo (e : Fin 1024) (f : Fin 1024) : (V m c main_v3 : S1024x1024.Idx → EReal) (ix2 e f) = argWo m c (ix3 0 e f) := by
  entry_read
  pointwise []

theorem entryW (e : Fin 1024) (f : Fin 5632) : (V m c main_v5 : S1024x5632.Idx → EReal) (ix2 e f) = argW m c (ix3 0 e f) := by
  entry_read
  pointwise []

theorem entryV (e : Fin 2816) (f : Fin 1024) : (V m c main_v7 : S2816x1024.Idx → EReal) (ix2 e f) = argV m c (ix3 0 e f) := by
  entry_read
  pointwise []

theorem entryGf (d : Fin 1024) : (V m c main_v8 : S1x1024.Idx → EReal) (ix2 0 d) = argGf m c (ix1 d) := by
  entry_read
  pointwise []

/-! ### The blocks a point reads -/

theorem iblk0_apply (t : Fin cfg0.N) (r : Fin 512) (d : Fin 1024) :
    iblk m c 0 t (ix3 0 r d) = argX m c (ix3 (batchOf t) (rowOf t r) d) := by
  obtain ⟨e0, e1, e2⟩ := index0 t
  refine congrArg (m ((c : Thread nD τ).loc main_arg0)) (funext fun a => Fin.ext ?_)
  match a with
  | ⟨0, _⟩ => show win0_0.index t (0 : Fin 3) * 1 + 1 * 0 = win0_15.index t (0 : Fin 3); omega
  | ⟨1, _⟩ => show win0_0.index t (1 : Fin 3) * 512 + 1 * r.val = 512 * win0_15.index t (1 : Fin 3) + r.val; omega
  | ⟨2, _⟩ => show win0_0.index t (2 : Fin 3) * 1024 + 1 * d.val = d.val; omega

theorem iblk1_apply (t : Fin cfg0.N) (r : Fin 512) (d : Fin 768) :
    iblk m c 1 t (ix3 0 r d) = argA m c (ix3 (batchOf t) (rowOf t r) d) := by
  obtain ⟨e0, e1, e2⟩ := index1 t
  refine congrArg (m ((c : Thread nD τ).loc main_arg1)) (funext fun a => Fin.ext ?_)
  match a with
  | ⟨0, _⟩ => show win0_1.index t (0 : Fin 3) * 1 + 1 * 0 = win0_15.index t (0 : Fin 3); omega
  | ⟨1, _⟩ => show win0_1.index t (1 : Fin 3) * 512 + 1 * r.val = 512 * win0_15.index t (1 : Fin 3) + r.val; omega
  | ⟨2, _⟩ => show win0_1.index t (2 : Fin 3) * 768 + 1 * d.val = d.val; omega

theorem iblk2_apply (t : Fin cfg0.N) (r : Fin 512) (e : Fin 256) :
    iblk m c 2 t (ix2 r e) = argU m c (ix2 (rowOf t r) ⟨(batchOf t).val * 256 + e.val, by omega⟩) := by
  obtain ⟨e0, e1⟩ := index2 t
  refine congrArg (m ((c : Thread nD τ).loc main_arg2)) (funext fun a => Fin.ext ?_)
  match a with
  | ⟨0, _⟩ => show win0_2.index t (0 : Fin 2) * 512 + 1 * r.val = 512 * win0_15.index t (1 : Fin 3) + r.val; omega
  | ⟨1, _⟩ => show win0_2.index t (1 : Fin 2) * 256 + 1 * e.val = win0_15.index t (0 : Fin 3) * 256 + e.val; omega

theorem iblk3_apply (t : Fin cfg0.N) (r : Fin 512) (e : Fin 256) :
    iblk m c 3 t (ix2 r e) = argYf m c (ix2 (rowOf t r) ⟨(batchOf t).val * 256 + e.val, by omega⟩) := by
  obtain ⟨e0, e1⟩ := index3 t
  refine congrArg (m ((c : Thread nD τ).loc main_arg3)) (funext fun a => Fin.ext ?_)
  match a with
  | ⟨0, _⟩ => show win0_3.index t (0 : Fin 2) * 512 + 1 * r.val = 512 * win0_15.index t (1 : Fin 3) + r.val; omega
  | ⟨1, _⟩ => show win0_3.index t (1 : Fin 2) * 256 + 1 * e.val = win0_15.index t (0 : Fin 3) * 256 + e.val; omega

theorem iblk4_apply (t : Fin cfg0.N) (r : Fin 512) (e : Fin 256) :
    iblk m c 4 t (ix2 r e) = argYb m c (ix2 (rowOf t r) ⟨(batchOf t).val * 256 + e.val, by omega⟩) := by
  obtain ⟨e0, e1⟩ := index4 t
  refine congrArg (m ((c : Thread nD τ).loc main_arg4)) (funext fun a => Fin.ext ?_)
  match a with
  | ⟨0, _⟩ => show win0_4.index t (0 : Fin 2) * 512 + 1 * r.val = 512 * win0_15.index t (1 : Fin 3) + r.val; omega
  | ⟨1, _⟩ => show win0_4.index t (1 : Fin 2) * 256 + 1 * e.val = win0_15.index t (0 : Fin 3) * 256 + e.val; omega

theorem iblk5_apply (t : Fin cfg0.N) (s : Fin 9) (d : Fin 1024) :
    iblk m c 5 t (ix3 0 s d) = argMod m c (ix3 ⟨(batchOf t).val, by omega⟩ s d) := by
  obtain ⟨e0, e1, e2⟩ := index5 t
  refine congrArg (m ((c : Thread nD τ).loc main_arg5)) (funext fun a => Fin.ext ?_)
  match a with
  | ⟨0, _⟩ => show win0_5.index t (0 : Fin 3) * 1 + 1 * 0 = win0_15.index t (0 : Fin 3); omega
  | ⟨1, _⟩ => show win0_5.index t (1 : Fin 3) * 9 + 1 * s.val = s.val; omega
  | ⟨2, _⟩ => show win0_5.index t (2 : Fin 3) * 1024 + 1 * d.val = d.val; omega

theorem iblk6_apply (t : Fin cfg0.N) (d : Fin 256) : iblk m c 6 t (ix2 0 d) = argDs m c (ix2 0 d) := by
  obtain ⟨e0, e1⟩ := index6 t
  refine congrArg (m ((c : Thread nD τ).loc main_arg6)) (funext fun a => Fin.ext ?_)
  match a with
  | ⟨0, _⟩ => show win0_6.index t (0 : Fin 2) * 1 + 1 * 0 = 0; omega
  | ⟨1, _⟩ => show win0_6.index t (1 : Fin 2) * 256 + 1 * d.val = d.val; omega

theorem iblk7_apply (t : Fin cfg0.N) (e : Fin 256) (f : Fin 512) : iblk m c 7 t (ix2 e f) = argGlu m c (ix3 0 e f) := by
  obtain ⟨e0, e1⟩ := index7 t
  rw [← entryGlu]
  refine congrArg (V m c main_v1 : S256x512.Idx → EReal) (funext fun a => Fin.ext ?_)
  match a with
  | ⟨0, _⟩ => show win0_7.index t (0 : Fin 2) * 256 + 1 * e.val = e.val; omega
  | ⟨1, _⟩ => show win0_7.index t (1 : Fin 2) * 512 + 1 * f.val = f.val; omega

theorem iblk8_apply (t : Fin cfg0.N) (d : Fin 768) : iblk m c 8 t (ix2 0 d) = argGa m c (ix2 0 d) := by
  obtain ⟨e0, e1⟩ := index8 t
  refine congrArg (m ((c : Thread nD τ).loc main_arg8)) (funext fun a => Fin.ext ?_)
  match a with
  | ⟨0, _⟩ => show win0_8.index t (0 : Fin 2) * 1 + 1 * 0 = 0; omega
  | ⟨1, _⟩ => show win0_8.index t (1 : Fin 2) * 768 + 1 * d.val = d.val; omega

theorem iblk9_apply (t : Fin cfg0.N) (d : Fin 256) : iblk m c 9 t (ix2 0 d) = argGs m c (ix2 0 d) := by
  obtain ⟨e0, e1⟩ := index9 t
  refine congrArg (m ((c : Thread nD τ).loc main_arg9)) (funext fun a => Fin.ext ?_)
  match a with
  | ⟨0, _⟩ => show win0_9.index t (0 : Fin 2) * 1 + 1 * 0 = 0; omega
  | ⟨1, _⟩ => show win0_9.index t (1 : Fin 2) * 256 + 1 * d.val = d.val; omega

theorem iblk10_apply (t : Fin cfg0.N) (e : Fin 1024) (f : Fin 1024) : iblk m c 10 t (ix2 e f) = argWo m c (ix3 0 e f) := by
  obtain ⟨e0, e1⟩ := index10 t
  rw [← entryWo]
  refine congrArg (V m c main_v3 : S1024x1024.Idx → EReal) (funext fun a => Fin.ext ?_)
  match a with
  | ⟨0, _⟩ => show win0_10.index t (0 : Fin 2) * 1024 + 1 * e.val = e.val; omega
  | ⟨1, _⟩ => show win0_10.index t (1 : Fin 2) * 1024 + 1 * f.val = f.val; omega

theorem iblk11_apply (t : Fin cfg0.N) (d : Fin 1024) : iblk m c 11 t (ix2 0 d) = argG m c (ix2 0 d) := by
  obtain ⟨e0, e1⟩ := index11 t
  refine congrArg (m ((c : Thread nD τ).loc main_arg11)) (funext fun a => Fin.ext ?_)
  match a with
  | ⟨0, _⟩ => show win0_11.index t (0 : Fin 2) * 1 + 1 * 0 = 0; omega
  | ⟨1, _⟩ => show win0_11.index t (1 : Fin 2) * 1024 + 1 * d.val = d.val; omega

theorem iblk12_apply (t : Fin cfg0.N) (e : Fin 1024) (f : Fin 5632) : iblk m c 12 t (ix2 e f) = argW m c (ix3 0 e f) := by
  obtain ⟨e0, e1⟩ := index12 t
  rw [← entryW]
  refine congrArg (V m c main_v5 : S1024x5632.Idx → EReal) (funext fun a => Fin.ext ?_)
  match a with
  | ⟨0, _⟩ => show win0_12.index t (0 : Fin 2) * 1024 + 1 * e.val = e.val; omega
  | ⟨1, _⟩ => show win0_12.index t (1 : Fin 2) * 5632 + 1 * f.val = f.val; omega

theorem iblk13_apply (t : Fin cfg0.N) (e : Fin 2816) (f : Fin 1024) : iblk m c 13 t (ix2 e f) = argV m c (ix3 0 e f) := by
  obtain ⟨e0, e1⟩ := index13 t
  rw [← entryV]
  refine congrArg (V m c main_v7 : S2816x1024.Idx → EReal) (funext fun a => Fin.ext ?_)
  match a with
  | ⟨0, _⟩ => show win0_13.index t (0 : Fin 2) * 2816 + 1 * e.val = e.val; omega
  | ⟨1, _⟩ => show win0_13.index t (1 : Fin 2) * 1024 + 1 * f.val = f.val; omega

theorem iblk14_apply (t : Fin cfg0.N) (d : Fin 1024) : iblk m c 14 t (ix2 0 d) = argGf m c (ix1 d) := by
  obtain ⟨e0, e1⟩ := index14 t
  rw [← entryGf]
  refine congrArg (V m c main_v8 : S1x1024.Idx → EReal) (funext fun a => Fin.ext ?_)
  match a with
  | ⟨0, _⟩ => show win0_14.index t (0 : Fin 2) * 1 + 1 * 0 = 0; omega
  | ⟨1, _⟩ => show win0_14.index t (1 : Fin 2) * 1024 + 1 * d.val = d.val; omega

/-- Where the output block's element sits in the output array. -/
theorem emb15 (t : Fin cfg0.N) (r : Fin 512) (d : Fin 1024) :
    ((cfg0.win 15).blk t).view.emb (ix3 0 r d) = ix3 (batchOf t) (rowOf t r) d := by
  obtain ⟨_, _, e2⟩ := index_out t
  funext a; apply Fin.ext
  match a with
  | ⟨0, _⟩ => show win0_15.index t (0 : Fin 3) * 1 + 1 * 0 = win0_15.index t (0 : Fin 3); omega
  | ⟨1, _⟩ => show win0_15.index t (1 : Fin 3) * 512 + 1 * r.val = 512 * win0_15.index t (1 : Fin 3) + r.val; omega
  | ⟨2, _⟩ => show win0_15.index t (2 : Fin 3) * 1024 + 1 * d.val = d.val; omega

/-- The closing norm of the kernel's tokens, as an array. -/
def closedArr : S8x4096x1024.Idx → EReal := fun i =>
  normAt len1024 (steppedRow (argX m c) (argA m c) (argU m c) (argYf m c) (argYb m c) (argMod m c) (argDs m c) (argGlu m c)
    (argGa m c) (argGs m c) (argWo m c) (argG m c) (argW m c) (argV m c) (i 0) (i 1)) (fun d => argGf m c (ix1 d)) (i 2)

/-- After the run the kernel's output array is the closing norm of its tokens. -/
theorem arrAt_eq : (dats m 0 c).arrAt 15 cfg0.N = closedArr m c := by
  refine (dats m 0 c).arrAt_eq_of_cover 15 (closedArr m c) (fun t _ => ?_) fun i => ?_
  · rw [Value.flushed15]
    funext y
    change S1x512x1024.Idx at y
    show out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) y
      = closedArr m c (((cfg0.win 15).blk t).view.emb y)
    obtain ⟨r, d, rfl⟩ : ∃ (r : Fin 512) (d : Fin 1024), y = ix3 (0 : Fin 1) r d := by
      refine ⟨y 1, y 2, funext fun a => ?_⟩
      match a with
      | ⟨0, _⟩ => exact Fin.ext (by have h : (y 0).val < 1 := (y 0).isLt; show (y 0).val = 0; omega)
      | ⟨1, _⟩ => rfl
      | ⟨2, _⟩ => rfl
    rw [block_apply, emb15]
    unfold steppedOf mixedOf branchOf
    simp only [iblk0_apply, iblk1_apply, iblk2_apply, iblk3_apply, iblk4_apply, iblk5_apply, iblk6_apply, iblk7_apply, iblk8_apply, iblk9_apply, iblk10_apply, iblk11_apply, iblk12_apply, iblk13_apply, iblk14_apply]
    rfl
  · change S8x4096x1024.Idx at i
    have hi1 : (i 1).val < 4096 := (i 1).isLt
    obtain ⟨t, e0, e1⟩ := index_onto (i 0) ⟨(i 1).val / 512, by omega⟩
    refine ⟨t, flush_all t, ?_⟩
    have e : i = ((cfg0.win 15).blk t).view.emb (ix3 0 ⟨(i 1).val % 512, by omega⟩ ⟨(i 2).val, (i 2).isLt⟩) := by
      rw [emb15]
      funext a; apply Fin.ext
      match a with
      | ⟨0, _⟩ => exact e0.symm
      | ⟨1, _⟩ => show (i 1).val = 512 * win0_15.index t (1 : Fin 3) + (i 1).val % 512; rw [e1]; simp only []; omega
      | ⟨2, _⟩ => rfl
    rw [e]
    exact Finset.mem_map.2 ⟨_, Finset.mem_univ _, rfl⟩

end Cert.Final
-- ==== Proof.Final.Reference.lean ====
/-
  The closing reference, element by element.
-/
module

public import proofs.«01_k».proof.Proof.Gen.FinalReferenceIdeal.Read
public import proofs.«01_k».proof.Proof.Final.Spec
public import Idealize.ShloMosaic.Lib.Pointwise.Blocks

@[expose] public section

noncomputable section

namespace Cert.Final

open Idealize.ShloMosaic Idealize.ShloMosaic.TcCoe Cert.FinalReferenceIdeal Cert.FinalReferenceIdeal.Gen Cert.FinalReferenceIdeal.Read
open Cert.Mlp

variable (x : S8x4096x1024.Idx → EReal) (a : S8x4096x768.Idx → EReal) (u yf yb : S4096x2048.Idx → EReal)
  (md : S16x9x1024.Idx → EReal) (ds : S1x256.Idx → EReal) (wglu : S1x256x512.Idx → EReal) (ga : S1x768.Idx → EReal)
  (gs : S1x256.Idx → EReal) (wo : S1x1024x1024.Idx → EReal) (g : S1x1024.Idx → EReal) (w : S1x1024x5632.Idx → EReal)
  (v : S1x2816x1024.Idx → EReal) (gf : S1024.Idx → EReal)

theorem branch_ref (b : Fin 8) (i : Fin 4096) (e : Fin 256) :
    val_main_v31 (F := Ideal) u yf yb ds (ix3 b i e) = branchRow u yf yb ds b i e := by
  pointwise [val_main_v31, val_main_v30, val_main_v29, val_main_v28, val_main_v27, val_main_v26, val_main_v25, val_main_v24,
    val_main_v23, val_main_v22, val_main_v21, val_main_v20]
  rfl

/-- The GELU of a lane; the reference's factors come in another order. -/
theorem gelu_ref (b : Fin 8) (i : Fin 4096) (e : Fin 256) :
    val_main_v45 (F := Ideal) u yf yb ds (ix3 b i e) = gelu (branchRow u yf yb ds b i e) := by
  pointwise [val_main_v45, val_main_v44, val_main_v43, val_main_v42, val_main_v41, val_main_v40, val_main_v39, val_main_v38,
    val_main_v37, val_main_v36, val_main_v35, val_main_v34, val_main_v33, val_main_cst, val_main_cst_0, val_main_cst_1,
    val_main_cst_2]
  simp only [branch_ref]
  unfold gelu
  rw [mul_comm half, mul_assoc _ half]
  rfl

theorem glu_ref (b : Fin 8) (i : Fin 4096) (f : Fin 256) :
    val_main_v55 (F := Ideal) u yf yb ds wglu (ix3 b i f) = gluAt (branchRow u yf yb ds b i) (fun e f => wglu (ix3 0 e f)) f := by
  pointwise [val_main_v55, val_main_v54, val_main_v53, val_main_v52, val_main_v51, val_main_v50, val_main_v49, val_main_v48,
    val_main_v47, val_main_v46, val_main_v32, val_main_cst_3, val_main_cst_4]
  simp only [gelu_ref]
  rfl

/-- The attention's norm. -/
theorem attn_ref (b : Fin 8) (i : Fin 4096) (e : Fin 768) :
    val_main_v69 (F := Ideal) a ga (ix3 b i e) = normAt len768 (fun d => a (ix3 b i d)) (fun d => ga (ix2 0 d)) e := by
  pointwise [val_main_v69, val_main_v68, val_main_v67, val_main_v66, val_main_v65, val_main_v64, val_main_v63, val_main_v62,
    val_main_v61, val_main_v60, val_main_v59, val_main_v58, val_main_v57, val_main_v56, val_main_cst_5, val_main_cst_6,
    val_main_cst_7]
  rfl

/-- The S5 branch's norm. -/
theorem ssm_ref (b : Fin 8) (i : Fin 4096) (e : Fin 256) :
    val_main_v83 (F := Ideal) u yf yb ds wglu gs (ix3 b i e)
      = normAt len256 (gluAt (branchRow u yf yb ds b i) (fun e f => wglu (ix3 0 e f))) (fun d => gs (ix2 0 d)) e := by
  pointwise [val_main_v83, val_main_v82, val_main_v81, val_main_v80, val_main_v79, val_main_v78, val_main_v77, val_main_v76,
    val_main_v75, val_main_v74, val_main_v73, val_main_v72, val_main_v71, val_main_v70, val_main_cst_8, val_main_cst_9,
    val_main_cst_10]
  simp only [glu_ref]
  rfl

/-- The token after the mixer: the product over the joined lanes splits at lane 768. -/
theorem mixed_ref (b : Fin 8) (i : Fin 4096) (d : Fin 1024) :
    val_main_v89 (F := Ideal) x a u yf yb md ds wglu ga gs wo (ix3 b i d) = mixedRow x a u yf yb md ds wglu ga gs wo b i d := by
  pointwise [val_main_v89, val_main_v88, val_main_v87, val_main_v86, val_main_v85, val_main_v84, val_main_v13, val_main_v12,
    val_main_v1, val_main_v0]
  simp only [attn_ref, ssm_ref]
  rfl

/-- The modulated norm before the second half step. -/
theorem hidden_ref (b : Fin 8) (i : Fin 4096) (d : Fin 1024) :
    val_main_v111 (F := Ideal) x a u yf yb md ds wglu ga gs wo g (ix3 b i d)
      = modAt (mixedRow x a u yf yb md ds wglu ga gs wo b i) (fun d => g (ix2 0 d)) (modRow md b 6) (modRow md b 7) d := by
  pointwise [val_main_v111, val_main_v110, val_main_v109, val_main_v108, val_main_v107, val_main_v106, val_main_v105,
    val_main_v104, val_main_v103, val_main_v102, val_main_v101, val_main_v100, val_main_v99, val_main_v98, val_main_v97,
    val_main_v96, val_main_v95, val_main_v94, val_main_v93, val_main_v92, val_main_v17, val_main_v16, val_main_v15, val_main_v14,
    val_main_v1, val_main_v0, val_main_cst_12, val_main_cst_13, val_main_cst_14, val_main_cst_15]
  simp only [mixed_ref]
  rfl

theorem unit_ref (b : Fin 8) (i : Fin 4096) (f : Fin 2816) :
    val_main_v118 (F := Ideal) x a u yf yb md ds wglu ga gs wo g w (ix3 b i f)
      = unitAt (modAt (mixedRow x a u yf yb md ds wglu ga gs wo b i) (fun d => g (ix2 0 d)) (modRow md b 6) (modRow md b 7))
          (fun e f => w (ix3 0 e f)) f := by
  pointwise [val_main_v118, val_main_v117, val_main_v116, val_main_v115, val_main_v114, val_main_v112, val_main_call0_v5,
    val_main_call0_v4, val_main_call0_v3, val_main_call0_v2, val_main_call0_v1, val_main_call0_v0, val_main_call0_cst,
    val_main_call0_cst_0]
  simp only [hidden_ref]
  rfl

theorem stepped_ref (b : Fin 8) (i : Fin 4096) (d : Fin 1024) :
    val_main_v122 (F := Ideal) x a u yf yb md ds wglu ga gs wo g w v (ix3 b i d)
      = steppedRow x a u yf yb md ds wglu ga gs wo g w v b i d := by
  pointwise [val_main_v122, val_main_v121, val_main_v120, val_main_v119, val_main_v113, val_main_v91, val_main_v90, val_main_v19,
    val_main_v18, val_main_v1, val_main_v0, val_main_cst_11]
  simp only [unit_ref, mixed_ref]
  rfl

/-- The result is the closing norm of each token. -/
theorem reference_apply (b : Fin 8) (i : Fin 4096) (d : Fin 1024) :
    val_main_v135 (F := Ideal) x a u yf yb md ds wglu ga gs wo g w v gf (ix3 b i d)
      = normAt len1024 (steppedRow x a u yf yb md ds wglu ga gs wo g w v b i) (fun d => gf (ix1 d)) d := by
  pointwise [val_main_v135, val_main_v134, val_main_v133, val_main_v132, val_main_v131, val_main_v130, val_main_v129,
    val_main_v128, val_main_v127, val_main_v126, val_main_v125, val_main_v124, val_main_v123, val_main_cst_16, val_main_cst_17,
    val_main_cst_18]
  simp only [stepped_ref]
  rfl

end Cert.Final
-- ==== Proof.Final.Claims.lean ====
/-
  The claims about the closing call: the two programs end with the closing norm of their tokens.
-/
module

public import proofs.«01_k».proof.Defs
public import proofs.«01_k».proof.Proof.Final.Array
public import proofs.«01_k».proof.Proof.Final.Reference

@[expose] public section

noncomputable section

namespace Cert.Final

open Idealize.ShloMosaic Idealize.ShloMosaic.TcCoe Idealize.SL.Sem

/-- The reference runs, leaves its arguments as they were and every counter at zero: it declares none. -/
theorem frame_reference : quiescent_FinalReferenceIdeal := fun m ρ _ =>
  (θ_run (Cert.FinalReferenceIdeal.defs (F := Ideal)) _ _).mono
    (fun r h => And.intro (fun c => (h c).2) (sem_eq_zero_of_no_sems (by decide) r.2))
    (Cert.FinalReferenceIdeal.Value.run (F := Ideal) m ρ)

/-- Kernel and reference end with equal results. -/
theorem algebraic : algebraic_FinalIdeal_FinalReferenceIdeal := by
  intro m g m' g' hpre hargs
  refine ⟨fun c => closedArr m c, ?_, ?_⟩
  · refine (θ_run _ _ _).mono (fun r h c => ?_) (Cert.FinalIdeal.Value.run_blocks m g)
    obtain ⟨e, k⟩ := h c
    exact ⟨e.trans (arrAt_eq m c), k⟩
  · refine (θ_run _ _ _).mono (fun r h c => ?_) (Cert.FinalReferenceIdeal.Value.run (F := Ideal) m' g')
    obtain ⟨e, k⟩ := h c
    refine ⟨e.trans ?_, k⟩
    obtain ⟨a0, a1, a2, a3, a4, a5, a6, a7, a8, a9, a10, a11, a12, a13, a14⟩ := hargs c
    refine (Cert.FinalReferenceIdeal.Read.val_main_v135_eq (F := Ideal) _).trans ?_
    funext i
    obtain ⟨b, r, d, rfl⟩ : ∃ (b : Fin 8) (r : Fin 4096) (d : Fin 1024), i = ix3 b r d :=
      ⟨i 0, i 1, i 2, funext fun a => match a with | ⟨0, _⟩ => rfl | ⟨1, _⟩ => rfl | ⟨2, _⟩ => rfl⟩
    rw [reference_apply]
    simp only [a0, a1, a2, a3, a4, a5, a6, a7, a8, a9, a10, a11, a12, a13, a14]
    rfl

end Cert.Final
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnIdeal.Value
public import proofs.«01_k».proof.Proof.Gen.Final
public import proofs.«01_k».proof.Proof.Gen.Final.Skeleton
public import proofs.«01_k».proof.Proof.Gen.Final.Launch
public import proofs.«01_k».proof.Proof.Gen.Final.Points
public import proofs.«01_k».proof.Proof.Gen.Final.Frame
public import proofs.«01_k».proof.Proof.Gen.FinalIdeal
public import proofs.«01_k».proof.Proof.Gen.FinalIdeal.Skeleton
public import proofs.«01_k».proof.Proof.Gen.FinalIdeal.Launch
public import proofs.«01_k».proof.Proof.Gen.FinalIdeal.Points
public import proofs.«01_k».proof.Proof.Gen.FinalIdeal.Frame
public import proofs.«01_k».proof.Proof.Gen.FinalIdeal.Value
public import proofs.«01_k».proof.Proof.Gen.FfnReferenceIdeal
public import proofs.«01_k».proof.Proof.Gen.FfnReferenceIdeal.Run
public import proofs.«01_k».proof.Proof.Gen.FfnReferenceIdeal.Read
public import proofs.«01_k».proof.Proof.Gen.FinalReferenceIdeal
public import proofs.«01_k».proof.Proof.Gen.FinalReferenceIdeal.Run
public import proofs.«01_k».proof.Proof.Gen.FinalReferenceIdeal.Read
public import proofs.«01_k».proof.Proof.Gen.Adaln
public import proofs.«01_k».proof.Proof.Gen.Adaln.Skeleton
public import proofs.«01_k».proof.Proof.Gen.Adaln.Launch
public import proofs.«01_k».proof.Proof.Gen.Adaln.Points
public import proofs.«01_k».proof.Proof.Gen.Adaln.Frame
public import proofs.«01_k».proof.Proof.Gen.AdalnIdeal
public import proofs.«01_k».proof.Proof.Gen.AdalnIdeal.Skeleton
public import proofs.«01_k».proof.Proof.Gen.AdalnIdeal.Launch
public import proofs.«01_k».proof.Proof.Gen.AdalnIdeal.Points
public import proofs.«01_k».proof.Proof.Gen.AdalnIdeal.Frame
public import proofs.«01_k».proof.Proof.Gen.AdalnIdeal.Value
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjIdeal.Value
public import proofs.«01_k».proof.Proof.Gen.AdalnReferenceIdeal
public import proofs.«01_k».proof.Proof.Gen.AdalnReferenceIdeal.Run
public import proofs.«01_k».proof.Proof.Gen.AdalnReferenceIdeal.Read
public import proofs.«01_k».proof.Proof.Gen.ProjReferenceIdeal
public import proofs.«01_k».proof.Proof.Gen.ProjReferenceIdeal.Run
public import proofs.«01_k».proof.Proof.Gen.ProjReferenceIdeal.Read
public import proofs.«01_k».proof.Proof.Adaln.Claims
public import proofs.«01_k».proof.Proof.Gen.FfnCtx
public import proofs.«01_k».proof.Proof.Gen.FfnCtx.Skeleton
public import proofs.«01_k».proof.Proof.Gen.FfnCtx.Launch
public import proofs.«01_k».proof.Proof.Gen.FfnCtx.Points
public import proofs.«01_k».proof.Proof.Gen.FfnCtx.Frame
public import proofs.«01_k».proof.Proof.Gen.FfnCtxIdeal
public import proofs.«01_k».proof.Proof.Gen.FfnCtxIdeal.Skeleton
public import proofs.«01_k».proof.Proof.Gen.FfnCtxIdeal.Launch
public import proofs.«01_k».proof.Proof.Gen.FfnCtxIdeal.Points
public import proofs.«01_k».proof.Proof.Gen.FfnCtxIdeal.Frame
public import proofs.«01_k».proof.Proof.Gen.FfnCtxIdeal.Value
public import proofs.«01_k».proof.Proof.Gen.FfnCtxReferenceIdeal
public import proofs.«01_k».proof.Proof.Gen.FfnCtxReferenceIdeal.Run
public import proofs.«01_k».proof.Proof.Gen.FfnCtxReferenceIdeal.Read
public import proofs.«01_k».proof.Proof.Gen.ProjCtx
public import proofs.«01_k».proof.Proof.Gen.ProjCtx.Skeleton
public import proofs.«01_k».proof.Proof.Gen.ProjCtx.Launch
public import proofs.«01_k».proof.Proof.Gen.ProjCtx.Points
public import proofs.«01_k».proof.Proof.Gen.ProjCtx.Frame
public import proofs.«01_k».proof.Proof.Gen.ProjCtxIdeal
public import proofs.«01_k».proof.Proof.Gen.ProjCtxIdeal.Skeleton
public import proofs.«01_k».proof.Proof.Gen.ProjCtxIdeal.Launch
public import proofs.«01_k».proof.Proof.Gen.ProjCtxIdeal.Points
public import proofs.«01_k».proof.Proof.Gen.ProjCtxIdeal.Frame
public import proofs.«01_k».proof.Proof.Gen.ProjCtxIdeal.Value
public import proofs.«01_k».proof.Proof.Gen.ProjCtxReferenceIdeal
public import proofs.«01_k».proof.Proof.Gen.ProjCtxReferenceIdeal.Run
public import proofs.«01_k».proof.Proof.Gen.ProjCtxReferenceIdeal.Read
public import proofs.«01_k».proof.Proof.Proj.Claims
public import proofs.«01_k».proof.Proof.FfnCtx.Claims
public import proofs.«01_k».proof.Proof.ProjCtx.Claims
public import proofs.«01_k».proof.Proof.Attn.Claims
public import proofs.«01_k».proof.Proof.Ffn.Claims
public import proofs.«01_k».proof.Proof.Final.Claims
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Ffn.Gen.facts, Cert.FfnIdeal.Gen.facts, Cert.FfnReferenceIdeal.Gen.facts,
  Cert.Final.Gen.facts, Cert.FinalIdeal.Gen.facts, Cert.FinalReferenceIdeal.Gen.facts,
  Cert.Adaln.Gen.facts, Cert.AdalnIdeal.Gen.facts, Cert.AdalnReferenceIdeal.Gen.facts,
  Cert.Proj.Gen.facts, Cert.ProjIdeal.Gen.facts, Cert.ProjReferenceIdeal.Gen.facts,
  Cert.FfnCtx.Gen.facts, Cert.FfnCtxIdeal.Gen.facts, Cert.FfnCtxReferenceIdeal.Gen.facts,
  Cert.ProjCtx.Gen.facts, Cert.ProjCtxIdeal.Gen.facts, Cert.ProjCtxReferenceIdeal.Gen.facts, Cert.Attn.finiteFacts, Cert.Proj.finiteFacts,
  fun m ρ _ => Cert.Kernel.Gen.frame m ρ, fun m ρ _ => Cert.KernelIdeal.Gen.frame m ρ,
  fun m ρ _ => Cert.KernelIdeal.Gen.frame m ρ, Cert.Attn.frame_reference,
  fun m ρ _ => Cert.Attn.frame_reference m ρ trivial,
  fun m ρ _ => Cert.Ffn.Gen.frame m ρ, fun m ρ _ => Cert.FfnIdeal.Gen.frame m ρ, Cert.Ffn.frame_reference,
  fun m ρ _ => Cert.Final.Gen.frame m ρ, fun m ρ _ => Cert.FinalIdeal.Gen.frame m ρ, Cert.Final.frame_reference,
  fun m ρ _ => Cert.Adaln.Gen.frame m ρ, fun m ρ _ => Cert.AdalnIdeal.Gen.frame m ρ, Cert.Adaln.frame_reference,
  fun m ρ _ => Cert.Proj.Gen.frame m ρ, fun m ρ _ => Cert.ProjIdeal.Gen.frame m ρ,
  fun m ρ _ => Cert.ProjIdeal.Gen.frame m ρ, Cert.Proj.frame_reference,
  fun m ρ _ => Cert.Proj.frame_reference m ρ trivial,
  fun m ρ _ => Cert.FfnCtx.Gen.frame m ρ, fun m ρ _ => Cert.FfnCtxIdeal.Gen.frame m ρ, Cert.FfnCtx.frame_reference,
  fun m ρ _ => Cert.ProjCtx.Gen.frame m ρ, fun m ρ _ => Cert.ProjCtxIdeal.Gen.frame m ρ, Cert.ProjCtx.frame_reference,
  trivial, Cert.Attn.algebraic, trivial, Cert.Ffn.algebraic, trivial, Cert.Final.algebraic,
  trivial, Cert.Adaln.algebraic, trivial, Cert.Proj.algebraic,
  trivial, Cert.FfnCtx.algebraic, trivial, Cert.ProjCtx.algebraic⟩

end Cert.Proof

end
